-- ==== Defs.lean ====
def Pre_SparseCalls [hPre_ranks_a_permutation : Cert.Pre_ranks_a_permutation.Facts] (m : (ℓ : Loc Cert.SparseCalls.nD Cert.SparseCalls.τ Cert.SparseCalls.sig) → Buf (Elt Bits) ℓ) : Prop :=
  ∀ c : Dev Cert.SparseCalls.nD,
    (Cert.Pre_ranks_a_permutation.fn (F := Bits) (m ((c.tc : Thread Cert.SparseCalls.nD Cert.SparseCalls.τ).loc Cert.SparseCalls.main_arg0)) (m ((c.tc : Thread Cert.SparseCalls.nD Cert.SparseCalls.τ).loc Cert.SparseCalls.main_arg1)) (m ((c.tc : Thread Cert.SparseCalls.nD Cert.SparseCalls.τ).loc Cert.SparseCalls.main_arg2)) (m ((c.tc : Thread Cert.SparseCalls.nD Cert.SparseCalls.τ).loc Cert.SparseCalls.main_arg3))) = (fun _ => 1#1)

def Pre_SparseCallsIdeal [hPre_ranks_a_permutation : Cert.Pre_ranks_a_permutation.Facts] (m : (ℓ : Loc Cert.SparseCallsIdeal.nD Cert.SparseCallsIdeal.τ Cert.SparseCallsIdeal.sig) → Buf (Elt Ideal) ℓ) : Prop :=
  ∀ c : Dev Cert.SparseCallsIdeal.nD,
    (Cert.Pre_ranks_a_permutation.fn (F := Ideal) (m ((c.tc : Thread Cert.SparseCallsIdeal.nD Cert.SparseCallsIdeal.τ).loc Cert.SparseCallsIdeal.main_arg0)) (m ((c.tc : Thread Cert.SparseCallsIdeal.nD Cert.SparseCallsIdeal.τ).loc Cert.SparseCallsIdeal.main_arg1)) (m ((c.tc : Thread Cert.SparseCallsIdeal.nD Cert.SparseCallsIdeal.τ).loc Cert.SparseCallsIdeal.main_arg2)) (m ((c.tc : Thread Cert.SparseCallsIdeal.nD Cert.SparseCallsIdeal.τ).loc Cert.SparseCallsIdeal.main_arg3))) = (fun _ => 1#1)

def Pre_SparseReferenceIdeal (m : (ℓ : Loc Cert.SparseReferenceIdeal.nD Cert.SparseReferenceIdeal.τ Cert.SparseReferenceIdeal.sig) → Buf (Elt Ideal) ℓ) : Prop :=
  True

def Pre_SparseReferenceIdeal_ranks_a_permutation [hPre_ranks_a_permutation : Cert.Pre_ranks_a_permutation.Facts] (m : (ℓ : Loc Cert.SparseReferenceIdeal.nD Cert.SparseReferenceIdeal.τ Cert.SparseReferenceIdeal.sig) → Buf (Elt Ideal) ℓ) : Prop :=
  ∀ c : Dev Cert.SparseReferenceIdeal.nD,
    (Cert.Pre_ranks_a_permutation.fn (F := Ideal) (m ((c.tc : Thread Cert.SparseReferenceIdeal.nD Cert.SparseReferenceIdeal.τ).loc Cert.SparseReferenceIdeal.main_arg0)) (m ((c.tc : Thread Cert.SparseReferenceIdeal.nD Cert.SparseReferenceIdeal.τ).loc Cert.SparseReferenceIdeal.main_arg1)) (m ((c.tc : Thread Cert.SparseReferenceIdeal.nD Cert.SparseReferenceIdeal.τ).loc Cert.SparseReferenceIdeal.main_arg2)) (m ((c.tc : Thread Cert.SparseReferenceIdeal.nD Cert.SparseReferenceIdeal.τ).loc Cert.SparseReferenceIdeal.main_arg3))) = (fun _ => 1#1)

def Pre_KernelIdeal [hPre_scores_at_least_padding : Cert.Pre_scores_at_least_padding.Facts] (m : (ℓ : Loc Cert.KernelIdeal.nD Cert.KernelIdeal.τ Cert.KernelIdeal.sig) → Buf (Elt Ideal) ℓ) : Prop :=
  ∀ c : Dev Cert.KernelIdeal.nD,
    (Cert.Pre_scores_at_least_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_at_least_padding [hPre_scores_at_least_padding : Cert.Pre_scores_at_least_padding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_at_least_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_SparseCalls [hSparseCalls : Cert.SparseCalls.Facts] [hPre_ranks_a_permutation : Cert.Pre_ranks_a_permutation.Facts] : Prop :=
  ∀ (m : (ℓ : Loc Cert.SparseCalls.nD Cert.SparseCalls.τ Cert.SparseCalls.sig) → Buf (Elt Bits) ℓ) (g : Dev Cert.SparseCalls.nD → PrngReg), Pre_SparseCalls m →
    θ_run (Cert.SparseCalls.defs (F := Bits)) (Cert.SparseCalls.threads (F := Bits)) ⟨m, fun _ => 0, g⟩ (fun r => (∀ c : Dev Cert.SparseCalls.nD,
      r.2.mem ((c.tc : Thread Cert.SparseCalls.nD Cert.SparseCalls.τ).loc Cert.SparseCalls.main_arg0) = m ((c.tc : Thread Cert.SparseCalls.nD Cert.SparseCalls.τ).loc Cert.SparseCalls.main_arg0)
      ∧ r.2.mem ((c.tc : Thread Cert.SparseCalls.nD Cert.SparseCalls.τ).loc Cert.SparseCalls.main_arg1) = m ((c.tc : Thread Cert.SparseCalls.nD Cert.SparseCalls.τ).loc Cert.SparseCalls.main_arg1)
      ∧ r.2.mem ((c.tc : Thread Cert.SparseCalls.nD Cert.SparseCalls.τ).loc Cert.SparseCalls.main_arg2) = m ((c.tc : Thread Cert.SparseCalls.nD Cert.SparseCalls.τ).loc Cert.SparseCalls.main_arg2)
      ∧ r.2.mem ((c.tc : Thread Cert.SparseCalls.nD Cert.SparseCalls.τ).loc Cert.SparseCalls.main_arg3) = m ((c.tc : Thread Cert.SparseCalls.nD Cert.SparseCalls.τ).loc Cert.SparseCalls.main_arg3))
      ∧ r.2.sem = fun _ => 0)

def quiescent_SparseCallsIdeal [hSparseCallsIdeal : Cert.SparseCallsIdeal.Facts] [hPre_ranks_a_permutation : Cert.Pre_ranks_a_permutation.Facts] : Prop :=
  ∀ (m : (ℓ : Loc Cert.SparseCallsIdeal.nD Cert.SparseCallsIdeal.τ Cert.SparseCallsIdeal.sig) → Buf (Elt Ideal) ℓ) (g : Dev Cert.SparseCallsIdeal.nD → PrngReg), Pre_SparseCallsIdeal m →
    θ_run (Cert.SparseCallsIdeal.defs (F := Ideal)) (Cert.SparseCallsIdeal.threads (F := Ideal)) ⟨m, fun _ => 0, g⟩ (fun r => (∀ c : Dev Cert.SparseCallsIdeal.nD,
      r.2.mem ((c.tc : Thread Cert.SparseCallsIdeal.nD Cert.SparseCallsIdeal.τ).loc Cert.SparseCallsIdeal.main_arg0) = m ((c.tc : Thread Cert.SparseCallsIdeal.nD Cert.SparseCallsIdeal.τ).loc Cert.SparseCallsIdeal.main_arg0)
      ∧ r.2.mem ((c.tc : Thread Cert.SparseCallsIdeal.nD Cert.SparseCallsIdeal.τ).loc Cert.SparseCallsIdeal.main_arg1) = m ((c.tc : Thread Cert.SparseCallsIdeal.nD Cert.SparseCallsIdeal.τ).loc Cert.SparseCallsIdeal.main_arg1)
      ∧ r.2.mem ((c.tc : Thread Cert.SparseCallsIdeal.nD Cert.SparseCallsIdeal.τ).loc Cert.SparseCallsIdeal.main_arg2) = m ((c.tc : Thread Cert.SparseCallsIdeal.nD Cert.SparseCallsIdeal.τ).loc Cert.SparseCallsIdeal.main_arg2)
      ∧ r.2.mem ((c.tc : Thread Cert.SparseCallsIdeal.nD Cert.SparseCallsIdeal.τ).loc Cert.SparseCallsIdeal.main_arg3) = m ((c.tc : Thread Cert.SparseCallsIdeal.nD Cert.SparseCallsIdeal.τ).loc Cert.SparseCallsIdeal.main_arg3))
      ∧ r.2.sem = fun _ => 0)

def quiescent_SparseReferenceIdeal [hSparseReferenceIdeal : Cert.SparseReferenceIdeal.Facts] : Prop :=
  ∀ (m : (ℓ : Loc Cert.SparseReferenceIdeal.nD Cert.SparseReferenceIdeal.τ Cert.SparseReferenceIdeal.sig) → Buf (Elt Ideal) ℓ) (g : Dev Cert.SparseReferenceIdeal.nD → PrngReg), Pre_SparseReferenceIdeal m →
    θ_run (Cert.SparseReferenceIdeal.defs (F := Ideal)) (onTc (τ := Cert.SparseReferenceIdeal.τ) (Cert.SparseReferenceIdeal.main (F := Ideal))) ⟨m, fun _ => 0, g⟩ (fun r => (∀ c : Dev Cert.SparseReferenceIdeal.nD,
      r.2.mem ((c.tc : Thread Cert.SparseReferenceIdeal.nD Cert.SparseReferenceIdeal.τ).loc Cert.SparseReferenceIdeal.main_arg0) = m ((c.tc : Thread Cert.SparseReferenceIdeal.nD Cert.SparseReferenceIdeal.τ).loc Cert.SparseReferenceIdeal.main_arg0)
      ∧ r.2.mem ((c.tc : Thread Cert.SparseReferenceIdeal.nD Cert.SparseReferenceIdeal.τ).loc Cert.SparseReferenceIdeal.main_arg1) = m ((c.tc : Thread Cert.SparseReferenceIdeal.nD Cert.SparseReferenceIdeal.τ).loc Cert.SparseReferenceIdeal.main_arg1)
      ∧ r.2.mem ((c.tc : Thread Cert.SparseReferenceIdeal.nD Cert.SparseReferenceIdeal.τ).loc Cert.SparseReferenceIdeal.main_arg2) = m ((c.tc : Thread Cert.SparseReferenceIdeal.nD Cert.SparseReferenceIdeal.τ).loc Cert.SparseReferenceIdeal.main_arg2)
      ∧ r.2.mem ((c.tc : Thread Cert.SparseReferenceIdeal.nD Cert.SparseReferenceIdeal.τ).loc Cert.SparseReferenceIdeal.main_arg3) = m ((c.tc : Thread Cert.SparseReferenceIdeal.nD Cert.SparseReferenceIdeal.τ).loc Cert.SparseReferenceIdeal.main_arg3))
      ∧ r.2.sem = fun _ => 0)

def quiescent_SparseReferenceIdeal_pre_ranks_a_permutation [hSparseReferenceIdeal : Cert.SparseReferenceIdeal.Facts] [hPre_ranks_a_permutation : Cert.Pre_ranks_a_permutation.Facts] : Prop :=
  ∀ (m : (ℓ : Loc Cert.SparseReferenceIdeal.nD Cert.SparseReferenceIdeal.τ Cert.SparseReferenceIdeal.sig) → Buf (Elt Ideal) ℓ) (g : Dev Cert.SparseReferenceIdeal.nD → PrngReg), Pre_SparseReferenceIdeal_ranks_a_permutation m →
    θ_run (Cert.SparseReferenceIdeal.defs (F := Ideal)) (onTc (τ := Cert.SparseReferenceIdeal.τ) (Cert.SparseReferenceIdeal.main (F := Ideal))) ⟨m, fun _ => 0, g⟩ (fun r => (∀ c : Dev Cert.SparseReferenceIdeal.nD,
      r.2.mem ((c.tc : Thread Cert.SparseReferenceIdeal.nD Cert.SparseReferenceIdeal.τ).loc Cert.SparseReferenceIdeal.main_arg0) = m ((c.tc : Thread Cert.SparseReferenceIdeal.nD Cert.SparseReferenceIdeal.τ).loc Cert.SparseReferenceIdeal.main_arg0)
      ∧ r.2.mem ((c.tc : Thread Cert.SparseReferenceIdeal.nD Cert.SparseReferenceIdeal.τ).loc Cert.SparseReferenceIdeal.main_arg1) = m ((c.tc : Thread Cert.SparseReferenceIdeal.nD Cert.SparseReferenceIdeal.τ).loc Cert.SparseReferenceIdeal.main_arg1)
      ∧ r.2.mem ((c.tc : Thread Cert.SparseReferenceIdeal.nD Cert.SparseReferenceIdeal.τ).loc Cert.SparseReferenceIdeal.main_arg2) = m ((c.tc : Thread Cert.SparseReferenceIdeal.nD Cert.SparseReferenceIdeal.τ).loc Cert.SparseReferenceIdeal.main_arg2)
      ∧ r.2.mem ((c.tc : Thread Cert.SparseReferenceIdeal.nD Cert.SparseReferenceIdeal.τ).loc Cert.SparseReferenceIdeal.main_arg3) = m ((c.tc : Thread Cert.SparseReferenceIdeal.nD Cert.SparseReferenceIdeal.τ).loc Cert.SparseReferenceIdeal.main_arg3))
      ∧ r.2.sem = fun _ => 0)

def quiescent_KernelIdeal [hKernelIdeal : Cert.KernelIdeal.Facts] [hPre_scores_at_least_padding : Cert.Pre_scores_at_least_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_at_least_padding [hReferenceIdeal : Cert.ReferenceIdeal.Facts] [hPre_scores_at_least_padding : Cert.Pre_scores_at_least_padding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_at_least_padding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_SparseCalls_SparseCallsIdeal : Prop :=
  True

def algebraic_SparseCallsIdeal_SparseReferenceIdeal [hSparseCallsIdeal : Cert.SparseCallsIdeal.Facts] [hSparseReferenceIdeal : Cert.SparseReferenceIdeal.Facts] [hPre_ranks_a_permutation : Cert.Pre_ranks_a_permutation.Facts] : Prop :=
  ∀ (m : (ℓ : Loc Cert.SparseCallsIdeal.nD Cert.SparseCallsIdeal.τ Cert.SparseCallsIdeal.sig) → Buf (Elt Ideal) ℓ) (g : Dev Cert.SparseCallsIdeal.nD → PrngReg)
    (m' : (ℓ : Loc Cert.SparseReferenceIdeal.nD Cert.SparseReferenceIdeal.τ Cert.SparseReferenceIdeal.sig) → Buf (Elt Ideal) ℓ) (g' : Dev Cert.SparseReferenceIdeal.nD → PrngReg), Pre_SparseCallsIdeal m →
    (∀ c : Dev Cert.SparseCallsIdeal.nD,
      m' ((c.tc : Thread Cert.SparseReferenceIdeal.nD Cert.SparseReferenceIdeal.τ).loc Cert.SparseReferenceIdeal.main_arg0) = m ((c.tc : Thread Cert.SparseCallsIdeal.nD Cert.SparseCallsIdeal.τ).loc Cert.SparseCallsIdeal.main_arg0)
      ∧ m' ((c.tc : Thread Cert.SparseReferenceIdeal.nD Cert.SparseReferenceIdeal.τ).loc Cert.SparseReferenceIdeal.main_arg1) = m ((c.tc : Thread Cert.SparseCallsIdeal.nD Cert.SparseCallsIdeal.τ).loc Cert.SparseCallsIdeal.main_arg1)
      ∧ m' ((c.tc : Thread Cert.SparseReferenceIdeal.nD Cert.SparseReferenceIdeal.τ).loc Cert.SparseReferenceIdeal.main_arg2) = m ((c.tc : Thread Cert.SparseCallsIdeal.nD Cert.SparseCallsIdeal.τ).loc Cert.SparseCallsIdeal.main_arg2)
      ∧ m' ((c.tc : Thread Cert.SparseReferenceIdeal.nD Cert.SparseReferenceIdeal.τ).loc Cert.SparseReferenceIdeal.main_arg3) = m ((c.tc : Thread Cert.SparseCallsIdeal.nD Cert.SparseCallsIdeal.τ).loc Cert.SparseCallsIdeal.main_arg3)) →
    ∃ (v0 : (c : Dev Cert.SparseCallsIdeal.nD) → Buf (Elt Ideal) ((c.tc : Thread Cert.SparseCallsIdeal.nD Cert.SparseCallsIdeal.τ).loc Cert.SparseCallsIdeal.main_v11_0)) (v1 : (c : Dev Cert.SparseCallsIdeal.nD) → Buf (Elt Ideal) ((c.tc : Thread Cert.SparseCallsIdeal.nD Cert.SparseCallsIdeal.τ).loc Cert.SparseCallsIdeal.main_v11_1)) (v2 : (c : Dev Cert.SparseCallsIdeal.nD) → Buf (Elt Ideal) ((c.tc : Thread Cert.SparseCallsIdeal.nD Cert.SparseCallsIdeal.τ).loc Cert.SparseCallsIdeal.main_v11_2)) (v3 : (c : Dev Cert.SparseCallsIdeal.nD) → Buf (Elt Ideal) ((c.tc : Thread Cert.SparseCallsIdeal.nD Cert.SparseCallsIdeal.τ).loc Cert.SparseCallsIdeal.main_v11_3)) (v4 : (c : Dev Cert.SparseCallsIdeal.nD) → Buf (Elt Ideal) ((c.tc : Thread Cert.SparseCallsIdeal.nD Cert.SparseCallsIdeal.τ).loc Cert.SparseCallsIdeal.main_v11_4)) (v5 : (c : Dev Cert.SparseCallsIdeal.nD) → Buf (Elt Ideal) ((c.tc : Thread Cert.SparseCallsIdeal.nD Cert.SparseCallsIdeal.τ).loc Cert.SparseCallsIdeal.main_v13)),
      θ_run (Cert.SparseCallsIdeal.defs (F := Ideal)) (Cert.SparseCallsIdeal.threads (F := Ideal)) ⟨m, fun _ => 0, g⟩ (fun r => ∀ c : Dev Cert.SparseCallsIdeal.nD,
          r.2.mem ((c.tc : Thread Cert.SparseCallsIdeal.nD Cert.SparseCallsIdeal.τ).loc Cert.SparseCallsIdeal.main_v11_0) = v0 c
          ∧ r.2.mem ((c.tc : Thread Cert.SparseCallsIdeal.nD Cert.SparseCallsIdeal.τ).loc Cert.SparseCallsIdeal.main_v11_1) = v1 c
          ∧ r.2.mem ((c.tc : Thread Cert.SparseCallsIdeal.nD Cert.SparseCallsIdeal.τ).loc Cert.SparseCallsIdeal.main_v11_2) = v2 c
          ∧ r.2.mem ((c.tc : Thread Cert.SparseCallsIdeal.nD Cert.SparseCallsIdeal.τ).loc Cert.SparseCallsIdeal.main_v11_3) = v3 c
          ∧ r.2.mem ((c.tc : Thread Cert.SparseCallsIdeal.nD Cert.SparseCallsIdeal.τ).loc Cert.SparseCallsIdeal.main_v11_4) = v4 c
          ∧ r.2.mem ((c.tc : Thread Cert.SparseCallsIdeal.nD Cert.SparseCallsIdeal.τ).loc Cert.SparseCallsIdeal.main_v13) = v5 c
          ∧ r.2.mem ((c.tc : Thread Cert.SparseCallsIdeal.nD Cert.SparseCallsIdeal.τ).loc Cert.SparseCallsIdeal.main_arg0) = m ((c.tc : Thread Cert.SparseCallsIdeal.nD Cert.SparseCallsIdeal.τ).loc Cert.SparseCallsIdeal.main_arg0)
          ∧ r.2.mem ((c.tc : Thread Cert.SparseCallsIdeal.nD Cert.SparseCallsIdeal.τ).loc Cert.SparseCallsIdeal.main_arg1) = m ((c.tc : Thread Cert.SparseCallsIdeal.nD Cert.SparseCallsIdeal.τ).loc Cert.SparseCallsIdeal.main_arg1)
          ∧ r.2.mem ((c.tc : Thread Cert.SparseCallsIdeal.nD Cert.SparseCallsIdeal.τ).loc Cert.SparseCallsIdeal.main_arg2) = m ((c.tc : Thread Cert.SparseCallsIdeal.nD Cert.SparseCallsIdeal.τ).loc Cert.SparseCallsIdeal.main_arg2)
          ∧ r.2.mem ((c.tc : Thread Cert.SparseCallsIdeal.nD Cert.SparseCallsIdeal.τ).loc Cert.SparseCallsIdeal.main_arg3) = m ((c.tc : Thread Cert.SparseCallsIdeal.nD Cert.SparseCallsIdeal.τ).loc Cert.SparseCallsIdeal.main_arg3))
      ∧ θ_run (Cert.SparseReferenceIdeal.defs (F := Ideal)) (onTc (τ := Cert.SparseReferenceIdeal.τ) (Cert.SparseReferenceIdeal.main (F := Ideal))) ⟨m', fun _ => 0, g'⟩ (fun r => ∀ c : Dev Cert.SparseReferenceIdeal.nD,
          r.2.mem ((c.tc : Thread Cert.SparseReferenceIdeal.nD Cert.SparseReferenceIdeal.τ).loc Cert.SparseReferenceIdeal.main_v39) = v0 c
          ∧ r.2.mem ((c.tc : Thread Cert.SparseReferenceIdeal.nD Cert.SparseReferenceIdeal.τ).loc Cert.SparseReferenceIdeal.main_v46) = v1 c
          ∧ r.2.mem ((c.tc : Thread Cert.SparseReferenceIdeal.nD Cert.SparseReferenceIdeal.τ).loc Cert.SparseReferenceIdeal.main_v53) = v2 c
          ∧ r.2.mem ((c.tc : Thread Cert.SparseReferenceIdeal.nD Cert.SparseReferenceIdeal.τ).loc Cert.SparseReferenceIdeal.main_v60) = v3 c
          ∧ r.2.mem ((c.tc : Thread Cert.SparseReferenceIdeal.nD Cert.SparseReferenceIdeal.τ).loc Cert.SparseReferenceIdeal.main_v67) = v4 c
          ∧ r.2.mem ((c.tc : Thread Cert.SparseReferenceIdeal.nD Cert.SparseReferenceIdeal.τ).loc Cert.SparseReferenceIdeal.main_v76) = v5 c
          ∧ r.2.mem ((c.tc : Thread Cert.SparseReferenceIdeal.nD Cert.SparseReferenceIdeal.τ).loc Cert.SparseReferenceIdeal.main_arg0) = m' ((c.tc : Thread Cert.SparseReferenceIdeal.nD Cert.SparseReferenceIdeal.τ).loc Cert.SparseReferenceIdeal.main_arg0)
          ∧ r.2.mem ((c.tc : Thread Cert.SparseReferenceIdeal.nD Cert.SparseReferenceIdeal.τ).loc Cert.SparseReferenceIdeal.main_arg1) = m' ((c.tc : Thread Cert.SparseReferenceIdeal.nD Cert.SparseReferenceIdeal.τ).loc Cert.SparseReferenceIdeal.main_arg1)
          ∧ r.2.mem ((c.tc : Thread Cert.SparseReferenceIdeal.nD Cert.SparseReferenceIdeal.τ).loc Cert.SparseReferenceIdeal.main_arg2) = m' ((c.tc : Thread Cert.SparseReferenceIdeal.nD Cert.SparseReferenceIdeal.τ).loc Cert.SparseReferenceIdeal.main_arg2)
          ∧ r.2.mem ((c.tc : Thread Cert.SparseReferenceIdeal.nD Cert.SparseReferenceIdeal.τ).loc Cert.SparseReferenceIdeal.main_arg3) = m' ((c.tc : Thread Cert.SparseReferenceIdeal.nD Cert.SparseReferenceIdeal.τ).loc Cert.SparseReferenceIdeal.main_arg3))

def algebraic_KernelIdeal_ReferenceIdeal [hKernelIdeal : Cert.KernelIdeal.Facts] [hReferenceIdeal : Cert.ReferenceIdeal.Facts] [hPre_scores_at_least_padding : Cert.Pre_scores_at_least_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hSparseCalls : Cert.SparseCalls.Facts) (hSparseCallsIdeal : Cert.SparseCallsIdeal.Facts) (hSparseReferenceIdeal : Cert.SparseReferenceIdeal.Facts) (hKernelIdeal : Cert.KernelIdeal.Facts) (hReferenceIdeal : Cert.ReferenceIdeal.Facts) (hPre_ranks_a_permutation : Cert.Pre_ranks_a_permutation.Facts) (hPre_scores_at_least_padding : Cert.Pre_scores_at_least_padding.Facts),
    quiescent_SparseCalls (hSparseCalls := hSparseCalls) (hPre_ranks_a_permutation := hPre_ranks_a_permutation)
    ∧ quiescent_SparseCallsIdeal (hSparseCallsIdeal := hSparseCallsIdeal) (hPre_ranks_a_permutation := hPre_ranks_a_permutation)
    ∧ quiescent_SparseReferenceIdeal (hSparseReferenceIdeal := hSparseReferenceIdeal)
    ∧ quiescent_SparseReferenceIdeal_pre_ranks_a_permutation (hSparseReferenceIdeal := hSparseReferenceIdeal) (hPre_ranks_a_permutation := hPre_ranks_a_permutation)
    ∧ quiescent_KernelIdeal (hKernelIdeal := hKernelIdeal) (hPre_scores_at_least_padding := hPre_scores_at_least_padding)
    ∧ quiescent_ReferenceIdeal (hReferenceIdeal := hReferenceIdeal)
    ∧ quiescent_ReferenceIdeal_pre_scores_at_least_padding (hReferenceIdeal := hReferenceIdeal) (hPre_scores_at_least_padding := hPre_scores_at_least_padding)
    ∧ preserves_SparseCalls_SparseCallsIdeal
    ∧ algebraic_SparseCallsIdeal_SparseReferenceIdeal (hSparseCallsIdeal := hSparseCallsIdeal) (hSparseReferenceIdeal := hSparseReferenceIdeal) (hPre_ranks_a_permutation := hPre_ranks_a_permutation)
    ∧ algebraic_KernelIdeal_ReferenceIdeal (hKernelIdeal := hKernelIdeal) (hReferenceIdeal := hReferenceIdeal) (hPre_scores_at_least_padding := hPre_scores_at_least_padding)
-- ==== Pre_ranks_a_permutation.lean ====
abbrev S5000x4 : Shape := ⟨2, ![5000, 4]⟩
abbrev S5000 : Shape := ⟨1, ![5000]⟩
abbrev S5120 : Shape := ⟨1, ![5120]⟩
abbrev S_ : Shape := ⟨0, ![]⟩
abbrev S5120x1 : Shape := ⟨2, ![5120, 1]⟩
abbrev S1x5120 : Shape := ⟨2, ![1, 5120]⟩
abbrev S5120x5120 : Shape := ⟨2, ![5120, 5120]⟩

class Facts : Prop where
  bcast_S_S5120 : S_.BroadcastsInDim S5120 (![] : Fin 0 → Fin S5120.rank)
  reducesTo_S5120_S_d0 : S5120.ReducesTo [0] S_
  h_S_ : 0 < S_.numel
  bcast_S5120_S5120x1_0 : S5120.BroadcastsInDim S5120x1 (![0] : Fin 1 → Fin S5120x1.rank)
  bcast_S5120_S1x5120_1 : S5120.BroadcastsInDim S1x5120 (![1] : Fin 1 → Fin S1x5120.rank)
  bcast_S5120x1_S5120x5120_0_1 : S5120x1.BroadcastsInDim S5120x5120 (![0, 1] : Fin 2 → Fin S5120x5120.rank)
  bcast_S1x5120_S5120x5120_0_1 : S1x5120.BroadcastsInDim S5120x5120 (![0, 1] : Fin 2 → Fin S5120x5120.rank)
  reducesTo_S5120x5120_S_d0_1 : S5120x5120.ReducesTo [0, 1] S_

variable [Facts]

def fn {F : FTy → Type} [FloatOps F] (main_arg0 : FVec F S5000x4 .f32) (main_arg1 : FVec F S5000 .f32) (main_arg2 : IVec S5120 32) (main_arg3 : FVec F S5120 .f32) : IVec S_ 1 :=
  let main_v0 : IVec S5120 32 := iotaInDim S5120 32 0
  let main_c : IVec S_ 32 := constantI S_ 32 0#32
  let main_v1 : IVec S5120 32 := broadcastInDim S5120 ![] bcast_S_S5120 main_c
  let main_v2 : IVec S5120 1 := cmpi .sge main_arg2 main_v1
  let main_c_0 : IVec S_ 32 := constantI S_ 32 5120#32
  let main_v3 : IVec S5120 32 := broadcastInDim S5120 ![] bcast_S_S5120 main_c_0
  let main_v4 : IVec S5120 1 := cmpi .slt main_arg2 main_v3
  let main_v5 : IVec S5120 1 := andi main_v2 main_v4
  let main_c_1 : IVec S_ 1 := constantI S_ 1 1#1
  let main_v6 : IVec S_ 1 := (fun x v => Host.reduce IntOp.andi x v reducesTo_S5120_S_d0 h_S_) main_v5 main_c_1
  let main_v7 : IVec S5120x1 32 := broadcastInDim S5120x1 ![0] bcast_S5120_S5120x1_0 main_arg2
  let main_v8 : IVec S1x5120 32 := broadcastInDim S1x5120 ![1] bcast_S5120_S1x5120_1 main_arg2
  let main_v9 : IVec S5120x5120 32 := broadcastInDim S5120x5120 ![0, 1] bcast_S5120x1_S5120x5120_0_1 main_v7
  let main_v10 : IVec S5120x5120 32 := broadcastInDim S5120x5120 ![0, 1] bcast_S1x5120_S5120x5120_0_1 main_v8
  let main_v11 : IVec S5120x5120 1 := cmpi .ne main_v9 main_v10
  let main_v12 : IVec S5120x1 32 := broadcastInDim S5120x1 ![0] bcast_S5120_S5120x1_0 main_v0
  let main_v13 : IVec S1x5120 32 := broadcastInDim S1x5120 ![1] bcast_S5120_S1x5120_1 main_v0
  let main_v14 : IVec S5120x5120 32 := broadcastInDim S5120x5120 ![0, 1] bcast_S5120x1_S5120x5120_0_1 main_v12
  let main_v15 : IVec S5120x5120 32 := broadcastInDim S5120x5120 ![0, 1] bcast_S1x5120_S5120x5120_0_1 main_v13
  let main_v16 : IVec S5120x5120 1 := cmpi .eq main_v14 main_v15
  let main_v17 : IVec S5120x5120 1 := ori main_v11 main_v16
  let main_c_2 : IVec S_ 1 := constantI S_ 1 1#1
  let main_v18 : IVec S_ 1 := (fun x v => Host.reduce IntOp.andi x v reducesTo_S5120x5120_S_d0_1 h_S_) main_v17 main_c_2
  let main_v19 : IVec S_ 1 := andi main_v6 main_v18
  main_v19
-- ==== Pre_scores_at_least_padding.lean ====
abbrev S5000x4 : Shape := ⟨2, ![5000, 4]⟩
abbrev S5000 : Shape := ⟨1, ![5000]⟩
abbrev S_ : Shape := ⟨0, ![]⟩

class Facts : Prop where
  bcast_S_S5000 : S_.BroadcastsInDim S5000 (![] : Fin 0 → Fin S5000.rank)
  reducesTo_S5000_S_d0 : S5000.ReducesTo [0] S_
  h_S_ : 0 < S_.numel

variable [Facts]

def fn {F : FTy → Type} [FloatOps F] (main_arg0 : FVec F S5000x4 .f32) (main_arg1 : FVec F S5000 .f32) : IVec S_ 1 :=
  let main_cst : FVec F S_ .f32 := constant S_ .f32 0xBF800000#32
  let main_v0 : FVec F S5000 .f32 := broadcastInDim S5000 ![] bcast_S_S5000 main_cst
  let main_v1 : IVec S5000 1 := cmpf .oge main_arg1 main_v0
  let main_c : IVec S_ 1 := constantI S_ 1 1#1
  let main_v2 : IVec S_ 1 := (fun x v => Host.reduce IntOp.andi x v reducesTo_S5000_S_d0 h_S_) main_v1 main_c
  main_v2
-- ==== SparseCalls.lean ====
abbrev S5000x4 : Shape := ⟨2, ![5000, 4]⟩
abbrev S5000 : Shape := ⟨1, ![5000]⟩
abbrev S5120 : Shape := ⟨1, ![5120]⟩
abbrev S_ : Shape := ⟨0, ![]⟩
abbrev S120 : Shape := ⟨1, ![120]⟩
abbrev S5120x4 : Shape := ⟨2, ![5120, 4]⟩
abbrev S5120x1 : Shape := ⟨2, ![5120, 1]⟩
abbrev S16 : Shape := ⟨1, ![16]⟩
abbrev S160 : Shape := ⟨1, ![160]⟩

abbrev nBuf : Table → Nat
  | .hbm => 25
  | .local .scVector .vmem => 14
  | _ => 0

abbrev bufTy : (tb : Table) → Fin (nBuf tb) → BufTy
  | .hbm, ⟨0, _⟩ => ⟨S5000x4, .f32⟩
  | .hbm, ⟨1, _⟩ => ⟨S5000, .f32⟩
  | .hbm, ⟨2, _⟩ => ⟨S5120, .i32⟩
  | .hbm, ⟨3, _⟩ => ⟨S5120, .f32⟩
  | .hbm, ⟨4, _⟩ => ⟨S_, .f32⟩
  | .hbm, ⟨5, _⟩ => ⟨S120, .f32⟩
  | .hbm, ⟨6, _⟩ => ⟨S5120, .f32⟩
  | .hbm, ⟨7, _⟩ => ⟨S_, .i32⟩
  | .hbm, ⟨8, _⟩ => ⟨S_, .f32⟩
  | .hbm, ⟨9, _⟩ => ⟨S5120x4, .f32⟩
  | .hbm, ⟨10, _⟩ => ⟨S5120x1, .f32⟩
  | .hbm, ⟨11, _⟩ => ⟨S5120, .f32⟩
  | .hbm, ⟨12, _⟩ => ⟨S5120x1, .f32⟩
  | .hbm, ⟨13, _⟩ => ⟨S5120, .f32⟩
  | .hbm, ⟨14, _⟩ => ⟨S5120x1, .f32⟩
  | .hbm, ⟨15, _⟩ => ⟨S5120, .f32⟩
  | .hbm, ⟨16, _⟩ => ⟨S5120x1, .f32⟩
  | .hbm, ⟨17, _⟩ => ⟨S5120, .f32⟩
  | .hbm, ⟨18, _⟩ => ⟨S5120, .f32⟩
  | .hbm, ⟨19, _⟩ => ⟨S5120, .f32⟩
  | .hbm, ⟨20, _⟩ => ⟨S5120, .f32⟩
  | .hbm, ⟨21, _⟩ => ⟨S5120, .f32⟩
  | .hbm, ⟨22, _⟩ => ⟨S5120, .f32⟩
  | .hbm, ⟨23, _⟩ => ⟨S5120, .f32⟩
  | .hbm, ⟨24, _⟩ => ⟨S5000, .f32⟩
  | .local .scVector .vmem, ⟨0, _⟩ => ⟨S5120, .f32⟩
  | .local .scVector .vmem, ⟨1, _⟩ => ⟨S5120, .f32⟩
  | .local .scVector .vmem, ⟨2, _⟩ => ⟨S5120, .f32⟩
  | .local .scVector .vmem, ⟨3, _⟩ => ⟨S5120, .f32⟩
  | .local .scVector .vmem, ⟨4, _⟩ => ⟨S5120, .i32⟩
  | .local .scVector .vmem, ⟨5, _⟩ => ⟨S5120, .f32⟩
  | .local .scVector .vmem, ⟨6, _⟩ => ⟨S5120, .f32⟩
  | .local .scVector .vmem, ⟨7, _⟩ => ⟨S5120, .f32⟩
  | .local .scVector .vmem, ⟨8, _⟩ => ⟨S5120, .f32⟩
  | .local .scVector .vmem, ⟨9, _⟩ => ⟨S5120, .f32⟩
  | .local .scVector .vmem, ⟨10, _⟩ => ⟨S5120, .f32⟩
  | .local .scVector .vmem, ⟨11, _⟩ => ⟨S160, .i32⟩
  | .local .scVector .vmem, ⟨12, _⟩ => ⟨S160, .f32⟩
  | .local .scVector .vmem, ⟨13, _⟩ => ⟨S160, .f32⟩
  | _, _ => ⟨S5000x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v12 : Ref sig .tc := ⟨.hbm, 23, rfl⟩
abbrev main_v13 : Ref sig .tc := ⟨.hbm, 24, rfl⟩
abbrev main_v4_scv : Ref sig .scVector := ⟨.hbm, 11, rfl⟩
abbrev main_v6_scv : Ref sig .scVector := ⟨.hbm, 13, rfl⟩
abbrev main_v8_scv : Ref sig .scVector := ⟨.hbm, 15, rfl⟩
abbrev main_v10_scv : Ref sig .scVector := ⟨.hbm, 17, rfl⟩
abbrev main_arg2_scv : Ref sig .scVector := ⟨.hbm, 2, rfl⟩
abbrev main_v11_0_scv : Ref sig .scVector := ⟨.hbm, 18, rfl⟩
abbrev main_v11_1_scv : Ref sig .scVector := ⟨.hbm, 19, rfl⟩
abbrev main_v11_2_scv : Ref sig .scVector := ⟨.hbm, 20, rfl⟩
abbrev main_v11_3_scv : Ref sig .scVector := ⟨.hbm, 21, rfl⟩
abbrev main_v11_4_scv : Ref sig .scVector := ⟨.hbm, 22, rfl⟩
abbrev main_v1_scv : Ref sig .scVector := ⟨.hbm, 6, rfl⟩
abbrev main_arg3_scv : Ref sig .scVector := ⟨.hbm, 3, rfl⟩
abbrev main_v12_scv : Ref sig .scVector := ⟨.hbm, 23, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc1_scratch0 : Ref sig .scVector := ⟨.vmem, 10, rfl⟩
abbrev cc1_scratch1 : Ref sig .scVector := ⟨.vmem, 11, rfl⟩
abbrev cc1_scratch2 : Ref sig .scVector := ⟨.vmem, 12, rfl⟩
abbrev cc1_scratch3 : Ref sig .scVector := ⟨.vmem, 13, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c320_i32 : BitVec 32 := 320#32
  let v3 : BitVec 32 := Scalar.addi c0_i32_0 c320_i32
  let c1_i32 : BitVec 32 := 1#32
  ⟨c0_i32_0, v3, c1_i32⟩
def k0_off1 (k0_t1 : Fin k0_t1_loop.trips) : Fin 1 → Nat :=
  let c0_i32_0 : BitVec 32 := 0#32
  let c1_i32 : BitVec 32 := 1#32
  let arg22 : BitVec 32 := Scf.iv c0_i32_0 c1_i32 k0_t1
  let c16_i32 : BitVec 32 := 16#32
  let v4 : BitVec 32 := Scalar.muli arg22 c16_i32
  let v5 : Index := Scalar.indexCast v4
  ![v5.toNat]

def k0_chk1 (v29 : IVec S16 32) : Prop :=
  (∀ a x, ((![v29] : Fin 1 → IVec S16 32) a x).toNat < S5120.size a) ∧
  (∀ a x, ((![v29] : Fin 1 → IVec S16 32) a x).toNat < S5120.size a) ∧
  (∀ a x, ((![v29] : Fin 1 → IVec S16 32) a x).toNat < S5120.size a) ∧
  (∀ a x, ((![v29] : Fin 1 → IVec S16 32) a x).toNat < S5120.size a) ∧
  (∀ a x, ((![v29] : Fin 1 → IVec S16 32) a x).toNat < S5120.size a)
theorem k0_idx1_inb : ∀ (v29 : IVec S16 32) (k0_hw1 : k0_chk1 v29), ∀ a x, ((![v29] : Fin 1 → IVec S16 32) a x).toNat < S5120.size a := fun v29 k0_hw1 => k0_hw1.1
theorem k0_idx2_inb : ∀ (v29 : IVec S16 32) (k0_hw1 : k0_chk1 v29), ∀ a x, ((![v29] : Fin 1 → IVec S16 32) a x).toNat < S5120.size a := fun v29 k0_hw1 => k0_hw1.2.1
theorem k0_idx3_inb : ∀ (v29 : IVec S16 32) (k0_hw1 : k0_chk1 v29), ∀ a x, ((![v29] : Fin 1 → IVec S16 32) a x).toNat < S5120.size a := fun v29 k0_hw1 => k0_hw1.2.2.1
theorem k0_idx4_inb : ∀ (v29 : IVec S16 32) (k0_hw1 : k0_chk1 v29), ∀ a x, ((![v29] : Fin 1 → IVec S16 32) a x).toNat < S5120.size a := fun v29 k0_hw1 => k0_hw1.2.2.2.1
theorem k0_idx5_inb : ∀ (v29 : IVec S16 32) (k0_hw1 : k0_chk1 v29), ∀ a x, ((![v29] : Fin 1 → IVec S16 32) a x).toNat < S5120.size a := fun v29 k0_hw1 => k0_hw1.2.2.2.2
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  ![v2.toNat]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  ![v2.toNat]

def k1_chk1 (v3 : IVec S16 32) : Prop :=
  (∀ a x, ((![v3] : Fin 1 → IVec S16 32) a x).toNat < S5120.size a)
theorem k1_idx1_inb : ∀ (v3 : IVec S16 32) (k1_hw1 : k1_chk1 v3), ∀ a x, ((![v3] : Fin 1 → IVec S16 32) a x).toNat < S5120.size a := fun v3 k1_hw1 => k1_hw1

def k1_chk2 (v8 : IVec S16 32) : Prop :=
  (∀ a x, ((![v8] : Fin 1 → IVec S16 32) a x).toNat < S5120.size a)
theorem k1_idx2_inb : ∀ (v8 : IVec S16 32) (k1_hw2 : k1_chk2 v8), ∀ a x, ((![v8] : Fin 1 → IVec S16 32) a x).toNat < S5120.size a := fun v8 k1_hw2 => k1_hw2

def k1_chk3 (v13 : IVec S16 32) : Prop :=
  (∀ a x, ((![v13] : Fin 1 → IVec S16 32) a x).toNat < S5120.size a)
theorem k1_idx3_inb : ∀ (v13 : IVec S16 32) (k1_hw3 : k1_chk3 v13), ∀ a x, ((![v13] : Fin 1 → IVec S16 32) a x).toNat < S5120.size a := fun v13 k1_hw3 => k1_hw3

def k1_chk4 (v18 : IVec S16 32) : Prop :=
  (∀ a x, ((![v18] : Fin 1 → IVec S16 32) a x).toNat < S5120.size a)
theorem k1_idx4_inb : ∀ (v18 : IVec S16 32) (k1_hw4 : k1_chk4 v18), ∀ a x, ((![v18] : Fin 1 → IVec S16 32) a x).toNat < S5120.size a := fun v18 k1_hw4 => k1_hw4

def k1_chk5 (v23 : IVec S16 32) : Prop :=
  (∀ a x, ((![v23] : Fin 1 → IVec S16 32) a x).toNat < S5120.size a)
theorem k1_idx5_inb : ∀ (v23 : IVec S16 32) (k1_hw5 : k1_chk5 v23), ∀ a x, ((![v23] : Fin 1 → IVec S16 32) a x).toNat < S5120.size a := fun v23 k1_hw5 => k1_hw5

def k1_chk6 (v28 : IVec S16 32) : Prop :=
  (∀ a x, ((![v28] : Fin 1 → IVec S16 32) a x).toNat < S5120.size a)
theorem k1_idx6_inb : ∀ (v28 : IVec S16 32) (k1_hw6 : k1_chk6 v28), ∀ a x, ((![v28] : Fin 1 → IVec S16 32) a x).toNat < S5120.size a := fun v28 k1_hw6 => k1_hw6

def k1_chk7 (v33 : IVec S16 32) : Prop :=
  (∀ a x, ((![v33] : Fin 1 → IVec S16 32) a x).toNat < S5120.size a)
theorem k1_idx7_inb : ∀ (v33 : IVec S16 32) (k1_hw7 : k1_chk7 v33), ∀ a x, ((![v33] : Fin 1 → IVec S16 32) a x).toNat < S5120.size a := fun v33 k1_hw7 => k1_hw7

def k1_chk8 (v38 : IVec S16 32) : Prop :=
  (∀ a x, ((![v38] : Fin 1 → IVec S16 32) a x).toNat < S5120.size a)
theorem k1_idx8_inb : ∀ (v38 : IVec S16 32) (k1_hw8 : k1_chk8 v38), ∀ a x, ((![v38] : Fin 1 → IVec S16 32) a x).toNat < S5120.size a := fun v38 k1_hw8 => k1_hw8

def k1_chk9 (v43 : IVec S16 32) : Prop :=
  (∀ a x, ((![v43] : Fin 1 → IVec S16 32) a x).toNat < S5120.size a)
theorem k1_idx9_inb : ∀ (v43 : IVec S16 32) (k1_hw9 : k1_chk9 v43), ∀ a x, ((![v43] : Fin 1 → IVec S16 32) a x).toNat < S5120.size a := fun v43 k1_hw9 => k1_hw9

def k1_chk10 (v48 : IVec S16 32) : Prop :=
  (∀ a x, ((![v48] : Fin 1 → IVec S16 32) a x).toNat < S5120.size a)
theorem k1_idx10_inb : ∀ (v48 : IVec S16 32) (k1_hw10 : k1_chk10 v48), ∀ a x, ((![v48] : Fin 1 → IVec S16 32) a x).toNat < S5120.size a := fun v48 k1_hw10 => k1_hw10
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  ![v2.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== SparseReferenceIdeal.lean ====
abbrev S5000x4 : Shape := ⟨2, ![5000, 4]⟩
abbrev S5000 : Shape := ⟨1, ![5000]⟩
abbrev S5120 : Shape := ⟨1, ![5120]⟩
abbrev S_ : Shape := ⟨0, ![]⟩
abbrev S5120x4 : Shape := ⟨2, ![5120, 4]⟩
abbrev S5120x1 : Shape := ⟨2, ![5120, 1]⟩

abbrev nBuf : Space → Nat
  | .hbm => 100
  | .vmem => 0
  | .smem => 0
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S5120, .i32⟩
  | .hbm, ⟨3, _⟩ => ⟨S5120, .f32⟩
  | .hbm, ⟨4, _⟩ => ⟨S_, .i32⟩
  | .hbm, ⟨5, _⟩ => ⟨S_, .f32⟩
  | .hbm, ⟨6, _⟩ => ⟨S5120x4, .f32⟩
  | .hbm, ⟨7, _⟩ => ⟨S5120x1, .f32⟩
  | .hbm, ⟨8, _⟩ => ⟨S5120, .f32⟩
  | .hbm, ⟨9, _⟩ => ⟨S5120x1, .f32⟩
  | .hbm, ⟨10, _⟩ => ⟨S5120, .f32⟩
  | .hbm, ⟨11, _⟩ => ⟨S5120, .f32⟩
  | .hbm, ⟨12, _⟩ => ⟨S_, .f32⟩
  | .hbm, ⟨13, _⟩ => ⟨S5120, .f32⟩
  | .hbm, ⟨14, _⟩ => ⟨S5120, .f32⟩
  | .hbm, ⟨15, _⟩ => ⟨S5120x1, .f32⟩
  | .hbm, ⟨16, _⟩ => ⟨S5120, .f32⟩
  | .hbm, ⟨17, _⟩ => ⟨S5120x1, .f32⟩
  | .hbm, ⟨18, _⟩ => ⟨S5120, .f32⟩
  | .hbm, ⟨19, _⟩ => ⟨S5120, .f32⟩
  | .hbm, ⟨20, _⟩ => ⟨S_, .f32⟩
  | .hbm, ⟨21, _⟩ => ⟨S5120, .f32⟩
  | .hbm, ⟨22, _⟩ => ⟨S5120, .f32⟩
  | .hbm, ⟨23, _⟩ => ⟨S5120x1, .f32⟩
  | .hbm, ⟨24, _⟩ => ⟨S5120, .f32⟩
  | .hbm, ⟨25, _⟩ => ⟨S5120x1, .f32⟩
  | .hbm, ⟨26, _⟩ => ⟨S5120, .f32⟩
  | .hbm, ⟨27, _⟩ => ⟨S5120, .f32⟩
  | .hbm, ⟨28, _⟩ => ⟨S_, .f32⟩
  | .hbm, ⟨29, _⟩ => ⟨S5120, .f32⟩
  | .hbm, ⟨30, _⟩ => ⟨S5120, .f32⟩
  | .hbm, ⟨31, _⟩ => ⟨S5120x1, .f32⟩
  | .hbm, ⟨32, _⟩ => ⟨S5120, .f32⟩
  | .hbm, ⟨33, _⟩ => ⟨S5120x1, .f32⟩
  | .hbm, ⟨34, _⟩ => ⟨S5120, .f32⟩
  | .hbm, ⟨35, _⟩ => ⟨S5120, .f32⟩
  | .hbm, ⟨36, _⟩ => ⟨S_, .f32⟩
  | .hbm, ⟨37, _⟩ => ⟨S5120, .f32⟩
  | .hbm, ⟨38, _⟩ => ⟨S5120, .f32⟩
  | .hbm, ⟨39, _⟩ => ⟨S5120, .f32⟩
  | .hbm, ⟨40, _⟩ => ⟨S5120, .f32⟩
  | .hbm, ⟨41, _⟩ => ⟨S5120, .f32⟩
  | .hbm, ⟨42, _⟩ => ⟨S_, .f32⟩
  | .hbm, ⟨43, _⟩ => ⟨S5120, .f32⟩
  | .hbm, ⟨44, _⟩ => ⟨S_, .i32⟩
  | .hbm, ⟨45, _⟩ => ⟨S5120, .i32⟩
  | .hbm, ⟨46, _⟩ => ⟨S5120, .i1⟩
  | .hbm, ⟨47, _⟩ => ⟨S_, .i32⟩
  | .hbm, ⟨48, _⟩ => ⟨S5120, .i32⟩
  | .hbm, ⟨49, _⟩ => ⟨S5120, .i32⟩
  | .hbm, ⟨50, _⟩ => ⟨S5120, .i32⟩
  | .hbm, ⟨51, _⟩ => ⟨S5120x1, .i32⟩
  | .hbm, ⟨52, _⟩ => ⟨S5120, .f32⟩
  | .hbm, ⟨53, _⟩ => ⟨S_, .i32⟩
  | .hbm, ⟨54, _⟩ => ⟨S5120, .i32⟩
  | .hbm, ⟨55, _⟩ => ⟨S5120, .i1⟩
  | .hbm, ⟨56, _⟩ => ⟨S_, .i32⟩
  | .hbm, ⟨57, _⟩ => ⟨S5120, .i32⟩
  | .hbm, ⟨58, _⟩ => ⟨S5120, .i32⟩
  | .hbm, ⟨59, _⟩ => ⟨S5120, .i32⟩
  | .hbm, ⟨60, _⟩ => ⟨S5120x1, .i32⟩
  | .hbm, ⟨61, _⟩ => ⟨S5120, .f32⟩
  | .hbm, ⟨62, _⟩ => ⟨S_, .i32⟩
  | .hbm, ⟨63, _⟩ => ⟨S5120, .i32⟩
  | .hbm, ⟨64, _⟩ => ⟨S5120, .i1⟩
  | .hbm, ⟨65, _⟩ => ⟨S_, .i32⟩
  | .hbm, ⟨66, _⟩ => ⟨S5120, .i32⟩
  | .hbm, ⟨67, _⟩ => ⟨S5120, .i32⟩
  | .hbm, ⟨68, _⟩ => ⟨S5120, .i32⟩
  | .hbm, ⟨69, _⟩ => ⟨S5120x1, .i32⟩
  | .hbm, ⟨70, _⟩ => ⟨S5120, .f32⟩
  | .hbm, ⟨71, _⟩ => ⟨S_, .i32⟩
  | .hbm, ⟨72, _⟩ => ⟨S5120, .i32⟩
  | .hbm, ⟨73, _⟩ => ⟨S5120, .i1⟩
  | .hbm, ⟨74, _⟩ => ⟨S_, .i32⟩
  | .hbm, ⟨75, _⟩ => ⟨S5120, .i32⟩
  | .hbm, ⟨76, _⟩ => ⟨S5120, .i32⟩
  | .hbm, ⟨77, _⟩ => ⟨S5120, .i32⟩
  | .hbm, ⟨78, _⟩ => ⟨S5120x1, .i32⟩
  | .hbm, ⟨79, _⟩ => ⟨S5120, .f32⟩
  | .hbm, ⟨80, _⟩ => ⟨S_, .i32⟩
  | .hbm, ⟨81, _⟩ => ⟨S5120, .i32⟩
  | .hbm, ⟨82, _⟩ => ⟨S5120, .i1⟩
  | .hbm, ⟨83, _⟩ => ⟨S_, .i32⟩
  | .hbm, ⟨84, _⟩ => ⟨S5120, .i32⟩
  | .hbm, ⟨85, _⟩ => ⟨S5120, .i32⟩
  | .hbm, ⟨86, _⟩ => ⟨S5120, .i32⟩
  | .hbm, ⟨87, _⟩ => ⟨S5120x1, .i32⟩
  | .hbm, ⟨88, _⟩ => ⟨S5120, .f32⟩
  | .hbm, ⟨89, _⟩ => ⟨S_, .i32⟩
  | .hbm, ⟨90, _⟩ => ⟨S5120, .i32⟩
  | .hbm, ⟨91, _⟩ => ⟨S5120, .i1⟩
  | .hbm, ⟨92, _⟩ => ⟨S_, .i32⟩
  | .hbm, ⟨93, _⟩ => ⟨S5120, .i32⟩
  | .hbm, ⟨94, _⟩ => ⟨S5120, .i32⟩
  | .hbm, ⟨95, _⟩ => ⟨S5120, .i32⟩
  | .hbm, ⟨96, _⟩ => ⟨S5120x1, .i32⟩
  | .hbm, ⟨97, _⟩ => ⟨S5120, .f32⟩
  | .hbm, ⟨98, _⟩ => ⟨S5000, .f32⟩
  | .hbm, ⟨99, _⟩ => ⟨S5000, .f32⟩
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_c_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_8 : Ref sig .tc := ⟨.hbm, 62, rfl⟩
abbrev main_v47 : Ref sig .tc := ⟨.hbm, 63, rfl⟩
abbrev main_v48 : Ref sig .tc := ⟨.hbm, 64, rfl⟩
abbrev main_c_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_10 : Ref sig .tc := ⟨.hbm, 71, rfl⟩
abbrev main_v54 : Ref sig .tc := ⟨.hbm, 72, rfl⟩
abbrev main_v55 : Ref sig .tc := ⟨.hbm, 73, rfl⟩
abbrev main_c_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_12 : Ref sig .tc := ⟨.hbm, 80, rfl⟩
abbrev main_v61 : Ref sig .tc := ⟨.hbm, 81, rfl⟩
abbrev main_v62 : Ref sig .tc := ⟨.hbm, 82, rfl⟩
abbrev main_c_13 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_14 : Ref sig .tc := ⟨.hbm, 89, rfl⟩
abbrev main_v68 : Ref sig .tc := ⟨.hbm, 90, rfl⟩
abbrev main_v69 : Ref sig .tc := ⟨.hbm, 91, rfl⟩
abbrev main_c_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩

abbrev nD : Nat := 1
abbrev τ : Topo := Topo.v7x

variable {F : FTy → Type} [FloatOps F]
-- ==== KernelIdeal.lean ====
abbrev S5000x4 : Shape := ⟨2, ![5000, 4]⟩
abbrev S5000 : Shape := ⟨1, ![5000]⟩
abbrev S_ : Shape := ⟨0, ![]⟩
abbrev S120 : Shape := ⟨1, ![120]⟩
abbrev S5120 : Shape := ⟨1, ![5120]⟩
abbrev S10x512 : Shape := ⟨2, ![10, 512]⟩
abbrev S512x1 : Shape := ⟨2, ![512, 1]⟩
abbrev S512x512 : Shape := ⟨2, ![512, 512]⟩
abbrev S1x512 : Shape := ⟨2, ![1, 512]⟩
abbrev S5120x4 : Shape := ⟨2, ![5120, 4]⟩
abbrev S5120x1 : Shape := ⟨2, ![5120, 1]⟩
abbrev S16 : Shape := ⟨1, ![16]⟩
abbrev S160 : Shape := ⟨1, ![160]⟩
abbrev S1x1x512 : Shape := ⟨3, ![1, 1, 512]⟩
abbrev S1 : Shape := ⟨1, ![1]⟩
abbrev S1x1x1 : Shape := ⟨3, ![1, 1, 1]⟩

abbrev nBuf : Table → Nat
  | .hbm => 33
  | .local .tc .vmem => 10
  | .local .scVector .vmem => 14
  | _ => 0

abbrev bufTy : (tb : Table) → Fin (nBuf tb) → BufTy
  | .hbm, ⟨0, _⟩ => ⟨S5000x4, .f32⟩
  | .hbm, ⟨1, _⟩ => ⟨S5000, .f32⟩
  | .hbm, ⟨2, _⟩ => ⟨S_, .f32⟩
  | .hbm, ⟨3, _⟩ => ⟨S120, .f32⟩
  | .hbm, ⟨4, _⟩ => ⟨S5120, .f32⟩
  | .hbm, ⟨5, _⟩ => ⟨S10x512, .f32⟩
  | .hbm, ⟨6, _⟩ => ⟨S10x512, .i32⟩
  | .hbm, ⟨7, _⟩ => ⟨S5120, .i32⟩
  | .hbm, ⟨8, _⟩ => ⟨S_, .i32⟩
  | .hbm, ⟨9, _⟩ => ⟨S_, .f32⟩
  | .hbm, ⟨10, _⟩ => ⟨S5120x4, .f32⟩
  | .hbm, ⟨11, _⟩ => ⟨S5120x1, .f32⟩
  | .hbm, ⟨12, _⟩ => ⟨S5120, .f32⟩
  | .hbm, ⟨13, _⟩ => ⟨S5120x1, .f32⟩
  | .hbm, ⟨14, _⟩ => ⟨S5120, .f32⟩
  | .hbm, ⟨15, _⟩ => ⟨S5120x1, .f32⟩
  | .hbm, ⟨16, _⟩ => ⟨S5120, .f32⟩
  | .hbm, ⟨17, _⟩ => ⟨S5120x1, .f32⟩
  | .hbm, ⟨18, _⟩ => ⟨S5120, .f32⟩
  | .hbm, ⟨19, _⟩ => ⟨S5120, .f32⟩
  | .hbm, ⟨20, _⟩ => ⟨S5120, .f32⟩
  | .hbm, ⟨21, _⟩ => ⟨S5120, .f32⟩
  | .hbm, ⟨22, _⟩ => ⟨S5120, .f32⟩
  | .hbm, ⟨23, _⟩ => ⟨S5120, .f32⟩
  | .hbm, ⟨24, _⟩ => ⟨S10x512, .f32⟩
  | .hbm, ⟨25, _⟩ => ⟨S10x512, .f32⟩
  | .hbm, ⟨26, _⟩ => ⟨S10x512, .f32⟩
  | .hbm, ⟨27, _⟩ => ⟨S10x512, .f32⟩
  | .hbm, ⟨28, _⟩ => ⟨S10x512, .f32⟩
  | .hbm, ⟨29, _⟩ => ⟨S10x512, .f32⟩
  | .hbm, ⟨30, _⟩ => ⟨S5120, .f32⟩
  | .hbm, ⟨31, _⟩ => ⟨S5120, .f32⟩
  | .hbm, ⟨32, _⟩ => ⟨S5000, .f32⟩
  | .local .tc .vmem, ⟨0, _⟩ => ⟨S10x512, .f32⟩
  | .local .tc .vmem, ⟨1, _⟩ => ⟨S10x512, .i32⟩
  | .local .tc .vmem, ⟨2, _⟩ => ⟨S10x512, .f32⟩
  | .local .tc .vmem, ⟨3, _⟩ => ⟨S10x512, .f32⟩
  | .local .tc .vmem, ⟨4, _⟩ => ⟨S10x512, .f32⟩
  | .local .tc .vmem, ⟨5, _⟩ => ⟨S10x512, .f32⟩
  | .local .tc .vmem, ⟨6, _⟩ => ⟨S10x512, .f32⟩
  | .local .tc .vmem, ⟨7, _⟩ => ⟨S10x512, .f32⟩
  | .local .tc .vmem, ⟨8, _⟩ => ⟨S10x512, .f32⟩
  | .local .tc .vmem, ⟨9, _⟩ => ⟨S512x512, .f32⟩
  | .local .scVector .vmem, ⟨0, _⟩ => ⟨S5120, .f32⟩
  | .local .scVector .vmem, ⟨1, _⟩ => ⟨S5120, .f32⟩
  | .local .scVector .vmem, ⟨2, _⟩ => ⟨S5120, .f32⟩
  | .local .scVector .vmem, ⟨3, _⟩ => ⟨S5120, .f32⟩
  | .local .scVector .vmem, ⟨4, _⟩ => ⟨S5120, .i32⟩
  | .local .scVector .vmem, ⟨5, _⟩ => ⟨S5120, .f32⟩
  | .local .scVector .vmem, ⟨6, _⟩ => ⟨S5120, .f32⟩
  | .local .scVector .vmem, ⟨7, _⟩ => ⟨S5120, .f32⟩
  | .local .scVector .vmem, ⟨8, _⟩ => ⟨S5120, .f32⟩
  | .local .scVector .vmem, ⟨9, _⟩ => ⟨S5120, .f32⟩
  | .local .scVector .vmem, ⟨10, _⟩ => ⟨S5120, .f32⟩
  | .local .scVector .vmem, ⟨11, _⟩ => ⟨S160, .i32⟩
  | .local .scVector .vmem, ⟨12, _⟩ => ⟨S160, .f32⟩
  | .local .scVector .vmem, ⟨13, _⟩ => ⟨S160, .f32⟩
  | _, _ => ⟨S5000x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | ⟨21, _⟩ => false
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev main_v14_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v7_scv : Ref sig .scVector := ⟨.hbm, 12, rfl⟩
abbrev main_v9_scv : Ref sig .scVector := ⟨.hbm, 14, rfl⟩
abbrev main_v11_scv : Ref sig .scVector := ⟨.hbm, 16, rfl⟩
abbrev main_v13_scv : Ref sig .scVector := ⟨.hbm, 18, rfl⟩
abbrev main_v4_scv : Ref sig .scVector := ⟨.hbm, 7, rfl⟩
abbrev main_v14_0_scv : Ref sig .scVector := ⟨.hbm, 19, rfl⟩
abbrev main_v14_1_scv : Ref sig .scVector := ⟨.hbm, 20, rfl⟩
abbrev main_v14_2_scv : Ref sig .scVector := ⟨.hbm, 21, rfl⟩
abbrev main_v14_3_scv : Ref sig .scVector := ⟨.hbm, 22, rfl⟩
abbrev main_v14_4_scv : Ref sig .scVector := ⟨.hbm, 23, rfl⟩
abbrev main_v1_scv : Ref sig .scVector := ⟨.hbm, 4, rfl⟩
abbrev main_v21_scv : Ref sig .scVector := ⟨.hbm, 30, rfl⟩
abbrev main_v22_scv : Ref sig .scVector := ⟨.hbm, 31, rfl⟩
abbrev cc0_stg0_0 : Ref sig .tc := ⟨.vmem, 0, rfl⟩
abbrev cc0_stg1_0 : Ref sig .tc := ⟨.vmem, 1, rfl⟩
abbrev cc2_stg0_0 : Ref sig .tc := ⟨.vmem, 2, rfl⟩
abbrev cc2_stg1_0 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg5_0 : Ref sig .tc := ⟨.vmem, 7, rfl⟩
abbrev cc2_scratch0 : Ref sig .tc := ⟨.vmem, 8, rfl⟩
abbrev cc2_scratch1 : Ref sig .tc := ⟨.vmem, 9, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc3_scratch0 : Ref sig .scVector := ⟨.vmem, 10, rfl⟩
abbrev cc3_scratch1 : Ref sig .scVector := ⟨.vmem, 11, rfl⟩
abbrev cc3_scratch2 : Ref sig .scVector := ⟨.vmem, 12, rfl⟩
abbrev cc3_scratch3 : Ref sig .scVector := ⟨.vmem, 13, rfl⟩
abbrev cc0_sem0_0 : DmaSem sig := 0
abbrev cc0_sem1_0 : DmaSem sig := 1
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c10_i32 : BitVec 32 := 10#32
  let v11 : BitVec 32 := Scalar.addi c0_i32 c10_i32
  let c1_i32 : BitVec 32 := 1#32
  ⟨c0_i32, v11, c1_i32⟩
def k0_off1 (k0_t1 : Fin k0_t1_loop.trips) : Fin 2 → Nat :=
  let c0_i32 : BitVec 32 := 0#32
  let c1_i32 : BitVec 32 := 1#32
  let arg2 : BitVec 32 := Scf.iv c0_i32 c1_i32 k0_t1
  let v237 : Index := Scalar.indexCast arg2
  let c0_149 : Index := 0#32
  ![v237.toNat, 0]
@[reducible] def k0_t2_loop : Scf.Loop 32 :=
  let c0_i32_17 : BitVec 32 := 0#32
  let c10_i32_18 : BitVec 32 := 10#32
  let v34 : BitVec 32 := Scalar.addi c0_i32_17 c10_i32_18
  let c1_i32_19 : BitVec 32 := 1#32
  ⟨c0_i32_17, v34, c1_i32_19⟩
def k0_off2 (k0_t2 : Fin k0_t2_loop.trips) : Fin 2 → Nat :=
  let c0_i32_17 : BitVec 32 := 0#32
  let c1_i32_19 : BitVec 32 := 1#32
  let arg2 : BitVec 32 := Scf.iv c0_i32_17 c1_i32_19 k0_t2
  let v237 : Index := Scalar.indexCast arg2
  let c0_149 : Index := 0#32
  ![v237.toNat, 0]
@[reducible] def k0_t3_loop : Scf.Loop 32 :=
  let c0_i32_32 : BitVec 32 := 0#32
  let c10_i32_33 : BitVec 32 := 10#32
  let v57 : BitVec 32 := Scalar.addi c0_i32_32 c10_i32_33
  let c1_i32_34 : BitVec 32 := 1#32
  ⟨c0_i32_32, v57, c1_i32_34⟩
def k0_off3 (k0_t3 : Fin k0_t3_loop.trips) : Fin 2 → Nat :=
  let c0_i32_32 : BitVec 32 := 0#32
  let c1_i32_34 : BitVec 32 := 1#32
  let arg2 : BitVec 32 := Scf.iv c0_i32_32 c1_i32_34 k0_t3
  let v237 : Index := Scalar.indexCast arg2
  let c0_149 : Index := 0#32
  ![v237.toNat, 0]
@[reducible] def k0_t4_loop : Scf.Loop 32 :=
  let c0_i32_47 : BitVec 32 := 0#32
  let c10_i32_48 : BitVec 32 := 10#32
  let v80 : BitVec 32 := Scalar.addi c0_i32_47 c10_i32_48
  let c1_i32_49 : BitVec 32 := 1#32
  ⟨c0_i32_47, v80, c1_i32_49⟩
def k0_off4 (k0_t4 : Fin k0_t4_loop.trips) : Fin 2 → Nat :=
  let c0_i32_47 : BitVec 32 := 0#32
  let c1_i32_49 : BitVec 32 := 1#32
  let arg2 : BitVec 32 := Scf.iv c0_i32_47 c1_i32_49 k0_t4
  let v237 : Index := Scalar.indexCast arg2
  let c0_149 : Index := 0#32
  ![v237.toNat, 0]
@[reducible] def k0_t5_loop : Scf.Loop 32 :=
  let c0_i32_62 : BitVec 32 := 0#32
  let c10_i32_63 : BitVec 32 := 10#32
  let v103 : BitVec 32 := Scalar.addi c0_i32_62 c10_i32_63
  let c1_i32_64 : BitVec 32 := 1#32
  ⟨c0_i32_62, v103, c1_i32_64⟩
def k0_off5 (k0_t5 : Fin k0_t5_loop.trips) : Fin 2 → Nat :=
  let c0_i32_62 : BitVec 32 := 0#32
  let c1_i32_64 : BitVec 32 := 1#32
  let arg2 : BitVec 32 := Scf.iv c0_i32_62 c1_i32_64 k0_t5
  let v237 : Index := Scalar.indexCast arg2
  let c0_149 : Index := 0#32
  ![v237.toNat, 0]
@[reducible] def k0_t6_loop : Scf.Loop 32 :=
  let c0_i32_77 : BitVec 32 := 0#32
  let c10_i32_78 : BitVec 32 := 10#32
  let v126 : BitVec 32 := Scalar.addi c0_i32_77 c10_i32_78
  let c1_i32_79 : BitVec 32 := 1#32
  ⟨c0_i32_77, v126, c1_i32_79⟩
def k0_off6 (k0_t6 : Fin k0_t6_loop.trips) : Fin 2 → Nat :=
  let c0_i32_77 : BitVec 32 := 0#32
  let c1_i32_79 : BitVec 32 := 1#32
  let arg2 : BitVec 32 := Scf.iv c0_i32_77 c1_i32_79 k0_t6
  let v237 : Index := Scalar.indexCast arg2
  let c0_149 : Index := 0#32
  ![v237.toNat, 0]
@[reducible] def k0_t7_loop : Scf.Loop 32 :=
  let c0_i32_92 : BitVec 32 := 0#32
  let c10_i32_93 : BitVec 32 := 10#32
  let v149 : BitVec 32 := Scalar.addi c0_i32_92 c10_i32_93
  let c1_i32_94 : BitVec 32 := 1#32
  ⟨c0_i32_92, v149, c1_i32_94⟩
def k0_off7 (k0_t7 : Fin k0_t7_loop.trips) : Fin 2 → Nat :=
  let c0_i32_92 : BitVec 32 := 0#32
  let c1_i32_94 : BitVec 32 := 1#32
  let arg2 : BitVec 32 := Scf.iv c0_i32_92 c1_i32_94 k0_t7
  let v237 : Index := Scalar.indexCast arg2
  let c0_149 : Index := 0#32
  ![v237.toNat, 0]
@[reducible] def k0_t8_loop : Scf.Loop 32 :=
  let c0_i32_107 : BitVec 32 := 0#32
  let c10_i32_108 : BitVec 32 := 10#32
  let v172 : BitVec 32 := Scalar.addi c0_i32_107 c10_i32_108
  let c1_i32_109 : BitVec 32 := 1#32
  ⟨c0_i32_107, v172, c1_i32_109⟩
def k0_off8 (k0_t8 : Fin k0_t8_loop.trips) : Fin 2 → Nat :=
  let c0_i32_107 : BitVec 32 := 0#32
  let c1_i32_109 : BitVec 32 := 1#32
  let arg2 : BitVec 32 := Scf.iv c0_i32_107 c1_i32_109 k0_t8
  let v237 : Index := Scalar.indexCast arg2
  let c0_149 : Index := 0#32
  ![v237.toNat, 0]
@[reducible] def k0_t9_loop : Scf.Loop 32 :=
  let c0_i32_122 : BitVec 32 := 0#32
  let c10_i32_123 : BitVec 32 := 10#32
  let v195 : BitVec 32 := Scalar.addi c0_i32_122 c10_i32_123
  let c1_i32_124 : BitVec 32 := 1#32
  ⟨c0_i32_122, v195, c1_i32_124⟩
def k0_off9 (k0_t9 : Fin k0_t9_loop.trips) : Fin 2 → Nat :=
  let c0_i32_122 : BitVec 32 := 0#32
  let c1_i32_124 : BitVec 32 := 1#32
  let arg2 : BitVec 32 := Scf.iv c0_i32_122 c1_i32_124 k0_t9
  let v237 : Index := Scalar.indexCast arg2
  let c0_149 : Index := 0#32
  ![v237.toNat, 0]
@[reducible] def k0_t10_loop : Scf.Loop 32 :=
  let c0_i32_137 : BitVec 32 := 0#32
  let c10_i32_138 : BitVec 32 := 10#32
  let v218 : BitVec 32 := Scalar.addi c0_i32_137 c10_i32_138
  let c1_i32_139 : BitVec 32 := 1#32
  ⟨c0_i32_137, v218, c1_i32_139⟩
def k0_off10 (k0_t10 : Fin k0_t10_loop.trips) : Fin 2 → Nat :=
  let c0_i32_137 : BitVec 32 := 0#32
  let c1_i32_139 : BitVec 32 := 1#32
  let arg2 : BitVec 32 := Scf.iv c0_i32_137 c1_i32_139 k0_t10
  let v237 : Index := Scalar.indexCast arg2
  let c0_149 : Index := 0#32
  ![v237.toNat, 0]
abbrev stage0_0 : Fin 1 → Memref sig .tc .vmem S10x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_0 : BitVec 32 := 0#32
  let c320_i32 : BitVec 32 := 320#32
  let v3 : BitVec 32 := Scalar.addi c0_i32_0 c320_i32
  let c1_i32 : BitVec 32 := 1#32
  ⟨c0_i32_0, v3, c1_i32⟩
def k1_off1 (k1_t1 : Fin k1_t1_loop.trips) : Fin 1 → Nat :=
  let c0_i32_0 : BitVec 32 := 0#32
  let c1_i32 : BitVec 32 := 1#32
  let arg22 : BitVec 32 := Scf.iv c0_i32_0 c1_i32 k1_t1
  let c16_i32 : BitVec 32 := 16#32
  let v4 : BitVec 32 := Scalar.muli arg22 c16_i32
  let v5 : Index := Scalar.indexCast v4
  ![v5.toNat]

def k1_chk1 (v29 : IVec S16 32) : Prop :=
  (∀ a x, ((![v29] : Fin 1 → IVec S16 32) a x).toNat < S5120.size a) ∧
  (∀ a x, ((![v29] : Fin 1 → IVec S16 32) a x).toNat < S5120.size a) ∧
  (∀ a x, ((![v29] : Fin 1 → IVec S16 32) a x).toNat < S5120.size a) ∧
  (∀ a x, ((![v29] : Fin 1 → IVec S16 32) a x).toNat < S5120.size a) ∧
  (∀ a x, ((![v29] : Fin 1 → IVec S16 32) a x).toNat < S5120.size a)
theorem k1_idx1_inb : ∀ (v29 : IVec S16 32) (k1_hw1 : k1_chk1 v29), ∀ a x, ((![v29] : Fin 1 → IVec S16 32) a x).toNat < S5120.size a := fun v29 k1_hw1 => k1_hw1.1
theorem k1_idx2_inb : ∀ (v29 : IVec S16 32) (k1_hw1 : k1_chk1 v29), ∀ a x, ((![v29] : Fin 1 → IVec S16 32) a x).toNat < S5120.size a := fun v29 k1_hw1 => k1_hw1.2.1
theorem k1_idx3_inb : ∀ (v29 : IVec S16 32) (k1_hw1 : k1_chk1 v29), ∀ a x, ((![v29] : Fin 1 → IVec S16 32) a x).toNat < S5120.size a := fun v29 k1_hw1 => k1_hw1.2.2.1
theorem k1_idx4_inb : ∀ (v29 : IVec S16 32) (k1_hw1 : k1_chk1 v29), ∀ a x, ((![v29] : Fin 1 → IVec S16 32) a x).toNat < S5120.size a := fun v29 k1_hw1 => k1_hw1.2.2.2.1
theorem k1_idx5_inb : ∀ (v29 : IVec S16 32) (k1_hw1 : k1_chk1 v29), ∀ a x, ((![v29] : Fin 1 → IVec S16 32) a x).toNat < S5120.size a := fun v29 k1_hw1 => k1_hw1.2.2.2.2
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  ![v2.toNat]
abbrev grid2 : Pipeline.Grid := .none

@[reducible] def k2_t1_loop : Scf.Loop 32 :=
  let c1_i32 : BitVec 32 := 1#32
  let c9_i32 : BitVec 32 := 9#32
  let v85 : BitVec 32 := Scalar.addi c1_i32 c9_i32
  let c1_i32_41 : BitVec 32 := 1#32
  ⟨c1_i32, v85, c1_i32_41⟩
def k2_off1 (k2_t1 : Fin k2_t1_loop.trips) : Fin 2 → Nat :=
  let c1_i32 : BitVec 32 := 1#32
  let c1_i32_41 : BitVec 32 := 1#32
  let arg8 : BitVec 32 := Scf.iv c1_i32 c1_i32_41 k2_t1
  let v747 : Index := Scalar.indexCast arg8
  let c0_417 : Index := 0#32
  ![v747.toNat, 0]
@[reducible] def k2_t2_loop : Scf.Loop 32 :=
  let c2_i32 : BitVec 32 := 2#32
  let c8_i32 : BitVec 32 := 8#32
  let v152 : BitVec 32 := Scalar.addi c2_i32 c8_i32
  let c1_i32_80 : BitVec 32 := 1#32
  ⟨c2_i32, v152, c1_i32_80⟩
def k2_off2 (k2_t2 : Fin k2_t2_loop.trips) : Fin 2 → Nat :=
  let c2_i32 : BitVec 32 := 2#32
  let c1_i32_80 : BitVec 32 := 1#32
  let arg8 : BitVec 32 := Scf.iv c2_i32 c1_i32_80 k2_t2
  let v747 : Index := Scalar.indexCast arg8
  let c0_417 : Index := 0#32
  ![v747.toNat, 0]
@[reducible] def k2_t3_loop : Scf.Loop 32 :=
  let c3_i32 : BitVec 32 := 3#32
  let c7_i32 : BitVec 32 := 7#32
  let v219 : BitVec 32 := Scalar.addi c3_i32 c7_i32
  let c1_i32_119 : BitVec 32 := 1#32
  ⟨c3_i32, v219, c1_i32_119⟩
def k2_off3 (k2_t3 : Fin k2_t3_loop.trips) : Fin 2 → Nat :=
  let c3_i32 : BitVec 32 := 3#32
  let c1_i32_119 : BitVec 32 := 1#32
  let arg8 : BitVec 32 := Scf.iv c3_i32 c1_i32_119 k2_t3
  let v747 : Index := Scalar.indexCast arg8
  let c0_417 : Index := 0#32
  ![v747.toNat, 0]
@[reducible] def k2_t4_loop : Scf.Loop 32 :=
  let c4_i32 : BitVec 32 := 4#32
  let c6_i32 : BitVec 32 := 6#32
  let v286 : BitVec 32 := Scalar.addi c4_i32 c6_i32
  let c1_i32_158 : BitVec 32 := 1#32
  ⟨c4_i32, v286, c1_i32_158⟩
def k2_off4 (k2_t4 : Fin k2_t4_loop.trips) : Fin 2 → Nat :=
  let c4_i32 : BitVec 32 := 4#32
  let c1_i32_158 : BitVec 32 := 1#32
  let arg8 : BitVec 32 := Scf.iv c4_i32 c1_i32_158 k2_t4
  let v747 : Index := Scalar.indexCast arg8
  let c0_417 : Index := 0#32
  ![v747.toNat, 0]
@[reducible] def k2_t5_loop : Scf.Loop 32 :=
  let c5_i32 : BitVec 32 := 5#32
  let c5_i32_197 : BitVec 32 := 5#32
  let v353 : BitVec 32 := Scalar.addi c5_i32 c5_i32_197
  let c1_i32_198 : BitVec 32 := 1#32
  ⟨c5_i32, v353, c1_i32_198⟩
def k2_off5 (k2_t5 : Fin k2_t5_loop.trips) : Fin 2 → Nat :=
  let c5_i32 : BitVec 32 := 5#32
  let c1_i32_198 : BitVec 32 := 1#32
  let arg8 : BitVec 32 := Scf.iv c5_i32 c1_i32_198 k2_t5
  let v747 : Index := Scalar.indexCast arg8
  let c0_417 : Index := 0#32
  ![v747.toNat, 0]
@[reducible] def k2_t6_loop : Scf.Loop 32 :=
  let c6_i32_237 : BitVec 32 := 6#32
  let c4_i32_238 : BitVec 32 := 4#32
  let v420 : BitVec 32 := Scalar.addi c6_i32_237 c4_i32_238
  let c1_i32_239 : BitVec 32 := 1#32
  ⟨c6_i32_237, v420, c1_i32_239⟩
def k2_off6 (k2_t6 : Fin k2_t6_loop.trips) : Fin 2 → Nat :=
  let c6_i32_237 : BitVec 32 := 6#32
  let c1_i32_239 : BitVec 32 := 1#32
  let arg8 : BitVec 32 := Scf.iv c6_i32_237 c1_i32_239 k2_t6
  let v747 : Index := Scalar.indexCast arg8
  let c0_417 : Index := 0#32
  ![v747.toNat, 0]
@[reducible] def k2_t7_loop : Scf.Loop 32 :=
  let c7_i32_278 : BitVec 32 := 7#32
  let c3_i32_279 : BitVec 32 := 3#32
  let v487 : BitVec 32 := Scalar.addi c7_i32_278 c3_i32_279
  let c1_i32_280 : BitVec 32 := 1#32
  ⟨c7_i32_278, v487, c1_i32_280⟩
def k2_off7 (k2_t7 : Fin k2_t7_loop.trips) : Fin 2 → Nat :=
  let c7_i32_278 : BitVec 32 := 7#32
  let c1_i32_280 : BitVec 32 := 1#32
  let arg8 : BitVec 32 := Scf.iv c7_i32_278 c1_i32_280 k2_t7
  let v747 : Index := Scalar.indexCast arg8
  let c0_417 : Index := 0#32
  ![v747.toNat, 0]
@[reducible] def k2_t8_loop : Scf.Loop 32 :=
  let c8_i32_319 : BitVec 32 := 8#32
  let c2_i32_320 : BitVec 32 := 2#32
  let v554 : BitVec 32 := Scalar.addi c8_i32_319 c2_i32_320
  let c1_i32_321 : BitVec 32 := 1#32
  ⟨c8_i32_319, v554, c1_i32_321⟩
def k2_off8 (k2_t8 : Fin k2_t8_loop.trips) : Fin 2 → Nat :=
  let c8_i32_319 : BitVec 32 := 8#32
  let c1_i32_321 : BitVec 32 := 1#32
  let arg8 : BitVec 32 := Scf.iv c8_i32_319 c1_i32_321 k2_t8
  let v747 : Index := Scalar.indexCast arg8
  let c0_417 : Index := 0#32
  ![v747.toNat, 0]
abbrev stage2_0 : Fin 1 → Memref sig .tc .vmem S10x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S10x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S10x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S10x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S10x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S10x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  ![v2.toNat]

def k3_chk1 (v3 : IVec S16 32) : Prop :=
  (∀ a x, ((![v3] : Fin 1 → IVec S16 32) a x).toNat < S5120.size a)
theorem k3_idx1_inb : ∀ (v3 : IVec S16 32) (k3_hw1 : k3_chk1 v3), ∀ a x, ((![v3] : Fin 1 → IVec S16 32) a x).toNat < S5120.size a := fun v3 k3_hw1 => k3_hw1

def k3_chk2 (v8 : IVec S16 32) : Prop :=
  (∀ a x, ((![v8] : Fin 1 → IVec S16 32) a x).toNat < S5120.size a)
theorem k3_idx2_inb : ∀ (v8 : IVec S16 32) (k3_hw2 : k3_chk2 v8), ∀ a x, ((![v8] : Fin 1 → IVec S16 32) a x).toNat < S5120.size a := fun v8 k3_hw2 => k3_hw2

def k3_chk3 (v13 : IVec S16 32) : Prop :=
  (∀ a x, ((![v13] : Fin 1 → IVec S16 32) a x).toNat < S5120.size a)
theorem k3_idx3_inb : ∀ (v13 : IVec S16 32) (k3_hw3 : k3_chk3 v13), ∀ a x, ((![v13] : Fin 1 → IVec S16 32) a x).toNat < S5120.size a := fun v13 k3_hw3 => k3_hw3

def k3_chk4 (v18 : IVec S16 32) : Prop :=
  (∀ a x, ((![v18] : Fin 1 → IVec S16 32) a x).toNat < S5120.size a)
theorem k3_idx4_inb : ∀ (v18 : IVec S16 32) (k3_hw4 : k3_chk4 v18), ∀ a x, ((![v18] : Fin 1 → IVec S16 32) a x).toNat < S5120.size a := fun v18 k3_hw4 => k3_hw4

def k3_chk5 (v23 : IVec S16 32) : Prop :=
  (∀ a x, ((![v23] : Fin 1 → IVec S16 32) a x).toNat < S5120.size a)
theorem k3_idx5_inb : ∀ (v23 : IVec S16 32) (k3_hw5 : k3_chk5 v23), ∀ a x, ((![v23] : Fin 1 → IVec S16 32) a x).toNat < S5120.size a := fun v23 k3_hw5 => k3_hw5

def k3_chk6 (v28 : IVec S16 32) : Prop :=
  (∀ a x, ((![v28] : Fin 1 → IVec S16 32) a x).toNat < S5120.size a)
theorem k3_idx6_inb : ∀ (v28 : IVec S16 32) (k3_hw6 : k3_chk6 v28), ∀ a x, ((![v28] : Fin 1 → IVec S16 32) a x).toNat < S5120.size a := fun v28 k3_hw6 => k3_hw6

def k3_chk7 (v33 : IVec S16 32) : Prop :=
  (∀ a x, ((![v33] : Fin 1 → IVec S16 32) a x).toNat < S5120.size a)
theorem k3_idx7_inb : ∀ (v33 : IVec S16 32) (k3_hw7 : k3_chk7 v33), ∀ a x, ((![v33] : Fin 1 → IVec S16 32) a x).toNat < S5120.size a := fun v33 k3_hw7 => k3_hw7

def k3_chk8 (v38 : IVec S16 32) : Prop :=
  (∀ a x, ((![v38] : Fin 1 → IVec S16 32) a x).toNat < S5120.size a)
theorem k3_idx8_inb : ∀ (v38 : IVec S16 32) (k3_hw8 : k3_chk8 v38), ∀ a x, ((![v38] : Fin 1 → IVec S16 32) a x).toNat < S5120.size a := fun v38 k3_hw8 => k3_hw8

def k3_chk9 (v43 : IVec S16 32) : Prop :=
  (∀ a x, ((![v43] : Fin 1 → IVec S16 32) a x).toNat < S5120.size a)
theorem k3_idx9_inb : ∀ (v43 : IVec S16 32) (k3_hw9 : k3_chk9 v43), ∀ a x, ((![v43] : Fin 1 → IVec S16 32) a x).toNat < S5120.size a := fun v43 k3_hw9 => k3_hw9

def k3_chk10 (v48 : IVec S16 32) : Prop :=
  (∀ a x, ((![v48] : Fin 1 → IVec S16 32) a x).toNat < S5120.size a)
theorem k3_idx10_inb : ∀ (v48 : IVec S16 32) (k3_hw10 : k3_chk10 v48), ∀ a x, ((![v48] : Fin 1 → IVec S16 32) a x).toNat < S5120.size a := fun v48 k3_hw10 => k3_hw10
def k3_off2 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  ![v2.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S5000x4 : Shape := ⟨2, ![5000, 4]⟩
abbrev S5000 : Shape := ⟨1, ![5000]⟩
abbrev S5000x1 : Shape := ⟨2, ![5000, 1]⟩
abbrev S_ : Shape := ⟨0, ![]⟩
abbrev S1x5000 : Shape := ⟨2, ![1, 5000]⟩
abbrev S5000x5000 : Shape := ⟨2, ![5000, 5000]⟩
abbrev S1 : Shape := ⟨1, ![1]⟩

abbrev nBuf : Space → Nat
  | .hbm => 191
  | .vmem => 0
  | .smem => 0
  | _ => 0

abbrev hbmTy0_0 (i : Nat) : BufTy := match i % 128 with
  | 0 => ⟨S5000x4, .f32⟩
  | 1 => ⟨S5000, .f32⟩
  | 2 => ⟨S5000x1, .f32⟩
  | 3 => ⟨S5000, .f32⟩
  | 4 => ⟨S5000x1, .f32⟩
  | 5 => ⟨S5000, .f32⟩
  | 6 => ⟨S5000, .f32⟩
  | 7 => ⟨S_, .f32⟩
  | 8 => ⟨S5000, .f32⟩
  | 9 => ⟨S5000, .f32⟩
  | 10 => ⟨S5000x1, .f32⟩
  | 11 => ⟨S5000, .f32⟩
  | 12 => ⟨S5000x1, .f32⟩
  | 13 => ⟨S5000, .f32⟩
  | 14 => ⟨S5000, .f32⟩
  | 15 => ⟨S_, .f32⟩
  | 16 => ⟨S5000, .f32⟩
  | 17 => ⟨S5000, .f32⟩
  | 18 => ⟨S5000x1, .f32⟩
  | 19 => ⟨S5000, .f32⟩
  | 20 => ⟨S5000x1, .f32⟩
  | 21 => ⟨S5000, .f32⟩
  | 22 => ⟨S5000, .f32⟩
  | 23 => ⟨S_, .f32⟩
  | 24 => ⟨S5000, .f32⟩
  | 25 => ⟨S5000, .f32⟩
  | 26 => ⟨S5000x1, .f32⟩
  | 27 => ⟨S5000, .f32⟩
  | 28 => ⟨S5000x1, .f32⟩
  | 29 => ⟨S5000, .f32⟩
  | 30 => ⟨S5000, .f32⟩
  | 31 => ⟨S_, .f32⟩
  | 32 => ⟨S5000, .f32⟩
  | 33 => ⟨S5000, .f32⟩
  | 34 => ⟨S5000, .f32⟩
  | 35 => ⟨S5000, .f32⟩
  | 36 => ⟨S5000, .f32⟩
  | 37 => ⟨S5000, .f32⟩
  | 38 => ⟨S5000, .i32⟩
  | 39 => ⟨S5000, .f32⟩
  | 40 => ⟨S5000, .i32⟩
  | 41 => ⟨S_, .i32⟩
  | 42 => ⟨S5000, .i32⟩
  | 43 => ⟨S5000, .i1⟩
  | 44 => ⟨S_, .i32⟩
  | 45 => ⟨S5000, .i32⟩
  | 46 => ⟨S5000, .i32⟩
  | 47 => ⟨S5000, .i32⟩
  | 48 => ⟨S5000x1, .i32⟩
  | 49 => ⟨S5000, .f32⟩
  | 50 => ⟨S_, .i32⟩
  | 51 => ⟨S5000, .i32⟩
  | 52 => ⟨S5000, .i1⟩
  | 53 => ⟨S_, .i32⟩
  | 54 => ⟨S5000, .i32⟩
  | 55 => ⟨S5000, .i32⟩
  | 56 => ⟨S5000, .i32⟩
  | 57 => ⟨S5000x1, .i32⟩
  | 58 => ⟨S5000, .f32⟩
  | 59 => ⟨S_, .i32⟩
  | 60 => ⟨S5000, .i32⟩
  | 61 => ⟨S5000, .i1⟩
  | 62 => ⟨S_, .i32⟩
  | 63 => ⟨S5000, .i32⟩
  | 64 => ⟨S5000, .i32⟩
  | 65 => ⟨S5000, .i32⟩
  | 66 => ⟨S5000x1, .i32⟩
  | 67 => ⟨S5000, .f32⟩
  | 68 => ⟨S_, .i32⟩
  | 69 => ⟨S5000, .i32⟩
  | 70 => ⟨S5000, .i1⟩
  | 71 => ⟨S_, .i32⟩
  | 72 => ⟨S5000, .i32⟩
  | 73 => ⟨S5000, .i32⟩
  | 74 => ⟨S5000, .i32⟩
  | 75 => ⟨S5000x1, .i32⟩
  | 76 => ⟨S5000, .f32⟩
  | 77 => ⟨S_, .i32⟩
  | 78 => ⟨S5000, .i32⟩
  | 79 => ⟨S5000, .i1⟩
  | 80 => ⟨S_, .i32⟩
  | 81 => ⟨S5000, .i32⟩
  | 82 => ⟨S5000, .i32⟩
  | 83 => ⟨S5000, .i32⟩
  | 84 => ⟨S5000x1, .i32⟩
  | 85 => ⟨S5000, .f32⟩
  | 86 => ⟨S5000x1, .f32⟩
  | 87 => ⟨S1x5000, .f32⟩
  | 88 => ⟨S5000x5000, .f32⟩
  | 89 => ⟨S5000x5000, .f32⟩
  | 90 => ⟨S5000x5000, .f32⟩
  | 91 => ⟨S5000x1, .f32⟩
  | 92 => ⟨S1x5000, .f32⟩
  | 93 => ⟨S5000x5000, .f32⟩
  | 94 => ⟨S5000x5000, .f32⟩
  | 95 => ⟨S5000x5000, .f32⟩
  | 96 => ⟨S5000x1, .f32⟩
  | 97 => ⟨S1x5000, .f32⟩
  | 98 => ⟨S5000x5000, .f32⟩
  | 99 => ⟨S5000x5000, .f32⟩
  | 100 => ⟨S5000x5000, .f32⟩
  | 101 => ⟨S5000x1, .f32⟩
  | 102 => ⟨S1x5000, .f32⟩
  | 103 => ⟨S5000x5000, .f32⟩
  | 104 => ⟨S5000x5000, .f32⟩
  | 105 => ⟨S5000x5000, .f32⟩
  | 106 => ⟨S5000x5000, .f32⟩
  | 107 => ⟨S_, .f32⟩
  | 108 => ⟨S_, .f32⟩
  | 109 => ⟨S5000x5000, .f32⟩
  | 110 => ⟨S5000x5000, .f32⟩
  | 111 => ⟨S5000x5000, .f32⟩
  | 112 => ⟨S_, .f32⟩
  | 113 => ⟨S_, .f32⟩
  | 114 => ⟨S5000x5000, .f32⟩
  | 115 => ⟨S5000x5000, .f32⟩
  | 116 => ⟨S5000x5000, .f32⟩
  | 117 => ⟨S5000x1, .f32⟩
  | 118 => ⟨S1x5000, .f32⟩
  | 119 => ⟨S5000x5000, .f32⟩
  | 120 => ⟨S5000x5000, .f32⟩
  | 121 => ⟨S5000x5000, .f32⟩
  | 122 => ⟨S5000x5000, .f32⟩
  | 123 => ⟨S_, .f32⟩
  | 124 => ⟨S5000x5000, .f32⟩
  | 125 => ⟨S5000x5000, .f32⟩
  | 126 => ⟨S5000x5000, .f32⟩
  | 127 => ⟨S5000, .i32⟩
  | _ => ⟨S5000x4, .f32⟩

abbrev hbmTy0_1 (i : Nat) : BufTy := match i % 128 with
  | 0 => ⟨S_, .i1⟩
  | 1 => ⟨S5000, .i1⟩
  | 2 => ⟨S_, .i32⟩
  | 3 => ⟨S_, .i32⟩
  | 4 => ⟨S5000x5000, .f32⟩
  | 5 => ⟨S5000, .i32⟩
  | 6 => ⟨S_, .i32⟩
  | 7 => ⟨S_, .i32⟩
  | 8 => ⟨S5000, .i1⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S1x5000, .f32⟩
  | 28 => ⟨S5000, .f32⟩
  | 29 => ⟨S_, .f32⟩
  | 30 => ⟨S5000, .f32⟩
  | 31 => ⟨S5000, .i1⟩
  | 32 => ⟨S5000, .i1⟩
  | 33 => ⟨S_, .i32⟩
  | 34 => ⟨S5000, .i32⟩
  | 35 => ⟨S5000, .i1⟩
  | 36 => ⟨S5000, .i1⟩
  | 37 => ⟨S_, .i1⟩
  | 38 => ⟨S_, .i1⟩
  | 39 => ⟨S_, .i1⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S1, .i32⟩
  | 47 => ⟨S5000, .i1⟩
  | 48 => ⟨S_, .i32⟩
  | 49 => ⟨S_, .i32⟩
  | 50 => ⟨S_, .i1⟩
  | 51 => ⟨S5000, .i1⟩
  | 52 => ⟨S_, .i32⟩
  | 53 => ⟨S5000, .i32⟩
  | 54 => ⟨S5000, .i1⟩
  | 55 => ⟨S_, .i32⟩
  | 56 => ⟨S5000, .i32⟩
  | 57 => ⟨S5000, .i32⟩
  | 58 => ⟨S5000, .i32⟩
  | 59 => ⟨S5000x1, .i32⟩
  | 60 => ⟨S5000, .i1⟩
  | 61 => ⟨S5000, .f32⟩
  | 62 => ⟨S5000, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call0_v0 : Ref sig .tc := ⟨.hbm, 38, rfl⟩
abbrev main_call0_v1_0 : Ref sig .tc := ⟨.hbm, 39, rfl⟩
abbrev main_v32 : Ref sig .tc := ⟨.hbm, 40, rfl⟩
abbrev main_c : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_4 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_6 : Ref sig .tc := ⟨.hbm, 59, rfl⟩
abbrev main_v47 : Ref sig .tc := ⟨.hbm, 60, rfl⟩
abbrev main_v48 : Ref sig .tc := ⟨.hbm, 61, rfl⟩
abbrev main_c_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_8 : Ref sig .tc := ⟨.hbm, 68, rfl⟩
abbrev main_v54 : Ref sig .tc := ⟨.hbm, 69, rfl⟩
abbrev main_v55 : Ref sig .tc := ⟨.hbm, 70, rfl⟩
abbrev main_c_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_10 : Ref sig .tc := ⟨.hbm, 77, rfl⟩
abbrev main_v61 : Ref sig .tc := ⟨.hbm, 78, rfl⟩
abbrev main_v62 : Ref sig .tc := ⟨.hbm, 79, rfl⟩
abbrev main_c_11 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_cst_12 : Ref sig .tc := ⟨.hbm, 107, rfl⟩
abbrev main_call1_v0 : Ref sig .tc := ⟨.hbm, 108, rfl⟩
abbrev main_call1_v1 : Ref sig .tc := ⟨.hbm, 109, rfl⟩
abbrev main_v89 : Ref sig .tc := ⟨.hbm, 110, rfl⟩
abbrev main_v90 : Ref sig .tc := ⟨.hbm, 111, rfl⟩
abbrev main_cst_13 : Ref sig .tc := ⟨.hbm, 112, rfl⟩
abbrev main_call2_v0 : Ref sig .tc := ⟨.hbm, 113, rfl⟩
abbrev main_call2_v1 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_14 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_c_15 : Ref sig .tc := ⟨.hbm, 128, rfl⟩
abbrev main_v103 : Ref sig .tc := ⟨.hbm, 129, rfl⟩
abbrev main_c_16 : Ref sig .tc := ⟨.hbm, 130, rfl⟩
abbrev main_c_17 : Ref sig .tc := ⟨.hbm, 131, rfl⟩
abbrev main_v104_0 : Ref sig .tc := ⟨.hbm, 132, rfl⟩
abbrev main_v104_1 : Ref sig .tc := ⟨.hbm, 133, rfl⟩
abbrev main_v104_2 : Ref sig .tc := ⟨.hbm, 134, rfl⟩
abbrev main_v104_3 : Ref sig .tc := ⟨.hbm, 135, rfl⟩
abbrev main_v104_4 : Ref sig .tc := ⟨.hbm, 136, rfl⟩
abbrev main_while0c_c_25 : Ref sig .tc := ⟨.hbm, 137, rfl⟩
abbrev main_while0c_v115 : Ref sig .tc := ⟨.hbm, 138, rfl⟩
abbrev main_while0b_c_25 : Ref sig .tc := ⟨.hbm, 139, rfl⟩
abbrev main_while0b_v115 : Ref sig .tc := ⟨.hbm, 140, rfl⟩
abbrev main_while0b_v116 : Ref sig .tc := ⟨.hbm, 141, rfl⟩
abbrev main_while0b_c_26 : Ref sig .tc := ⟨.hbm, 142, rfl⟩
abbrev main_while0b_v117 : Ref sig .tc := ⟨.hbm, 143, rfl⟩
abbrev main_while0b_c_27 : Ref sig .tc := ⟨.hbm, 144, rfl⟩
abbrev main_while0b_v118 : Ref sig .tc := ⟨.hbm, 145, rfl⟩
abbrev main_while0b_v119 : Ref sig .tc := ⟨.hbm, 146, rfl⟩
abbrev main_while0b_c_28 : Ref sig .tc := ⟨.hbm, 147, rfl⟩
abbrev main_while0b_c_29 : Ref sig .tc := ⟨.hbm, 148, rfl⟩
abbrev main_while0b_v120 : Ref sig .tc := ⟨.hbm, 149, rfl⟩
abbrev main_while0b_c_30 : Ref sig .tc := ⟨.hbm, 150, rfl⟩
abbrev main_while0b_c_31 : Ref sig .tc := ⟨.hbm, 151, rfl⟩
abbrev main_while0b_v121 : Ref sig .tc := ⟨.hbm, 152, rfl⟩
abbrev main_while0b_c_32 : Ref sig .tc := ⟨.hbm, 153, rfl⟩
abbrev main_while0b_v122 : Ref sig .tc := ⟨.hbm, 154, rfl⟩
abbrev main_while0b_v123 : Ref sig .tc := ⟨.hbm, 155, rfl⟩
abbrev main_while0b_v124 : Ref sig .tc := ⟨.hbm, 156, rfl⟩
abbrev main_while0b_cst_33 : Ref sig .tc := ⟨.hbm, 157, rfl⟩
abbrev main_while0b_v125 : Ref sig .tc := ⟨.hbm, 158, rfl⟩
abbrev main_while0b_v126 : Ref sig .tc := ⟨.hbm, 159, rfl⟩
abbrev main_while0b_v127 : Ref sig .tc := ⟨.hbm, 160, rfl⟩
abbrev main_while0b_v128 : Ref sig .tc := ⟨.hbm, 161, rfl⟩
abbrev main_while0b_v129 : Ref sig .tc := ⟨.hbm, 162, rfl⟩
abbrev main_while0b_v130 : Ref sig .tc := ⟨.hbm, 163, rfl⟩
abbrev main_while0b_v131 : Ref sig .tc := ⟨.hbm, 164, rfl⟩
abbrev main_while0b_c_34 : Ref sig .tc := ⟨.hbm, 165, rfl⟩
abbrev main_while0b_v132 : Ref sig .tc := ⟨.hbm, 166, rfl⟩
abbrev main_while0b_v133 : Ref sig .tc := ⟨.hbm, 167, rfl⟩
abbrev main_while0b_c_35 : Ref sig .tc := ⟨.hbm, 168, rfl⟩
abbrev main_while0b_v134 : Ref sig .tc := ⟨.hbm, 169, rfl⟩
abbrev main_while0b_c_36 : Ref sig .tc := ⟨.hbm, 170, rfl⟩
abbrev main_while0b_v135 : Ref sig .tc := ⟨.hbm, 171, rfl⟩
abbrev main_while0b_v136 : Ref sig .tc := ⟨.hbm, 172, rfl⟩
abbrev main_while0b_v137 : Ref sig .tc := ⟨.hbm, 173, rfl⟩
abbrev main_while0b_v138 : Ref sig .tc := ⟨.hbm, 174, rfl⟩
abbrev main_while0b_v139 : Ref sig .tc := ⟨.hbm, 175, rfl⟩
abbrev main_while0b_c_37 : Ref sig .tc := ⟨.hbm, 176, rfl⟩
abbrev main_while0b_v140 : Ref sig .tc := ⟨.hbm, 177, rfl⟩
abbrev main_c_18 : Ref sig .tc := ⟨.hbm, 178, rfl⟩
abbrev main_v105 : Ref sig .tc := ⟨.hbm, 179, rfl⟩
abbrev main_c_19 : Ref sig .tc := ⟨.hbm, 180, rfl⟩
abbrev main_v106 : Ref sig .tc := ⟨.hbm, 181, rfl⟩
abbrev main_v107 : Ref sig .tc := ⟨.hbm, 182, rfl⟩
abbrev main_c_20 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩

abbrev nD : Nat := 1
abbrev τ : Topo := Topo.v7x

variable {F : FTy → Type} [FloatOps F]

abbrev main_while0_count : Scf.Loop 32 := ⟨0#32, 5000#32, 1#32⟩
-- ==== Proof.Sc.Placed.lean ====
/-
  What a permutation by an indexed store leaves, and what an indexed load picks, as plain functions of the position.
-/
module

public import Idealize.ShloMosaic.PureOps

@[expose] public section

noncomputable section

namespace Cert.Proof.Sc

open Idealize.ShloMosaic

variable {F : FTy → Type} [FloatOps F]

/-! ## The indexed store, element by element -/

section Fold

variable {κ ι β : Type} [DecidableEq ι]

/-- An element no position of the list names keeps its value. -/
theorem fold_miss (at' : κ → ι) (val : κ → β) (j : ι) :
    ∀ (L : List κ) (f : ι → β), (∀ k ∈ L, at' k ≠ j) → L.foldl (fun g k => fun i => if i = at' k then val k else g i) f j = f j
  | [], _, _ => rfl
  | a :: L, f, h => by
    rw [List.foldl_cons, fold_miss at' val j L _ fun k hk => h k (List.mem_cons_of_mem _ hk)]
    exact if_neg fun e => h a List.mem_cons_self e.symm

/-- An element that exactly one value of the list names ends at that one's value. -/
theorem fold_hit (at' : κ → ι) (val : κ → β) (j : ι) (k₀ : κ) (hk : at' k₀ = j) (hu : ∀ k, at' k = j → k = k₀) :
    ∀ (L : List κ) (f : ι → β), k₀ ∈ L → L.foldl (fun g k => fun i => if i = at' k then val k else g i) f j = val k₀
  | [], _, h => absurd h (List.not_mem_nil)
  | a :: L, f, h => by
    classical
    rw [List.foldl_cons]
    by_cases hL : k₀ ∈ L
    · exact fold_hit at' val j k₀ hk hu L _ hL
    · have ha : k₀ = a := (List.mem_cons.mp h).resolve_right hL
      subst ha
      rw [fold_miss at' val j L _ fun k hk' e => hL (hu k e ▸ hk')]
      exact if_pos hk.symm

end Fold

/-- The unmasked indexed store is the fold that puts lane after lane. -/
theorem storeIdx_eq {s : Shape} {e : EltTy} {d : Fin 1 → Nat} (f : Vec F s e) (idxs : Fin s.rank → IVec ⟨1, d⟩ 32) (v : Vec F ⟨1, d⟩ e)
    (h : ∀ a x, (idxs a x).toNat < s.size a) :
    storeIdx f idxs v (fun _ => 1#1) false h
      = (List.finRange (d 0)).foldl (fun g k => fun i => if i = idxAt idxs h (Shape.ofLane k) then v (Shape.ofLane k) else g i) f := by
  unfold storeIdx
  congr 1
  funext g k
  show (fun j => if ∀ a, (j a).val = (idxAt idxs h (Shape.ofLane k) a).val then v (Shape.ofLane k) else g j) = _
  funext i
  refine if_congr ⟨fun hi => funext fun a => Fin.ext (hi a), fun hi a => by rw [hi]⟩ rfl rfl

/-- A position no lane names keeps its value. -/
theorem storeIdx_miss {s : Shape} {e : EltTy} {d : Fin 1 → Nat} (f : Vec F s e) (idxs : Fin s.rank → IVec ⟨1, d⟩ 32) (v : Vec F ⟨1, d⟩ e)
    (h : ∀ a x, (idxs a x).toNat < s.size a) (j : s.Idx) (hj : ∀ x, idxAt idxs h x ≠ j) :
    storeIdx f idxs v (fun _ => 1#1) false h j = f j := by
  rw [storeIdx_eq]
  exact fold_miss (fun k => idxAt idxs h (Shape.ofLane k)) (fun k => v (Shape.ofLane k)) j _ f fun k _ => hj _

/-- A position exactly one lane names ends at that lane's value. -/
theorem storeIdx_hit {s : Shape} {e : EltTy} {d : Fin 1 → Nat} (f : Vec F s e) (idxs : Fin s.rank → IVec ⟨1, d⟩ 32) (v : Vec F ⟨1, d⟩ e)
    (h : ∀ a x, (idxs a x).toNat < s.size a) (j : s.Idx) (k : Fin (d 0)) (hk : idxAt idxs h (Shape.ofLane k) = j)
    (hu : ∀ k', idxAt idxs h (Shape.ofLane k') = j → k' = k) :
    storeIdx f idxs v (fun _ => 1#1) false h j = v (Shape.ofLane k) := by
  rw [storeIdx_eq]
  exact fold_hit (fun k => idxAt idxs h (Shape.ofLane k)) (fun k => v (Shape.ofLane k)) j k hk hu _ f (List.mem_finRange k)

/-! ## Vectors of 5120 elements moved to their ranks -/

/-- The shape of a vector of 5120 elements, and that of one of sixteen. -/
abbrev V5120 : Shape := ⟨1, ![5120]⟩
abbrev V16 : Shape := ⟨1, ![16]⟩

/-- An index of a vector is known by its one coordinate. -/
theorem idx_ext {d : Fin 1 → Nat} {i j : (⟨1, d⟩ : Shape).Idx} (h : (i 0).val = (j 0).val) : i = j :=
  funext fun a => by obtain rfl : a = 0 := Subsingleton.elim _ _; exact Fin.ext h

theorem ofLane_zero {d : Fin 1 → Nat} (i : (⟨1, d⟩ : Shape).Idx) : Shape.ofLane (d := d) (i 0) = i := idx_ext rfl

/-- Every rank names an element, no two the same one. -/
structure Perm (rk : IVec V5120 32) : Prop where
  lt : ∀ j, (rk j).toNat < 5120
  inj : ∀ i j, (rk i).toNat = (rk j).toNat → i = j

/-- Every position is some element's rank. -/
theorem Perm.surj {rk : IVec V5120 32} (h : Perm rk) (r : V5120.Idx) : ∃ j, (rk j).toNat = (r 0).val := by
  let g : Fin 5120 → Fin 5120 := fun k => ⟨(rk (Shape.ofLane (d := ![5120]) k)).toNat, h.lt _⟩
  have hg : Function.Injective g := fun a b e => by
    have := h.inj (Shape.ofLane (d := ![5120]) a) (Shape.ofLane (d := ![5120]) b) (congrArg (fun x : Fin 5120 => x.val) e)
    exact Fin.ext (congrArg (fun i : V5120.Idx => (i 0).val) this)
  obtain ⟨k, hk⟩ := (Finite.surjective_of_injective hg) (r 0)
  exact ⟨_, congrArg Fin.val hk⟩

variable {β : Type}

/-- In `s` the first `n` elements of `v` stand at their ranks. -/
def Placed (n : ℕ) (rk : IVec V5120 32) (v s : V5120.Idx → β) : Prop :=
  ∀ j r : V5120.Idx, (j 0).val < n → (r 0).val = (rk j).toNat → s r = v j

/-- `v` with every element at its rank. -/
def placed (rk : IVec V5120 32) (v : V5120.Idx → β) : V5120.Idx → β := fun r =>
  open Classical in if h : ∃ j, (rk j).toNat = (r 0).val then v h.choose else v r

theorem placed_at {rk : IVec V5120 32} (h : Perm rk) (v : V5120.Idx → β) (j r : V5120.Idx) (hr : (r 0).val = (rk j).toNat) :
    placed rk v r = v j := by
  have hex : ∃ j, (rk j).toNat = (r 0).val := ⟨j, hr.symm⟩
  unfold placed
  rw [dif_pos hex, h.inj _ _ (hex.choose_spec.trans hr)]

theorem Placed.eq {rk : IVec V5120 32} (h : Perm rk) {v s : V5120.Idx → β} (hs : Placed 5120 rk v s) : s = placed rk v := by
  funext r
  obtain ⟨j, hj⟩ := h.surj r
  rw [placed_at h v j r hj.symm, hs j r (j 0).isLt hj.symm]

theorem Placed.zero (rk : IVec V5120 32) (v s : V5120.Idx → β) : Placed 0 rk v s := fun _ _ h => absurd h (Nat.not_lt_zero _)

/-- One group of sixteen: the ranks and the values of elements `16 t …`, stored. -/
theorem Placed.step {e : EltTy} {rk : IVec V5120 32} (hp : Perm rk) {v s : Vec F V5120 e} {t : ℕ} (hs : Placed (16 * t) rk v s)
    (em : V16.Idx → V5120.Idx) (hem : ∀ x, (em x 0).val = 16 * t + (x 0).val)
    (ids : IVec V16 32) (hids : ∀ x, ids x = rk (em x)) (pay : Vec F V16 e) (hpay : ∀ x, pay x = v (em x))
    (h : ∀ a x, ((![ids] : Fin V5120.rank → IVec V16 32) a x).toNat < V5120.size a) :
    Placed (16 * (t + 1)) rk v (storeIdx s ![ids] pay (fun _ => 1#1) false h) := by
  have hat : ∀ x : V16.Idx, (idxAt (s := V5120) ![ids] h x 0).val = (rk (em x)).toNat := fun x => by
    show (ids x).toNat = _
    rw [hids]
  intro j r hj hr
  by_cases hlt : (j 0).val < 16 * t
  · rw [storeIdx_miss, hs j r hlt hr]
    intro x hx
    have h1 : (rk (em x)).toNat = (rk j).toNat := by rw [← hat, hx, hr]
    have h2 := congrArg (fun i : V5120.Idx => (i 0).val) (hp.inj _ _ h1)
    simp only [hem] at h2
    omega
  · have hk : (j 0).val - 16 * t < 16 := by omega
    let k : Fin (![16] 0) := ⟨(j 0).val - 16 * t, hk⟩
    have hj' : em (Shape.ofLane (d := ![16]) k) = j := idx_ext (by
      rw [hem]; show 16 * t + ((j 0).val - 16 * t) = _; omega)
    rw [storeIdx_hit s ![ids] pay h r k, hpay, hj']
    · exact idx_ext (by rw [hat, hj', hr])
    · intro k' hk'
      have h1 : (rk (em (Shape.ofLane (d := ![16]) k'))).toNat = (rk j).toNat := by rw [← hat, hk', hr]
      have h2 := (hp.inj _ _ h1).trans hj'.symm
      have h3 := congrArg (fun i : V5120.Idx => (i 0).val) h2
      simp only [hem] at h3
      exact Fin.ext (show ((Shape.ofLane (d := ![16]) k') 0).val = ((Shape.ofLane (d := ![16]) k) 0).val by omega)

/-- What an indexed load picks: element `r` is `v` at `r`'s rank. -/
def picked (rk : IVec V5120 32) (v : V5120.Idx → β) : V5120.Idx → β := fun r =>
  if h : (rk r).toNat < 5120 then v (Shape.ofLane (d := ![5120]) ⟨(rk r).toNat, h⟩) else v r

theorem picked_at {rk : IVec V5120 32} (v : V5120.Idx → β) (r i : V5120.Idx) (hi : (i 0).val = (rk r).toNat) : picked rk v r = v i := by
  have h : (rk r).toNat < 5120 := hi ▸ (i 0).isLt
  unfold picked
  rw [dif_pos h]
  exact congrArg v (idx_ext hi.symm)

end Cert.Proof.Sc

end
-- ==== Proof.Sc.Setup.lean ====
/-
  The two SparseCore calls as the launch theorem sees them: the program, the resources, and what the handshakes of each call carry.
  The permute call hands each of its 32 tasks a share of the four coordinate columns and of the ranks and 160 elements of each of the
  five results; it gets them back with the results' elements at their ranks. The finalize call hands each task a share of the scores, of
  the ranks and of the keep flags and 160 elements of the result.
-/
module

public import Idealize.ShloMosaic.Lib.SparseCore.Quiescent
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.SparseCallsIdeal
public import proofs.«01_k».proof.Proof.Gen.SparseCallsIdeal.Skeleton
public import proofs.«01_k».proof.Proof.Sc.Placed

@[expose] public section

noncomputable section

namespace Cert.Proof.Sc

open Cert.SparseCallsIdeal Cert.SparseCallsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the handshakes' rounds and the transfers' counters -/

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

/-! ## The buffers -/

abbrev xaLoc (d : Dev nD) : Loc nD τ sig := (SparseCore.T d).loc main_v4
abbrev yaLoc (d : Dev nD) : Loc nD τ sig := (SparseCore.T d).loc main_v6
abbrev xbLoc (d : Dev nD) : Loc nD τ sig := (SparseCore.T d).loc main_v8
abbrev ybLoc (d : Dev nD) : Loc nD τ sig := (SparseCore.T d).loc main_v10
abbrev rkLoc (d : Dev nD) : Loc nD τ sig := (SparseCore.T d).loc main_arg2
abbrev o0Loc (d : Dev nD) : Loc nD τ sig := (SparseCore.T d).loc main_v11_0
abbrev o1Loc (d : Dev nD) : Loc nD τ sig := (SparseCore.T d).loc main_v11_1
abbrev o2Loc (d : Dev nD) : Loc nD τ sig := (SparseCore.T d).loc main_v11_2
abbrev o3Loc (d : Dev nD) : Loc nD τ sig := (SparseCore.T d).loc main_v11_3
abbrev o4Loc (d : Dev nD) : Loc nD τ sig := (SparseCore.T d).loc main_v11_4
abbrev scLoc (d : Dev nD) : Loc nD τ sig := (SparseCore.T d).loc main_v1
abbrev kpLoc (d : Dev nD) : Loc nD τ sig := (SparseCore.T d).loc main_arg3
abbrev oFLoc (d : Dev nD) : Loc nD τ sig := (SparseCore.T d).loc main_v12

/-! ## The pieces: 32 chunks of 160 elements, 32 shares -/

/-- Subcore `i` of SparseCore `c` works on chunk `2 i + c`. -/
def wid (c : Fin 2) (i : Fin 16) : Fin 32 := ⟨2 * i.val + c.val, by omega⟩

/-- Every chunk is some subcore's. -/
def widEquiv : Fin 2 × Fin 16 ≃ Fin 32 where
  toFun p := wid p.1 p.2
  invFun w := (⟨w.val % 2, Nat.mod_lt _ (by decide)⟩, ⟨w.val / 2, by omega⟩)
  left_inv p := by
    rcases p with ⟨c, i⟩
    refine Prod.ext (Fin.ext ?_) (Fin.ext ?_) <;> simp only [wid] <;> omega
  right_inv w := Fin.ext (by simp only [wid]; omega)

theorem hdiv : 32 ∣ S5120.size 0 := ⟨160, rfl⟩
/-- Chunk `w` of a vector of 5120. -/
abbrev chunk (w : Fin 32) : Rect S5120 := Rect.part (s := S5120) (a₀ := 0) hdiv w
abbrev chunkSet (w : Fin 32) : Finset S5120.Idx := (chunk w).set

theorem chunks_disjoint : ∀ i ∈ (Finset.univ : Finset (Fin 32)), ∀ j ∈ (Finset.univ : Finset (Fin 32)), i ≠ j → Disjoint (chunkSet i) (chunkSet j) :=
  fun _ _ _ _ h => Rect.part_disjoint hdiv h
theorem chunks_cover : (Finset.univ : Finset (Fin 32)).biUnion chunkSet = Finset.univ := Rect.biUnion_part hdiv

/-- The share of a table that chunk `w`'s task holds. -/
abbrev shr (w : Fin 32) : PosShare TreeShare := ShareLeaves.leaf 5 fullShare w

/-- A table, whole, is its 32 shares. -/
theorem table_shares {ℓ : Loc nD τ sig} (f : Buf (Elt F) ℓ) :
    (ℓ ↦{fullShare} f : sProp 𝕄) = bigSep Finset.univ fun c : Fin 2 => bigSep Finset.univ fun i : Fin 16 => ℓ ↦{shr (wid c i)} f := by
  refine (ShareLeaves.pointsTo_leaves Finset.univ f 5 fullShare).trans ?_
  refine (bigSep_univ_equiv widEquiv (fun w : Fin 32 => (ℓ ↦{shr w} f : sProp 𝕄))).trans ?_
  rw [bigSep_univ_prod]
  rfl

/-- A result, whole, is its 32 chunks. -/
theorem result_chunks (g : (w : Fin 32) → sProp 𝕄) :
    (bigSep Finset.univ g) = bigSep Finset.univ fun c : Fin 2 => bigSep Finset.univ fun i : Fin 16 => g (wid c i) := by
  rw [bigSep_univ_equiv widEquiv g, bigSep_univ_prod]
  rfl
theorem o0_chunks (d : Dev nD) (f : Buf (Elt F) (o0Loc d)) : (o0Loc d ↦{fullShare} f : sProp 𝕄)
    = bigSep Finset.univ fun c : Fin 2 => bigSep Finset.univ fun i : Fin 16 => o0Loc d ↦[chunkSet (wid c i)]{fullShare} f := by
  rw [← result_chunks (fun w => o0Loc d ↦[chunkSet w]{fullShare} f), ← pointsTo_biUnion Finset.univ (ℓ := o0Loc d) chunkSet chunks_disjoint, chunks_cover]
theorem o1_chunks (d : Dev nD) (f : Buf (Elt F) (o1Loc d)) : (o1Loc d ↦{fullShare} f : sProp 𝕄)
    = bigSep Finset.univ fun c : Fin 2 => bigSep Finset.univ fun i : Fin 16 => o1Loc d ↦[chunkSet (wid c i)]{fullShare} f := by
  rw [← result_chunks (fun w => o1Loc d ↦[chunkSet w]{fullShare} f), ← pointsTo_biUnion Finset.univ (ℓ := o1Loc d) chunkSet chunks_disjoint, chunks_cover]
theorem o2_chunks (d : Dev nD) (f : Buf (Elt F) (o2Loc d)) : (o2Loc d ↦{fullShare} f : sProp 𝕄)
    = bigSep Finset.univ fun c : Fin 2 => bigSep Finset.univ fun i : Fin 16 => o2Loc d ↦[chunkSet (wid c i)]{fullShare} f := by
  rw [← result_chunks (fun w => o2Loc d ↦[chunkSet w]{fullShare} f), ← pointsTo_biUnion Finset.univ (ℓ := o2Loc d) chunkSet chunks_disjoint, chunks_cover]
theorem o3_chunks (d : Dev nD) (f : Buf (Elt F) (o3Loc d)) : (o3Loc d ↦{fullShare} f : sProp 𝕄)
    = bigSep Finset.univ fun c : Fin 2 => bigSep Finset.univ fun i : Fin 16 => o3Loc d ↦[chunkSet (wid c i)]{fullShare} f := by
  rw [← result_chunks (fun w => o3Loc d ↦[chunkSet w]{fullShare} f), ← pointsTo_biUnion Finset.univ (ℓ := o3Loc d) chunkSet chunks_disjoint, chunks_cover]
theorem o4_chunks (d : Dev nD) (f : Buf (Elt F) (o4Loc d)) : (o4Loc d ↦{fullShare} f : sProp 𝕄)
    = bigSep Finset.univ fun c : Fin 2 => bigSep Finset.univ fun i : Fin 16 => o4Loc d ↦[chunkSet (wid c i)]{fullShare} f := by
  rw [← result_chunks (fun w => o4Loc d ↦[chunkSet w]{fullShare} f), ← pointsTo_biUnion Finset.univ (ℓ := o4Loc d) chunkSet chunks_disjoint, chunks_cover]
theorem oF_chunks (d : Dev nD) (f : Buf (Elt F) (oFLoc d)) : (oFLoc d ↦{fullShare} f : sProp 𝕄)
    = bigSep Finset.univ fun c : Fin 2 => bigSep Finset.univ fun i : Fin 16 => oFLoc d ↦[chunkSet (wid c i)]{fullShare} f := by
  rw [← result_chunks (fun w => oFLoc d ↦[chunkSet w]{fullShare} f), ← pointsTo_biUnion Finset.univ (ℓ := oFLoc d) chunkSet chunks_disjoint, chunks_cover]

/-! ## The operands and the values -/

variable [FloatOps F]

/-- The operands of the two calls on every device. -/
structure Ops (F : FTy → Type) where
  xa : Dev nD → FVec F S5120 .f32
  ya : Dev nD → FVec F S5120 .f32
  xb : Dev nD → FVec F S5120 .f32
  yb : Dev nD → FVec F S5120 .f32
  rk : Dev nD → IVec S5120 32
  sc : Dev nD → FVec F S5120 .f32
  kp : Dev nD → FVec F S5120 .f32

/-- The lower and the upper of two coordinates, in pixels. -/
def lo (a b : FVec F S5120 .f32) : FVec F S5120 .f32 := mulf (minimumf a b) (broadcast S5120 (Scalar.ofBits .f32 0x447A0000#32))
def hi (a b : FVec F S5120 .f32) : FVec F S5120 .f32 := mulf (maximumf a b) (broadcast S5120 (Scalar.ofBits .f32 0x447A0000#32))
/-- The area of a box. -/
def area (xa ya xb yb : FVec F S5120 .f32) : FVec F S5120 .f32 := mulf (subf (hi xa xb) (lo xa xb)) (subf (hi ya yb) (lo ya yb))

variable (A : Ops F)

/-- The five results of the permute call. -/
def r0 (d : Dev nD) : Buf (Elt F) (o0Loc d) := placed (A.rk d) (lo (A.xa d) (A.xb d))
def r1 (d : Dev nD) : Buf (Elt F) (o1Loc d) := placed (A.rk d) (lo (A.ya d) (A.yb d))
def r2 (d : Dev nD) : Buf (Elt F) (o2Loc d) := placed (A.rk d) (hi (A.xa d) (A.xb d))
def r3 (d : Dev nD) : Buf (Elt F) (o3Loc d) := placed (A.rk d) (hi (A.ya d) (A.yb d))
def r4 (d : Dev nD) : Buf (Elt F) (o4Loc d) := placed (A.rk d) (area (A.xa d) (A.ya d) (A.xb d) (A.yb d))
/-- The result of the finalize call. -/
def rF (d : Dev nD) : Buf (Elt F) (oFLoc d) := mulf (A.sc d) (picked (A.rk d) (A.kp d))

/-! ## What the handshakes carry -/

abbrev xaPts (d : Dev nD) (q : PosShare TreeShare) : sProp 𝕄 := xaLoc d ↦{q} A.xa d
abbrev yaPts (d : Dev nD) (q : PosShare TreeShare) : sProp 𝕄 := yaLoc d ↦{q} A.ya d
abbrev xbPts (d : Dev nD) (q : PosShare TreeShare) : sProp 𝕄 := xbLoc d ↦{q} A.xb d
abbrev ybPts (d : Dev nD) (q : PosShare TreeShare) : sProp 𝕄 := ybLoc d ↦{q} A.yb d
abbrev rkPts (d : Dev nD) (q : PosShare TreeShare) : sProp 𝕄 := rkLoc d ↦{q} A.rk d
abbrev scPts (d : Dev nD) (q : PosShare TreeShare) : sProp 𝕄 := scLoc d ↦{q} A.sc d
abbrev kpPts (d : Dev nD) (q : PosShare TreeShare) : sProp 𝕄 := kpLoc d ↦{q} A.kp d

/-- What a permute task reads. -/
def reads0 (d : Dev nD) (w : Fin 32) : sProp 𝕄 :=
  iprop(xaPts A d (shr w) ∗ yaPts A d (shr w) ∗ xbPts A d (shr w) ∗ ybPts A d (shr w) ∗ rkPts A d (shr w))
/-- Its elements of the five results before the task, and after it. -/
def outs0 (d : Dev nD) (w : Fin 32) : sProp 𝕄 :=
  iprop((∃ f, o0Loc d ↦[chunkSet w]{fullShare} f) ∗ (∃ f, o1Loc d ↦[chunkSet w]{fullShare} f) ∗ (∃ f, o2Loc d ↦[chunkSet w]{fullShare} f)
    ∗ (∃ f, o3Loc d ↦[chunkSet w]{fullShare} f) ∗ (∃ f, o4Loc d ↦[chunkSet w]{fullShare} f))
def res0 (d : Dev nD) (w : Fin 32) : sProp 𝕄 :=
  iprop((o0Loc d ↦[chunkSet w]{fullShare} r0 A d) ∗ (o1Loc d ↦[chunkSet w]{fullShare} r1 A d) ∗ (o2Loc d ↦[chunkSet w]{fullShare} r2 A d)
    ∗ (o3Loc d ↦[chunkSet w]{fullShare} r3 A d) ∗ (o4Loc d ↦[chunkSet w]{fullShare} r4 A d))
/-- What a finalize task reads, and its elements of the result. -/
def reads1 (d : Dev nD) (w : Fin 32) : sProp 𝕄 := iprop(scPts A d (shr w) ∗ rkPts A d (shr w) ∗ kpPts A d (shr w))
def outs1 (d : Dev nD) (w : Fin 32) : sProp 𝕄 := iprop(∃ f, oFLoc d ↦[chunkSet w]{fullShare} f)
def res1 (d : Dev nD) (w : Fin 32) : sProp 𝕄 := iprop(oFLoc d ↦[chunkSet w]{fullShare} rF A d)

instance (d : Dev nD) (w : Fin 32) : BI.Storable (upEmb : UEmb _ 𝕄) (reads0 A d w) := by unfold reads0; infer_instance
instance (d : Dev nD) (w : Fin 32) : BI.Storable (upEmb : UEmb _ 𝕄) (outs0 (F := F) d w) := by unfold outs0; infer_instance
instance (d : Dev nD) (w : Fin 32) : BI.Storable (upEmb : UEmb _ 𝕄) (res0 A d w) := by unfold res0; infer_instance
instance (d : Dev nD) (w : Fin 32) : BI.Storable (upEmb : UEmb _ 𝕄) (reads1 A d w) := by unfold reads1; infer_instance
instance (d : Dev nD) (w : Fin 32) : BI.Storable (upEmb : UEmb _ 𝕄) (outs1 (F := F) d w) := by unfold outs1; infer_instance
instance (d : Dev nD) (w : Fin 32) : BI.Storable (upEmb : UEmb _ 𝕄) (res1 A d w) := by unfold res1; infer_instance

abbrev go0 (d : Dev nD) (w : Fin 32) : sProp 𝕄 := iprop(reads0 A d w ∗ outs0 (F := F) d w)
abbrev td0 (d : Dev nD) (w : Fin 32) : sProp 𝕄 := iprop(reads0 A d w ∗ res0 A d w)
abbrev go1 (d : Dev nD) (w : Fin 32) : sProp 𝕄 := iprop(reads1 A d w ∗ outs1 (F := F) d w)
abbrev td1 (d : Dev nD) (w : Fin 32) : sProp 𝕄 := iprop(reads1 A d w ∗ res1 A d w)

/-- Each call hands every SparseCore its sixteen tasks' pieces, and takes back the sixteen tasks' results. -/
def P : (K (F := F)).Pay (nD := nD) (Val := Elt F) (Name := ℕ) (U := UU) where
  st := fun q d c => match q with
    | 0 => bigSep Finset.univ fun i : Fin 16 => go0 A d (wid c i)
    | 1 => bigSep Finset.univ fun i : Fin 16 => go1 A d (wid c i)
  dn := fun q d c => match q with
    | 0 => bigSep Finset.univ fun i : Fin 16 => td0 A d (wid c i)
    | 1 => bigSep Finset.univ fun i : Fin 16 => td1 A d (wid c i)
  go := fun q d c i => match q with
    | 0 => go0 A d (wid c i)
    | 1 => go1 A d (wid c i)
  td := fun q d c i => match q with
    | 0 => td0 A d (wid c i)
    | 1 => td1 A d (wid c i)
  x := fun _ _ => iprop(emp)

instance P_storable : (P (F := F) A).IsStorable where
  st q d c := match q with
    | 0 => (inferInstance : BI.Storable (upEmb : UEmb _ 𝕄) (bigSep Finset.univ fun i : Fin 16 => go0 A d (wid c i)))
    | 1 => (inferInstance : BI.Storable (upEmb : UEmb _ 𝕄) (bigSep Finset.univ fun i : Fin 16 => go1 A d (wid c i)))
  dn q d c := match q with
    | 0 => (inferInstance : BI.Storable (upEmb : UEmb _ 𝕄) (bigSep Finset.univ fun i : Fin 16 => td0 A d (wid c i)))
    | 1 => (inferInstance : BI.Storable (upEmb : UEmb _ 𝕄) (bigSep Finset.univ fun i : Fin 16 => td1 A d (wid c i)))
  go q d c i := match q with
    | 0 => (inferInstance : BI.Storable (upEmb : UEmb _ 𝕄) (go0 A d (wid c i)))
    | 1 => (inferInstance : BI.Storable (upEmb : UEmb _ 𝕄) (go1 A d (wid c i)))
  td q d c i := match q with
    | 0 => (inferInstance : BI.Storable (upEmb : UEmb _ 𝕄) (td0 A d (wid c i)))
    | 1 => (inferInstance : BI.Storable (upEmb : UEmb _ 𝕄) (td1 A d (wid c i)))

/-- A SparseCore deals its pieces to its tasks and gathers their results as they are. -/
theorem vecSplit0 : (K (F := F)).VecSplit' (P A) 0 := by
  intro d c
  show (bigSep Finset.univ fun i : Fin 16 => go0 A d (wid c i)) ⊢ |={Set.univ}=> iprop(
      (bigSep Finset.univ fun i : Fin 16 => go0 A d (wid c i)) ∗ ((bigSep Finset.univ fun i : Fin 16 => td0 A d (wid c i))
        -∗ bigSep Finset.univ fun i : Fin 16 => td0 A d (wid c i)))
  iintro H; imodintro
  isplitl [H]; · iexact H
  iintro H; iexact H
theorem vecSplit1 : (K (F := F)).VecSplit' (P A) 1 := by
  intro d c
  show (bigSep Finset.univ fun i : Fin 16 => go1 A d (wid c i)) ⊢ |={Set.univ}=> iprop(
      (bigSep Finset.univ fun i : Fin 16 => go1 A d (wid c i)) ∗ ((bigSep Finset.univ fun i : Fin 16 => td1 A d (wid c i))
        -∗ bigSep Finset.univ fun i : Fin 16 => td1 A d (wid c i)))
  iintro H; imodintro
  isplitl [H]; · iexact H
  iintro H; iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 2 => (P (F := F) A).x q thr) = bigSep Finset.univ fun _ => iprop(emp) from
    bigSep_congr fun _ _ => bigSep_emp' _, bigSep_emp']
  iempintro

end Cert.Proof.Sc

end
-- ==== Proof.Sc.Tile.lean ====
/-
  What both tile kernels share: a subcore's own buffers and semaphores taken out by name, and a vector read or written through a unit rectangle.
-/
module

public import proofs.«01_k».proof.Proof.Sc.Setup

@[expose] public section

noncomputable section

namespace Cert.Proof.Sc

open Cert.SparseCallsIdeal Cert.SparseCallsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- A family over a set is the family over a part and over the rest. -/
theorem bigSep_part {I : Type} [DecidableEq I] {s t : Finset I} (h : t ⊆ s) (Φ : I → sProp 𝕄) :
    bigSep s Φ = iprop((bigSep t Φ) ∗ bigSep (s \ t) Φ) := by
  exact (congrArg (fun u => bigSep u Φ) (Finset.union_sdiff_of_subset h).symm).trans (bigSep_union Finset.disjoint_sdiff)

/-- A subcore's own buffers: some by name, each at some contents, and the rest. -/
theorem ownBufs_part (d : Dev nD) (c : Fin τ.nSC) (i : Fin τ.nSub) (t : Finset (Ref sig .scVector))
    (ht : ∀ b ∈ t, ((Proc.scVector c i).devRef b).owner = .proc (.scVector c i)) :
    (ownBufs (V d c i) : sProp 𝕄)
      = iprop((bigSep t fun b => iprop(∃ f, (V d c i).loc b ↦{fullShare} f))
          ∗ bigSep (ownRefs (τ := τ) (.scVector c i) \ t.map ⟨(Proc.scVector c i).devRef, Proc.devRef_injective _⟩)
              fun b => iprop(∃ f, ((d, b) : Loc nD τ sig) ↦{fullShare} f)) := by
  unfold SparseCore.Cfg.ownBufs
  rw [bigSep_part (t := t.map ⟨(Proc.scVector c i).devRef, Proc.devRef_injective _⟩) (by
    intro b hb
    obtain ⟨r, hr, rfl⟩ := Finset.mem_map.mp hb
    exact SparseCore.Cfg.mem_ownRefs_of_owner (p := Proc.scVector c i) (ht r hr)), bigSep_map]
  rfl

/-- A subcore's own semaphores: some by name, at zero, and the rest. -/
theorem ownSems_part (d : Dev nD) (c : Fin τ.nSC) (i : Fin τ.nSub) (t : Finset (SemLoc sig)) (ht : ∀ s ∈ t, s.isScoped .scVector = true) :
    (ownSems0 (V d c i) : sProp 𝕄)
      = iprop((bigSep t fun s => semVal (V d c i, s) 0)
          ∗ bigSep (ownCells (V d c i) \ t.map ⟨fun s => ((V d c i, s) : GSem nD τ sig), fun _ _ e => (Prod.mk.inj e).2⟩) fun g => semVal g 0) := by
  unfold SparseCore.Cfg.ownSems0
  rw [bigSep_part (t := t.map ⟨fun s => ((V d c i, s) : GSem nD τ sig), fun _ _ e => (Prod.mk.inj e).2⟩) (by
    intro g hg
    obtain ⟨s, hs, rfl⟩ := Finset.mem_map.mp hg
    exact mem_ownCells.mpr ⟨rfl, ht s hs⟩), bigSep_map]
  rfl

end Cert.Proof.Sc

end
-- ==== Proof.Sc.Permute.lean ====
/-
  The permute call's task: the four coordinate columns and the ranks are fetched whole, 320 trips each compute sixteen boxes and store their
  five values at their ranks, and the task's 160 elements of each of the five results are written out.
-/
module

public import proofs.«01_k».proof.Proof.Sc.Tile

@[expose] public section

noncomputable section

namespace Cert.Proof.Sc

open Cert.SparseCallsIdeal Cert.SparseCallsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "xV" => (Memref.whole Cert.SparseCallsIdeal.main_v4_scv : Memref Cert.SparseCallsIdeal.sig Kind.scVector Space.hbm Cert.SparseCallsIdeal.S5120 EltTy.f32)
local notation "yV" => (Memref.whole Cert.SparseCallsIdeal.main_v6_scv : Memref Cert.SparseCallsIdeal.sig Kind.scVector Space.hbm Cert.SparseCallsIdeal.S5120 EltTy.f32)
local notation "uV" => (Memref.whole Cert.SparseCallsIdeal.main_v8_scv : Memref Cert.SparseCallsIdeal.sig Kind.scVector Space.hbm Cert.SparseCallsIdeal.S5120 EltTy.f32)
local notation "wV" => (Memref.whole Cert.SparseCallsIdeal.main_v10_scv : Memref Cert.SparseCallsIdeal.sig Kind.scVector Space.hbm Cert.SparseCallsIdeal.S5120 EltTy.f32)
local notation "rV" => (Memref.whole Cert.SparseCallsIdeal.main_arg2_scv : Memref Cert.SparseCallsIdeal.sig Kind.scVector Space.hbm Cert.SparseCallsIdeal.S5120 EltTy.i32)
local notation "o0V" => (Memref.whole Cert.SparseCallsIdeal.main_v11_0_scv : Memref Cert.SparseCallsIdeal.sig Kind.scVector Space.hbm Cert.SparseCallsIdeal.S5120 EltTy.f32)
local notation "o1V" => (Memref.whole Cert.SparseCallsIdeal.main_v11_1_scv : Memref Cert.SparseCallsIdeal.sig Kind.scVector Space.hbm Cert.SparseCallsIdeal.S5120 EltTy.f32)
local notation "o2V" => (Memref.whole Cert.SparseCallsIdeal.main_v11_2_scv : Memref Cert.SparseCallsIdeal.sig Kind.scVector Space.hbm Cert.SparseCallsIdeal.S5120 EltTy.f32)
local notation "o3V" => (Memref.whole Cert.SparseCallsIdeal.main_v11_3_scv : Memref Cert.SparseCallsIdeal.sig Kind.scVector Space.hbm Cert.SparseCallsIdeal.S5120 EltTy.f32)
local notation "o4V" => (Memref.whole Cert.SparseCallsIdeal.main_v11_4_scv : Memref Cert.SparseCallsIdeal.sig Kind.scVector Space.hbm Cert.SparseCallsIdeal.S5120 EltTy.f32)
local notation "b0" => (Memref.whole Cert.SparseCallsIdeal.cc0_scratch0 : Memref Cert.SparseCallsIdeal.sig Kind.scVector Space.vmem Cert.SparseCallsIdeal.S5120 EltTy.f32)
local notation "b1" => (Memref.whole Cert.SparseCallsIdeal.cc0_scratch1 : Memref Cert.SparseCallsIdeal.sig Kind.scVector Space.vmem Cert.SparseCallsIdeal.S5120 EltTy.f32)
local notation "b2" => (Memref.whole Cert.SparseCallsIdeal.cc0_scratch2 : Memref Cert.SparseCallsIdeal.sig Kind.scVector Space.vmem Cert.SparseCallsIdeal.S5120 EltTy.f32)
local notation "b3" => (Memref.whole Cert.SparseCallsIdeal.cc0_scratch3 : Memref Cert.SparseCallsIdeal.sig Kind.scVector Space.vmem Cert.SparseCallsIdeal.S5120 EltTy.f32)
local notation "b4" => (Memref.whole Cert.SparseCallsIdeal.cc0_scratch4 : Memref Cert.SparseCallsIdeal.sig Kind.scVector Space.vmem Cert.SparseCallsIdeal.S5120 EltTy.i32)
local notation "b5" => (Memref.whole Cert.SparseCallsIdeal.cc0_scratch5 : Memref Cert.SparseCallsIdeal.sig Kind.scVector Space.vmem Cert.SparseCallsIdeal.S5120 EltTy.f32)
local notation "b6" => (Memref.whole Cert.SparseCallsIdeal.cc0_scratch6 : Memref Cert.SparseCallsIdeal.sig Kind.scVector Space.vmem Cert.SparseCallsIdeal.S5120 EltTy.f32)
local notation "b7" => (Memref.whole Cert.SparseCallsIdeal.cc0_scratch7 : Memref Cert.SparseCallsIdeal.sig Kind.scVector Space.vmem Cert.SparseCallsIdeal.S5120 EltTy.f32)
local notation "b8" => (Memref.whole Cert.SparseCallsIdeal.cc0_scratch8 : Memref Cert.SparseCallsIdeal.sig Kind.scVector Space.vmem Cert.SparseCallsIdeal.S5120 EltTy.f32)
local notation "b9" => (Memref.whole Cert.SparseCallsIdeal.cc0_scratch9 : Memref Cert.SparseCallsIdeal.sig Kind.scVector Space.vmem Cert.SparseCallsIdeal.S5120 EltTy.f32)

variable [FloatOps F] (A : Ops F)

section Permute

variable (d : Dev nD) (L : grid0.Coords)

abbrev cV (L : grid0.Coords) : Fin τ.nSC := (L 0).castLE hcore0
abbrev jV (L : grid0.Coords) : Fin τ.nSub := (L 1).castLE hsub0
/-- The task's chunk. -/
abbrev wL (L : grid0.Coords) : Fin 32 := ⟨2 * (L 1).val + (L 0).val, by
  have h0 : (L 0).val < 2 := (L 0).isLt
  have h1 : (L 1).val < 16 := (L 1).isLt
  omega⟩

/-- The elements the task writes, as the body spells them. -/
abbrev rowK (L : grid0.Coords) : Rect S5120 := Rect.unit (s := S5120) (k0_off2 L) S160.size (k0_off2_inb L)

omit [FloatOps F] in
theorem rowK_eq : rowK L = chunk (wL L) := by
  unfold rowK chunk Rect.part Rect.block
  congr 1 <;> funext a
  · rw [k0_off2_eq]
    match a with
    | 0 =>
      have e : 320 * (L 1).val + 160 * (L 0).val = (2 * (L 1).val + (L 0).val) * 160 := by omega
      simpa [Shape.partIx, Shape.partSize] using e
  · match a with
    | 0 => simp [Shape.partSize]

abbrev o0K (L : grid0.Coords) : Memref sig .scVector .hbm S160 .f32 := (o0V).slice (rowK L) (fun _ => rfl)
omit [FloatOps F] in
theorem set_o0K : (o0K L).view.set = chunkSet (wL L) := by
  show ((o0V).view.slice (rowK L)).set = _
  rw [View.set_slice, rowK_eq]; exact Finset.map_refl
omit [FloatOps F] in
theorem pts_o0K (f : Buf (Elt F) (o0Loc d)) :
    ((o0K L).view.loc (V d (cV L) (jV L)) ↦[(o0K L).view.set]{fullShare} f : sProp 𝕄) = o0Loc d ↦[chunkSet (wL L)]{fullShare} f := by
  rw [set_o0K]

abbrev o1K (L : grid0.Coords) : Memref sig .scVector .hbm S160 .f32 := (o1V).slice (rowK L) (fun _ => rfl)
omit [FloatOps F] in
theorem set_o1K : (o1K L).view.set = chunkSet (wL L) := by
  show ((o1V).view.slice (rowK L)).set = _
  rw [View.set_slice, rowK_eq]; exact Finset.map_refl
omit [FloatOps F] in
theorem pts_o1K (f : Buf (Elt F) (o1Loc d)) :
    ((o1K L).view.loc (V d (cV L) (jV L)) ↦[(o1K L).view.set]{fullShare} f : sProp 𝕄) = o1Loc d ↦[chunkSet (wL L)]{fullShare} f := by
  rw [set_o1K]

abbrev o2K (L : grid0.Coords) : Memref sig .scVector .hbm S160 .f32 := (o2V).slice (rowK L) (fun _ => rfl)
omit [FloatOps F] in
theorem set_o2K : (o2K L).view.set = chunkSet (wL L) := by
  show ((o2V).view.slice (rowK L)).set = _
  rw [View.set_slice, rowK_eq]; exact Finset.map_refl
omit [FloatOps F] in
theorem pts_o2K (f : Buf (Elt F) (o2Loc d)) :
    ((o2K L).view.loc (V d (cV L) (jV L)) ↦[(o2K L).view.set]{fullShare} f : sProp 𝕄) = o2Loc d ↦[chunkSet (wL L)]{fullShare} f := by
  rw [set_o2K]

abbrev o3K (L : grid0.Coords) : Memref sig .scVector .hbm S160 .f32 := (o3V).slice (rowK L) (fun _ => rfl)
omit [FloatOps F] in
theorem set_o3K : (o3K L).view.set = chunkSet (wL L) := by
  show ((o3V).view.slice (rowK L)).set = _
  rw [View.set_slice, rowK_eq]; exact Finset.map_refl
omit [FloatOps F] in
theorem pts_o3K (f : Buf (Elt F) (o3Loc d)) :
    ((o3K L).view.loc (V d (cV L) (jV L)) ↦[(o3K L).view.set]{fullShare} f : sProp 𝕄) = o3Loc d ↦[chunkSet (wL L)]{fullShare} f := by
  rw [set_o3K]

abbrev o4K (L : grid0.Coords) : Memref sig .scVector .hbm S160 .f32 := (o4V).slice (rowK L) (fun _ => rfl)
omit [FloatOps F] in
theorem set_o4K : (o4K L).view.set = chunkSet (wL L) := by
  show ((o4V).view.slice (rowK L)).set = _
  rw [View.set_slice, rowK_eq]; exact Finset.map_refl
omit [FloatOps F] in
theorem pts_o4K (f : Buf (Elt F) (o4Loc d)) :
    ((o4K L).view.loc (V d (cV L) (jV L)) ↦[(o4K L).view.set]{fullShare} f : sProp 𝕄) = o4Loc d ↦[chunkSet (wL L)]{fullShare} f := by
  rw [set_o4K]
omit [FloatOps F] in
theorem pts_xV (q : PosShare TreeShare) (f : Buf (Elt F) (xaLoc d)) :
    ((xV).view.loc (V d (cV L) (jV L)) ↦[(xV).view.set]{q} f : sProp 𝕄) = xaLoc d ↦{q} f := by
  simp only [Memref.view_whole, View.set_whole]
omit [FloatOps F] in
theorem pts_yV (q : PosShare TreeShare) (f : Buf (Elt F) (yaLoc d)) :
    ((yV).view.loc (V d (cV L) (jV L)) ↦[(yV).view.set]{q} f : sProp 𝕄) = yaLoc d ↦{q} f := by
  simp only [Memref.view_whole, View.set_whole]
omit [FloatOps F] in
theorem pts_uV (q : PosShare TreeShare) (f : Buf (Elt F) (xbLoc d)) :
    ((uV).view.loc (V d (cV L) (jV L)) ↦[(uV).view.set]{q} f : sProp 𝕄) = xbLoc d ↦{q} f := by
  simp only [Memref.view_whole, View.set_whole]
omit [FloatOps F] in
theorem pts_wV (q : PosShare TreeShare) (f : Buf (Elt F) (ybLoc d)) :
    ((wV).view.loc (V d (cV L) (jV L)) ↦[(wV).view.set]{q} f : sProp 𝕄) = ybLoc d ↦{q} f := by
  simp only [Memref.view_whole, View.set_whole]
omit [FloatOps F] in
theorem pts_rV (q : PosShare TreeShare) (f : Buf (Elt F) (rkLoc d)) :
    ((rV).view.loc (V d (cV L) (jV L)) ↦[(rV).view.set]{q} f : sProp 𝕄) = rkLoc d ↦{q} f := by
  simp only [Memref.view_whole, View.set_whole]

/-- The task's semaphores and scratches. -/
abbrev sems0 : Finset (SemLoc sig) := {.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem}
abbrev refs0 : Finset (Ref sig .scVector) := {cc0_scratch0, cc0_scratch1, cc0_scratch2, cc0_scratch3, cc0_scratch4, cc0_scratch5, cc0_scratch6, cc0_scratch7, cc0_scratch8, cc0_scratch9}

omit [FloatOps F] in
theorem sems0_eq (thr : Thread nD τ) : (bigSep sems0 fun s => (semVal (thr, s) 0 : sProp 𝕄))
    = iprop(semVal (thr, .dma cc0_scoped0.sem) 0 ∗ semVal (thr, .dma cc0_scoped1.sem) 0 ∗ semVal (thr, .dma cc0_scoped2.sem) 0 ∗ semVal (thr, .dma cc0_scoped3.sem) 0 ∗ semVal (thr, .dma cc0_scoped4.sem) 0 ∗ semVal (thr, .dma cc0_scoped5.sem) 0 ∗ semVal (thr, .dma cc0_scoped6.sem) 0 ∗ semVal (thr, .dma cc0_scoped7.sem) 0 ∗ semVal (thr, .dma cc0_scoped8.sem) 0 ∗ semVal (thr, .dma cc0_scoped9.sem) 0) := by
  unfold sems0
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
omit [FloatOps F] in
theorem refs0_eq (Φ : Ref sig .scVector → sProp 𝕄) : (bigSep refs0 Φ)
    = iprop(Φ cc0_scratch0 ∗ Φ cc0_scratch1 ∗ Φ cc0_scratch2 ∗ Φ cc0_scratch3 ∗ Φ cc0_scratch4 ∗ Φ cc0_scratch5 ∗ Φ cc0_scratch6 ∗ Φ cc0_scratch7 ∗ Φ cc0_scratch8 ∗ Φ cc0_scratch9) := by
  unfold refs0
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

end Permute

end Cert.Proof.Sc

end
-- ==== Proof.Sc.PermuteRun.lean ====
/-
  The permute task's run.
-/
module

public import proofs.«01_k».proof.Proof.Sc.Permute

@[expose] public section

noncomputable section

namespace Cert.Proof.Sc

open Cert.SparseCallsIdeal Cert.SparseCallsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "xV" => (Memref.whole Cert.SparseCallsIdeal.main_v4_scv : Memref Cert.SparseCallsIdeal.sig Kind.scVector Space.hbm Cert.SparseCallsIdeal.S5120 EltTy.f32)
local notation "yV" => (Memref.whole Cert.SparseCallsIdeal.main_v6_scv : Memref Cert.SparseCallsIdeal.sig Kind.scVector Space.hbm Cert.SparseCallsIdeal.S5120 EltTy.f32)
local notation "uV" => (Memref.whole Cert.SparseCallsIdeal.main_v8_scv : Memref Cert.SparseCallsIdeal.sig Kind.scVector Space.hbm Cert.SparseCallsIdeal.S5120 EltTy.f32)
local notation "wV" => (Memref.whole Cert.SparseCallsIdeal.main_v10_scv : Memref Cert.SparseCallsIdeal.sig Kind.scVector Space.hbm Cert.SparseCallsIdeal.S5120 EltTy.f32)
local notation "rV" => (Memref.whole Cert.SparseCallsIdeal.main_arg2_scv : Memref Cert.SparseCallsIdeal.sig Kind.scVector Space.hbm Cert.SparseCallsIdeal.S5120 EltTy.i32)
local notation "o0V" => (Memref.whole Cert.SparseCallsIdeal.main_v11_0_scv : Memref Cert.SparseCallsIdeal.sig Kind.scVector Space.hbm Cert.SparseCallsIdeal.S5120 EltTy.f32)
local notation "o1V" => (Memref.whole Cert.SparseCallsIdeal.main_v11_1_scv : Memref Cert.SparseCallsIdeal.sig Kind.scVector Space.hbm Cert.SparseCallsIdeal.S5120 EltTy.f32)
local notation "o2V" => (Memref.whole Cert.SparseCallsIdeal.main_v11_2_scv : Memref Cert.SparseCallsIdeal.sig Kind.scVector Space.hbm Cert.SparseCallsIdeal.S5120 EltTy.f32)
local notation "o3V" => (Memref.whole Cert.SparseCallsIdeal.main_v11_3_scv : Memref Cert.SparseCallsIdeal.sig Kind.scVector Space.hbm Cert.SparseCallsIdeal.S5120 EltTy.f32)
local notation "o4V" => (Memref.whole Cert.SparseCallsIdeal.main_v11_4_scv : Memref Cert.SparseCallsIdeal.sig Kind.scVector Space.hbm Cert.SparseCallsIdeal.S5120 EltTy.f32)
local notation "b0" => (Memref.whole Cert.SparseCallsIdeal.cc0_scratch0 : Memref Cert.SparseCallsIdeal.sig Kind.scVector Space.vmem Cert.SparseCallsIdeal.S5120 EltTy.f32)
local notation "b1" => (Memref.whole Cert.SparseCallsIdeal.cc0_scratch1 : Memref Cert.SparseCallsIdeal.sig Kind.scVector Space.vmem Cert.SparseCallsIdeal.S5120 EltTy.f32)
local notation "b2" => (Memref.whole Cert.SparseCallsIdeal.cc0_scratch2 : Memref Cert.SparseCallsIdeal.sig Kind.scVector Space.vmem Cert.SparseCallsIdeal.S5120 EltTy.f32)
local notation "b3" => (Memref.whole Cert.SparseCallsIdeal.cc0_scratch3 : Memref Cert.SparseCallsIdeal.sig Kind.scVector Space.vmem Cert.SparseCallsIdeal.S5120 EltTy.f32)
local notation "b4" => (Memref.whole Cert.SparseCallsIdeal.cc0_scratch4 : Memref Cert.SparseCallsIdeal.sig Kind.scVector Space.vmem Cert.SparseCallsIdeal.S5120 EltTy.i32)
local notation "b5" => (Memref.whole Cert.SparseCallsIdeal.cc0_scratch5 : Memref Cert.SparseCallsIdeal.sig Kind.scVector Space.vmem Cert.SparseCallsIdeal.S5120 EltTy.f32)
local notation "b6" => (Memref.whole Cert.SparseCallsIdeal.cc0_scratch6 : Memref Cert.SparseCallsIdeal.sig Kind.scVector Space.vmem Cert.SparseCallsIdeal.S5120 EltTy.f32)
local notation "b7" => (Memref.whole Cert.SparseCallsIdeal.cc0_scratch7 : Memref Cert.SparseCallsIdeal.sig Kind.scVector Space.vmem Cert.SparseCallsIdeal.S5120 EltTy.f32)
local notation "b8" => (Memref.whole Cert.SparseCallsIdeal.cc0_scratch8 : Memref Cert.SparseCallsIdeal.sig Kind.scVector Space.vmem Cert.SparseCallsIdeal.S5120 EltTy.f32)
local notation "b9" => (Memref.whole Cert.SparseCallsIdeal.cc0_scratch9 : Memref Cert.SparseCallsIdeal.sig Kind.scVector Space.vmem Cert.SparseCallsIdeal.S5120 EltTy.f32)

variable [FloatOps F] (A : Ops F)

section Permute

variable (d : Dev nD) (L : grid0.Coords)

omit [FloatOps F] in
theorem pts_b0 (f : Buf (Elt F) ((V d (cV L) (jV L)).loc cc0_scratch0)) :
    ((b0).view.loc (V d (cV L) (jV L)) ↦{fullShare} f : sProp 𝕄) = (V d (cV L) (jV L)).loc cc0_scratch0 ↦{fullShare} f := rfl
omit [FloatOps F] in
theorem pts_b1 (f : Buf (Elt F) ((V d (cV L) (jV L)).loc cc0_scratch1)) :
    ((b1).view.loc (V d (cV L) (jV L)) ↦{fullShare} f : sProp 𝕄) = (V d (cV L) (jV L)).loc cc0_scratch1 ↦{fullShare} f := rfl
omit [FloatOps F] in
theorem pts_b2 (f : Buf (Elt F) ((V d (cV L) (jV L)).loc cc0_scratch2)) :
    ((b2).view.loc (V d (cV L) (jV L)) ↦{fullShare} f : sProp 𝕄) = (V d (cV L) (jV L)).loc cc0_scratch2 ↦{fullShare} f := rfl
omit [FloatOps F] in
theorem pts_b3 (f : Buf (Elt F) ((V d (cV L) (jV L)).loc cc0_scratch3)) :
    ((b3).view.loc (V d (cV L) (jV L)) ↦{fullShare} f : sProp 𝕄) = (V d (cV L) (jV L)).loc cc0_scratch3 ↦{fullShare} f := rfl
omit [FloatOps F] in
theorem pts_b4 (f : Buf (Elt F) ((V d (cV L) (jV L)).loc cc0_scratch4)) :
    ((b4).view.loc (V d (cV L) (jV L)) ↦{fullShare} f : sProp 𝕄) = (V d (cV L) (jV L)).loc cc0_scratch4 ↦{fullShare} f := rfl
omit [FloatOps F] in
theorem pts_b5 (f : Buf (Elt F) ((V d (cV L) (jV L)).loc cc0_scratch5)) :
    ((b5).view.loc (V d (cV L) (jV L)) ↦{fullShare} f : sProp 𝕄) = (V d (cV L) (jV L)).loc cc0_scratch5 ↦{fullShare} f := rfl
omit [FloatOps F] in
theorem pts_b6 (f : Buf (Elt F) ((V d (cV L) (jV L)).loc cc0_scratch6)) :
    ((b6).view.loc (V d (cV L) (jV L)) ↦{fullShare} f : sProp 𝕄) = (V d (cV L) (jV L)).loc cc0_scratch6 ↦{fullShare} f := rfl
omit [FloatOps F] in
theorem pts_b7 (f : Buf (Elt F) ((V d (cV L) (jV L)).loc cc0_scratch7)) :
    ((b7).view.loc (V d (cV L) (jV L)) ↦{fullShare} f : sProp 𝕄) = (V d (cV L) (jV L)).loc cc0_scratch7 ↦{fullShare} f := rfl
omit [FloatOps F] in
theorem pts_b8 (f : Buf (Elt F) ((V d (cV L) (jV L)).loc cc0_scratch8)) :
    ((b8).view.loc (V d (cV L) (jV L)) ↦{fullShare} f : sProp 𝕄) = (V d (cV L) (jV L)).loc cc0_scratch8 ↦{fullShare} f := rfl
omit [FloatOps F] in
theorem pts_b9 (f : Buf (Elt F) ((V d (cV L) (jV L)).loc cc0_scratch9)) :
    ((b9).view.loc (V d (cV L) (jV L)) ↦{fullShare} f : sProp 𝕄) = (V d (cV L) (jV L)).loc cc0_scratch9 ↦{fullShare} f := rfl

/-- The scratch memories belong to the subcore that names them. -/
theorem owner_refs0 : ∀ b ∈ refs0, ((Proc.scVector (cV L) (jV L)).devRef b).owner = .proc (.scVector (cV L) (jV L)) := by
  intro b hb
  simp only [refs0, Finset.mem_insert, Finset.mem_singleton] at hb
  rcases hb with rfl | rfl | rfl | rfl | rfl | rfl | rfl | rfl | rfl | rfl <;> rfl

/-- The loop's invariant before trip `t`: the fetched columns and ranks as they are, and in each target scratch the first
    `16 t` elements at their ranks. -/
def inv (t : Nat) (_ : PUnit) : sProp 𝕄 :=
  iprop(∃ g5 g6 g7 g8 g9, ⌜Placed (16 * t) (A.rk d) (lo (A.xa d) (A.xb d)) g5 ∧ Placed (16 * t) (A.rk d) (lo (A.ya d) (A.yb d)) g6
      ∧ Placed (16 * t) (A.rk d) (hi (A.xa d) (A.xb d)) g7 ∧ Placed (16 * t) (A.rk d) (hi (A.ya d) (A.yb d)) g8
      ∧ Placed (16 * t) (A.rk d) (area (A.xa d) (A.ya d) (A.xb d) (A.yb d)) g9⌝
    ∗ ((b0).view.loc (V d (cV L) (jV L)) ↦{fullShare} A.xa d)
    ∗ ((b1).view.loc (V d (cV L) (jV L)) ↦{fullShare} A.ya d)
    ∗ ((b2).view.loc (V d (cV L) (jV L)) ↦{fullShare} A.xb d)
    ∗ ((b3).view.loc (V d (cV L) (jV L)) ↦{fullShare} A.yb d)
    ∗ ((b4).view.loc (V d (cV L) (jV L)) ↦{fullShare} A.rk d)
    ∗ ((b5).view.loc (V d (cV L) (jV L)) ↦{fullShare} g5)
    ∗ ((b6).view.loc (V d (cV L) (jV L)) ↦{fullShare} g6)
    ∗ ((b7).view.loc (V d (cV L) (jV L)) ↦{fullShare} g7)
    ∗ ((b8).view.loc (V d (cV L) (jV L)) ↦{fullShare} g8)
    ∗ ((b9).view.loc (V d (cV L) (jV L)) ↦{fullShare} g9))

/-- The sixteen elements trip `t` reads. -/
abbrev rectT (t : Fin k0_t1_loop.trips) : Rect S5120 := Rect.unit (s := S5120) (k0_off1 t) S16.size (k0_off1_inb t)

/-- Where in the whole vector lane `x` of trip `t` stands. -/
def em (t : Fin k0_t1_loop.trips) (x : V16.Idx) : V5120.Idx := (rectT t).toLoadRect.idx x

theorem em_val (t : Fin k0_t1_loop.trips) (x : V16.Idx) : (em t x 0).val = 16 * t.val + (x 0).val := by
  unfold em
  rw [LoadRect.idx_apply]
  show k0_off1 t 0 + 1 * (x 0).val = _
  rw [k0_off1_eq]
  simp

omit [FloatOps F] in
theorem acc_b5 (f : Buf (Elt F) ((V d (cV L) (jV L)).loc cc0_scratch5)) :
    (((b5).access (.whole S5120)).loc (V d (cV L) (jV L)) ↦[((b5).access (.whole S5120)).set]{fullShare} f : sProp 𝕄)
      = (b5).view.loc (V d (cV L) (jV L)) ↦{fullShare} f := by
  rw [show ((b5).access (.whole S5120)).set = Finset.univ from Memref.set_access_whole cc0_scratch5]
omit [FloatOps F] in
theorem put_b5 (f : Buf (Elt F) ((V d (cV L) (jV L)).loc cc0_scratch5)) (w : Buf (Elt F) ((V d (cV L) (jV L)).loc cc0_scratch5) → Buf (Elt F) ((V d (cV L) (jV L)).loc cc0_scratch5)) :
    (((b5).access (.whole S5120)).loc (V d (cV L) (jV L)) ↦[((b5).access (.whole S5120)).set]{fullShare}
        ((b5).access (.whole S5120)).write (Elt F) f (w (((b5).access (.whole S5120)).read (Elt F) f)) Finset.univ : sProp 𝕄)
      = (b5).view.loc (V d (cV L) (jV L)) ↦{fullShare} w f := by
  rw [acc_b5, show ((b5).access (.whole S5120)).write (Elt F) f (w (((b5).access (.whole S5120)).read (Elt F) f)) Finset.univ = w f from
    (Memref.write_access_whole_univ (Elt F) cc0_scratch5 f _).trans (congrArg w (Memref.read_access_whole (Elt F) cc0_scratch5 f))]
omit [FloatOps F] in
theorem acc_b6 (f : Buf (Elt F) ((V d (cV L) (jV L)).loc cc0_scratch6)) :
    (((b6).access (.whole S5120)).loc (V d (cV L) (jV L)) ↦[((b6).access (.whole S5120)).set]{fullShare} f : sProp 𝕄)
      = (b6).view.loc (V d (cV L) (jV L)) ↦{fullShare} f := by
  rw [show ((b6).access (.whole S5120)).set = Finset.univ from Memref.set_access_whole cc0_scratch6]
omit [FloatOps F] in
theorem put_b6 (f : Buf (Elt F) ((V d (cV L) (jV L)).loc cc0_scratch6)) (w : Buf (Elt F) ((V d (cV L) (jV L)).loc cc0_scratch6) → Buf (Elt F) ((V d (cV L) (jV L)).loc cc0_scratch6)) :
    (((b6).access (.whole S5120)).loc (V d (cV L) (jV L)) ↦[((b6).access (.whole S5120)).set]{fullShare}
        ((b6).access (.whole S5120)).write (Elt F) f (w (((b6).access (.whole S5120)).read (Elt F) f)) Finset.univ : sProp 𝕄)
      = (b6).view.loc (V d (cV L) (jV L)) ↦{fullShare} w f := by
  rw [acc_b6, show ((b6).access (.whole S5120)).write (Elt F) f (w (((b6).access (.whole S5120)).read (Elt F) f)) Finset.univ = w f from
    (Memref.write_access_whole_univ (Elt F) cc0_scratch6 f _).trans (congrArg w (Memref.read_access_whole (Elt F) cc0_scratch6 f))]
omit [FloatOps F] in
theorem acc_b7 (f : Buf (Elt F) ((V d (cV L) (jV L)).loc cc0_scratch7)) :
    (((b7).access (.whole S5120)).loc (V d (cV L) (jV L)) ↦[((b7).access (.whole S5120)).set]{fullShare} f : sProp 𝕄)
      = (b7).view.loc (V d (cV L) (jV L)) ↦{fullShare} f := by
  rw [show ((b7).access (.whole S5120)).set = Finset.univ from Memref.set_access_whole cc0_scratch7]
omit [FloatOps F] in
theorem put_b7 (f : Buf (Elt F) ((V d (cV L) (jV L)).loc cc0_scratch7)) (w : Buf (Elt F) ((V d (cV L) (jV L)).loc cc0_scratch7) → Buf (Elt F) ((V d (cV L) (jV L)).loc cc0_scratch7)) :
    (((b7).access (.whole S5120)).loc (V d (cV L) (jV L)) ↦[((b7).access (.whole S5120)).set]{fullShare}
        ((b7).access (.whole S5120)).write (Elt F) f (w (((b7).access (.whole S5120)).read (Elt F) f)) Finset.univ : sProp 𝕄)
      = (b7).view.loc (V d (cV L) (jV L)) ↦{fullShare} w f := by
  rw [acc_b7, show ((b7).access (.whole S5120)).write (Elt F) f (w (((b7).access (.whole S5120)).read (Elt F) f)) Finset.univ = w f from
    (Memref.write_access_whole_univ (Elt F) cc0_scratch7 f _).trans (congrArg w (Memref.read_access_whole (Elt F) cc0_scratch7 f))]
omit [FloatOps F] in
theorem acc_b8 (f : Buf (Elt F) ((V d (cV L) (jV L)).loc cc0_scratch8)) :
    (((b8).access (.whole S5120)).loc (V d (cV L) (jV L)) ↦[((b8).access (.whole S5120)).set]{fullShare} f : sProp 𝕄)
      = (b8).view.loc (V d (cV L) (jV L)) ↦{fullShare} f := by
  rw [show ((b8).access (.whole S5120)).set = Finset.univ from Memref.set_access_whole cc0_scratch8]
omit [FloatOps F] in
theorem put_b8 (f : Buf (Elt F) ((V d (cV L) (jV L)).loc cc0_scratch8)) (w : Buf (Elt F) ((V d (cV L) (jV L)).loc cc0_scratch8) → Buf (Elt F) ((V d (cV L) (jV L)).loc cc0_scratch8)) :
    (((b8).access (.whole S5120)).loc (V d (cV L) (jV L)) ↦[((b8).access (.whole S5120)).set]{fullShare}
        ((b8).access (.whole S5120)).write (Elt F) f (w (((b8).access (.whole S5120)).read (Elt F) f)) Finset.univ : sProp 𝕄)
      = (b8).view.loc (V d (cV L) (jV L)) ↦{fullShare} w f := by
  rw [acc_b8, show ((b8).access (.whole S5120)).write (Elt F) f (w (((b8).access (.whole S5120)).read (Elt F) f)) Finset.univ = w f from
    (Memref.write_access_whole_univ (Elt F) cc0_scratch8 f _).trans (congrArg w (Memref.read_access_whole (Elt F) cc0_scratch8 f))]
omit [FloatOps F] in
theorem acc_b9 (f : Buf (Elt F) ((V d (cV L) (jV L)).loc cc0_scratch9)) :
    (((b9).access (.whole S5120)).loc (V d (cV L) (jV L)) ↦[((b9).access (.whole S5120)).set]{fullShare} f : sProp 𝕄)
      = (b9).view.loc (V d (cV L) (jV L)) ↦{fullShare} f := by
  rw [show ((b9).access (.whole S5120)).set = Finset.univ from Memref.set_access_whole cc0_scratch9]
omit [FloatOps F] in
theorem put_b9 (f : Buf (Elt F) ((V d (cV L) (jV L)).loc cc0_scratch9)) (w : Buf (Elt F) ((V d (cV L) (jV L)).loc cc0_scratch9) → Buf (Elt F) ((V d (cV L) (jV L)).loc cc0_scratch9)) :
    (((b9).access (.whole S5120)).loc (V d (cV L) (jV L)) ↦[((b9).access (.whole S5120)).set]{fullShare}
        ((b9).access (.whole S5120)).write (Elt F) f (w (((b9).access (.whole S5120)).read (Elt F) f)) Finset.univ : sProp 𝕄)
      = (b9).view.loc (V d (cV L) (jV L)) ↦{fullShare} w f := by
  rw [acc_b9, show ((b9).access (.whole S5120)).write (Elt F) f (w (((b9).access (.whole S5120)).read (Elt F) f)) Finset.univ = w f from
    (Memref.write_access_whole_univ (Elt F) cc0_scratch9 f _).trans (congrArg w (Memref.read_access_whole (Elt F) cc0_scratch9 f))]

/-- A trip's store puts sixteen more elements at their ranks. -/
theorem step_b5 (hp : Perm (A.rk d)) (t : Fin k0_t1_loop.trips) (g : FVec F S5120 .f32)
    (h : Placed (16 * t.val) (A.rk d) (lo (A.xa d) (A.xb d)) g)
    (hin : ∀ a x, ((![(View.readAt (Elt F) (b4).view (rectT t).toLoadRect (A.rk d))] : Fin 1 → IVec S16 32) a x).toNat < S5120.size a) :
    Placed (16 * (t.val + 1)) (A.rk d) (lo (A.xa d) (A.xb d))
      (storeIdx (F := F) (s := S5120) (e := .f32) g ![(View.readAt (Elt F) (b4).view (rectT t).toLoadRect (A.rk d))]
        (k0_pay1 (View.readAt (Elt F) (b0).view (rectT t).toLoadRect (A.xa d)) (View.readAt (Elt F) (b2).view (rectT t).toLoadRect (A.xb d))) (fun _ => 1#1) false hin) :=
  h.step hp (em t) (em_val t) _ (fun _ => rfl) _ (fun x => by
    simp only [k0_pay1, k0_pay2, k0_pay3, k0_pay4, k0_pay5, lo, Cert.Proof.Sc.hi, area, mulf, subf, minimumf, maximumf, broadcast]; rfl) hin

/-- A trip's store puts sixteen more elements at their ranks. -/
theorem step_b6 (hp : Perm (A.rk d)) (t : Fin k0_t1_loop.trips) (g : FVec F S5120 .f32)
    (h : Placed (16 * t.val) (A.rk d) (lo (A.ya d) (A.yb d)) g)
    (hin : ∀ a x, ((![(View.readAt (Elt F) (b4).view (rectT t).toLoadRect (A.rk d))] : Fin 1 → IVec S16 32) a x).toNat < S5120.size a) :
    Placed (16 * (t.val + 1)) (A.rk d) (lo (A.ya d) (A.yb d))
      (storeIdx (F := F) (s := S5120) (e := .f32) g ![(View.readAt (Elt F) (b4).view (rectT t).toLoadRect (A.rk d))]
        (k0_pay3 (View.readAt (Elt F) (b1).view (rectT t).toLoadRect (A.ya d)) (View.readAt (Elt F) (b3).view (rectT t).toLoadRect (A.yb d))) (fun _ => 1#1) false hin) :=
  h.step hp (em t) (em_val t) _ (fun _ => rfl) _ (fun x => by
    simp only [k0_pay1, k0_pay2, k0_pay3, k0_pay4, k0_pay5, lo, Cert.Proof.Sc.hi, area, mulf, subf, minimumf, maximumf, broadcast]; rfl) hin

/-- A trip's store puts sixteen more elements at their ranks. -/
theorem step_b7 (hp : Perm (A.rk d)) (t : Fin k0_t1_loop.trips) (g : FVec F S5120 .f32)
    (h : Placed (16 * t.val) (A.rk d) (hi (A.xa d) (A.xb d)) g)
    (hin : ∀ a x, ((![(View.readAt (Elt F) (b4).view (rectT t).toLoadRect (A.rk d))] : Fin 1 → IVec S16 32) a x).toNat < S5120.size a) :
    Placed (16 * (t.val + 1)) (A.rk d) (hi (A.xa d) (A.xb d))
      (storeIdx (F := F) (s := S5120) (e := .f32) g ![(View.readAt (Elt F) (b4).view (rectT t).toLoadRect (A.rk d))]
        (k0_pay2 (View.readAt (Elt F) (b0).view (rectT t).toLoadRect (A.xa d)) (View.readAt (Elt F) (b2).view (rectT t).toLoadRect (A.xb d))) (fun _ => 1#1) false hin) :=
  h.step hp (em t) (em_val t) _ (fun _ => rfl) _ (fun x => by
    simp only [k0_pay1, k0_pay2, k0_pay3, k0_pay4, k0_pay5, lo, Cert.Proof.Sc.hi, area, mulf, subf, minimumf, maximumf, broadcast]; rfl) hin

/-- A trip's store puts sixteen more elements at their ranks. -/
theorem step_b8 (hp : Perm (A.rk d)) (t : Fin k0_t1_loop.trips) (g : FVec F S5120 .f32)
    (h : Placed (16 * t.val) (A.rk d) (hi (A.ya d) (A.yb d)) g)
    (hin : ∀ a x, ((![(View.readAt (Elt F) (b4).view (rectT t).toLoadRect (A.rk d))] : Fin 1 → IVec S16 32) a x).toNat < S5120.size a) :
    Placed (16 * (t.val + 1)) (A.rk d) (hi (A.ya d) (A.yb d))
      (storeIdx (F := F) (s := S5120) (e := .f32) g ![(View.readAt (Elt F) (b4).view (rectT t).toLoadRect (A.rk d))]
        (k0_pay4 (View.readAt (Elt F) (b1).view (rectT t).toLoadRect (A.ya d)) (View.readAt (Elt F) (b3).view (rectT t).toLoadRect (A.yb d))) (fun _ => 1#1) false hin) :=
  h.step hp (em t) (em_val t) _ (fun _ => rfl) _ (fun x => by
    simp only [k0_pay1, k0_pay2, k0_pay3, k0_pay4, k0_pay5, lo, Cert.Proof.Sc.hi, area, mulf, subf, minimumf, maximumf, broadcast]; rfl) hin

/-- A trip's store puts sixteen more elements at their ranks. -/
theorem step_b9 (hp : Perm (A.rk d)) (t : Fin k0_t1_loop.trips) (g : FVec F S5120 .f32)
    (h : Placed (16 * t.val) (A.rk d) (area (A.xa d) (A.ya d) (A.xb d) (A.yb d)) g)
    (hin : ∀ a x, ((![(View.readAt (Elt F) (b4).view (rectT t).toLoadRect (A.rk d))] : Fin 1 → IVec S16 32) a x).toNat < S5120.size a) :
    Placed (16 * (t.val + 1)) (A.rk d) (area (A.xa d) (A.ya d) (A.xb d) (A.yb d))
      (storeIdx (F := F) (s := S5120) (e := .f32) g ![(View.readAt (Elt F) (b4).view (rectT t).toLoadRect (A.rk d))]
        (k0_pay5 (View.readAt (Elt F) (b0).view (rectT t).toLoadRect (A.xa d)) (View.readAt (Elt F) (b2).view (rectT t).toLoadRect (A.xb d)) (View.readAt (Elt F) (b1).view (rectT t).toLoadRect (A.ya d)) (View.readAt (Elt F) (b3).view (rectT t).toLoadRect (A.yb d))) (fun _ => 1#1) false hin) :=
  h.step hp (em t) (em_val t) _ (fun _ => rfl) _ (fun x => by
    simp only [k0_pay1, k0_pay2, k0_pay3, k0_pay4, k0_pay5, lo, Cert.Proof.Sc.hi, area, mulf, subf, minimumf, maximumf, broadcast]; rfl) hin

set_option maxHeartbeats 2000000 in
/-- One trip: sixteen elements more at their ranks. -/
theorem trip (hp : Perm (A.rk d)) (t : Fin k0_t1_loop.trips) (acc : PUnit) :
    inv A d L t.val acc ⊢ wp frame (wpE (defs₀ (F := F)) 𝒱₀ (V d (cV L) (jV L)) none) Set.univ
      (k0_t1_body L xV (Memref.isWhole_whole _) yV (Memref.isWhole_whole _) uV (Memref.isWhole_whole _) wV (Memref.isWhole_whole _) rV (Memref.isWhole_whole _) o0V (Memref.isWhole_whole _) o1V (Memref.isWhole_whole _) o2V (Memref.isWhole_whole _) o3V (Memref.isWhole_whole _) o4V (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) cc0_scoped0 cc0_scoped1 cc0_scoped2 cc0_scoped3 cc0_scoped4 cc0_scoped5 cc0_scoped6 cc0_scoped7 cc0_scoped8 cc0_scoped9 t acc) (inv A d L (t.val + 1)) := by
  unfold inv
  iintro ⟨%g5, %g6, %g7, %g8, %g9, %hg, Hb0, Hb1, Hb2, Hb3, Hb4, Hb5, Hb6, Hb7, Hb8, Hb9⟩
  obtain ⟨h5, h6, h7, h8, h9⟩ := hg
  unfold k0_t1_body
  sl_exec
  have hids : ∀ x, View.readAt (Elt F) (b4).view (rectT t).toLoadRect (A.rk d) x = A.rk d (em t x) := fun _ => rfl
  have hchk : k0_chk1 (View.readAt (Elt F) (b4).view (rectT t).toLoadRect (A.rk d)) := by
    have : ∀ x, (View.readAt (Elt F) (b4).view (rectT t).toLoadRect (A.rk d) x).toNat < 5120 := fun x => by rw [hids]; exact hp.lt _
    have h : ∀ a x, ((![View.readAt (Elt F) (b4).view (rectT t).toLoadRect (A.rk d)] : Fin 1 → IVec S16 32) a x).toNat < S5120.size a := fun a x => by
      obtain rfl : a = 0 := Subsingleton.elim _ _
      exact this x
    exact ⟨h, h, h, h, h⟩
  rw [wp_assume_of _ _ _ _ hchk]
  ihave Hb5 := (Entails.of_eq (acc_b5 (F := F) d L _).symm) $$ Hb5
  iapply (SparseCore.wp_vectorStoreIdx 𝒱₀ (V d (cV L) (jV L)) none Set.univ (base := b5)) $$ Hb5; iintro Hb5
  ihave Hb5 := (Entails.of_eq (put_b5 (F := F) d L _ (fun f => storeIdx f _ _ _ _ _))) $$ Hb5
  ihave Hb6 := (Entails.of_eq (acc_b6 (F := F) d L _).symm) $$ Hb6
  iapply (SparseCore.wp_vectorStoreIdx 𝒱₀ (V d (cV L) (jV L)) none Set.univ (base := b6)) $$ Hb6; iintro Hb6
  ihave Hb6 := (Entails.of_eq (put_b6 (F := F) d L _ (fun f => storeIdx f _ _ _ _ _))) $$ Hb6
  ihave Hb7 := (Entails.of_eq (acc_b7 (F := F) d L _).symm) $$ Hb7
  iapply (SparseCore.wp_vectorStoreIdx 𝒱₀ (V d (cV L) (jV L)) none Set.univ (base := b7)) $$ Hb7; iintro Hb7
  ihave Hb7 := (Entails.of_eq (put_b7 (F := F) d L _ (fun f => storeIdx f _ _ _ _ _))) $$ Hb7
  ihave Hb8 := (Entails.of_eq (acc_b8 (F := F) d L _).symm) $$ Hb8
  iapply (SparseCore.wp_vectorStoreIdx 𝒱₀ (V d (cV L) (jV L)) none Set.univ (base := b8)) $$ Hb8; iintro Hb8
  ihave Hb8 := (Entails.of_eq (put_b8 (F := F) d L _ (fun f => storeIdx f _ _ _ _ _))) $$ Hb8
  ihave Hb9 := (Entails.of_eq (acc_b9 (F := F) d L _).symm) $$ Hb9
  iapply (SparseCore.wp_vectorStoreIdx 𝒱₀ (V d (cV L) (jV L)) none Set.univ (base := b9)) $$ Hb9; iintro Hb9
  ihave Hb9 := (Entails.of_eq (put_b9 (F := F) d L _ (fun f => storeIdx f _ _ _ _ _))) $$ Hb9
  sl_step
  iexists _, _, _, _, _
  isplitr
  rotate_left
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hb8]; · iexact Hb8
  iexact Hb9
  ipureintro
  exact ⟨step_b5 A d hp t _ h5 _, step_b6 A d hp t _ h6 _, step_b7 A d hp t _ h7 _, step_b8 A d hp t _ h8 _, step_b9 A d hp t _ h9 _⟩

omit [FloatOps F] in
/-- What the write-out leaves in the subcore's chunk is the scratch's own values there. -/
theorem out_o0K (fo : Buf (Elt F) (o0Loc d)) (g : FVec F S5120 .f32) :
    ((o0K L).view.loc (V d (cV L) (jV L)) ↦[(o0K L).view.set]{fullShare}
        (o0K L).view.writes (Elt F) fo [⟨Rect.whole S160, ((b5).slice (rowK L) (fun _ => rfl)).view.read (Elt F) g⟩] : sProp 𝕄) = o0Loc d ↦[chunkSet (wL L)]{fullShare} g := by
  rw [← pts_o0K d L]
  refine pointsTo_congr fun i hi => ?_
  obtain ⟨x, -, rfl⟩ := Finset.mem_map.mp hi
  change S160.Idx at x
  rw [View.writes_singleton]
  have hx : (o0K L).view.emb x = ((o0K L).view.slice (Rect.whole S160)).emb x := congrArg (o0K L).view.emb (Rect.emb_whole_apply S160 x).symm
  rw [hx, View.write_emb_of_mem _ _ (Finset.mem_univ _), ← hx]
  rfl

omit [FloatOps F] in
/-- What the write-out leaves in the subcore's chunk is the scratch's own values there. -/
theorem out_o1K (fo : Buf (Elt F) (o1Loc d)) (g : FVec F S5120 .f32) :
    ((o1K L).view.loc (V d (cV L) (jV L)) ↦[(o1K L).view.set]{fullShare}
        (o1K L).view.writes (Elt F) fo [⟨Rect.whole S160, ((b6).slice (rowK L) (fun _ => rfl)).view.read (Elt F) g⟩] : sProp 𝕄) = o1Loc d ↦[chunkSet (wL L)]{fullShare} g := by
  rw [← pts_o1K d L]
  refine pointsTo_congr fun i hi => ?_
  obtain ⟨x, -, rfl⟩ := Finset.mem_map.mp hi
  change S160.Idx at x
  rw [View.writes_singleton]
  have hx : (o1K L).view.emb x = ((o1K L).view.slice (Rect.whole S160)).emb x := congrArg (o1K L).view.emb (Rect.emb_whole_apply S160 x).symm
  rw [hx, View.write_emb_of_mem _ _ (Finset.mem_univ _), ← hx]
  rfl

omit [FloatOps F] in
/-- What the write-out leaves in the subcore's chunk is the scratch's own values there. -/
theorem out_o2K (fo : Buf (Elt F) (o2Loc d)) (g : FVec F S5120 .f32) :
    ((o2K L).view.loc (V d (cV L) (jV L)) ↦[(o2K L).view.set]{fullShare}
        (o2K L).view.writes (Elt F) fo [⟨Rect.whole S160, ((b7).slice (rowK L) (fun _ => rfl)).view.read (Elt F) g⟩] : sProp 𝕄) = o2Loc d ↦[chunkSet (wL L)]{fullShare} g := by
  rw [← pts_o2K d L]
  refine pointsTo_congr fun i hi => ?_
  obtain ⟨x, -, rfl⟩ := Finset.mem_map.mp hi
  change S160.Idx at x
  rw [View.writes_singleton]
  have hx : (o2K L).view.emb x = ((o2K L).view.slice (Rect.whole S160)).emb x := congrArg (o2K L).view.emb (Rect.emb_whole_apply S160 x).symm
  rw [hx, View.write_emb_of_mem _ _ (Finset.mem_univ _), ← hx]
  rfl

omit [FloatOps F] in
/-- What the write-out leaves in the subcore's chunk is the scratch's own values there. -/
theorem out_o3K (fo : Buf (Elt F) (o3Loc d)) (g : FVec F S5120 .f32) :
    ((o3K L).view.loc (V d (cV L) (jV L)) ↦[(o3K L).view.set]{fullShare}
        (o3K L).view.writes (Elt F) fo [⟨Rect.whole S160, ((b8).slice (rowK L) (fun _ => rfl)).view.read (Elt F) g⟩] : sProp 𝕄) = o3Loc d ↦[chunkSet (wL L)]{fullShare} g := by
  rw [← pts_o3K d L]
  refine pointsTo_congr fun i hi => ?_
  obtain ⟨x, -, rfl⟩ := Finset.mem_map.mp hi
  change S160.Idx at x
  rw [View.writes_singleton]
  have hx : (o3K L).view.emb x = ((o3K L).view.slice (Rect.whole S160)).emb x := congrArg (o3K L).view.emb (Rect.emb_whole_apply S160 x).symm
  rw [hx, View.write_emb_of_mem _ _ (Finset.mem_univ _), ← hx]
  rfl

omit [FloatOps F] in
/-- What the write-out leaves in the subcore's chunk is the scratch's own values there. -/
theorem out_o4K (fo : Buf (Elt F) (o4Loc d)) (g : FVec F S5120 .f32) :
    ((o4K L).view.loc (V d (cV L) (jV L)) ↦[(o4K L).view.set]{fullShare}
        (o4K L).view.writes (Elt F) fo [⟨Rect.whole S160, ((b9).slice (rowK L) (fun _ => rfl)).view.read (Elt F) g⟩] : sProp 𝕄) = o4Loc d ↦[chunkSet (wL L)]{fullShare} g := by
  rw [← pts_o4K d L]
  refine pointsTo_congr fun i hi => ?_
  obtain ⟨x, -, rfl⟩ := Finset.mem_map.mp hi
  change S160.Idx at x
  rw [View.writes_singleton]
  have hx : (o4K L).view.emb x = ((o4K L).view.slice (Rect.whole S160)).emb x := congrArg (o4K L).view.emb (Rect.emb_whole_apply S160 x).symm
  rw [hx, View.write_emb_of_mem _ _ (Finset.mem_univ _), ← hx]
  rfl

omit [FloatOps F] in
/-- A whole fetch leaves the fetched contents. -/
theorem fetch_b0 (f w : Buf (Elt F) ((V d (cV L) (jV L)).loc cc0_scratch0)) :
    ((b0).view.loc (V d (cV L) (jV L)) ↦{fullShare} (b0).view.write (Elt F) f w Finset.univ : sProp 𝕄) = (b0).view.loc (V d (cV L) (jV L)) ↦{fullShare} w := by
  rw [show (b0).view.write (Elt F) f w Finset.univ = w from View.write_whole_univ cc0_scratch0 f w]
omit [FloatOps F] in
/-- A whole fetch leaves the fetched contents. -/
theorem fetch_b1 (f w : Buf (Elt F) ((V d (cV L) (jV L)).loc cc0_scratch1)) :
    ((b1).view.loc (V d (cV L) (jV L)) ↦{fullShare} (b1).view.write (Elt F) f w Finset.univ : sProp 𝕄) = (b1).view.loc (V d (cV L) (jV L)) ↦{fullShare} w := by
  rw [show (b1).view.write (Elt F) f w Finset.univ = w from View.write_whole_univ cc0_scratch1 f w]
omit [FloatOps F] in
/-- A whole fetch leaves the fetched contents. -/
theorem fetch_b2 (f w : Buf (Elt F) ((V d (cV L) (jV L)).loc cc0_scratch2)) :
    ((b2).view.loc (V d (cV L) (jV L)) ↦{fullShare} (b2).view.write (Elt F) f w Finset.univ : sProp 𝕄) = (b2).view.loc (V d (cV L) (jV L)) ↦{fullShare} w := by
  rw [show (b2).view.write (Elt F) f w Finset.univ = w from View.write_whole_univ cc0_scratch2 f w]
omit [FloatOps F] in
/-- A whole fetch leaves the fetched contents. -/
theorem fetch_b3 (f w : Buf (Elt F) ((V d (cV L) (jV L)).loc cc0_scratch3)) :
    ((b3).view.loc (V d (cV L) (jV L)) ↦{fullShare} (b3).view.write (Elt F) f w Finset.univ : sProp 𝕄) = (b3).view.loc (V d (cV L) (jV L)) ↦{fullShare} w := by
  rw [show (b3).view.write (Elt F) f w Finset.univ = w from View.write_whole_univ cc0_scratch3 f w]
omit [FloatOps F] in
/-- A whole fetch leaves the fetched contents. -/
theorem fetch_b4 (f w : Buf (Elt F) ((V d (cV L) (jV L)).loc cc0_scratch4)) :
    ((b4).view.loc (V d (cV L) (jV L)) ↦{fullShare} (b4).view.write (Elt F) f w Finset.univ : sProp 𝕄) = (b4).view.loc (V d (cV L) (jV L)) ↦{fullShare} w := by
  rw [show (b4).view.write (Elt F) f w Finset.univ = w from View.write_whole_univ cc0_scratch4 f w]

set_option maxRecDepth 4000 in
set_option maxHeartbeats 2000000 in
/-- The permute task on vector subcore `(L 0, L 1)` of device `d`. -/
theorem tile_body0 (hF : (K (F := F)).Facts) (hp : Perm (A.rk d)) (O : CellTallies nD τ sig (HIx 2)) (W : Waits sig (HIx 2)) (hO : ∀ g, O g none = 0) :
    iprop(levAts (K (F := F)).L (K (F := F)).lev ∗ emp ∗ go0 A d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__permute_call L xV (Memref.isWhole_whole _) yV (Memref.isWhole_whole _) uV (Memref.isWhole_whole _) wV (Memref.isWhole_whole _) rV (Memref.isWhole_whole _) o0V (Memref.isWhole_whole _) o1V (Memref.isWhole_whole _) o2V (Memref.isWhole_whole _) o3V (Memref.isWhole_whole _) o4V (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) cc0_scoped0 cc0_scoped1 cc0_scoped2 cc0_scoped3 cc0_scoped4 cc0_scoped5 cc0_scoped6 cc0_scoped7 cc0_scoped8 cc0_scoped9)
          fun _ => iprop(td0 A d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L),
    ownSems_part d (cV L) (jV L) sems0 (by decide), ownBufs_part d (cV L) (jV L) refs0 (owner_refs0 L), sems0_eq, refs0_eq]
  unfold go0 td0 reads0 outs0 res0
  iintro ⟨#Hlv, -, ⟨⟨HxV, HyV, HuV, HwV, HrV⟩, ⟨%fo0, Ho0⟩, ⟨%fo1, Ho1⟩, ⟨%fo2, Ho2⟩, ⟨%fo3, Ho3⟩, ⟨%fo4, Ho4⟩⟩,
    ⟨⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, ⟨%f9, Hb9⟩⟩, Hbufs⟩, ⟨⟨Hs0, Hs1, Hs2, Hs3, Hs4, Hs5, Hs6, Hs7, Hs8, Hs9⟩, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave HxV := (Entails.of_eq (pts_xV (F := F) d L _ _).symm) $$ HxV
  ihave HyV := (Entails.of_eq (pts_yV (F := F) d L _ _).symm) $$ HyV
  ihave HuV := (Entails.of_eq (pts_uV (F := F) d L _ _).symm) $$ HuV
  ihave HwV := (Entails.of_eq (pts_wV (F := F) d L _ _).symm) $$ HwV
  ihave HrV := (Entails.of_eq (pts_rV (F := F) d L _ _).symm) $$ HrV
  ihave Ho0 := (Entails.of_eq (pts_o0K (F := F) d L _).symm) $$ Ho0
  ihave Ho1 := (Entails.of_eq (pts_o1K (F := F) d L _).symm) $$ Ho1
  ihave Ho2 := (Entails.of_eq (pts_o2K (F := F) d L _).symm) $$ Ho2
  ihave Ho3 := (Entails.of_eq (pts_o3K (F := F) d L _).symm) $$ Ho3
  ihave Ho4 := (Entails.of_eq (pts_o4K (F := F) d L _).symm) $$ Ho4
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hb3 := (Entails.of_eq (pts_b3 (F := F) d L _).symm) $$ Hb3
  ihave Hb4 := (Entails.of_eq (pts_b4 (F := F) d L _).symm) $$ Hb4
  ihave Hb5 := (Entails.of_eq (pts_b5 (F := F) d L _).symm) $$ Hb5
  ihave Hb6 := (Entails.of_eq (pts_b6 (F := F) d L _).symm) $$ Hb6
  ihave Hb7 := (Entails.of_eq (pts_b7 (F := F) d L _).symm) $$ Hb7
  ihave Hb8 := (Entails.of_eq (pts_b8 (F := F) d L _).symm) $$ Hb8
  ihave Hb9 := (Entails.of_eq (pts_b9 (F := F) d L _).symm) $$ Hb9
  sl_unfold [cc0__permute_call, k0_part1]
  sl_exec (disch := exact View.amount_pos _ _ (show 0 < S5120.numel by decide))
  sl_for (inv A d L) $$ [Hb0 Hb1 Hb2 Hb3 Hb4 Hb5 Hb6 Hb7 Hb8 Hb9]
  case region =>
    intro t acc
    exact trip A d L hp t acc
  · unfold inv
    iexists f5, f6, f7, f8, f9
    isplitr
    · ipureintro
      exact ⟨Placed.zero _ _ _, Placed.zero _ _ _, Placed.zero _ _ _, Placed.zero _ _ _, Placed.zero _ _ _⟩
    isplitl [Hb0]; · iapply (Entails.of_eq (fetch_b0 (F := F) d L _ _)); iexact Hb0
    isplitl [Hb1]; · iapply (Entails.of_eq (fetch_b1 (F := F) d L _ _)); iexact Hb1
    isplitl [Hb2]; · iapply (Entails.of_eq (fetch_b2 (F := F) d L _ _)); iexact Hb2
    isplitl [Hb3]; · iapply (Entails.of_eq (fetch_b3 (F := F) d L _ _)); iexact Hb3
    isplitl [Hb4]; · iapply (Entails.of_eq (fetch_b4 (F := F) d L _ _)); iexact Hb4
    isplitl [Hb5]; · iexact Hb5
    isplitl [Hb6]; · iexact Hb6
    isplitl [Hb7]; · iexact Hb7
    isplitl [Hb8]; · iexact Hb8
    iexact Hb9
  iintro %_ HI
  unfold inv
  icases HI with ⟨%g5, %g6, %g7, %g8, %g9, %hg, Hb0, Hb1, Hb2, Hb3, Hb4, Hb5, Hb6, Hb7, Hb8, Hb9⟩
  sl_exec (disch := exact View.amount_pos _ _ (show 0 < S160.numel by decide))
  obtain ⟨h5, h6, h7, h8, h9⟩ := hg
  obtain rfl := Placed.eq hp (show Placed 5120 _ _ _ from h5)
  obtain rfl := Placed.eq hp (show Placed 5120 _ _ _ from h6)
  obtain rfl := Placed.eq hp (show Placed 5120 _ _ _ from h7)
  obtain rfl := Placed.eq hp (show Placed 5120 _ _ _ from h8)
  obtain rfl := Placed.eq hp (show Placed 5120 _ _ _ from h9)
  sl_step
  isplitl [HxV HyV HuV HwV HrV Ho0 Ho1 Ho2 Ho3 Ho4]
  · isplitl [HxV HyV HuV HwV HrV]
    · isplitl [HxV]; · iapply (Entails.of_eq (pts_xV (F := F) d L _ _)); iexact HxV
      isplitl [HyV]; · iapply (Entails.of_eq (pts_yV (F := F) d L _ _)); iexact HyV
      isplitl [HuV]; · iapply (Entails.of_eq (pts_uV (F := F) d L _ _)); iexact HuV
      isplitl [HwV]; · iapply (Entails.of_eq (pts_wV (F := F) d L _ _)); iexact HwV
      iapply (Entails.of_eq (pts_rV (F := F) d L _ _)); iexact HrV
    isplitl [Ho0]; · iapply (Entails.of_eq (out_o0K (F := F) d L _ (r0 A d))); iexact Ho0
    isplitl [Ho1]; · iapply (Entails.of_eq (out_o1K (F := F) d L _ (r1 A d))); iexact Ho1
    isplitl [Ho2]; · iapply (Entails.of_eq (out_o2K (F := F) d L _ (r2 A d))); iexact Ho2
    isplitl [Ho3]; · iapply (Entails.of_eq (out_o3K (F := F) d L _ (r3 A d))); iexact Ho3
    iapply (Entails.of_eq (out_o4K (F := F) d L _ (r4 A d))); iexact Ho4
  isplitl [Hb0 Hb1 Hb2 Hb3 Hb4 Hb5 Hb6 Hb7 Hb8 Hb9 Hbufs]
  · isplitr [Hbufs]
    · isplitl [Hb0]; · iexists _; iexact Hb0
      isplitl [Hb1]; · iexists _; iexact Hb1
      isplitl [Hb2]; · iexists _; iexact Hb2
      isplitl [Hb3]; · iexists _; iexact Hb3
      isplitl [Hb4]; · iexists _; iexact Hb4
      isplitl [Hb5]; · iexists _; iexact Hb5
      isplitl [Hb6]; · iexists _; iexact Hb6
      isplitl [Hb7]; · iexists _; iexact Hb7
      isplitl [Hb8]; · iexists _; iexact Hb8
      iexists _; iexact Hb9
    · iexact Hbufs
  isplitl [Hs0 Hs1 Hs2 Hs3 Hs4 Hs5 Hs6 Hs7 Hs8 Hs9 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hs9
    · iexact Hsems
  iexists _; isplitr
  rotate_left
  · iexact HO
  · ipureintro
    intro p hp'
    simp only [Finset.mem_insert] at hp'
    rcases hp' with rfl | rfl | rfl | rfl | rfl | rfl | rfl | rfl | rfl | rfl | h
    all_goals first | exact .inr rfl | exact .inl h

end Permute

end Cert.Proof.Sc

end
-- ==== Proof.Sc.Finalize.lean ====
/-
  The finalize call's task: the keep flags are fetched whole, the task's ranks and scores in their 160 elements; ten groups of sixteen pick
  the flag at each rank and multiply the score by it; the task's elements of the result are written out.
-/
module

public import proofs.«01_k».proof.Proof.Sc.Tile

@[expose] public section

noncomputable section

namespace Cert.Proof.Sc

open Cert.SparseCallsIdeal Cert.SparseCallsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "sV" => (Memref.whole Cert.SparseCallsIdeal.main_v1_scv : Memref Cert.SparseCallsIdeal.sig Kind.scVector Space.hbm Cert.SparseCallsIdeal.S5120 EltTy.f32)
local notation "rV" => (Memref.whole Cert.SparseCallsIdeal.main_arg2_scv : Memref Cert.SparseCallsIdeal.sig Kind.scVector Space.hbm Cert.SparseCallsIdeal.S5120 EltTy.i32)
local notation "kV" => (Memref.whole Cert.SparseCallsIdeal.main_arg3_scv : Memref Cert.SparseCallsIdeal.sig Kind.scVector Space.hbm Cert.SparseCallsIdeal.S5120 EltTy.f32)
local notation "oV" => (Memref.whole Cert.SparseCallsIdeal.main_v12_scv : Memref Cert.SparseCallsIdeal.sig Kind.scVector Space.hbm Cert.SparseCallsIdeal.S5120 EltTy.f32)
local notation "t0" => (Memref.whole Cert.SparseCallsIdeal.cc1_scratch0 : Memref Cert.SparseCallsIdeal.sig Kind.scVector Space.vmem Cert.SparseCallsIdeal.S5120 EltTy.f32)
local notation "t1" => (Memref.whole Cert.SparseCallsIdeal.cc1_scratch1 : Memref Cert.SparseCallsIdeal.sig Kind.scVector Space.vmem Cert.SparseCallsIdeal.S160 EltTy.i32)
local notation "t2" => (Memref.whole Cert.SparseCallsIdeal.cc1_scratch2 : Memref Cert.SparseCallsIdeal.sig Kind.scVector Space.vmem Cert.SparseCallsIdeal.S160 EltTy.f32)
local notation "t3" => (Memref.whole Cert.SparseCallsIdeal.cc1_scratch3 : Memref Cert.SparseCallsIdeal.sig Kind.scVector Space.vmem Cert.SparseCallsIdeal.S160 EltTy.f32)

variable [FloatOps F] (A : Ops F)

section Finalize

variable (d : Dev nD) (L : grid1.Coords)

abbrev cU (L : grid1.Coords) : Fin τ.nSC := (L 0).castLE hcore1
abbrev jU (L : grid1.Coords) : Fin τ.nSub := (L 1).castLE hsub1
/-- The task's chunk. -/
abbrev wU (L : grid1.Coords) : Fin 32 := ⟨2 * (L 1).val + (L 0).val, by
  have h0 : (L 0).val < 2 := (L 0).isLt
  have h1 : (L 1).val < 16 := (L 1).isLt
  omega⟩

/-- The elements the task reads of the ranks and of the scores, and those it writes, as the body spells them. -/
abbrev rowI (L : grid1.Coords) : Rect S5120 := Rect.unit (s := S5120) (k1_off1 L) S160.size (k1_off1_inb L)
abbrev rowO (L : grid1.Coords) : Rect S5120 := Rect.unit (s := S5120) (k1_off2 L) S160.size (k1_off2_inb L)

omit [FloatOps F] in
theorem rowO_eq : rowO L = chunk (wU L) := by
  unfold rowO chunk Rect.part Rect.block
  congr 1 <;> funext a
  · rw [k1_off2_eq]
    match a with
    | 0 =>
      have e : 320 * (L 1).val + 160 * (L 0).val = (2 * (L 1).val + (L 0).val) * 160 := by omega
      simpa [Shape.partIx, Shape.partSize] using e
  · match a with
    | 0 => simp [Shape.partSize]

/-- Where in the whole vector element `x` of the task's 160 stands. -/
theorem rowI_val (x : S160.Idx) : ((rowI L).emb x 0).val = 160 * (wU L).val + (x 0).val := by
  show k1_off1 L 0 + 1 * (x 0).val = _
  rw [k1_off1_eq]
  show 320 * (L 1).val + 160 * (L 0).val + 1 * (x 0).val = 160 * (2 * (L 1).val + (L 0).val) + (x 0).val
  omega
theorem rowO_val (x : S160.Idx) : ((rowO L).emb x 0).val = 160 * (wU L).val + (x 0).val := by
  show k1_off2 L 0 + 1 * (x 0).val = _
  rw [k1_off2_eq]
  show 320 * (L 1).val + 160 * (L 0).val + 1 * (x 0).val = 160 * (2 * (L 1).val + (L 0).val) + (x 0).val
  omega
theorem rowI_emb (x : S160.Idx) : (rowI L).emb x = (rowO L).emb x := idx_ext ((rowI_val L x).trans (rowO_val L x).symm)

abbrev oFK (L : grid1.Coords) : Memref sig .scVector .hbm S160 .f32 := (oV).slice (rowO L) (fun _ => rfl)
omit [FloatOps F] in
theorem set_oFK : (oFK L).view.set = chunkSet (wU L) := by
  show ((oV).view.slice (rowO L)).set = _
  rw [View.set_slice, rowO_eq]; exact Finset.map_refl
omit [FloatOps F] in
theorem pts_oFK (f : Buf (Elt F) (oFLoc d)) :
    ((oFK L).view.loc (V d (cU L) (jU L)) ↦[(oFK L).view.set]{fullShare} f : sProp 𝕄) = oFLoc d ↦[chunkSet (wU L)]{fullShare} f := by
  rw [set_oFK]
omit [FloatOps F] in
theorem ptsF_sV (q : PosShare TreeShare) (f : Buf (Elt F) (scLoc d)) :
    ((sV).view.loc (V d (cU L) (jU L)) ↦[(sV).view.set]{q} f : sProp 𝕄) = scLoc d ↦{q} f := by
  simp only [Memref.view_whole, View.set_whole]
omit [FloatOps F] in
theorem ptsF_rV (q : PosShare TreeShare) (f : Buf (Elt F) (rkLoc d)) :
    ((rV).view.loc (V d (cU L) (jU L)) ↦[(rV).view.set]{q} f : sProp 𝕄) = rkLoc d ↦{q} f := by
  simp only [Memref.view_whole, View.set_whole]
omit [FloatOps F] in
theorem ptsF_kV (q : PosShare TreeShare) (f : Buf (Elt F) (kpLoc d)) :
    ((kV).view.loc (V d (cU L) (jU L)) ↦[(kV).view.set]{q} f : sProp 𝕄) = kpLoc d ↦{q} f := by
  simp only [Memref.view_whole, View.set_whole]
omit [FloatOps F] in
theorem pts_t0 (f : Buf (Elt F) ((V d (cU L) (jU L)).loc cc1_scratch0)) :
    ((t0).view.loc (V d (cU L) (jU L)) ↦{fullShare} f : sProp 𝕄) = (V d (cU L) (jU L)).loc cc1_scratch0 ↦{fullShare} f := rfl
omit [FloatOps F] in
theorem pts_t1 (f : Buf (Elt F) ((V d (cU L) (jU L)).loc cc1_scratch1)) :
    ((t1).view.loc (V d (cU L) (jU L)) ↦{fullShare} f : sProp 𝕄) = (V d (cU L) (jU L)).loc cc1_scratch1 ↦{fullShare} f := rfl
omit [FloatOps F] in
theorem pts_t2 (f : Buf (Elt F) ((V d (cU L) (jU L)).loc cc1_scratch2)) :
    ((t2).view.loc (V d (cU L) (jU L)) ↦{fullShare} f : sProp 𝕄) = (V d (cU L) (jU L)).loc cc1_scratch2 ↦{fullShare} f := rfl
omit [FloatOps F] in
theorem pts_t3 (f : Buf (Elt F) ((V d (cU L) (jU L)).loc cc1_scratch3)) :
    ((t3).view.loc (V d (cU L) (jU L)) ↦{fullShare} f : sProp 𝕄) = (V d (cU L) (jU L)).loc cc1_scratch3 ↦{fullShare} f := rfl

/-- The task's semaphores and scratches. -/
abbrev sems1 : Finset (SemLoc sig) := {.dma cc1_scoped0.sem, .dma cc1_scoped1.sem, .dma cc1_scoped2.sem, .dma cc1_scoped3.sem}
abbrev refs1 : Finset (Ref sig .scVector) := {cc1_scratch0, cc1_scratch1, cc1_scratch2, cc1_scratch3}

omit [FloatOps F] in
theorem sems1_eq (thr : Thread nD τ) : (bigSep sems1 fun s => (semVal (thr, s) 0 : sProp 𝕄))
    = iprop(semVal (thr, .dma cc1_scoped0.sem) 0 ∗ semVal (thr, .dma cc1_scoped1.sem) 0 ∗ semVal (thr, .dma cc1_scoped2.sem) 0 ∗ semVal (thr, .dma cc1_scoped3.sem) 0) := by
  unfold sems1
  rw [SparseCore.bigSep_insert' (by decide), SparseCore.bigSep_insert' (by decide), SparseCore.bigSep_insert' (by decide), bigSep_singleton]
omit [FloatOps F] in
theorem refs1_eq (Φ : Ref sig .scVector → sProp 𝕄) : (bigSep refs1 Φ)
    = iprop(Φ cc1_scratch0 ∗ Φ cc1_scratch1 ∗ Φ cc1_scratch2 ∗ Φ cc1_scratch3) := by
  unfold refs1
  rw [SparseCore.bigSep_insert' (by decide), SparseCore.bigSep_insert' (by decide), SparseCore.bigSep_insert' (by decide), bigSep_singleton]

omit [FloatOps F] in
/-- The scratch memories belong to the subcore that names them. -/
theorem owner_refs1 : ∀ b ∈ refs1, ((Proc.scVector (cU L) (jU L)).devRef b).owner = .proc (.scVector (cU L) (jU L)) := by
  intro b hb
  simp only [refs1, Finset.mem_insert, Finset.mem_singleton] at hb
  rcases hb with rfl | rfl | rfl | rfl <;> rfl

omit [FloatOps F] in
/-- Ranks that lie in the table pass the check of the gather, whatever sixteen of them are read. -/
theorem rank_chk (b1 : Buf (Elt F) ((V d (cU L) (jU L)).loc cc1_scratch1)) (hlt : ∀ x : S160.Idx, (b1 x).toNat < 5120)
    (off : Fin S160.rank → ℕ) (inb : ∀ a, off a + S16.size a ≤ S160.size a) :
    ∀ a x, ((![View.readAt (Elt F) (t1).view (Rect.unit (s := S160) off S16.size inb).toLoadRect b1] : Fin 1 → IVec S16 32) a x).toNat < S5120.size a := fun a x => by
  obtain rfl : a = 0 := Subsingleton.elim _ _
  exact hlt _

/-- Sixteen of the products: each score times the flag at its rank. -/
theorem group_eq
    (b0 : Buf (Elt F) ((V d (cU L) (jU L)).loc cc1_scratch0)) (b1 : Buf (Elt F) ((V d (cU L) (jU L)).loc cc1_scratch1)) (b2 : Buf (Elt F) ((V d (cU L) (jU L)).loc cc1_scratch2))
    (e0 : b0 = A.kp d) (e1 : b1 = fun x => A.rk d ((rowI L).emb x)) (e2 : b2 = fun x => A.sc d ((rowI L).emb x))
    (off : Fin S160.rank → ℕ) (inb : ∀ a, off a + S16.size a ≤ S160.size a)
    (h : ∀ a x, ((![View.readAt (Elt F) (t1).view (Rect.unit (s := S160) off S16.size inb).toLoadRect b1] : Fin 1 → IVec S16 32) a x).toNat < S5120.size a)
    (x : S16.Idx) :
    mulf (View.readAt (Elt F) (t2).view (Rect.unit (s := S160) off S16.size inb).toLoadRect b2)
        (loadIdx (View.read (Elt F) ((t0).access (Rect.whole cc1_scratch0.ty.shape)) b0)
          ![View.readAt (Elt F) (t1).view (Rect.unit (s := S160) off S16.size inb).toLoadRect b1] h) x
      = rF A d ((rowO L).emb ((Rect.unit (s := S160) off S16.size inb).emb x)) := by
  subst e0 e1 e2
  have hr : View.read (Elt F) ((t0).access (Rect.whole cc1_scratch0.ty.shape)) (A.kp d) = A.kp d := Memref.read_access_whole (Elt F) cc1_scratch0 (A.kp d)
  rw [hr, ← rowI_emb L]
  have hpk := picked_at (rk := A.rk d) (v := A.kp d) (r := (rowI L).emb ((Rect.unit (s := S160) off S16.size inb).emb x))
    (idxAt (s := S5120) ![View.readAt (Elt F) (t1).view (Rect.unit (s := S160) off S16.size inb).toLoadRect fun x => A.rk d ((rowI L).emb x)] h x) rfl
  unfold rF
  simp only [mulf]
  rw [hpk]
  rfl

omit [FloatOps F] in
/-- What the write-out leaves in the task's chunk. -/
theorem out_oFK (fo : Buf (Elt F) (oFLoc d)) (w : FVec F S160 .f32) (g : FVec F S5120 .f32) (hw : ∀ x, w x = g ((rowO L).emb x)) :
    ((oFK L).view.loc (V d (cU L) (jU L)) ↦[(oFK L).view.set]{fullShare}
        (oFK L).view.writes (Elt F) fo [⟨Rect.whole S160, w⟩] : sProp 𝕄) = oFLoc d ↦[chunkSet (wU L)]{fullShare} g := by
  rw [← pts_oFK d L]
  refine pointsTo_congr fun i hi => ?_
  obtain ⟨x, -, rfl⟩ := Finset.mem_map.mp hi
  change S160.Idx at x
  rw [View.writes_singleton]
  have hx : (oFK L).view.emb x = ((oFK L).view.slice (Rect.whole S160)).emb x := congrArg (oFK L).view.emb (Rect.emb_whole_apply S160 x).symm
  rw [hx, View.write_emb_of_mem _ _ (Finset.mem_univ _), ← hx]
  exact hw x

set_option maxRecDepth 4000 in
set_option maxHeartbeats 4000000 in
/-- The finalize task on vector subcore `(L 0, L 1)` of device `d`. -/
theorem tile_body1 (hF : (K (F := F)).Facts) (hp : ∀ j, (A.rk d j).toNat < 5120) (O : CellTallies nD τ sig (HIx 2)) (W : Waits sig (HIx 2)) (hO : ∀ g, O g none = 0) :
    iprop(levAts (K (F := F)).L (K (F := F)).lev ∗ emp ∗ go1 A d (wU L)
        ∗ scopedBufs (V d (cU L) (jU L)) ∗ scopedSems0 (V d (cU L) (jU L)) ∗ owes (V d (cU L) (jU L)) O W)
      ⊢ wp frame (wpE (defs₀ (F := F)) 𝒱₀ (V d (cU L) (jU L)) none) Set.univ
          (cc1__finalize_call L sV (Memref.isWhole_whole _) rV (Memref.isWhole_whole _) kV (Memref.isWhole_whole _) oV (Memref.isWhole_whole _) t0 (Memref.isWhole_whole _) t1 (Memref.isWhole_whole _) t2 (Memref.isWhole_whole _) t3 (Memref.isWhole_whole _) cc1_scoped0 cc1_scoped1 cc1_scoped2 cc1_scoped3)
          fun _ => iprop(td1 A d (wU L)
            ∗ scopedBufs (V d (cU L) (jU L)) ∗ scopedSems0 (V d (cU L) (jU L))
            ∗ ∃ W', ⌜∀ p ∈ W', p ∈ W ∨ p.2 = none⌝ ∗ owes (V d (cU L) (jU L)) O W') := by
  rw [(K (F := F)).scopedBufs_V hF d (cU L) (jU L), SparseCore.Cfg.scopedSems0_V (Val := Elt F) d (cU L) (jU L),
    ownSems_part d (cU L) (jU L) sems1 (by decide), ownBufs_part d (cU L) (jU L) refs1 (owner_refs1 L), sems1_eq, refs1_eq]
  unfold go1 td1 reads1 outs1 res1
  iintro ⟨#Hlv, -, ⟨⟨HsV, HrV, HkV⟩, %fo, Ho⟩,
    ⟨⟨⟨%f0, Hb0⟩, ⟨%f1, Hb1⟩, ⟨%f2, Hb2⟩, ⟨%f3, Hb3⟩⟩, Hbufs⟩, ⟨⟨Hs0, Hs1, Hs2, Hs3⟩, Hsems⟩, HO⟩
  ihave Hmw := (show levAts (K (F := F)).L (K (F := F)).lev ⊢ Transfers.MayWaits (V d (cU L) (jU L)) (default : HIx 2) O from
    (K (F := F)).mayWaits_none (thr := V d (cU L) (jU L)) hO) $$ Hlv
  ihave HsV := (Entails.of_eq (ptsF_sV (F := F) d L _ _).symm) $$ HsV
  ihave HrV := (Entails.of_eq (ptsF_rV (F := F) d L _ _).symm) $$ HrV
  ihave HkV := (Entails.of_eq (ptsF_kV (F := F) d L _ _).symm) $$ HkV
  ihave Ho := (Entails.of_eq (pts_oFK (F := F) d L _).symm) $$ Ho
  ihave Hb0 := (Entails.of_eq (pts_t0 (F := F) d L _).symm) $$ Hb0
  ihave Hb1 := (Entails.of_eq (pts_t1 (F := F) d L _).symm) $$ Hb1
  ihave Hb2 := (Entails.of_eq (pts_t2 (F := F) d L _).symm) $$ Hb2
  ihave Hb3 := (Entails.of_eq (pts_t3 (F := F) d L _).symm) $$ Hb3
  sl_unfold [cc1__finalize_call, k1_part1]
  sl_exec (disch := first | exact View.amount_pos _ _ (show 0 < S5120.numel by decide) | exact View.amount_pos _ _ (show 0 < S160.numel by decide))
  generalize hb0 : View.write (Elt F) (t0).view f0 (tile_body1.sl.dma0 A d) Finset.univ = b0
  generalize hb1 : View.write (Elt F) (t1).view f1 (tile_body1.sl.dma0_1 A d L) Finset.univ = b1
  generalize hb2 : View.write (Elt F) (t2).view f2 (tile_body1.sl.dma0_2 A d L) Finset.univ = b2
  have e0 : b0 = A.kp d := by rw [← hb0]; exact View.write_whole_univ _ _ _
  have e1 : b1 = fun x => A.rk d ((rowI L).emb x) := by rw [← hb1]; exact View.write_whole_univ _ _ _
  have e2 : b2 = fun x => A.sc d ((rowI L).emb x) := by rw [← hb2]; exact View.write_whole_univ _ _ _
  have hlt : ∀ x : S160.Idx, (b1 x).toNat < 5120 := by intro x; rw [e1]; exact hp _
  clear hb0 hb1 hb2
  have hchk := rank_chk (F := F) d L b1 hlt
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  have hw : ∀ x, tile_body1.sl.dma3 d L f3 b0 b1 b2 hchk x = rF A d ((rowO L).emb x) := by
    intro x
    unfold tile_body1.sl.dma3 tile_body1.sl.Hb3_10
    unfold tile_body1.sl.r tile_body1.sl.r_1
    refine View.read_writes_apply_of_pieces (t3).view f3 (fun y => rF A d ((rowO L).emb y)) _ ?_ x (View.cover_of_tiled _ ![16] rfl x)
    intro p hpm
    simp only [List.mem_cons, List.not_mem_nil, or_false] at hpm
    rcases hpm with rfl | rfl | rfl | rfl | rfl | rfl | rfl | rfl | rfl | rfl <;> intro x <;>
      exact group_eq A d L b0 b1 b2 e0 e1 e2 _ _ _ x
  sl_step
  isplitl [HsV HrV HkV Ho]
  · isplitl [HsV HrV HkV]
    · isplitl [HsV]; · iapply (Entails.of_eq (ptsF_sV (F := F) d L _ _)); iexact HsV
      isplitl [HrV]; · iapply (Entails.of_eq (ptsF_rV (F := F) d L _ _)); iexact HrV
      iapply (Entails.of_eq (ptsF_kV (F := F) d L _ _)); iexact HkV
    iapply (Entails.of_eq (out_oFK (F := F) d L _ _ (rF A d) hw)); iexact Ho
  isplitl [Hb0 Hb1 Hb2 Hb3 Hbufs]
  · isplitr [Hbufs]
    · isplitl [Hb0]; · iexists _; iexact Hb0
      isplitl [Hb1]; · iexists _; iexact Hb1
      isplitl [Hb2]; · iexists _; iexact Hb2
      iexists _; iexact Hb3
    · iexact Hbufs
  isplitl [Hs0 Hs1 Hs2 Hs3 Hsems]
  · isplitr [Hsems]
    · isplitl [Hs0]; · iexact Hs0
      isplitl [Hs1]; · iexact Hs1
      isplitl [Hs2]; · iexact Hs2
      iexact Hs3
    · iexact Hsems
  iexists _
  isplitr
  rotate_left
  · iexact HO
  ipureintro
  intro p hp
  simp only [Finset.mem_insert] at hp
  rcases hp with rfl | rfl | rfl | rfl | h
  · exact .inr rfl
  · exact .inr rfl
  · exact .inr rfl
  · exact .inr rfl
  · exact .inl h

end Finalize

end Cert.Proof.Sc

end
-- ==== Proof.Sc.Launch.lean ====
/-
  The run of the two SparseCore calls with their host code: @main's host lines, the two launches and the last slice, from any memory whose
  ranks are a permutation, and what the argument and result buffers hold at the end.
-/
module

public import Idealize.ShloMosaic.Lib.Pipeline.Frame
public import proofs.«01_k».proof.Proof.Sc.PermuteRun
public import proofs.«01_k».proof.Proof.Sc.Finalize

@[expose] public section

noncomputable section

namespace Cert.Proof.Sc

open Cert.SparseCallsIdeal Cert.SparseCallsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (A : Ops F)

/-! ## The tasks' obligations -/

omit [FloatOps F] in
theorem obl_post {thr : Thread nD τ} {X B C : sProp 𝕄} {O : CellTallies nD τ sig (HIx 2)} {W : Waits sig (HIx 2)} {q : Fin 2} :
    iprop(X ∗ B ∗ C ∗ ∃ W', ⌜∀ p ∈ W', p ∈ W ∨ p.2 = none⌝ ∗ owes thr O W')
      ⊢ iprop(X ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A task's coordinates on the two grids. -/
def coords0 (c : Fin (grid0.bound 0)) (s : Fin (grid0.bound 1)) : grid0.Coords :=
  fun | 0 => c | 1 => s | ⟨_ + 2, h⟩ => absurd h (Nat.not_lt.2 (Nat.le_add_left _ _))
def coords1 (c : Fin (grid1.bound 0)) (s : Fin (grid1.bound 1)) : grid1.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0__permute_call (coords0 c s) (Memref.whole main_v4_scv) (Memref.isWhole_whole _) (Memref.whole main_v6_scv) (Memref.isWhole_whole _) (Memref.whole main_v8_scv) (Memref.isWhole_whole _) (Memref.whole main_v10_scv) (Memref.isWhole_whole _) (Memref.whole main_arg2_scv) (Memref.isWhole_whole _) (Memref.whole main_v11_0_scv) (Memref.isWhole_whole _) (Memref.whole main_v11_1_scv) (Memref.isWhole_whole _) (Memref.whole main_v11_2_scv) (Memref.isWhole_whole _) (Memref.whole main_v11_3_scv) (Memref.isWhole_whole _) (Memref.whole main_v11_4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scoped0 cc0_scoped1 cc0_scoped2 cc0_scoped3 cc0_scoped4 cc0_scoped5 cc0_scoped6 cc0_scoped7 cc0_scoped8 cc0_scoped9) ⟨⟩ c s := rfl

theorem defs₀_vector1 (c : Fin τ.nSC) (s : Fin τ.nSub) :
    defs₀ (F := F) (.scVector c s) 1 ()
      = SparseCore.onTile hcore1 hsub1 (fun c s => cc1__finalize_call (coords1 c s) (Memref.whole main_v1_scv) (Memref.isWhole_whole _) (Memref.whole main_arg2_scv) (Memref.isWhole_whole _) (Memref.whole main_arg3_scv) (Memref.isWhole_whole _) (Memref.whole main_v12_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scoped0 cc1_scoped1 cc1_scoped2 cc1_scoped3) ⟨⟩ c s := rfl

theorem tileObl0 (hp : ∀ d, Perm (A.rk d)) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 A d (coords0 ⟨_, hci.1⟩ ⟨_, hci.2⟩) facts (hp d) O W hO).trans (wp_mono frame _ _ fun _ => obl_post)
theorem tileObl1 (hp : ∀ d, Perm (A.rk d)) : (K (F := F)).TileObl (D (F := F)) 𝒱 (P A) v₀ 1 := by
  intro d c i O W hO _ _
  simp only [show (P A).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (tile_body1 A d (coords1 ⟨_, hci.1⟩ ⟨_, hci.2⟩) facts (hp d).lt O W hO).trans (wp_mono frame _ _ fun _ => obl_post)

/-! ## What a call takes and gives back, whole -/

omit [FloatOps F] in
theorem tasks_eq (g : Fin 32 → sProp 𝕄) : (bigSep Finset.univ fun c : Fin 2 => bigSep Finset.univ fun i : Fin 16 => g (wid c i)) = bigSep Finset.univ g :=
  (result_chunks g).symm
omit [FloatOps F] in
theorem table_split {ℓ : Loc nD τ sig} (f : Buf (Elt F) ℓ) : (ℓ ↦{fullShare} f : sProp 𝕄) = bigSep Finset.univ fun w : Fin 32 => ℓ ↦{shr w} f :=
  (table_shares f).trans (tasks_eq fun w => ℓ ↦{shr w} f)
omit [FloatOps F] in
theorem o0_split (d : Dev nD) (f : Buf (Elt F) (o0Loc d)) : (o0Loc d ↦{fullShare} f : sProp 𝕄) = bigSep Finset.univ fun w : Fin 32 => o0Loc d ↦[chunkSet w]{fullShare} f :=
  (o0_chunks d f).trans (tasks_eq fun w => o0Loc d ↦[chunkSet w]{fullShare} f)
omit [FloatOps F] in
theorem o0_give (d : Dev nD) (f : Buf (Elt F) (o0Loc d)) :
    (o0Loc d ↦{fullShare} f : sProp 𝕄) ⊢ bigSep Finset.univ fun w : Fin 32 => iprop(∃ f, o0Loc d ↦[chunkSet w]{fullShare} f) := by
  rw [o0_split]
  exact bigSep_mono fun w _ => by
    change (_ : sProp 𝕄) ⊢ _
    iintro H; iexists f; iexact H
omit [FloatOps F] in
theorem o1_split (d : Dev nD) (f : Buf (Elt F) (o1Loc d)) : (o1Loc d ↦{fullShare} f : sProp 𝕄) = bigSep Finset.univ fun w : Fin 32 => o1Loc d ↦[chunkSet w]{fullShare} f :=
  (o1_chunks d f).trans (tasks_eq fun w => o1Loc d ↦[chunkSet w]{fullShare} f)
omit [FloatOps F] in
theorem o1_give (d : Dev nD) (f : Buf (Elt F) (o1Loc d)) :
    (o1Loc d ↦{fullShare} f : sProp 𝕄) ⊢ bigSep Finset.univ fun w : Fin 32 => iprop(∃ f, o1Loc d ↦[chunkSet w]{fullShare} f) := by
  rw [o1_split]
  exact bigSep_mono fun w _ => by
    change (_ : sProp 𝕄) ⊢ _
    iintro H; iexists f; iexact H
omit [FloatOps F] in
theorem o2_split (d : Dev nD) (f : Buf (Elt F) (o2Loc d)) : (o2Loc d ↦{fullShare} f : sProp 𝕄) = bigSep Finset.univ fun w : Fin 32 => o2Loc d ↦[chunkSet w]{fullShare} f :=
  (o2_chunks d f).trans (tasks_eq fun w => o2Loc d ↦[chunkSet w]{fullShare} f)
omit [FloatOps F] in
theorem o2_give (d : Dev nD) (f : Buf (Elt F) (o2Loc d)) :
    (o2Loc d ↦{fullShare} f : sProp 𝕄) ⊢ bigSep Finset.univ fun w : Fin 32 => iprop(∃ f, o2Loc d ↦[chunkSet w]{fullShare} f) := by
  rw [o2_split]
  exact bigSep_mono fun w _ => by
    change (_ : sProp 𝕄) ⊢ _
    iintro H; iexists f; iexact H
omit [FloatOps F] in
theorem o3_split (d : Dev nD) (f : Buf (Elt F) (o3Loc d)) : (o3Loc d ↦{fullShare} f : sProp 𝕄) = bigSep Finset.univ fun w : Fin 32 => o3Loc d ↦[chunkSet w]{fullShare} f :=
  (o3_chunks d f).trans (tasks_eq fun w => o3Loc d ↦[chunkSet w]{fullShare} f)
omit [FloatOps F] in
theorem o3_give (d : Dev nD) (f : Buf (Elt F) (o3Loc d)) :
    (o3Loc d ↦{fullShare} f : sProp 𝕄) ⊢ bigSep Finset.univ fun w : Fin 32 => iprop(∃ f, o3Loc d ↦[chunkSet w]{fullShare} f) := by
  rw [o3_split]
  exact bigSep_mono fun w _ => by
    change (_ : sProp 𝕄) ⊢ _
    iintro H; iexists f; iexact H
omit [FloatOps F] in
theorem o4_split (d : Dev nD) (f : Buf (Elt F) (o4Loc d)) : (o4Loc d ↦{fullShare} f : sProp 𝕄) = bigSep Finset.univ fun w : Fin 32 => o4Loc d ↦[chunkSet w]{fullShare} f :=
  (o4_chunks d f).trans (tasks_eq fun w => o4Loc d ↦[chunkSet w]{fullShare} f)
omit [FloatOps F] in
theorem o4_give (d : Dev nD) (f : Buf (Elt F) (o4Loc d)) :
    (o4Loc d ↦{fullShare} f : sProp 𝕄) ⊢ bigSep Finset.univ fun w : Fin 32 => iprop(∃ f, o4Loc d ↦[chunkSet w]{fullShare} f) := by
  rw [o4_split]
  exact bigSep_mono fun w _ => by
    change (_ : sProp 𝕄) ⊢ _
    iintro H; iexists f; iexact H
omit [FloatOps F] in
theorem oF_split (d : Dev nD) (f : Buf (Elt F) (oFLoc d)) : (oFLoc d ↦{fullShare} f : sProp 𝕄) = bigSep Finset.univ fun w : Fin 32 => oFLoc d ↦[chunkSet w]{fullShare} f :=
  (oF_chunks d f).trans (tasks_eq fun w => oFLoc d ↦[chunkSet w]{fullShare} f)
omit [FloatOps F] in
theorem oF_give (d : Dev nD) (f : Buf (Elt F) (oFLoc d)) :
    (oFLoc d ↦{fullShare} f : sProp 𝕄) ⊢ bigSep Finset.univ fun w : Fin 32 => iprop(∃ f, oFLoc d ↦[chunkSet w]{fullShare} f) := by
  rw [oF_split]
  exact bigSep_mono fun w _ => by
    change (_ : sProp 𝕄) ⊢ _
    iintro H; iexists f; iexact H

theorem st0_of (d : Dev nD) (f0 : Buf (Elt F) (o0Loc d)) (f1 : Buf (Elt F) (o1Loc d)) (f2 : Buf (Elt F) (o2Loc d)) (f3 : Buf (Elt F) (o3Loc d)) (f4 : Buf (Elt F) (o4Loc d)) :
    iprop((xaPts A d fullShare ∗ yaPts A d fullShare ∗ xbPts A d fullShare ∗ ybPts A d fullShare ∗ rkPts A d fullShare)
        ∗ (o0Loc d ↦{fullShare} f0) ∗ (o1Loc d ↦{fullShare} f1) ∗ (o2Loc d ↦{fullShare} f2) ∗ (o3Loc d ↦{fullShare} f3) ∗ (o4Loc d ↦{fullShare} f4))
      ⊢ (bigSep Finset.univ fun c : Fin ((K (F := F)).nCore 0) => (P A).st 0 d c : sProp 𝕄) := by
  refine BI.Entails.trans ?_ (Entails.of_eq (tasks_eq (F := F) fun w => go0 A d w).symm)
  unfold go0 reads0 outs0 xaPts yaPts xbPts ybPts rkPts
  simp only [bigSep_sep']
  change (_ : sProp 𝕄) ⊢ _
  iintro ⟨⟨Hx, Hy, Hu, Hw, Hr⟩, H0, H1, H2, H3, H4⟩
  isplitl [Hx Hy Hu Hw Hr]
  · isplitl [Hx]; · iapply (Entails.of_eq (table_split (F := F) _)); iexact Hx
    isplitl [Hy]; · iapply (Entails.of_eq (table_split (F := F) _)); iexact Hy
    isplitl [Hu]; · iapply (Entails.of_eq (table_split (F := F) _)); iexact Hu
    isplitl [Hw]; · iapply (Entails.of_eq (table_split (F := F) _)); iexact Hw
    iapply (Entails.of_eq (table_split (F := F) _)); iexact Hr
  isplitl [H0]; · iapply (o0_give (F := F) d f0); iexact H0
  isplitl [H1]; · iapply (o1_give (F := F) d f1); iexact H1
  isplitl [H2]; · iapply (o2_give (F := F) d f2); iexact H2
  isplitl [H3]; · iapply (o3_give (F := F) d f3); iexact H3
  iapply (o4_give (F := F) d f4); iexact H4
theorem dn0_to (d : Dev nD) :
    (bigSep Finset.univ fun c : Fin ((K (F := F)).nCore 0) => (P A).dn 0 d c : sProp 𝕄)
      ⊢ iprop((xaPts A d fullShare ∗ yaPts A d fullShare ∗ xbPts A d fullShare ∗ ybPts A d fullShare ∗ rkPts A d fullShare)
        ∗ (o0Loc d ↦{fullShare} r0 A d) ∗ (o1Loc d ↦{fullShare} r1 A d) ∗ (o2Loc d ↦{fullShare} r2 A d) ∗ (o3Loc d ↦{fullShare} r3 A d) ∗ (o4Loc d ↦{fullShare} r4 A d)) := by
  refine BI.Entails.trans (Entails.of_eq (tasks_eq (F := F) fun w => td0 A d w)) ?_
  unfold td0 reads0 res0 xaPts yaPts xbPts ybPts rkPts
  simp only [bigSep_sep']
  change (_ : sProp 𝕄) ⊢ _
  iintro ⟨⟨Hx, Hy, Hu, Hw, Hr⟩, H0, H1, H2, H3, H4⟩
  isplitl [Hx Hy Hu Hw Hr]
  · isplitl [Hx]; · iapply (Entails.of_eq (table_split (F := F) _).symm); iexact Hx
    isplitl [Hy]; · iapply (Entails.of_eq (table_split (F := F) _).symm); iexact Hy
    isplitl [Hu]; · iapply (Entails.of_eq (table_split (F := F) _).symm); iexact Hu
    isplitl [Hw]; · iapply (Entails.of_eq (table_split (F := F) _).symm); iexact Hw
    iapply (Entails.of_eq (table_split (F := F) _).symm); iexact Hr
  isplitl [H0]; · iapply (Entails.of_eq (o0_split (F := F) d _).symm); iexact H0
  isplitl [H1]; · iapply (Entails.of_eq (o1_split (F := F) d _).symm); iexact H1
  isplitl [H2]; · iapply (Entails.of_eq (o2_split (F := F) d _).symm); iexact H2
  isplitl [H3]; · iapply (Entails.of_eq (o3_split (F := F) d _).symm); iexact H3
  iapply (Entails.of_eq (o4_split (F := F) d _).symm); iexact H4
theorem st1_of (d : Dev nD) (f : Buf (Elt F) (oFLoc d)) :
    iprop((scPts A d fullShare ∗ rkPts A d fullShare ∗ kpPts A d fullShare) ∗ (oFLoc d ↦{fullShare} f))
      ⊢ (bigSep Finset.univ fun c : Fin ((K (F := F)).nCore 1) => (P A).st 1 d c : sProp 𝕄) := by
  refine BI.Entails.trans ?_ (Entails.of_eq (tasks_eq (F := F) fun w => go1 A d w).symm)
  unfold go1 reads1 outs1 scPts rkPts kpPts
  simp only [bigSep_sep']
  change (_ : sProp 𝕄) ⊢ _
  iintro ⟨⟨Hs, Hr, Hk⟩, Ho⟩
  isplitl [Hs Hr Hk]
  · isplitl [Hs]; · iapply (Entails.of_eq (table_split (F := F) _)); iexact Hs
    isplitl [Hr]; · iapply (Entails.of_eq (table_split (F := F) _)); iexact Hr
    iapply (Entails.of_eq (table_split (F := F) _)); iexact Hk
  iapply (oF_give (F := F) d f); iexact Ho
theorem dn1_to (d : Dev nD) :
    (bigSep Finset.univ fun c : Fin ((K (F := F)).nCore 1) => (P A).dn 1 d c : sProp 𝕄)
      ⊢ iprop((scPts A d fullShare ∗ rkPts A d fullShare ∗ kpPts A d fullShare) ∗ (oFLoc d ↦{fullShare} rF A d)) := by
  refine BI.Entails.trans (Entails.of_eq (tasks_eq (F := F) fun w => td1 A d w)) ?_
  unfold td1 reads1 res1 scPts rkPts kpPts
  simp only [bigSep_sep']
  change (_ : sProp 𝕄) ⊢ _
  iintro ⟨⟨Hs, Hr, Hk⟩, Ho⟩
  isplitl [Hs Hr Hk]
  · isplitl [Hs]; · iapply (Entails.of_eq (table_split (F := F) _).symm); iexact Hs
    isplitl [Hr]; · iapply (Entails.of_eq (table_split (F := F) _).symm); iexact Hr
    iapply (Entails.of_eq (table_split (F := F) _).symm); iexact Hk
  iapply (Entails.of_eq (oF_split (F := F) d _).symm); iexact Ho

end Cert.Proof.Sc

end
-- ==== Proof.Sc.Run.lean ====
/-
  The run of @main: the host lines, the two SparseCore calls, the last slice; from any memory whose ranks are a permutation every run ends
  with the arguments as they were and the six results at their values.
-/
module

public import Idealize.ShloMosaic.Lib.Pipeline.Frame
public import proofs.«01_k».proof.Proof.Sc.Launch

@[expose] public section

noncomputable section

namespace Cert.Proof.Sc

open Cert.SparseCallsIdeal Cert.SparseCallsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-- @main's host operations before the calls and after them. -/
def opsA : List (HloOp τ sig (Elt F)) :=
  [StableHlo.nullary main_cst (constant S_ .f32 0xBF800000#32),
   StableHlo.unary main_cst main_v0 (broadcastInDim S120 ![] bcast_S_S120 : (⟨S_, .f32⟩ : BufTy).Contents (Elt F) → (⟨S120, .f32⟩ : BufTy).Contents (Elt F)),
   StableHlo.binary main_arg1 main_v0 main_v1 ((fun a b => concatenate S5120 0 [⟨S5000, a⟩, ⟨S120, b⟩] concatenates_S5000_S120_S5120_d0) : (⟨S5000, .f32⟩ : BufTy).Contents (Elt F) → (⟨S120, .f32⟩ : BufTy).Contents (Elt F) → (⟨S5120, .f32⟩ : BufTy).Contents (Elt F)),
   StableHlo.nullary main_c (constantI S_ 32 0#32),
   StableHlo.TRef.unary (.of main_c : StableHlo.TRef sig ⟨S_, .i32⟩) main_call0.v0 (sitofp .f32),
   StableHlo.TRef.binary (.of main_arg0 : StableHlo.TRef sig ⟨S5000x4, .f32⟩) main_call0.v0 main_call0.v1 (fun x v => pad S5120x4 ![0, 0] ![120, 0] ![0, 0] x v pads_S5000x4_S5120x4_01200_000 h_S_),
   StableHlo.unary main_v2 main_v3 ((extractStridedSlice S5120x1 ![0, 0] · slices_S5120x4_S5120x1_0_0) : (⟨S5120x4, .f32⟩ : BufTy).Contents (Elt F) → (⟨S5120x1, .f32⟩ : BufTy).Contents (Elt F)),
   StableHlo.reshape main_v3 main_v4 (rfl : (.f32 : EltTy) = .f32) shapeCasts_S5120x1_S5120,
   StableHlo.unary main_v2 main_v5 ((extractStridedSlice S5120x1 ![0, 1] · slices_S5120x4_S5120x1_0_1) : (⟨S5120x4, .f32⟩ : BufTy).Contents (Elt F) → (⟨S5120x1, .f32⟩ : BufTy).Contents (Elt F)),
   StableHlo.reshape main_v5 main_v6 (rfl : (.f32 : EltTy) = .f32) shapeCasts_S5120x1_S5120,
   StableHlo.unary main_v2 main_v7 ((extractStridedSlice S5120x1 ![0, 2] · slices_S5120x4_S5120x1_0_2) : (⟨S5120x4, .f32⟩ : BufTy).Contents (Elt F) → (⟨S5120x1, .f32⟩ : BufTy).Contents (Elt F)),
   StableHlo.reshape main_v7 main_v8 (rfl : (.f32 : EltTy) = .f32) shapeCasts_S5120x1_S5120,
   StableHlo.unary main_v2 main_v9 ((extractStridedSlice S5120x1 ![0, 3] · slices_S5120x4_S5120x1_0_3) : (⟨S5120x4, .f32⟩ : BufTy).Contents (Elt F) → (⟨S5120x1, .f32⟩ : BufTy).Contents (Elt F)),
   StableHlo.reshape main_v9 main_v10 (rfl : (.f32 : EltTy) = .f32) shapeCasts_S5120x1_S5120]
def opB : HloOp τ sig (Elt F) := StableHlo.unary main_v12 main_v13 ((extractStridedSlice S5000 ![0] · slices_S5120_S5000_0) : (⟨S5120, .f32⟩ : BufTy).Contents (Elt F) → (⟨S5000, .f32⟩ : BufTy).Contents (Elt F))

theorem main_eq (d : Dev nD) : main (F := F) d = (StableHlo.seq opsA >>= fun _ => (sc (F := F)).run d 0 >>= fun _ => (sc (F := F)).run d 1 >>= fun _ =>
    hlo rfl opB (fun _ => .ret (⟨⟩ : PUnit)) >>= fun _ => pure (⟨⟩ : PUnit)) := by
  simp only [main, opsA, opB, fn_pad.body, StableHlo.seq, bind_assoc, pure_bind]

variable (m : (ℓ : Loc nD τ sig) → Buf (Elt F) ℓ) (ρ : Dev nD → PrngReg)

/-- What the buffers hold at launch, and when the host lines before the calls have run. -/
def V0 (d : Dev nD) : Valuation τ sig (Elt F) := fun b => m (d, b)
def V1 (d : Dev nD) : Valuation τ sig (Elt F) := StableHlo.after opsA (V0 m d)

/-- The operands of the two calls. -/
def opsOf : Ops F where
  xa d := V1 m d (Proc.devRef .tc main_v4)
  ya d := V1 m d (Proc.devRef .tc main_v6)
  xb d := V1 m d (Proc.devRef .tc main_v8)
  yb d := V1 m d (Proc.devRef .tc main_v10)
  rk d := m (rkLoc d)
  sc d := V1 m d (Proc.devRef .tc main_v1)
  kp d := m (kpLoc d)

theorem V1_arg0 (d : Dev nD) : V1 m d (Proc.devRef .tc main_arg0) = m ((SparseCore.T d).loc main_arg0) := by unfold V1 opsA; after_results; rfl
theorem V1_arg1 (d : Dev nD) : V1 m d (Proc.devRef .tc main_arg1) = m ((SparseCore.T d).loc main_arg1) := by unfold V1 opsA; after_results; rfl
theorem V1_arg2 (d : Dev nD) : V1 m d (Proc.devRef .tc main_arg2) = m (rkLoc d) := by unfold V1 opsA; after_results; rfl
theorem V1_arg3 (d : Dev nD) : V1 m d (Proc.devRef .tc main_arg3) = m (kpLoc d) := by unfold V1 opsA; after_results; rfl

/-- The TensorCore's buffers the calls and the last operation use, out of all of them. -/
abbrev used : Finset (DevRef τ sig) :=
  {Proc.devRef .tc main_v4, Proc.devRef .tc main_v6, Proc.devRef .tc main_v8, Proc.devRef .tc main_v10, Proc.devRef .tc main_arg2,
   Proc.devRef .tc main_v11_0, Proc.devRef .tc main_v11_1, Proc.devRef .tc main_v11_2, Proc.devRef .tc main_v11_3, Proc.devRef .tc main_v11_4,
   Proc.devRef .tc main_v1, Proc.devRef .tc main_arg3, Proc.devRef .tc main_v12, Proc.devRef .tc main_v13, Proc.devRef .tc main_arg0, Proc.devRef .tc main_arg1}

theorem used_sub : used ⊆ Pipeline.ucRefs τ sig := by decide
theorem opsA_bufs : ∀ op ∈ opsA (F := F), op.bufs ⊆ Pipeline.ucRefs τ sig := by
  unfold opsA
  simp only [List.forall_mem_cons, List.not_mem_nil, false_imp_iff, implies_true, _root_.and_true]
  refine ⟨Pipeline.sub_ucRefs _ (StableHlo.nullary_bufs_sub ..), Pipeline.sub_ucRefs _ (StableHlo.unary_bufs_sub ..), Pipeline.sub_ucRefs _ (StableHlo.binary_bufs_sub ..), Pipeline.sub_ucRefs _ (StableHlo.nullary_bufs_sub ..), ?_, ?_, Pipeline.sub_ucRefs _ (StableHlo.unary_bufs_sub ..), Pipeline.sub_ucRefs _ (StableHlo.reshape_bufs_sub ..), Pipeline.sub_ucRefs _ (StableHlo.unary_bufs_sub ..), Pipeline.sub_ucRefs _ (StableHlo.reshape_bufs_sub ..), Pipeline.sub_ucRefs _ (StableHlo.unary_bufs_sub ..), Pipeline.sub_ucRefs _ (StableHlo.reshape_bufs_sub ..), Pipeline.sub_ucRefs _ (StableHlo.unary_bufs_sub ..), Pipeline.sub_ucRefs _ (StableHlo.reshape_bufs_sub ..)⟩
  · exact Pipeline.sub_ucRefs _ (StableHlo.unary_bufs_sub ..)
  · exact Pipeline.sub_ucRefs _ (StableHlo.binary_bufs_sub ..)
theorem opsA_fresh : ∀ op ∈ opsA (F := F), op.fresh = ∅ := by
  unfold opsA
  simp only [List.forall_mem_cons, List.not_mem_nil, false_imp_iff, implies_true, _root_.and_true]
  exact ⟨rfl, rfl, rfl, rfl, rfl, rfl, rfl, rfl, rfl, rfl, rfl, rfl, rfl, rfl⟩

omit [FloatOps F] in
theorem held_used (d : Dev nD) (W : Valuation τ sig (Elt F)) :
    (StableHlo.held (SparseCore.T d) used W : sProp 𝕄) = iprop(((SparseCore.T d).loc main_v4 ↦{fullShare} W (Proc.devRef .tc main_v4)) ∗ ((SparseCore.T d).loc main_v6 ↦{fullShare} W (Proc.devRef .tc main_v6)) ∗ ((SparseCore.T d).loc main_v8 ↦{fullShare} W (Proc.devRef .tc main_v8)) ∗ ((SparseCore.T d).loc main_v10 ↦{fullShare} W (Proc.devRef .tc main_v10)) ∗ ((SparseCore.T d).loc main_arg2 ↦{fullShare} W (Proc.devRef .tc main_arg2)) ∗ ((SparseCore.T d).loc main_v11_0 ↦{fullShare} W (Proc.devRef .tc main_v11_0)) ∗ ((SparseCore.T d).loc main_v11_1 ↦{fullShare} W (Proc.devRef .tc main_v11_1)) ∗ ((SparseCore.T d).loc main_v11_2 ↦{fullShare} W (Proc.devRef .tc main_v11_2)) ∗ ((SparseCore.T d).loc main_v11_3 ↦{fullShare} W (Proc.devRef .tc main_v11_3)) ∗ ((SparseCore.T d).loc main_v11_4 ↦{fullShare} W (Proc.devRef .tc main_v11_4)) ∗ ((SparseCore.T d).loc main_v1 ↦{fullShare} W (Proc.devRef .tc main_v1)) ∗ ((SparseCore.T d).loc main_arg3 ↦{fullShare} W (Proc.devRef .tc main_arg3)) ∗ ((SparseCore.T d).loc main_v12 ↦{fullShare} W (Proc.devRef .tc main_v12)) ∗ ((SparseCore.T d).loc main_v13 ↦{fullShare} W (Proc.devRef .tc main_v13)) ∗ ((SparseCore.T d).loc main_arg0 ↦{fullShare} W (Proc.devRef .tc main_arg0)) ∗ ((SparseCore.T d).loc main_arg1 ↦{fullShare} W (Proc.devRef .tc main_arg1))) := by
  unfold StableHlo.held used
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The last operation's buffers. -/
abbrev last : Finset (DevRef τ sig) := {Proc.devRef .tc main_v12, Proc.devRef .tc main_v13}
def V2 (d : Dev nD) : Valuation τ sig (Elt F) := Function.update (V1 m d) (Proc.devRef .tc main_v12) (rF (opsOf m) d)
theorem V2_v12 (d : Dev nD) : V2 m d (Proc.devRef .tc main_v12) = rF (opsOf m) d := Function.update_self _ _ _
theorem V2_v13 (d : Dev nD) : V2 m d (Proc.devRef .tc main_v13) = V1 m d (Proc.devRef .tc main_v13) := Function.update_of_ne (by decide) _ _
omit [FloatOps F] in
theorem held_last (d : Dev nD) (W : Valuation τ sig (Elt F)) :
    (StableHlo.held (SparseCore.T d) last W : sProp 𝕄) = iprop((oFLoc d ↦{fullShare} W (Proc.devRef .tc main_v12)) ∗ ((SparseCore.T d).loc main_v13 ↦{fullShare} W (Proc.devRef .tc main_v13))) := by
  unfold StableHlo.held last
  rw [SparseCore.bigSep_insert' (by decide), bigSep_singleton]

/-- The last result: the first 5000 elements of what the finalize call leaves. -/
def rS (d : Dev nD) : FVec F S5000 .f32 := extractStridedSlice S5000 ![0] (rF (opsOf m) d) slices_S5120_S5000_0

theorem opB_v13 (d : Dev nD) : (opB (F := F)).result (V2 m d) (Proc.devRef .tc main_v13) = rS m d := by
  unfold opB
  after_results
  rw [V2_v12]
  rfl

/-- What @main leaves: the arguments at their launch contents, the results at their values. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ (rkLoc d ↦{fullShare} m (rkLoc d)) ∗ (kpLoc d ↦{fullShare} m (kpLoc d))
    ∗ (o0Loc d ↦{fullShare} r0 (opsOf m) d) ∗ (o1Loc d ↦{fullShare} r1 (opsOf m) d) ∗ (o2Loc d ↦{fullShare} r2 (opsOf m) d)
    ∗ (o3Loc d ↦{fullShare} r3 (opsOf m) d) ∗ (o4Loc d ↦{fullShare} r4 (opsOf m) d) ∗ ((SparseCore.T d).loc main_v13 ↦{fullShare} rS m d))

theorem hmain (κ : GSem nD τ sig → ℕ) (d : Dev nD) :
    iprop((K (F := F)).ctx EH (P (opsOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [main_eq, show (unscopedBufs d (fun b => m ((SparseCore.T d).loc b)) : sProp 𝕄) = StableHlo.held (SparseCore.T d) (Pipeline.ucRefs τ sig) (V0 m d) from
    Pipeline.unscopedBufs_held d (V0 m d)]
  iintro ⟨#Hctx, Hst, ⟨Hb, Hheld, Hts, -⟩, -⟩
  iapply (StableHlo.wp_seq 𝒱 none Set.univ d (Pipeline.ucRefs τ sig) _ opsA opsA_bufs opsA_fresh (V0 m d)) $$ [Hb Hheld]
  · isplitl [Hb]; · iexact Hb
    iexact Hheld
  iintro ⟨Hb, Hheld⟩
  ihave Hh := (show (StableHlo.held d.tc (Pipeline.ucRefs τ sig) (StableHlo.after opsA (V0 m d)) : sProp 𝕄) ⊢ _ from
    Entails.of_eq ((StableHlo.held_sub_split (SparseCore.T d) used_sub (V1 m d)).trans (congrArg (fun X => iprop(X ∗ _)) (held_used (F := F) d (V1 m d))))) $$ Hheld
  icases Hh with ⟨⟨Hx, Hy, Hu, Hw, Hr, H0, H1, H2, H3, H4, Hs, Hk, HF, HS, Ha0, Ha1⟩, -⟩
  rw [V1_arg0, V1_arg1, V1_arg2, V1_arg3]
  simp only [wp_bind]
  iapply ((K (F := F)).wp_run (D (F := F)) 𝒱 (EH := EH) (P := P (opsOf m)) κ d 0) $$ [Hst Hx Hy Hu Hw Hr H0 H1 H2 H3 H4 Hs Hk HF HS Ha0 Ha1 Hb Hts]
  isplitr; · iexact Hctx
  isplitl [Hst]; · iexact Hst
  isplitl [Hx Hy Hu Hw Hr H0 H1 H2 H3 H4]
  · iapply (st0_of (opsOf m) d _ _ _ _ _)
    isplitl [Hx Hy Hu Hw Hr]
    · isplitl [Hx]; · iexact Hx
      isplitl [Hy]; · iexact Hy
      isplitl [Hu]; · iexact Hu
      isplitl [Hw]; · iexact Hw
      iexact Hr
    isplitl [H0]; · iexact H0
    isplitl [H1]; · iexact H1
    isplitl [H2]; · iexact H2
    isplitl [H3]; · iexact H3
    iexact H4
  iintro ⟨Hst, Hdn⟩
  ihave Hdn := (dn0_to (opsOf m) d) $$ Hdn
  icases Hdn with ⟨⟨-, -, -, -, Hr⟩, H0, H1, H2, H3, H4⟩
  iapply ((K (F := F)).wp_run (D (F := F)) 𝒱 (EH := EH) (P := P (opsOf m)) κ d 1) $$ [Hst Hr H0 H1 H2 H3 H4 Hs Hk HF HS Ha0 Ha1 Hb Hts]
  isplitr; · iexact Hctx
  isplitl [Hst]; · iexact Hst
  isplitl [Hr Hs Hk HF]
  · iapply (st1_of (opsOf m) d _)
    isplitl [Hr Hs Hk]
    · isplitl [Hs]; · iexact Hs
      isplitl [Hr]; · iexact Hr
      iexact Hk
    iexact HF
  iintro ⟨Hst, Hdn⟩
  ihave Hdn := (dn1_to (opsOf m) d) $$ Hdn
  icases Hdn with ⟨⟨-, Hr, Hk⟩, HF⟩
  iapply (StableHlo.wp_hlo_within 𝒱 (SparseCore.T d) none Set.univ (op := opB) (S := last) (show ({Proc.devRef .tc main_v12, Proc.devRef .tc main_v13} : Finset (DevRef τ sig)) ⊆ last by decide) (V := V2 m d)) $$ [Hb HF HS]
  · isplitl [Hb]; · iexact Hb
    rw [held_last, V2_v12, V2_v13]
    isplitl [HF]; · iexact HF
    iexact HS
  iintro ⟨Hb, Hh⟩
  ihave Hh := (Entails.of_eq (held_last (F := F) d _)) $$ Hh
  icases Hh with ⟨-, HS⟩
  rw [opB_v13]
  simp only [wp_pure, wp_ret]
  imodintro; imodintro
  isplitl [Hst]; · iexact Hst
  isplitr [Hb Hts]
  · isplitl [Ha0]; · iexact Ha0
    isplitl [Ha1]; · iexact Ha1
    isplitl [Hr]; · iexact Hr
    isplitl [Hk]; · iexact Hk
    isplitl [H0]; · iexact H0
    isplitl [H1]; · iexact H1
    isplitl [H2]; · iexact H2
    isplitl [H3]; · iexact H3
    isplitl [H4]; · iexact H4
    iexact HS
  isplitl [Hb] <;> iassumption

omit [FloatOps F] in
/-- A whole buffer held at contents `f` is at `f` in the state. -/
theorem agree_whole (s' : Phys nD τ sig (Elt F)) (ℓ : Loc nD τ sig) (f : Buf (Elt F) ℓ) :
    (iprop((ℓ ↦{fullShare} f) ∗ SI s') : sProp 𝕄) ⊢ ⌜s'.mem.mem ℓ = f⌝ := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

omit [FloatOps F] in
/-- Two pure facts that one resource gives, together. -/
theorem pures {R : sProp 𝕄} {a b : Prop} (ha : R ⊢ ⌜a⌝) (hb : R ⊢ ⌜b⌝) : R ⊢ ⌜a ∧ b⌝ :=
  by
  have h : R ⊢ iprop(⌜a⌝ ∧ ⌜b⌝) := BIClass.and_intro ha hb
  refine h.trans ?_
  iintro ⟨%x, %y⟩
  ipureintro; exact ⟨x, y⟩

/-- What a final memory says of device `d`. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1) ∧ s'.mem.mem (rkLoc d) = m (rkLoc d) ∧ s'.mem.mem (kpLoc d) = m (kpLoc d) ∧ s'.mem.mem (o0Loc d) = r0 (opsOf m) d ∧ s'.mem.mem (o1Loc d) = r1 (opsOf m) d ∧ s'.mem.mem (o2Loc d) = r2 (opsOf m) d ∧ s'.mem.mem (o3Loc d) = r3 (opsOf m) d ∧ s'.mem.mem (o4Loc d) = r4 (opsOf m) d ∧ s'.mem.mem ((SparseCore.T d).loc main_v13) = rS m d

theorem hfin (d : Dev nD) (s' : Phys nD τ sig (Elt F)) : iprop(FIN m d ∗ SI s') ⊢ (⌜fq m d s'⌝ : sProp 𝕄) := by
  have key : ∀ {ℓ : Loc nD τ sig} {f : Buf (Elt F) ℓ} {R : sProp 𝕄}, (R ⊢ iprop((ℓ ↦{fullShare} f) ∗ SI s')) → (R ⊢ ⌜s'.mem.mem ℓ = f⌝) :=
    fun h => h.trans (agree_whole s' _ _)
  have h0 : iprop(FIN m d ∗ SI s') ⊢ (⌜s'.mem.mem ((SparseCore.T d).loc main_arg0) = m ((SparseCore.T d).loc main_arg0)⌝ : sProp 𝕄) := key (by
    iintro ⟨⟨Ha0, -, -, -, -, -, -, -, -, -⟩, HSI⟩
    isplitl [Ha0] <;> iassumption)
  have h1 : iprop(FIN m d ∗ SI s') ⊢ (⌜s'.mem.mem ((SparseCore.T d).loc main_arg1) = m ((SparseCore.T d).loc main_arg1)⌝ : sProp 𝕄) := key (by
    iintro ⟨⟨-, Ha1, -, -, -, -, -, -, -, -⟩, HSI⟩
    isplitl [Ha1] <;> iassumption)
  have h2 : iprop(FIN m d ∗ SI s') ⊢ (⌜s'.mem.mem (rkLoc d) = m (rkLoc d)⌝ : sProp 𝕄) := key (by
    iintro ⟨⟨-, -, Hr, -, -, -, -, -, -, -⟩, HSI⟩
    isplitl [Hr] <;> iassumption)
  have h3 : iprop(FIN m d ∗ SI s') ⊢ (⌜s'.mem.mem (kpLoc d) = m (kpLoc d)⌝ : sProp 𝕄) := key (by
    iintro ⟨⟨-, -, -, Hk, -, -, -, -, -, -⟩, HSI⟩
    isplitl [Hk] <;> iassumption)
  have h4 : iprop(FIN m d ∗ SI s') ⊢ (⌜s'.mem.mem (o0Loc d) = r0 (opsOf m) d⌝ : sProp 𝕄) := key (by
    iintro ⟨⟨-, -, -, -, H0, -, -, -, -, -⟩, HSI⟩
    isplitl [H0] <;> iassumption)
  have h5 : iprop(FIN m d ∗ SI s') ⊢ (⌜s'.mem.mem (o1Loc d) = r1 (opsOf m) d⌝ : sProp 𝕄) := key (by
    iintro ⟨⟨-, -, -, -, -, H1, -, -, -, -⟩, HSI⟩
    isplitl [H1] <;> iassumption)
  have h6 : iprop(FIN m d ∗ SI s') ⊢ (⌜s'.mem.mem (o2Loc d) = r2 (opsOf m) d⌝ : sProp 𝕄) := key (by
    iintro ⟨⟨-, -, -, -, -, -, H2, -, -, -⟩, HSI⟩
    isplitl [H2] <;> iassumption)
  have h7 : iprop(FIN m d ∗ SI s') ⊢ (⌜s'.mem.mem (o3Loc d) = r3 (opsOf m) d⌝ : sProp 𝕄) := key (by
    iintro ⟨⟨-, -, -, -, -, -, -, H3, -, -⟩, HSI⟩
    isplitl [H3] <;> iassumption)
  have h8 : iprop(FIN m d ∗ SI s') ⊢ (⌜s'.mem.mem (o4Loc d) = r4 (opsOf m) d⌝ : sProp 𝕄) := key (by
    iintro ⟨⟨-, -, -, -, -, -, -, -, H4, -⟩, HSI⟩
    isplitl [H4] <;> iassumption)
  have h9 : iprop(FIN m d ∗ SI s') ⊢ (⌜s'.mem.mem ((SparseCore.T d).loc main_v13) = rS m d⌝ : sProp 𝕄) := key (by
    iintro ⟨⟨-, -, -, -, -, -, -, -, -, HS⟩, HSI⟩
    isplitl [HS] <;> iassumption)
  exact pures h0 (pures h1 (pures h2 (pures h3 (pures h4 (pures h5 (pures h6 (pures h7 (pures h8 h9))))))))

/-! ## The run -/

def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1) ∧ r.2.mem (rkLoc d) = m (rkLoc d) ∧ r.2.mem (kpLoc d) = m (kpLoc d) ∧ r.2.mem (o0Loc d) = r0 (opsOf m) d ∧ r.2.mem (o1Loc d) = r1 (opsOf m) d ∧ r.2.mem (o2Loc d) = r2 (opsOf m) d ∧ r.2.mem (o3Loc d) = r3 (opsOf m) d ∧ r.2.mem (o4Loc d) = r4 (opsOf m) d ∧ r.2.mem ((SparseCore.T d).loc main_v13) = rS m d) ∧ r.2.sem = fun _ => 0

/-- From a memory whose ranks are a permutation every run of the two calls ends, with the results at their values. -/
theorem run_main [∀ e, Nonempty (Elt F e)] (hp : ∀ d, Perm (m (rkLoc d))) :
    θ_run (Cert.SparseCallsIdeal.defs (F := F)) (Cert.SparseCallsIdeal.threads (F := F)) ⟨m, fun _ => 0, ρ⟩ (QC m) :=
  SparseCore.Cfg.θ_run_sc_quiescent (K := K (F := F)) (D := D (F := F)) (𝒱 := 𝒱) (EH := EH) (P := P (opsOf m)) (A := ∅) facts v₀
    (fun q hq => match q with | 0 => nomatch hq | 1 => nomatch hq)
    (fun q _ => match q with | 0 => tileObl0 (opsOf m) hp | 1 => tileObl1 (opsOf m) hp)
    (fun q _ => match q with | 0 => SparseCore.Cfg.VecSplit.of_plain (vecSplit0 (opsOf m)) | 1 => SparseCore.Cfg.VecSplit.of_plain (vecSplit1 (opsOf m)))
    m ρ main (fun _ => iprop(emp)) (FIN m) (u₀ (F := F)) (sep_elim_left.trans (hu₀ (opsOf m))) (hmain m ρ) (fq m) (hfin m) (QC m) (fun _ h hz => ⟨h, hz⟩)

end Cert.Proof.Sc

end
-- ==== Proof.Sc.Host.lean ====
/-
  The host's words about ranks, read as plain functions: the precondition says the ranks are a permutation, a scatter by ranks leaves every
  element at its rank, a gather by ranks picks the element at the rank.
-/
module

public import Idealize.ShloMosaic.Lib.WordCmp
public import Idealize.ShloMosaic.Lib.Pipeline.Value
public import proofs.«01_k».proof.Proof.Sc.Placed
public import proofs.«01_k».proof.Pre_ranks_a_permutation
public import proofs.«01_k».proof.SparseReferenceIdeal

@[expose] public section

noncomputable section

namespace Cert.Proof.Sc

open Idealize.ShloMosaic

variable {F : FTy → Type} [FloatOps F]

/-! ## A conjunction over an array -/

theorem and_one : ∀ a b : BitVec 1, IntOp.andi a b = 1#1 → a = 1#1 ∧ b = 1#1 := by decide
theorem or_one : ∀ a b : BitVec 1, IntOp.ori a b = 1#1 → a = 1#1 ∨ b = 1#1 := by decide

theorem fold_and {κ : Type} (g : κ → BitVec 1) : ∀ (L : List κ) (b : BitVec 1), L.foldl (fun r n => IntOp.andi r (g n)) b = 1#1 → b = 1#1 ∧ ∀ n ∈ L, g n = 1#1
  | [], _, h => ⟨h, fun _ hn => absurd hn List.not_mem_nil⟩
  | a :: L, b, h => by
    obtain ⟨h1, h2⟩ := fold_and g L _ h
    obtain ⟨h3, h4⟩ := and_one _ _ h1
    refine ⟨h3, fun n hn => ?_⟩
    rcases List.mem_cons.mp hn with rfl | hn
    · exact h4
    · exact h2 n hn

/-- A conjunction over a whole array is one only if every element is. -/
theorem reduce_and {s u : Shape} {axes : List (Fin s.rank)} {n : Fin 0 → ℕ} (x : s.Idx → BitVec 1) (b : u.Idx → BitVec 1) (h : s.ReducesTo axes ⟨0, n⟩)
    (hu : 0 < u.numel) (j : (⟨0, n⟩ : Shape).Idx) (e : Host.reduce IntOp.andi x b h hu j = 1#1) (i : s.Idx) : x i = 1#1 := by
  have h1 := (fold_and (fun n => x (s.rowMajor.symm n)) _ _ e).2 (s.rowMajor i)
    (List.mem_filter.mpr ⟨List.mem_finRange _, decide_eq_true (funext fun a => a.elim0)⟩)
  simpa using h1

/-- The precondition, all ones, says that the ranks are a permutation. -/
theorem perm_of_pre [Cert.Pre_ranks_a_permutation.Facts] (a0 : FVec F Cert.Pre_ranks_a_permutation.S5000x4 .f32) (a1 : FVec F Cert.Pre_ranks_a_permutation.S5000 .f32)
    (rk : IVec V5120 32) (a3 : FVec F V5120 .f32) (h : Cert.Pre_ranks_a_permutation.fn (F := F) a0 a1 rk a3 = fun _ => 1#1) : Perm rk := by
  have h0 := congrFun h (fun a => a.elim0)
  unfold Cert.Pre_ranks_a_permutation.fn at h0
  obtain ⟨hr, hd⟩ := and_one _ _ h0
  have lt : ∀ j, (rk j).toNat < 5120 := fun j => by
    have h1 : IntOp.andi (IntOp.cmpi .sge (rk j) 0#32) (IntOp.cmpi .slt (rk j) (BitVec.ofNat 32 5120)) = 1#1 := reduce_and _ _ _ _ _ hr j
    rw [WordCmp.andi_sge_zero_slt_ofNat (by decide)] at h1
    by_contra hc
    rw [decide_eq_false hc] at h1
    exact absurd h1 (by decide)
  refine ⟨lt, fun i j e => ?_⟩
  have h1 := reduce_and _ _ _ _ _ hd (fun a => if a.val = 0 then ⟨(i 0).val, by fin_cases a <;> exact (i 0).isLt⟩ else ⟨(j 0).val, by fin_cases a <;> exact (j 0).isLt⟩)
  rcases or_one _ _ h1 with h2 | h2
  · have h3 : IntOp.cmpi .ne (rk i) (rk j) = 1#1 := by
      refine Eq.trans ?_ h2
      refine congrArg₂ (IntOp.cmpi .ne) (congrArg rk (idx_ext rfl)) (congrArg rk (idx_ext rfl))
    rw [BitVec.eq_of_toNat_eq e, WordCmp.cmpi_ne_eq, decide_eq_false (fun h => h rfl)] at h3
    exact absurd h3 (by decide)
  · have h3 : IntOp.cmpi .eq (BitVec.ofNat 32 (i 0).val) (BitVec.ofNat 32 (j 0).val) = 1#1 := h2
    have h4 : BitVec.ofNat 32 (i 0).val = BitVec.ofNat 32 (j 0).val := by
      by_contra hc
      rw [show IntOp.cmpi .eq (BitVec.ofNat 32 (i 0).val) (BitVec.ofNat 32 (j 0).val) = BitVec.ofBool (BitVec.ofNat 32 (i 0).val == BitVec.ofNat 32 (j 0).val) from rfl,
        beq_eq_false_iff_ne.mpr hc] at h3
      exact absurd h3 (by decide)
    have h5 := congrArg BitVec.toNat h4
    have hi := (i 0).isLt
    have hj := (j 0).isLt
    rw [BitVec.toNat_ofNat, BitVec.toNat_ofNat, Nat.mod_eq_of_lt (lt_trans hi (by decide)), Nat.mod_eq_of_lt (lt_trans hj (by decide))] at h5
    exact idx_ext h5

/-! ## Ranks as the host's index arrays -/

open Cert.SparseReferenceIdeal
open Cert.SparseReferenceIdeal.Facts₀ Cert.SparseReferenceIdeal.Facts

variable [Cert.SparseReferenceIdeal.Facts]

/-- The ranks as the host passes them to a scatter or a gather: 5120 is added to the negative ones. -/
def idxOf (rk : IVec S5120 32) : IVec S5120x1 32 :=
  broadcastInDim S5120x1 ![0] bcast_S5120_S5120x1_0 (select (cmpi .slt rk (broadcastInDim S5120 ![] bcast_S_S5120 (constantI S_ 32 0#32)))
    (addi rk (broadcastInDim S5120 ![] bcast_S_S5120 (constantI S_ 32 5120#32))) rk)

theorem idxOf_at {rk : IVec S5120 32} (lt : ∀ j, (rk j).toNat < 5120) (k : S5120x1.Idx) (i : S5120.Idx) (hk : (i 0).val = (k 0).val) : idxOf rk k = rk i := by
  have h1 : idxOf rk k = Scalar.select (IntOp.cmpi .slt (rk i) 0#32) (IntOp.addi (rk i) 5120#32) (rk i) := by
    have e : ∀ (x : IVec S5120 32), broadcastInDim S5120x1 ![0] bcast_S5120_S5120x1_0 x k = x i := fun x => congrArg x (idx_ext hk.symm)
    unfold idxOf
    rw [e]; rfl
  rw [h1, WordCmp.cmpi_slt_zero, decide_eq_false (by have := lt i; simp only [Nat.reduceSub]; omega)]
  rfl

theorem toInt_rank {x : BitVec 32} (h : x.toNat < 5120) : x.toInt = (x.toNat : ℤ) := by
  rw [BitVec.toInt_eq_toNat_cond, if_pos (by omega)]

theorem s_mem : (0 : Fin S5120.rank) ∈ scatter_S5120_S5120x1_S5120_n_0_0_1.scatterDimsToOperandDims := List.mem_singleton_self _
theorem s_at (j : S5120.Idx) (c : Fin scatter_S5120_S5120x1_S5120_n_0_0_1.scatterDimsToOperandDims.length) : (scatter_S5120_S5120x1_S5120_n_0_0_1.siIdx j c 0).val = (j 0).val := by
  unfold ScatterDims.siIdx
  rw [dif_neg (show ¬ ((0 : Fin S5120x1.rank).val = scatter_S5120_S5120x1_S5120_n_0_0_1.indexVectorDim) from Nat.zero_ne_one)]
  unfold ScatterDims.siCoord
  exact congrArg (fun a => (j a).val) (Subsingleton.elim _ (0 : Fin S5120.rank))

theorem g_mem : (0 : Fin S5120.rank) ∈ gather_S5120_S5120x1_S5120_n_0_n_n_0_1_1.startIndexMap := List.mem_singleton_self _
theorem g_at (j : S5120.Idx) (c : Fin gather_S5120_S5120x1_S5120_n_0_n_n_0_1_1.startIndexMap.length) : (gather_S5120_S5120x1_S5120_n_0_n_n_0_1_1.siIdx j c 0).val = (j 0).val := by
  unfold GatherDims.siIdx
  rw [dif_neg (show ¬ ((0 : Fin S5120x1.rank).val = gather_S5120_S5120x1_S5120_n_0_n_n_0_1_1.indexVectorDim) from Nat.zero_ne_one)]
  unfold GatherDims.siCoord
  exact congrArg (fun a => (j a).val) (Subsingleton.elim _ (0 : Fin S5120.rank))

/-- Update `j` of the scatter lands at its rank. -/
theorem lands {rk : IVec S5120 32} (hp : Perm rk) (j : S5120.Idx) :
    scatter_S5120_S5120x1_S5120_n_0_0_1.resultIdx? j (idxOf rk) = some (Shape.ofLane (d := ![5120]) ⟨(rk j).toNat, hp.lt j⟩) := by
  have hs : ∀ a, scatter_S5120_S5120x1_S5120_n_0_0_1.start j (idxOf rk) a = ((rk j).toNat : ℤ) := fun a => by
    obtain rfl : a = 0 := Subsingleton.elim _ _
    unfold ScatterDims.start
    rw [dif_pos s_mem, idxOf_at hp.lt _ j (s_at j _).symm, toInt_rank (hp.lt j)]
  have hw : ∀ a, scatter_S5120_S5120x1_S5120_n_0_0_1.window j a = 0 := fun a => by
    obtain rfl : a = 0 := Subsingleton.elim _ _
    unfold ScatterDims.window
    exact dif_neg (by show ¬ (0 : Fin S5120.rank) ∈ S5120.kept [0]; decide)
  have hlt : ∀ a : Fin S5120.rank, S5120.size a = 5120 := fun a => by obtain rfl : a = 0 := Subsingleton.elim _ _; rfl
  unfold ScatterDims.resultIdx?
  rw [dif_pos (fun a => by rw [hs, hw, hlt]; have := hp.lt j; omega)]
  refine congrArg some (idx_ext ?_)
  show (scatter_S5120_S5120x1_S5120_n_0_0_1.start j (idxOf rk) 0 + scatter_S5120_S5120x1_S5120_n_0_0_1.window j 0).toNat = (rk j).toNat
  rw [hs, hw]; omega

/-- A scatter by a permutation leaves every element at its rank. -/
theorem scatter_placed {β : Type} {rk : IVec S5120 32} (hp : Perm rk) (z v : S5120.Idx → β) :
    Host.scatter scatter_S5120_S5120x1_S5120_n_0_0_1 (fun _ b => b) z (idxOf rk) v = placed rk v := by
  unfold Host.scatter
  simp only [lands hp]
  funext r
  obtain ⟨j, hj⟩ := hp.surj r
  rw [placed_at hp v j r hj.symm]
  refine (fold_hit (fun n => Shape.ofLane (d := ![5120]) ⟨(rk (S5120.rowMajor.symm n)).toNat, hp.lt _⟩) (fun n => v (S5120.rowMajor.symm n)) r
    (S5120.rowMajor j) (idx_ext (by rw [Equiv.symm_apply_apply]; exact hj)) (fun n hn => ?_) _ z (List.mem_finRange _)).trans (by simp)
  have h1 : (rk (S5120.rowMajor.symm n)).toNat = (r 0).val := congrArg (fun i : S5120.Idx => (i 0).val) hn
  rw [← hp.inj _ _ (h1.trans hj.symm)]; simp

/-- A gather by ranks picks the element at the rank. -/
theorem gather_picked {β : Type} {rk : IVec S5120 32} (lt : ∀ j, (rk j).toNat < 5120) (x : S5120.Idx → β) :
    Host.gather gather_S5120_S5120x1_S5120_n_0_n_n_0_1_1 x (idxOf rk) = picked rk x := by
  funext j
  refine (picked_at x j _ ?_).symm
  show gather_S5120_S5120x1_S5120_n_0_n_n_0_1_1.start j (idxOf rk) 0 + gather_S5120_S5120x1_S5120_n_0_n_n_0_1_1.batchCoord j 0
    + gather_S5120_S5120x1_S5120_n_0_n_n_0_1_1.offCoord j 0 = (rk j).toNat
  have h1 : gather_S5120_S5120x1_S5120_n_0_n_n_0_1_1.start j (idxOf rk) 0 = (rk j).toNat := by
    unfold GatherDims.start
    rw [dif_pos g_mem, idxOf_at lt _ j (g_at j _).symm, toInt_rank (lt j)]
    show min (rk j).toNat (5120 - 1) = _
    have := lt j; omega
  have h2 : gather_S5120_S5120x1_S5120_n_0_n_n_0_1_1.batchCoord j 0 = 0 := dif_neg List.not_mem_nil
  have h3 : gather_S5120_S5120x1_S5120_n_0_n_n_0_1_1.offCoord j 0 = 0 := dif_neg (by show ¬ (0 : Fin S5120.rank) ∈ S5120.kept ([0] ++ []); decide)
  rw [h1, h2, h3]; rfl

end Cert.Proof.Sc

end
-- ==== Proof.Sc.Value.lean ====
/-
  The operands of the two calls as the host lines make them, and the six results as the reference's terms: the two sides meet at the columns
  of the padded boxes, the scatter by ranks and the gather by ranks.
-/
module

public import proofs.«01_k».proof.Proof.Sc.Run
public import proofs.«01_k».proof.Proof.Sc.Host
public import proofs.«01_k».proof.Proof.Gen.SparseReferenceIdeal

@[expose] public section

noncomputable section

namespace Cert.Proof.Sc

open Cert.SparseCallsIdeal Cert.SparseCallsIdeal.Gen
open Idealize.ShloMosaic Idealize.ShloMosaic.StableHlo

variable {F : FTy → Type} [FloatOps F]

/-- The boxes padded by 120 rows of zeros. -/
def padded (b : FVec F S5000x4 .f32) : FVec F S5120x4 .f32 :=
  pad S5120x4 ![0, 0] ![120, 0] ![0, 0] b (sitofp .f32 (constantI S_ 32 0#32)) pads_S5000x4_S5120x4_01200_000 h_S_

/-- Columns of the padded boxes. -/
def col0 (b : FVec F S5000x4 .f32) : FVec F S5120 .f32 := shapeCast _ (extractStridedSlice S5120x1 ![0, 0] (padded b) slices_S5120x4_S5120x1_0_0) shapeCasts_S5120x1_S5120
def col1 (b : FVec F S5000x4 .f32) : FVec F S5120 .f32 := shapeCast _ (extractStridedSlice S5120x1 ![0, 1] (padded b) slices_S5120x4_S5120x1_0_1) shapeCasts_S5120x1_S5120
def col2 (b : FVec F S5000x4 .f32) : FVec F S5120 .f32 := shapeCast _ (extractStridedSlice S5120x1 ![0, 2] (padded b) slices_S5120x4_S5120x1_0_2) shapeCasts_S5120x1_S5120
def col3 (b : FVec F S5000x4 .f32) : FVec F S5120 .f32 := shapeCast _ (extractStridedSlice S5120x1 ![0, 3] (padded b) slices_S5120x4_S5120x1_0_3) shapeCasts_S5120x1_S5120
/-- The scores followed by 120 elements of -1. -/
def scored (s : FVec F S5000 .f32) : FVec F S5120 .f32 :=
  concatenate S5120 0 [⟨S5000, s⟩, ⟨S120, broadcastInDim S120 ![] bcast_S_S120 (constant S_ .f32 0xBF800000#32)⟩] concatenates_S5000_S120_S5120_d0

variable (m : (ℓ : Loc nD τ sig) → Buf (Elt F) ℓ)

theorem xa_eq (d : Dev nD) : (opsOf m).xa d = col0 (m ((SparseCore.T d).loc main_arg0)) := by
  unfold opsOf V1 opsA
  simp only [TRef.binary, TRef.unary, TRef.toBuf, TRef.ofBuf, cast_eq]
  after_results_simp <;> rfl
theorem ya_eq (d : Dev nD) : (opsOf m).ya d = col1 (m ((SparseCore.T d).loc main_arg0)) := by
  unfold opsOf V1 opsA
  simp only [TRef.binary, TRef.unary, TRef.toBuf, TRef.ofBuf, cast_eq]
  after_results_simp <;> rfl
theorem xb_eq (d : Dev nD) : (opsOf m).xb d = col2 (m ((SparseCore.T d).loc main_arg0)) := by
  unfold opsOf V1 opsA
  simp only [TRef.binary, TRef.unary, TRef.toBuf, TRef.ofBuf, cast_eq]
  after_results_simp <;> rfl
theorem yb_eq (d : Dev nD) : (opsOf m).yb d = col3 (m ((SparseCore.T d).loc main_arg0)) := by
  unfold opsOf V1 opsA
  simp only [TRef.binary, TRef.unary, TRef.toBuf, TRef.ofBuf, cast_eq]
  after_results_simp <;> rfl
theorem sc_eq (d : Dev nD) : (opsOf m).sc d = scored (m ((SparseCore.T d).loc main_arg1)) := by
  unfold opsOf V1 opsA
  simp only [TRef.binary, TRef.unary, TRef.toBuf, TRef.ofBuf, cast_eq]
  after_results_simp <;> rfl

/-- The scores times the keep flags at their ranks, cut to 5000: the padding does not matter. -/
theorem rS_eq (d : Dev nD) : rS m d = mulf (m ((SparseCore.T d).loc main_arg1))
    (extractStridedSlice S5000 ![0] (picked (m (rkLoc d)) (m (kpLoc d))) slices_S5120_S5000_0) := by
  unfold rS rF
  rw [sc_eq]
  funext i
  have h : extractStridedSlice S5000 ![0] (scored (m ((SparseCore.T d).loc main_arg1))) slices_S5120_S5000_0 i = m ((SparseCore.T d).loc main_arg1) i := by
    unfold extractStridedSlice scored
    refine concatenate_pair_apply_left (t := S5120) (s₁ := S5000) (s₂ := S120) 0 _ _ _ _ rfl i fun b => ?_
    obtain rfl : b = 0 := Subsingleton.elim _ _
    exact (Nat.zero_add _).symm
  exact congrArg (fun x => FloatOps.mulf x _) h

end Cert.Proof.Sc

end
-- ==== Proof.Whole.Setup.lean ====
/-
  The two SparseCore calls as the launch theorem sees them: the program, the resources, and what the handshakes of each call carry.
  The permute call hands each of its 32 tasks a share of the four coordinate columns and of the ranks and 160 elements of each of the
  five results; it gets them back with the results' elements at their ranks. The finalize call hands each task a share of the scores, of
  the ranks and of the keep flags and 160 elements of the result.
-/
module

public import Idealize.ShloMosaic.Lib.SparseCore.Quiescent
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Sc.Placed

@[expose] public section

set_option synthInstance.maxHeartbeats 400000

noncomputable section

namespace Cert.Proof.Whole

open Cert.Proof.Sc (placed picked Perm Placed idx_ext V5120 V16 picked_at placed_at storeIdx_hit storeIdx_miss storeIdx_eq ofLane_zero)

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig (Λ₀ F) (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.nat
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the handshakes' rounds and the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL

/-! ## The buffers -/

abbrev xaLoc (d : Dev nD) : Loc nD τ sig := (SparseCore.T d).loc main_v7
abbrev yaLoc (d : Dev nD) : Loc nD τ sig := (SparseCore.T d).loc main_v9
abbrev xbLoc (d : Dev nD) : Loc nD τ sig := (SparseCore.T d).loc main_v11
abbrev ybLoc (d : Dev nD) : Loc nD τ sig := (SparseCore.T d).loc main_v13
abbrev rkLoc (d : Dev nD) : Loc nD τ sig := (SparseCore.T d).loc main_v4
abbrev o0Loc (d : Dev nD) : Loc nD τ sig := (SparseCore.T d).loc main_v14_0
abbrev o1Loc (d : Dev nD) : Loc nD τ sig := (SparseCore.T d).loc main_v14_1
abbrev o2Loc (d : Dev nD) : Loc nD τ sig := (SparseCore.T d).loc main_v14_2
abbrev o3Loc (d : Dev nD) : Loc nD τ sig := (SparseCore.T d).loc main_v14_3
abbrev o4Loc (d : Dev nD) : Loc nD τ sig := (SparseCore.T d).loc main_v14_4
abbrev scLoc (d : Dev nD) : Loc nD τ sig := (SparseCore.T d).loc main_v1
abbrev kpLoc (d : Dev nD) : Loc nD τ sig := (SparseCore.T d).loc main_v21
abbrev oFLoc (d : Dev nD) : Loc nD τ sig := (SparseCore.T d).loc main_v22

/-! ## The pieces: 32 chunks of 160 elements, 32 shares -/

/-- Subcore `i` of SparseCore `c` works on chunk `2 i + c`. -/
def wid (c : Fin 2) (i : Fin 16) : Fin 32 := ⟨2 * i.val + c.val, by omega⟩

/-- Every chunk is some subcore's. -/
def widEquiv : Fin 2 × Fin 16 ≃ Fin 32 where
  toFun p := wid p.1 p.2
  invFun w := (⟨w.val % 2, Nat.mod_lt _ (by decide)⟩, ⟨w.val / 2, by omega⟩)
  left_inv p := by
    rcases p with ⟨c, i⟩
    refine Prod.ext (Fin.ext ?_) (Fin.ext ?_) <;> simp only [wid] <;> omega
  right_inv w := Fin.ext (by simp only [wid]; omega)

theorem hdiv : 32 ∣ S5120.size 0 := ⟨160, rfl⟩
/-- Chunk `w` of a vector of 5120. -/
abbrev chunk (w : Fin 32) : Rect S5120 := Rect.part (s := S5120) (a₀ := 0) hdiv w
abbrev chunkSet (w : Fin 32) : Finset S5120.Idx := (chunk w).set

theorem chunks_disjoint : ∀ i ∈ (Finset.univ : Finset (Fin 32)), ∀ j ∈ (Finset.univ : Finset (Fin 32)), i ≠ j → Disjoint (chunkSet i) (chunkSet j) :=
  fun _ _ _ _ h => Rect.part_disjoint hdiv h
theorem chunks_cover : (Finset.univ : Finset (Fin 32)).biUnion chunkSet = Finset.univ := Rect.biUnion_part hdiv

/-- The share of a table that chunk `w`'s task holds. -/
abbrev shr (w : Fin 32) : PosShare TreeShare := ShareLeaves.leaf 5 fullShare w

/-- A table, whole, is its 32 shares. -/
theorem table_shares {ℓ : Loc nD τ sig} (f : Buf (Elt F) ℓ) :
    (ℓ ↦{fullShare} f : sProp 𝕄) = bigSep Finset.univ fun c : Fin 2 => bigSep Finset.univ fun i : Fin 16 => ℓ ↦{shr (wid c i)} f := by
  refine (ShareLeaves.pointsTo_leaves Finset.univ f 5 fullShare).trans ?_
  refine (bigSep_univ_equiv widEquiv (fun w : Fin 32 => (ℓ ↦{shr w} f : sProp 𝕄))).trans ?_
  rw [bigSep_univ_prod]
  rfl

/-- A result, whole, is its 32 chunks. -/
theorem result_chunks (g : (w : Fin 32) → sProp 𝕄) :
    (bigSep Finset.univ g) = bigSep Finset.univ fun c : Fin 2 => bigSep Finset.univ fun i : Fin 16 => g (wid c i) := by
  rw [bigSep_univ_equiv widEquiv g, bigSep_univ_prod]
  rfl
theorem o0_chunks (d : Dev nD) (f : Buf (Elt F) (o0Loc d)) : (o0Loc d ↦{fullShare} f : sProp 𝕄)
    = bigSep Finset.univ fun c : Fin 2 => bigSep Finset.univ fun i : Fin 16 => o0Loc d ↦[chunkSet (wid c i)]{fullShare} f := by
  rw [← result_chunks (fun w => o0Loc d ↦[chunkSet w]{fullShare} f), ← pointsTo_biUnion Finset.univ (ℓ := o0Loc d) chunkSet chunks_disjoint, chunks_cover]
theorem o1_chunks (d : Dev nD) (f : Buf (Elt F) (o1Loc d)) : (o1Loc d ↦{fullShare} f : sProp 𝕄)
    = bigSep Finset.univ fun c : Fin 2 => bigSep Finset.univ fun i : Fin 16 => o1Loc d ↦[chunkSet (wid c i)]{fullShare} f := by
  rw [← result_chunks (fun w => o1Loc d ↦[chunkSet w]{fullShare} f), ← pointsTo_biUnion Finset.univ (ℓ := o1Loc d) chunkSet chunks_disjoint, chunks_cover]
theorem o2_chunks (d : Dev nD) (f : Buf (Elt F) (o2Loc d)) : (o2Loc d ↦{fullShare} f : sProp 𝕄)
    = bigSep Finset.univ fun c : Fin 2 => bigSep Finset.univ fun i : Fin 16 => o2Loc d ↦[chunkSet (wid c i)]{fullShare} f := by
  rw [← result_chunks (fun w => o2Loc d ↦[chunkSet w]{fullShare} f), ← pointsTo_biUnion Finset.univ (ℓ := o2Loc d) chunkSet chunks_disjoint, chunks_cover]
theorem o3_chunks (d : Dev nD) (f : Buf (Elt F) (o3Loc d)) : (o3Loc d ↦{fullShare} f : sProp 𝕄)
    = bigSep Finset.univ fun c : Fin 2 => bigSep Finset.univ fun i : Fin 16 => o3Loc d ↦[chunkSet (wid c i)]{fullShare} f := by
  rw [← result_chunks (fun w => o3Loc d ↦[chunkSet w]{fullShare} f), ← pointsTo_biUnion Finset.univ (ℓ := o3Loc d) chunkSet chunks_disjoint, chunks_cover]
theorem o4_chunks (d : Dev nD) (f : Buf (Elt F) (o4Loc d)) : (o4Loc d ↦{fullShare} f : sProp 𝕄)
    = bigSep Finset.univ fun c : Fin 2 => bigSep Finset.univ fun i : Fin 16 => o4Loc d ↦[chunkSet (wid c i)]{fullShare} f := by
  rw [← result_chunks (fun w => o4Loc d ↦[chunkSet w]{fullShare} f), ← pointsTo_biUnion Finset.univ (ℓ := o4Loc d) chunkSet chunks_disjoint, chunks_cover]
theorem oF_chunks (d : Dev nD) (f : Buf (Elt F) (oFLoc d)) : (oFLoc d ↦{fullShare} f : sProp 𝕄)
    = bigSep Finset.univ fun c : Fin 2 => bigSep Finset.univ fun i : Fin 16 => oFLoc d ↦[chunkSet (wid c i)]{fullShare} f := by
  rw [← result_chunks (fun w => oFLoc d ↦[chunkSet w]{fullShare} f), ← pointsTo_biUnion Finset.univ (ℓ := oFLoc d) chunkSet chunks_disjoint, chunks_cover]

/-! ## The operands and the values -/

variable [FloatOps F]

/-- The operands of the two calls on every device. -/
structure Ops (F : FTy → Type) where
  xa : Dev nD → FVec F S5120 .f32
  ya : Dev nD → FVec F S5120 .f32
  xb : Dev nD → FVec F S5120 .f32
  yb : Dev nD → FVec F S5120 .f32
  rk : Dev nD → IVec S5120 32
  sc : Dev nD → FVec F S5120 .f32
  kp : Dev nD → FVec F S5120 .f32

/-- The lower and the upper of two coordinates, in pixels. -/
def lo (a b : FVec F S5120 .f32) : FVec F S5120 .f32 := mulf (minimumf a b) (broadcast S5120 (Scalar.ofBits .f32 0x447A0000#32))
def hi (a b : FVec F S5120 .f32) : FVec F S5120 .f32 := mulf (maximumf a b) (broadcast S5120 (Scalar.ofBits .f32 0x447A0000#32))
/-- The area of a box. -/
def area (xa ya xb yb : FVec F S5120 .f32) : FVec F S5120 .f32 := mulf (subf (hi xa xb) (lo xa xb)) (subf (hi ya yb) (lo ya yb))

variable (A : Ops F)

/-- The five results of the permute call. -/
def r0 (d : Dev nD) : Buf (Elt F) (o0Loc d) := placed (A.rk d) (lo (A.xa d) (A.xb d))
def r1 (d : Dev nD) : Buf (Elt F) (o1Loc d) := placed (A.rk d) (lo (A.ya d) (A.yb d))
def r2 (d : Dev nD) : Buf (Elt F) (o2Loc d) := placed (A.rk d) (hi (A.xa d) (A.xb d))
def r3 (d : Dev nD) : Buf (Elt F) (o3Loc d) := placed (A.rk d) (hi (A.ya d) (A.yb d))
def r4 (d : Dev nD) : Buf (Elt F) (o4Loc d) := placed (A.rk d) (area (A.xa d) (A.ya d) (A.xb d) (A.yb d))
/-- The result of the finalize call. -/
def rF (d : Dev nD) : Buf (Elt F) (oFLoc d) := mulf (A.sc d) (picked (A.rk d) (A.kp d))

/-! ## What the handshakes carry -/

abbrev xaPts (d : Dev nD) (q : PosShare TreeShare) : sProp 𝕄 := xaLoc d ↦{q} A.xa d
abbrev yaPts (d : Dev nD) (q : PosShare TreeShare) : sProp 𝕄 := yaLoc d ↦{q} A.ya d
abbrev xbPts (d : Dev nD) (q : PosShare TreeShare) : sProp 𝕄 := xbLoc d ↦{q} A.xb d
abbrev ybPts (d : Dev nD) (q : PosShare TreeShare) : sProp 𝕄 := ybLoc d ↦{q} A.yb d
abbrev rkPts (d : Dev nD) (q : PosShare TreeShare) : sProp 𝕄 := rkLoc d ↦{q} A.rk d
abbrev scPts (d : Dev nD) (q : PosShare TreeShare) : sProp 𝕄 := scLoc d ↦{q} A.sc d
abbrev kpPts (d : Dev nD) (q : PosShare TreeShare) : sProp 𝕄 := kpLoc d ↦{q} A.kp d

/-- What a permute task reads. -/
def reads0 (d : Dev nD) (w : Fin 32) : sProp 𝕄 :=
  iprop(xaPts A d (shr w) ∗ yaPts A d (shr w) ∗ xbPts A d (shr w) ∗ ybPts A d (shr w) ∗ rkPts A d (shr w))
/-- Its elements of the five results before the task, and after it. -/
def outs0 (d : Dev nD) (w : Fin 32) : sProp 𝕄 :=
  iprop((∃ f, o0Loc d ↦[chunkSet w]{fullShare} f) ∗ (∃ f, o1Loc d ↦[chunkSet w]{fullShare} f) ∗ (∃ f, o2Loc d ↦[chunkSet w]{fullShare} f)
    ∗ (∃ f, o3Loc d ↦[chunkSet w]{fullShare} f) ∗ (∃ f, o4Loc d ↦[chunkSet w]{fullShare} f))
def res0 (d : Dev nD) (w : Fin 32) : sProp 𝕄 :=
  iprop((o0Loc d ↦[chunkSet w]{fullShare} r0 A d) ∗ (o1Loc d ↦[chunkSet w]{fullShare} r1 A d) ∗ (o2Loc d ↦[chunkSet w]{fullShare} r2 A d)
    ∗ (o3Loc d ↦[chunkSet w]{fullShare} r3 A d) ∗ (o4Loc d ↦[chunkSet w]{fullShare} r4 A d))
/-- What a finalize task reads, and its elements of the result. -/
def reads1 (d : Dev nD) (w : Fin 32) : sProp 𝕄 := iprop(scPts A d (shr w) ∗ rkPts A d (shr w) ∗ kpPts A d (shr w))
def outs1 (d : Dev nD) (w : Fin 32) : sProp 𝕄 := iprop(∃ f, oFLoc d ↦[chunkSet w]{fullShare} f)
def res1 (d : Dev nD) (w : Fin 32) : sProp 𝕄 := iprop(oFLoc d ↦[chunkSet w]{fullShare} rF A d)

instance (d : Dev nD) (w : Fin 32) : BI.Storable (upEmb : UEmb _ 𝕄) (reads0 A d w) := by unfold reads0; infer_instance
instance (d : Dev nD) (w : Fin 32) : BI.Storable (upEmb : UEmb _ 𝕄) (outs0 (F := F) d w) := by unfold outs0; infer_instance
instance (d : Dev nD) (w : Fin 32) : BI.Storable (upEmb : UEmb _ 𝕄) (res0 A d w) := by unfold res0; infer_instance
instance (d : Dev nD) (w : Fin 32) : BI.Storable (upEmb : UEmb _ 𝕄) (reads1 A d w) := by unfold reads1; infer_instance
instance (d : Dev nD) (w : Fin 32) : BI.Storable (upEmb : UEmb _ 𝕄) (outs1 (F := F) d w) := by unfold outs1; infer_instance
instance (d : Dev nD) (w : Fin 32) : BI.Storable (upEmb : UEmb _ 𝕄) (res1 A d w) := by unfold res1; infer_instance

abbrev go0 (d : Dev nD) (w : Fin 32) : sProp 𝕄 := iprop(reads0 A d w ∗ outs0 (F := F) d w)
abbrev td0 (d : Dev nD) (w : Fin 32) : sProp 𝕄 := iprop(reads0 A d w ∗ res0 A d w)
abbrev go1 (d : Dev nD) (w : Fin 32) : sProp 𝕄 := iprop(reads1 A d w ∗ outs1 (F := F) d w)
abbrev td1 (d : Dev nD) (w : Fin 32) : sProp 𝕄 := iprop(reads1 A d w ∗ res1 A d w)

/-- Each call hands every SparseCore its sixteen tasks' pieces, and takes back the sixteen tasks' results. -/
def P : (K (F := F)).Pay (nD := nD) (Val := Elt F) (Name := ℕ) (U := UU) where
  st := fun q d c => match q with
    | 0 => bigSep Finset.univ fun i : Fin 16 => go0 A d (wid c i)
    | 1 => bigSep Finset.univ fun i : Fin 16 => go1 A d (wid c i)
  dn := fun q d c => match q with
    | 0 => bigSep Finset.univ fun i : Fin 16 => td0 A d (wid c i)
    | 1 => bigSep Finset.univ fun i : Fin 16 => td1 A d (wid c i)
  go := fun q d c i => match q with
    | 0 => go0 A d (wid c i)
    | 1 => go1 A d (wid c i)
  td := fun q d c i => match q with
    | 0 => td0 A d (wid c i)
    | 1 => td1 A d (wid c i)
  x := fun _ _ => iprop(emp)

instance P_storable : (P (F := F) A).IsStorable where
  st q d c := match q with
    | 0 => (inferInstance : BI.Storable (upEmb : UEmb _ 𝕄) (bigSep Finset.univ fun i : Fin 16 => go0 A d (wid c i)))
    | 1 => (inferInstance : BI.Storable (upEmb : UEmb _ 𝕄) (bigSep Finset.univ fun i : Fin 16 => go1 A d (wid c i)))
  dn q d c := match q with
    | 0 => (inferInstance : BI.Storable (upEmb : UEmb _ 𝕄) (bigSep Finset.univ fun i : Fin 16 => td0 A d (wid c i)))
    | 1 => (inferInstance : BI.Storable (upEmb : UEmb _ 𝕄) (bigSep Finset.univ fun i : Fin 16 => td1 A d (wid c i)))
  go q d c i := match q with
    | 0 => (inferInstance : BI.Storable (upEmb : UEmb _ 𝕄) (go0 A d (wid c i)))
    | 1 => (inferInstance : BI.Storable (upEmb : UEmb _ 𝕄) (go1 A d (wid c i)))
  td q d c i := match q with
    | 0 => (inferInstance : BI.Storable (upEmb : UEmb _ 𝕄) (td0 A d (wid c i)))
    | 1 => (inferInstance : BI.Storable (upEmb : UEmb _ 𝕄) (td1 A d (wid c i)))

/-- A SparseCore deals its pieces to its tasks and gathers their results as they are. -/
theorem vecSplit0 : (K (F := F)).VecSplit' (P A) 0 := by
  intro d c
  show (bigSep Finset.univ fun i : Fin 16 => go0 A d (wid c i)) ⊢ |={Set.univ}=> iprop(
      (bigSep Finset.univ fun i : Fin 16 => go0 A d (wid c i)) ∗ ((bigSep Finset.univ fun i : Fin 16 => td0 A d (wid c i))
        -∗ bigSep Finset.univ fun i : Fin 16 => td0 A d (wid c i)))
  iintro H; imodintro
  isplitl [H]; · iexact H
  iintro H; iexact H
theorem vecSplit1 : (K (F := F)).VecSplit' (P A) 1 := by
  intro d c
  show (bigSep Finset.univ fun i : Fin 16 => go1 A d (wid c i)) ⊢ |={Set.univ}=> iprop(
      (bigSep Finset.univ fun i : Fin 16 => go1 A d (wid c i)) ∗ ((bigSep Finset.univ fun i : Fin 16 => td1 A d (wid c i))
        -∗ bigSep Finset.univ fun i : Fin 16 => td1 A d (wid c i)))
  iintro H; imodintro
  isplitl [H]; · iexact H
  iintro H; iexact H

/-! ## The launch element -/

/-- The pipelines of the two TensorCore calls take no prefetched table. -/
abbrev adm [FloatOps F] : (p : Fin 2) → (pcfgs (F := F) p).Adm := fun p => (cfgs p).toPCfg_adm

abbrev EP : Emb UP (MT nD τ sig (HIx 2) (Elt F) ℕ UU ℕ) := (Emb.inl : Emb UP (UP × Counters)).trans embR

def uP : UP := initOf (Pipeline.cells (nD := nD) (Pipeline.pin (pcfgs (F := F)) adm) cellOf_inj) (Pipeline.launchToks (nD := nD) (Pipeline.pin (pcfgs (F := F)) adm) cellOf_inj)

def u₀ : UU := (initOf (K (F := F)).hsCells (K (F := F)).hsToks, (uP (F := F), 1))

/-- What a device's TensorCore starts with for its two calls' staging buffers. -/
def PG (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => PG (F := F) d)
        ∗ bigSep Finset.univ fun thr : Thread nD τ => bigSep Finset.univ fun q : Fin 2 => (P A).x q thr) := by
  unfold u₀
  iintro Hu
  ihave H := (ownU_pair (initOf (K (F := F)).hsCells (K (F := F)).hsToks) ((uP (F := F), 1) : UP × Counters)) $$ Hu
  icases H with ⟨HH, HR⟩
  ihave H := (own_pair_emb (embR : Emb (UP × Counters) 𝕄) (uP (F := F)) (1 : Counters)) $$ HR
  icases H with ⟨HP, -⟩
  unfold uP
  imod (Pipeline.fund_ghost (Pipeline.pin (pcfgs (F := F)) adm) EP cellOf_inj) $$ HP with ⟨Hg, Ht⟩
  imodintro
  isplitl [HH]; · iexact HH
  isplitl [Hg Ht]
  · unfold PG
    rw [bigSep_sep']
    isplitl [Hg]; · iexact Hg
    iexact Ht
  rw [show (bigSep Finset.univ fun thr : Thread nD τ => bigSep Finset.univ fun q : Fin 2 => (P (F := F) A).x q thr) = bigSep Finset.univ fun _ => iprop(emp) from
    bigSep_congr fun _ _ => bigSep_emp' _, bigSep_emp']
  iempintro

end Cert.Proof.Whole

end
-- ==== Proof.Whole.Tile.lean ====
/-
  What both tile kernels share: a subcore's own buffers and semaphores taken out by name, and a vector read or written through a unit rectangle.
-/
module

public import proofs.«01_k».proof.Proof.Whole.Setup

@[expose] public section

set_option synthInstance.maxHeartbeats 400000

noncomputable section

namespace Cert.Proof.Whole

open Cert.Proof.Sc (placed picked Perm Placed idx_ext V5120 V16 picked_at placed_at storeIdx_hit storeIdx_miss storeIdx_eq ofLane_zero)

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- A family over a set is the family over a part and over the rest. -/
theorem bigSep_part {I : Type} [DecidableEq I] {s t : Finset I} (h : t ⊆ s) (Φ : I → sProp 𝕄) :
    bigSep s Φ = iprop((bigSep t Φ) ∗ bigSep (s \ t) Φ) := by
  exact (congrArg (fun u => bigSep u Φ) (Finset.union_sdiff_of_subset h).symm).trans (bigSep_union Finset.disjoint_sdiff)

/-- A subcore's own buffers: some by name, each at some contents, and the rest. -/
theorem ownBufs_part (d : Dev nD) (c : Fin τ.nSC) (i : Fin τ.nSub) (t : Finset (Ref sig .scVector))
    (ht : ∀ b ∈ t, ((Proc.scVector c i).devRef b).owner = .proc (.scVector c i)) :
    (ownBufs (V d c i) : sProp 𝕄)
      = iprop((bigSep t fun b => iprop(∃ f, (V d c i).loc b ↦{fullShare} f))
          ∗ bigSep (ownRefs (τ := τ) (.scVector c i) \ t.map ⟨(Proc.scVector c i).devRef, Proc.devRef_injective _⟩)
              fun b => iprop(∃ f, ((d, b) : Loc nD τ sig) ↦{fullShare} f)) := by
  unfold SparseCore.Cfg.ownBufs
  rw [bigSep_part (t := t.map ⟨(Proc.scVector c i).devRef, Proc.devRef_injective _⟩) (by
    intro b hb
    obtain ⟨r, hr, rfl⟩ := Finset.mem_map.mp hb
    exact SparseCore.Cfg.mem_ownRefs_of_owner (p := Proc.scVector c i) (ht r hr)), bigSep_map]
  rfl

/-- A subcore's own semaphores: some by name, at zero, and the rest. -/
theorem ownSems_part (d : Dev nD) (c : Fin τ.nSC) (i : Fin τ.nSub) (t : Finset (SemLoc sig)) (ht : ∀ s ∈ t, s.isScoped .scVector = true) :
    (ownSems0 (V d c i) : sProp 𝕄)
      = iprop((bigSep t fun s => semVal (V d c i, s) 0)
          ∗ bigSep (ownCells (V d c i) \ t.map ⟨fun s => ((V d c i, s) : GSem nD τ sig), fun _ _ e => (Prod.mk.inj e).2⟩) fun g => semVal g 0) := by
  unfold SparseCore.Cfg.ownSems0
  rw [bigSep_part (t := t.map ⟨fun s => ((V d c i, s) : GSem nD τ sig), fun _ _ e => (Prod.mk.inj e).2⟩) (by
    intro g hg
    obtain ⟨s, hs, rfl⟩ := Finset.mem_map.mp hg
    exact mem_ownCells.mpr ⟨rfl, ht s hs⟩), bigSep_map]
  rfl

end Cert.Proof.Whole

end
-- ==== Proof.Whole.Permute.lean ====
/-
  The permute call's task: the four coordinate columns and the ranks are fetched whole, 320 trips each compute sixteen boxes and store their
  five values at their ranks, and the task's 160 elements of each of the five results are written out.
-/
module

public import proofs.«01_k».proof.Proof.Whole.Tile

@[expose] public section

set_option synthInstance.maxHeartbeats 400000

noncomputable section

namespace Cert.Proof.Whole

open Cert.Proof.Sc (placed picked Perm Placed idx_ext V5120 V16 picked_at placed_at storeIdx_hit storeIdx_miss storeIdx_eq ofLane_zero)

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "xV" => (Memref.whole Cert.KernelIdeal.main_v7_scv : Memref Cert.KernelIdeal.sig Kind.scVector Space.hbm Cert.KernelIdeal.S5120 EltTy.f32)
local notation "yV" => (Memref.whole Cert.KernelIdeal.main_v9_scv : Memref Cert.KernelIdeal.sig Kind.scVector Space.hbm Cert.KernelIdeal.S5120 EltTy.f32)
local notation "uV" => (Memref.whole Cert.KernelIdeal.main_v11_scv : Memref Cert.KernelIdeal.sig Kind.scVector Space.hbm Cert.KernelIdeal.S5120 EltTy.f32)
local notation "wV" => (Memref.whole Cert.KernelIdeal.main_v13_scv : Memref Cert.KernelIdeal.sig Kind.scVector Space.hbm Cert.KernelIdeal.S5120 EltTy.f32)
local notation "rV" => (Memref.whole Cert.KernelIdeal.main_v4_scv : Memref Cert.KernelIdeal.sig Kind.scVector Space.hbm Cert.KernelIdeal.S5120 EltTy.i32)
local notation "o0V" => (Memref.whole Cert.KernelIdeal.main_v14_0_scv : Memref Cert.KernelIdeal.sig Kind.scVector Space.hbm Cert.KernelIdeal.S5120 EltTy.f32)
local notation "o1V" => (Memref.whole Cert.KernelIdeal.main_v14_1_scv : Memref Cert.KernelIdeal.sig Kind.scVector Space.hbm Cert.KernelIdeal.S5120 EltTy.f32)
local notation "o2V" => (Memref.whole Cert.KernelIdeal.main_v14_2_scv : Memref Cert.KernelIdeal.sig Kind.scVector Space.hbm Cert.KernelIdeal.S5120 EltTy.f32)
local notation "o3V" => (Memref.whole Cert.KernelIdeal.main_v14_3_scv : Memref Cert.KernelIdeal.sig Kind.scVector Space.hbm Cert.KernelIdeal.S5120 EltTy.f32)
local notation "o4V" => (Memref.whole Cert.KernelIdeal.main_v14_4_scv : Memref Cert.KernelIdeal.sig Kind.scVector Space.hbm Cert.KernelIdeal.S5120 EltTy.f32)
local notation "b0" => (Memref.whole Cert.KernelIdeal.cc1_scratch0 : Memref Cert.KernelIdeal.sig Kind.scVector Space.vmem Cert.KernelIdeal.S5120 EltTy.f32)
local notation "b1" => (Memref.whole Cert.KernelIdeal.cc1_scratch1 : Memref Cert.KernelIdeal.sig Kind.scVector Space.vmem Cert.KernelIdeal.S5120 EltTy.f32)
local notation "b2" => (Memref.whole Cert.KernelIdeal.cc1_scratch2 : Memref Cert.KernelIdeal.sig Kind.scVector Space.vmem Cert.KernelIdeal.S5120 EltTy.f32)
local notation "b3" => (Memref.whole Cert.KernelIdeal.cc1_scratch3 : Memref Cert.KernelIdeal.sig Kind.scVector Space.vmem Cert.KernelIdeal.S5120 EltTy.f32)
local notation "b4" => (Memref.whole Cert.KernelIdeal.cc1_scratch4 : Memref Cert.KernelIdeal.sig Kind.scVector Space.vmem Cert.KernelIdeal.S5120 EltTy.i32)
local notation "b5" => (Memref.whole Cert.KernelIdeal.cc1_scratch5 : Memref Cert.KernelIdeal.sig Kind.scVector Space.vmem Cert.KernelIdeal.S5120 EltTy.f32)
local notation "b6" => (Memref.whole Cert.KernelIdeal.cc1_scratch6 : Memref Cert.KernelIdeal.sig Kind.scVector Space.vmem Cert.KernelIdeal.S5120 EltTy.f32)
local notation "b7" => (Memref.whole Cert.KernelIdeal.cc1_scratch7 : Memref Cert.KernelIdeal.sig Kind.scVector Space.vmem Cert.KernelIdeal.S5120 EltTy.f32)
local notation "b8" => (Memref.whole Cert.KernelIdeal.cc1_scratch8 : Memref Cert.KernelIdeal.sig Kind.scVector Space.vmem Cert.KernelIdeal.S5120 EltTy.f32)
local notation "b9" => (Memref.whole Cert.KernelIdeal.cc1_scratch9 : Memref Cert.KernelIdeal.sig Kind.scVector Space.vmem Cert.KernelIdeal.S5120 EltTy.f32)

variable [FloatOps F] (A : Ops F)

section Permute

variable (d : Dev nD) (L : grid1.Coords)

abbrev cV (L : grid1.Coords) : Fin τ.nSC := (L 0).castLE hcore1
abbrev jV (L : grid1.Coords) : Fin τ.nSub := (L 1).castLE hsub1
/-- The task's chunk. -/
abbrev wL (L : grid1.Coords) : Fin 32 := ⟨2 * (L 1).val + (L 0).val, by
  have h0 : (L 0).val < 2 := (L 0).isLt
  have h1 : (L 1).val < 16 := (L 1).isLt
  omega⟩

/-- The elements the task writes, as the body spells them. -/
abbrev rowK (L : grid1.Coords) : Rect S5120 := Rect.unit (s := S5120) (k1_off2 L) S160.size (k1_off2_inb L)

omit [FloatOps F] in
theorem rowK_eq : rowK L = chunk (wL L) := by
  unfold rowK chunk Rect.part Rect.block
  congr 1 <;> funext a
  · rw [k1_off2_eq]
    match a with
    | 0 =>
      have e : 320 * (L 1).val + 160 * (L 0).val = (2 * (L 1).val + (L 0).val) * 160 := by omega
      simpa [Shape.partIx, Shape.partSize] using e
  · match a with
    | 0 => simp [Shape.partSize]

abbrev o0K (L : grid1.Coords) : Memref sig .scVector .hbm S160 .f32 := (o0V).slice (rowK L) (fun _ => rfl)
omit [FloatOps F] in
theorem set_o0K : (o0K L).view.set = chunkSet (wL L) := by
  show ((o0V).view.slice (rowK L)).set = _
  rw [View.set_slice, rowK_eq]; exact Finset.map_refl
omit [FloatOps F] in
theorem pts_o0K (f : Buf (Elt F) (o0Loc d)) :
    ((o0K L).view.loc (V d (cV L) (jV L)) ↦[(o0K L).view.set]{fullShare} f : sProp 𝕄) = o0Loc d ↦[chunkSet (wL L)]{fullShare} f := by
  rw [set_o0K]

abbrev o1K (L : grid1.Coords) : Memref sig .scVector .hbm S160 .f32 := (o1V).slice (rowK L) (fun _ => rfl)
omit [FloatOps F] in
theorem set_o1K : (o1K L).view.set = chunkSet (wL L) := by
  show ((o1V).view.slice (rowK L)).set = _
  rw [View.set_slice, rowK_eq]; exact Finset.map_refl
omit [FloatOps F] in
theorem pts_o1K (f : Buf (Elt F) (o1Loc d)) :
    ((o1K L).view.loc (V d (cV L) (jV L)) ↦[(o1K L).view.set]{fullShare} f : sProp 𝕄) = o1Loc d ↦[chunkSet (wL L)]{fullShare} f := by
  rw [set_o1K]

abbrev o2K (L : grid1.Coords) : Memref sig .scVector .hbm S160 .f32 := (o2V).slice (rowK L) (fun _ => rfl)
omit [FloatOps F] in
theorem set_o2K : (o2K L).view.set = chunkSet (wL L) := by
  show ((o2V).view.slice (rowK L)).set = _
  rw [View.set_slice, rowK_eq]; exact Finset.map_refl
omit [FloatOps F] in
theorem pts_o2K (f : Buf (Elt F) (o2Loc d)) :
    ((o2K L).view.loc (V d (cV L) (jV L)) ↦[(o2K L).view.set]{fullShare} f : sProp 𝕄) = o2Loc d ↦[chunkSet (wL L)]{fullShare} f := by
  rw [set_o2K]

abbrev o3K (L : grid1.Coords) : Memref sig .scVector .hbm S160 .f32 := (o3V).slice (rowK L) (fun _ => rfl)
omit [FloatOps F] in
theorem set_o3K : (o3K L).view.set = chunkSet (wL L) := by
  show ((o3V).view.slice (rowK L)).set = _
  rw [View.set_slice, rowK_eq]; exact Finset.map_refl
omit [FloatOps F] in
theorem pts_o3K (f : Buf (Elt F) (o3Loc d)) :
    ((o3K L).view.loc (V d (cV L) (jV L)) ↦[(o3K L).view.set]{fullShare} f : sProp 𝕄) = o3Loc d ↦[chunkSet (wL L)]{fullShare} f := by
  rw [set_o3K]

abbrev o4K (L : grid1.Coords) : Memref sig .scVector .hbm S160 .f32 := (o4V).slice (rowK L) (fun _ => rfl)
omit [FloatOps F] in
theorem set_o4K : (o4K L).view.set = chunkSet (wL L) := by
  show ((o4V).view.slice (rowK L)).set = _
  rw [View.set_slice, rowK_eq]; exact Finset.map_refl
omit [FloatOps F] in
theorem pts_o4K (f : Buf (Elt F) (o4Loc d)) :
    ((o4K L).view.loc (V d (cV L) (jV L)) ↦[(o4K L).view.set]{fullShare} f : sProp 𝕄) = o4Loc d ↦[chunkSet (wL L)]{fullShare} f := by
  rw [set_o4K]
omit [FloatOps F] in
theorem pts_xV (q : PosShare TreeShare) (f : Buf (Elt F) (xaLoc d)) :
    ((xV).view.loc (V d (cV L) (jV L)) ↦[(xV).view.set]{q} f : sProp 𝕄) = xaLoc d ↦{q} f := by
  simp only [Memref.view_whole, View.set_whole]
omit [FloatOps F] in
theorem pts_yV (q : PosShare TreeShare) (f : Buf (Elt F) (yaLoc d)) :
    ((yV).view.loc (V d (cV L) (jV L)) ↦[(yV).view.set]{q} f : sProp 𝕄) = yaLoc d ↦{q} f := by
  simp only [Memref.view_whole, View.set_whole]
omit [FloatOps F] in
theorem pts_uV (q : PosShare TreeShare) (f : Buf (Elt F) (xbLoc d)) :
    ((uV).view.loc (V d (cV L) (jV L)) ↦[(uV).view.set]{q} f : sProp 𝕄) = xbLoc d ↦{q} f := by
  simp only [Memref.view_whole, View.set_whole]
omit [FloatOps F] in
theorem pts_wV (q : PosShare TreeShare) (f : Buf (Elt F) (ybLoc d)) :
    ((wV).view.loc (V d (cV L) (jV L)) ↦[(wV).view.set]{q} f : sProp 𝕄) = ybLoc d ↦{q} f := by
  simp only [Memref.view_whole, View.set_whole]
omit [FloatOps F] in
theorem pts_rV (q : PosShare TreeShare) (f : Buf (Elt F) (rkLoc d)) :
    ((rV).view.loc (V d (cV L) (jV L)) ↦[(rV).view.set]{q} f : sProp 𝕄) = rkLoc d ↦{q} f := by
  simp only [Memref.view_whole, View.set_whole]

/-- The task's semaphores and scratches. -/
abbrev sems0 : Finset (SemLoc sig) := {.dma cc1_scoped0.sem, .dma cc1_scoped1.sem, .dma cc1_scoped2.sem, .dma cc1_scoped3.sem, .dma cc1_scoped4.sem, .dma cc1_scoped5.sem, .dma cc1_scoped6.sem, .dma cc1_scoped7.sem, .dma cc1_scoped8.sem, .dma cc1_scoped9.sem}
abbrev refs0 : Finset (Ref sig .scVector) := {cc1_scratch0, cc1_scratch1, cc1_scratch2, cc1_scratch3, cc1_scratch4, cc1_scratch5, cc1_scratch6, cc1_scratch7, cc1_scratch8, cc1_scratch9}

omit [FloatOps F] in
theorem sems0_eq (thr : Thread nD τ) : (bigSep sems0 fun s => (semVal (thr, s) 0 : sProp 𝕄))
    = iprop(semVal (thr, .dma cc1_scoped0.sem) 0 ∗ semVal (thr, .dma cc1_scoped1.sem) 0 ∗ semVal (thr, .dma cc1_scoped2.sem) 0 ∗ semVal (thr, .dma cc1_scoped3.sem) 0 ∗ semVal (thr, .dma cc1_scoped4.sem) 0 ∗ semVal (thr, .dma cc1_scoped5.sem) 0 ∗ semVal (thr, .dma cc1_scoped6.sem) 0 ∗ semVal (thr, .dma cc1_scoped7.sem) 0 ∗ semVal (thr, .dma cc1_scoped8.sem) 0 ∗ semVal (thr, .dma cc1_scoped9.sem) 0) := by
  unfold sems0
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
omit [FloatOps F] in
theorem refs0_eq (Φ : Ref sig .scVector → sProp 𝕄) : (bigSep refs0 Φ)
    = iprop(Φ cc1_scratch0 ∗ Φ cc1_scratch1 ∗ Φ cc1_scratch2 ∗ Φ cc1_scratch3 ∗ Φ cc1_scratch4 ∗ Φ cc1_scratch5 ∗ Φ cc1_scratch6 ∗ Φ cc1_scratch7 ∗ Φ cc1_scratch8 ∗ Φ cc1_scratch9) := by
  unfold refs0
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

end Permute

end Cert.Proof.Whole

end
-- ==== Proof.Whole.PermuteRun.lean ====
/-
  The permute task's run.
-/
module

public import proofs.«01_k».proof.Proof.Whole.Permute

@[expose] public section

set_option synthInstance.maxHeartbeats 400000

noncomputable section

namespace Cert.Proof.Whole

open Cert.Proof.Sc (placed picked Perm Placed idx_ext V5120 V16 picked_at placed_at storeIdx_hit storeIdx_miss storeIdx_eq ofLane_zero)

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "xV" => (Memref.whole Cert.KernelIdeal.main_v7_scv : Memref Cert.KernelIdeal.sig Kind.scVector Space.hbm Cert.KernelIdeal.S5120 EltTy.f32)
local notation "yV" => (Memref.whole Cert.KernelIdeal.main_v9_scv : Memref Cert.KernelIdeal.sig Kind.scVector Space.hbm Cert.KernelIdeal.S5120 EltTy.f32)
local notation "uV" => (Memref.whole Cert.KernelIdeal.main_v11_scv : Memref Cert.KernelIdeal.sig Kind.scVector Space.hbm Cert.KernelIdeal.S5120 EltTy.f32)
local notation "wV" => (Memref.whole Cert.KernelIdeal.main_v13_scv : Memref Cert.KernelIdeal.sig Kind.scVector Space.hbm Cert.KernelIdeal.S5120 EltTy.f32)
local notation "rV" => (Memref.whole Cert.KernelIdeal.main_v4_scv : Memref Cert.KernelIdeal.sig Kind.scVector Space.hbm Cert.KernelIdeal.S5120 EltTy.i32)
local notation "o0V" => (Memref.whole Cert.KernelIdeal.main_v14_0_scv : Memref Cert.KernelIdeal.sig Kind.scVector Space.hbm Cert.KernelIdeal.S5120 EltTy.f32)
local notation "o1V" => (Memref.whole Cert.KernelIdeal.main_v14_1_scv : Memref Cert.KernelIdeal.sig Kind.scVector Space.hbm Cert.KernelIdeal.S5120 EltTy.f32)
local notation "o2V" => (Memref.whole Cert.KernelIdeal.main_v14_2_scv : Memref Cert.KernelIdeal.sig Kind.scVector Space.hbm Cert.KernelIdeal.S5120 EltTy.f32)
local notation "o3V" => (Memref.whole Cert.KernelIdeal.main_v14_3_scv : Memref Cert.KernelIdeal.sig Kind.scVector Space.hbm Cert.KernelIdeal.S5120 EltTy.f32)
local notation "o4V" => (Memref.whole Cert.KernelIdeal.main_v14_4_scv : Memref Cert.KernelIdeal.sig Kind.scVector Space.hbm Cert.KernelIdeal.S5120 EltTy.f32)
local notation "b0" => (Memref.whole Cert.KernelIdeal.cc1_scratch0 : Memref Cert.KernelIdeal.sig Kind.scVector Space.vmem Cert.KernelIdeal.S5120 EltTy.f32)
local notation "b1" => (Memref.whole Cert.KernelIdeal.cc1_scratch1 : Memref Cert.KernelIdeal.sig Kind.scVector Space.vmem Cert.KernelIdeal.S5120 EltTy.f32)
local notation "b2" => (Memref.whole Cert.KernelIdeal.cc1_scratch2 : Memref Cert.KernelIdeal.sig Kind.scVector Space.vmem Cert.KernelIdeal.S5120 EltTy.f32)
local notation "b3" => (Memref.whole Cert.KernelIdeal.cc1_scratch3 : Memref Cert.KernelIdeal.sig Kind.scVector Space.vmem Cert.KernelIdeal.S5120 EltTy.f32)
local notation "b4" => (Memref.whole Cert.KernelIdeal.cc1_scratch4 : Memref Cert.KernelIdeal.sig Kind.scVector Space.vmem Cert.KernelIdeal.S5120 EltTy.i32)
local notation "b5" => (Memref.whole Cert.KernelIdeal.cc1_scratch5 : Memref Cert.KernelIdeal.sig Kind.scVector Space.vmem Cert.KernelIdeal.S5120 EltTy.f32)
local notation "b6" => (Memref.whole Cert.KernelIdeal.cc1_scratch6 : Memref Cert.KernelIdeal.sig Kind.scVector Space.vmem Cert.KernelIdeal.S5120 EltTy.f32)
local notation "b7" => (Memref.whole Cert.KernelIdeal.cc1_scratch7 : Memref Cert.KernelIdeal.sig Kind.scVector Space.vmem Cert.KernelIdeal.S5120 EltTy.f32)
local notation "b8" => (Memref.whole Cert.KernelIdeal.cc1_scratch8 : Memref Cert.KernelIdeal.sig Kind.scVector Space.vmem Cert.KernelIdeal.S5120 EltTy.f32)
local notation "b9" => (Memref.whole Cert.KernelIdeal.cc1_scratch9 : Memref Cert.KernelIdeal.sig Kind.scVector Space.vmem Cert.KernelIdeal.S5120 EltTy.f32)

variable [FloatOps F] (A : Ops F)

section Permute

variable (d : Dev nD) (L : grid1.Coords)

omit [FloatOps F] in
theorem pts_b0 (f : Buf (Elt F) ((V d (cV L) (jV L)).loc cc1_scratch0)) :
    ((b0).view.loc (V d (cV L) (jV L)) ↦{fullShare} f : sProp 𝕄) = (V d (cV L) (jV L)).loc cc1_scratch0 ↦{fullShare} f := rfl
omit [FloatOps F] in
theorem pts_b1 (f : Buf (Elt F) ((V d (cV L) (jV L)).loc cc1_scratch1)) :
    ((b1).view.loc (V d (cV L) (jV L)) ↦{fullShare} f : sProp 𝕄) = (V d (cV L) (jV L)).loc cc1_scratch1 ↦{fullShare} f := rfl
omit [FloatOps F] in
theorem pts_b2 (f : Buf (Elt F) ((V d (cV L) (jV L)).loc cc1_scratch2)) :
    ((b2).view.loc (V d (cV L) (jV L)) ↦{fullShare} f : sProp 𝕄) = (V d (cV L) (jV L)).loc cc1_scratch2 ↦{fullShare} f := rfl
omit [FloatOps F] in
theorem pts_b3 (f : Buf (Elt F) ((V d (cV L) (jV L)).loc cc1_scratch3)) :
    ((b3).view.loc (V d (cV L) (jV L)) ↦{fullShare} f : sProp 𝕄) = (V d (cV L) (jV L)).loc cc1_scratch3 ↦{fullShare} f := rfl
omit [FloatOps F] in
theorem pts_b4 (f : Buf (Elt F) ((V d (cV L) (jV L)).loc cc1_scratch4)) :
    ((b4).view.loc (V d (cV L) (jV L)) ↦{fullShare} f : sProp 𝕄) = (V d (cV L) (jV L)).loc cc1_scratch4 ↦{fullShare} f := rfl
omit [FloatOps F] in
theorem pts_b5 (f : Buf (Elt F) ((V d (cV L) (jV L)).loc cc1_scratch5)) :
    ((b5).view.loc (V d (cV L) (jV L)) ↦{fullShare} f : sProp 𝕄) = (V d (cV L) (jV L)).loc cc1_scratch5 ↦{fullShare} f := rfl
omit [FloatOps F] in
theorem pts_b6 (f : Buf (Elt F) ((V d (cV L) (jV L)).loc cc1_scratch6)) :
    ((b6).view.loc (V d (cV L) (jV L)) ↦{fullShare} f : sProp 𝕄) = (V d (cV L) (jV L)).loc cc1_scratch6 ↦{fullShare} f := rfl
omit [FloatOps F] in
theorem pts_b7 (f : Buf (Elt F) ((V d (cV L) (jV L)).loc cc1_scratch7)) :
    ((b7).view.loc (V d (cV L) (jV L)) ↦{fullShare} f : sProp 𝕄) = (V d (cV L) (jV L)).loc cc1_scratch7 ↦{fullShare} f := rfl
omit [FloatOps F] in
theorem pts_b8 (f : Buf (Elt F) ((V d (cV L) (jV L)).loc cc1_scratch8)) :
    ((b8).view.loc (V d (cV L) (jV L)) ↦{fullShare} f : sProp 𝕄) = (V d (cV L) (jV L)).loc cc1_scratch8 ↦{fullShare} f := rfl
omit [FloatOps F] in
theorem pts_b9 (f : Buf (Elt F) ((V d (cV L) (jV L)).loc cc1_scratch9)) :
    ((b9).view.loc (V d (cV L) (jV L)) ↦{fullShare} f : sProp 𝕄) = (V d (cV L) (jV L)).loc cc1_scratch9 ↦{fullShare} f := rfl

/-- The scratch memories belong to the subcore that names them. -/
theorem owner_refs0 : ∀ b ∈ refs0, ((Proc.scVector (cV L) (jV L)).devRef b).owner = .proc (.scVector (cV L) (jV L)) := by
  intro b hb
  simp only [refs0, Finset.mem_insert, Finset.mem_singleton] at hb
  rcases hb with rfl | rfl | rfl | rfl | rfl | rfl | rfl | rfl | rfl | rfl <;> rfl

/-- The loop's invariant before trip `t`: the fetched columns and ranks as they are, and in each target scratch the first
    `16 t` elements at their ranks. -/
def inv (t : Nat) (_ : PUnit) : sProp 𝕄 :=
  iprop(∃ g5 g6 g7 g8 g9, ⌜Placed (16 * t) (A.rk d) (lo (A.xa d) (A.xb d)) g5 ∧ Placed (16 * t) (A.rk d) (lo (A.ya d) (A.yb d)) g6
      ∧ Placed (16 * t) (A.rk d) (hi (A.xa d) (A.xb d)) g7 ∧ Placed (16 * t) (A.rk d) (hi (A.ya d) (A.yb d)) g8
      ∧ Placed (16 * t) (A.rk d) (area (A.xa d) (A.ya d) (A.xb d) (A.yb d)) g9⌝
    ∗ ((b0).view.loc (V d (cV L) (jV L)) ↦{fullShare} A.xa d)
    ∗ ((b1).view.loc (V d (cV L) (jV L)) ↦{fullShare} A.ya d)
    ∗ ((b2).view.loc (V d (cV L) (jV L)) ↦{fullShare} A.xb d)
    ∗ ((b3).view.loc (V d (cV L) (jV L)) ↦{fullShare} A.yb d)
    ∗ ((b4).view.loc (V d (cV L) (jV L)) ↦{fullShare} A.rk d)
    ∗ ((b5).view.loc (V d (cV L) (jV L)) ↦{fullShare} g5)
    ∗ ((b6).view.loc (V d (cV L) (jV L)) ↦{fullShare} g6)
    ∗ ((b7).view.loc (V d (cV L) (jV L)) ↦{fullShare} g7)
    ∗ ((b8).view.loc (V d (cV L) (jV L)) ↦{fullShare} g8)
    ∗ ((b9).view.loc (V d (cV L) (jV L)) ↦{fullShare} g9))

/-- The sixteen elements trip `t` reads. -/
abbrev rectT (t : Fin k1_t1_loop.trips) : Rect S5120 := Rect.unit (s := S5120) (k1_off1 t) S16.size (k1_off1_inb t)

/-- Where in the whole vector lane `x` of trip `t` stands. -/
def em (t : Fin k1_t1_loop.trips) (x : V16.Idx) : V5120.Idx := (rectT t).toLoadRect.idx x

theorem em_val (t : Fin k1_t1_loop.trips) (x : V16.Idx) : (em t x 0).val = 16 * t.val + (x 0).val := by
  unfold em
  rw [LoadRect.idx_apply]
  show k1_off1 t 0 + 1 * (x 0).val = _
  rw [k1_off1_eq]
  simp

omit [FloatOps F] in
theorem acc_b5 (f : Buf (Elt F) ((V d (cV L) (jV L)).loc cc1_scratch5)) :
    (((b5).access (.whole S5120)).loc (V d (cV L) (jV L)) ↦[((b5).access (.whole S5120)).set]{fullShare} f : sProp 𝕄)
      = (b5).view.loc (V d (cV L) (jV L)) ↦{fullShare} f := by
  rw [show ((b5).access (.whole S5120)).set = Finset.univ from Memref.set_access_whole cc1_scratch5]
omit [FloatOps F] in
theorem put_b5 (f : Buf (Elt F) ((V d (cV L) (jV L)).loc cc1_scratch5)) (w : Buf (Elt F) ((V d (cV L) (jV L)).loc cc1_scratch5) → Buf (Elt F) ((V d (cV L) (jV L)).loc cc1_scratch5)) :
    (((b5).access (.whole S5120)).loc (V d (cV L) (jV L)) ↦[((b5).access (.whole S5120)).set]{fullShare}
        ((b5).access (.whole S5120)).write (Elt F) f (w (((b5).access (.whole S5120)).read (Elt F) f)) Finset.univ : sProp 𝕄)
      = (b5).view.loc (V d (cV L) (jV L)) ↦{fullShare} w f := by
  rw [acc_b5, show ((b5).access (.whole S5120)).write (Elt F) f (w (((b5).access (.whole S5120)).read (Elt F) f)) Finset.univ = w f from
    (Memref.write_access_whole_univ (Elt F) cc1_scratch5 f _).trans (congrArg w (Memref.read_access_whole (Elt F) cc1_scratch5 f))]
omit [FloatOps F] in
theorem acc_b6 (f : Buf (Elt F) ((V d (cV L) (jV L)).loc cc1_scratch6)) :
    (((b6).access (.whole S5120)).loc (V d (cV L) (jV L)) ↦[((b6).access (.whole S5120)).set]{fullShare} f : sProp 𝕄)
      = (b6).view.loc (V d (cV L) (jV L)) ↦{fullShare} f := by
  rw [show ((b6).access (.whole S5120)).set = Finset.univ from Memref.set_access_whole cc1_scratch6]
omit [FloatOps F] in
theorem put_b6 (f : Buf (Elt F) ((V d (cV L) (jV L)).loc cc1_scratch6)) (w : Buf (Elt F) ((V d (cV L) (jV L)).loc cc1_scratch6) → Buf (Elt F) ((V d (cV L) (jV L)).loc cc1_scratch6)) :
    (((b6).access (.whole S5120)).loc (V d (cV L) (jV L)) ↦[((b6).access (.whole S5120)).set]{fullShare}
        ((b6).access (.whole S5120)).write (Elt F) f (w (((b6).access (.whole S5120)).read (Elt F) f)) Finset.univ : sProp 𝕄)
      = (b6).view.loc (V d (cV L) (jV L)) ↦{fullShare} w f := by
  rw [acc_b6, show ((b6).access (.whole S5120)).write (Elt F) f (w (((b6).access (.whole S5120)).read (Elt F) f)) Finset.univ = w f from
    (Memref.write_access_whole_univ (Elt F) cc1_scratch6 f _).trans (congrArg w (Memref.read_access_whole (Elt F) cc1_scratch6 f))]
omit [FloatOps F] in
theorem acc_b7 (f : Buf (Elt F) ((V d (cV L) (jV L)).loc cc1_scratch7)) :
    (((b7).access (.whole S5120)).loc (V d (cV L) (jV L)) ↦[((b7).access (.whole S5120)).set]{fullShare} f : sProp 𝕄)
      = (b7).view.loc (V d (cV L) (jV L)) ↦{fullShare} f := by
  rw [show ((b7).access (.whole S5120)).set = Finset.univ from Memref.set_access_whole cc1_scratch7]
omit [FloatOps F] in
theorem put_b7 (f : Buf (Elt F) ((V d (cV L) (jV L)).loc cc1_scratch7)) (w : Buf (Elt F) ((V d (cV L) (jV L)).loc cc1_scratch7) → Buf (Elt F) ((V d (cV L) (jV L)).loc cc1_scratch7)) :
    (((b7).access (.whole S5120)).loc (V d (cV L) (jV L)) ↦[((b7).access (.whole S5120)).set]{fullShare}
        ((b7).access (.whole S5120)).write (Elt F) f (w (((b7).access (.whole S5120)).read (Elt F) f)) Finset.univ : sProp 𝕄)
      = (b7).view.loc (V d (cV L) (jV L)) ↦{fullShare} w f := by
  rw [acc_b7, show ((b7).access (.whole S5120)).write (Elt F) f (w (((b7).access (.whole S5120)).read (Elt F) f)) Finset.univ = w f from
    (Memref.write_access_whole_univ (Elt F) cc1_scratch7 f _).trans (congrArg w (Memref.read_access_whole (Elt F) cc1_scratch7 f))]
omit [FloatOps F] in
theorem acc_b8 (f : Buf (Elt F) ((V d (cV L) (jV L)).loc cc1_scratch8)) :
    (((b8).access (.whole S5120)).loc (V d (cV L) (jV L)) ↦[((b8).access (.whole S5120)).set]{fullShare} f : sProp 𝕄)
      = (b8).view.loc (V d (cV L) (jV L)) ↦{fullShare} f := by
  rw [show ((b8).access (.whole S5120)).set = Finset.univ from Memref.set_access_whole cc1_scratch8]
omit [FloatOps F] in
theorem put_b8 (f : Buf (Elt F) ((V d (cV L) (jV L)).loc cc1_scratch8)) (w : Buf (Elt F) ((V d (cV L) (jV L)).loc cc1_scratch8) → Buf (Elt F) ((V d (cV L) (jV L)).loc cc1_scratch8)) :
    (((b8).access (.whole S5120)).loc (V d (cV L) (jV L)) ↦[((b8).access (.whole S5120)).set]{fullShare}
        ((b8).access (.whole S5120)).write (Elt F) f (w (((b8).access (.whole S5120)).read (Elt F) f)) Finset.univ : sProp 𝕄)
      = (b8).view.loc (V d (cV L) (jV L)) ↦{fullShare} w f := by
  rw [acc_b8, show ((b8).access (.whole S5120)).write (Elt F) f (w (((b8).access (.whole S5120)).read (Elt F) f)) Finset.univ = w f from
    (Memref.write_access_whole_univ (Elt F) cc1_scratch8 f _).trans (congrArg w (Memref.read_access_whole (Elt F) cc1_scratch8 f))]
omit [FloatOps F] in
theorem acc_b9 (f : Buf (Elt F) ((V d (cV L) (jV L)).loc cc1_scratch9)) :
    (((b9).access (.whole S5120)).loc (V d (cV L) (jV L)) ↦[((b9).access (.whole S5120)).set]{fullShare} f : sProp 𝕄)
      = (b9).view.loc (V d (cV L) (jV L)) ↦{fullShare} f := by
  rw [show ((b9).access (.whole S5120)).set = Finset.univ from Memref.set_access_whole cc1_scratch9]
omit [FloatOps F] in
theorem put_b9 (f : Buf (Elt F) ((V d (cV L) (jV L)).loc cc1_scratch9)) (w : Buf (Elt F) ((V d (cV L) (jV L)).loc cc1_scratch9) → Buf (Elt F) ((V d (cV L) (jV L)).loc cc1_scratch9)) :
    (((b9).access (.whole S5120)).loc (V d (cV L) (jV L)) ↦[((b9).access (.whole S5120)).set]{fullShare}
        ((b9).access (.whole S5120)).write (Elt F) f (w (((b9).access (.whole S5120)).read (Elt F) f)) Finset.univ : sProp 𝕄)
      = (b9).view.loc (V d (cV L) (jV L)) ↦{fullShare} w f := by
  rw [acc_b9, show ((b9).access (.whole S5120)).write (Elt F) f (w (((b9).access (.whole S5120)).read (Elt F) f)) Finset.univ = w f from
    (Memref.write_access_whole_univ (Elt F) cc1_scratch9 f _).trans (congrArg w (Memref.read_access_whole (Elt F) cc1_scratch9 f))]

/-- A trip's store puts sixteen more elements at their ranks. -/
theorem step_b5 (hp : Perm (A.rk d)) (t : Fin k1_t1_loop.trips) (g : FVec F S5120 .f32)
    (h : Placed (16 * t.val) (A.rk d) (lo (A.xa d) (A.xb d)) g)
    (hin : ∀ a x, ((![(View.readAt (Elt F) (b4).view (rectT t).toLoadRect (A.rk d))] : Fin 1 → IVec S16 32) a x).toNat < S5120.size a) :
    Placed (16 * (t.val + 1)) (A.rk d) (lo (A.xa d) (A.xb d))
      (storeIdx (F := F) (s := S5120) (e := .f32) g ![(View.readAt (Elt F) (b4).view (rectT t).toLoadRect (A.rk d))]
        (k1_pay1 (View.readAt (Elt F) (b0).view (rectT t).toLoadRect (A.xa d)) (View.readAt (Elt F) (b2).view (rectT t).toLoadRect (A.xb d))) (fun _ => 1#1) false hin) :=
  h.step hp (em t) (em_val t) _ (fun _ => rfl) _ (fun x => by
    simp only [k1_pay1, k1_pay2, k1_pay3, k1_pay4, k1_pay5, lo, Cert.Proof.Whole.hi, area, mulf, subf, minimumf, maximumf, broadcast]; rfl) hin

/-- A trip's store puts sixteen more elements at their ranks. -/
theorem step_b6 (hp : Perm (A.rk d)) (t : Fin k1_t1_loop.trips) (g : FVec F S5120 .f32)
    (h : Placed (16 * t.val) (A.rk d) (lo (A.ya d) (A.yb d)) g)
    (hin : ∀ a x, ((![(View.readAt (Elt F) (b4).view (rectT t).toLoadRect (A.rk d))] : Fin 1 → IVec S16 32) a x).toNat < S5120.size a) :
    Placed (16 * (t.val + 1)) (A.rk d) (lo (A.ya d) (A.yb d))
      (storeIdx (F := F) (s := S5120) (e := .f32) g ![(View.readAt (Elt F) (b4).view (rectT t).toLoadRect (A.rk d))]
        (k1_pay3 (View.readAt (Elt F) (b1).view (rectT t).toLoadRect (A.ya d)) (View.readAt (Elt F) (b3).view (rectT t).toLoadRect (A.yb d))) (fun _ => 1#1) false hin) :=
  h.step hp (em t) (em_val t) _ (fun _ => rfl) _ (fun x => by
    simp only [k1_pay1, k1_pay2, k1_pay3, k1_pay4, k1_pay5, lo, Cert.Proof.Whole.hi, area, mulf, subf, minimumf, maximumf, broadcast]; rfl) hin

/-- A trip's store puts sixteen more elements at their ranks. -/
theorem step_b7 (hp : Perm (A.rk d)) (t : Fin k1_t1_loop.trips) (g : FVec F S5120 .f32)
    (h : Placed (16 * t.val) (A.rk d) (hi (A.xa d) (A.xb d)) g)
    (hin : ∀ a x, ((![(View.readAt (Elt F) (b4).view (rectT t).toLoadRect (A.rk d))] : Fin 1 → IVec S16 32) a x).toNat < S5120.size a) :
    Placed (16 * (t.val + 1)) (A.rk d) (hi (A.xa d) (A.xb d))
      (storeIdx (F := F) (s := S5120) (e := .f32) g ![(View.readAt (Elt F) (b4).view (rectT t).toLoadRect (A.rk d))]
        (k1_pay2 (View.readAt (Elt F) (b0).view (rectT t).toLoadRect (A.xa d)) (View.readAt (Elt F) (b2).view (rectT t).toLoadRect (A.xb d))) (fun _ => 1#1) false hin) :=
  h.step hp (em t) (em_val t) _ (fun _ => rfl) _ (fun x => by
    simp only [k1_pay1, k1_pay2, k1_pay3, k1_pay4, k1_pay5, lo, Cert.Proof.Whole.hi, area, mulf, subf, minimumf, maximumf, broadcast]; rfl) hin

/-- A trip's store puts sixteen more elements at their ranks. -/
theorem step_b8 (hp : Perm (A.rk d)) (t : Fin k1_t1_loop.trips) (g : FVec F S5120 .f32)
    (h : Placed (16 * t.val) (A.rk d) (hi (A.ya d) (A.yb d)) g)
    (hin : ∀ a x, ((![(View.readAt (Elt F) (b4).view (rectT t).toLoadRect (A.rk d))] : Fin 1 → IVec S16 32) a x).toNat < S5120.size a) :
    Placed (16 * (t.val + 1)) (A.rk d) (hi (A.ya d) (A.yb d))
      (storeIdx (F := F) (s := S5120) (e := .f32) g ![(View.readAt (Elt F) (b4).view (rectT t).toLoadRect (A.rk d))]
        (k1_pay4 (View.readAt (Elt F) (b1).view (rectT t).toLoadRect (A.ya d)) (View.readAt (Elt F) (b3).view (rectT t).toLoadRect (A.yb d))) (fun _ => 1#1) false hin) :=
  h.step hp (em t) (em_val t) _ (fun _ => rfl) _ (fun x => by
    simp only [k1_pay1, k1_pay2, k1_pay3, k1_pay4, k1_pay5, lo, Cert.Proof.Whole.hi, area, mulf, subf, minimumf, maximumf, broadcast]; rfl) hin

/-- A trip's store puts sixteen more elements at their ranks. -/
theorem step_b9 (hp : Perm (A.rk d)) (t : Fin k1_t1_loop.trips) (g : FVec F S5120 .f32)
    (h : Placed (16 * t.val) (A.rk d) (area (A.xa d) (A.ya d) (A.xb d) (A.yb d)) g)
    (hin : ∀ a x, ((![(View.readAt (Elt F) (b4).view (rectT t).toLoadRect (A.rk d))] : Fin 1 → IVec S16 32) a x).toNat < S5120.size a) :
    Placed (16 * (t.val + 1)) (A.rk d) (area (A.xa d) (A.ya d) (A.xb d) (A.yb d))
      (storeIdx (F := F) (s := S5120) (e := .f32) g ![(View.readAt (Elt F) (b4).view (rectT t).toLoadRect (A.rk d))]
        (k1_pay5 (View.readAt (Elt F) (b0).view (rectT t).toLoadRect (A.xa d)) (View.readAt (Elt F) (b2).view (rectT t).toLoadRect (A.xb d)) (View.readAt (Elt F) (b1).view (rectT t).toLoadRect (A.ya d)) (View.readAt (Elt F) (b3).view (rectT t).toLoadRect (A.yb d))) (fun _ => 1#1) false hin) :=
  h.step hp (em t) (em_val t) _ (fun _ => rfl) _ (fun x => by
    simp only [k1_pay1, k1_pay2, k1_pay3, k1_pay4, k1_pay5, lo, Cert.Proof.Whole.hi, area, mulf, subf, minimumf, maximumf, broadcast]; rfl) hin

set_option maxHeartbeats 2000000 in
/-- One trip: sixteen elements more at their ranks. -/
theorem trip (hp : Perm (A.rk d)) (t : Fin k1_t1_loop.trips) (acc : PUnit) :
    inv A d L t.val acc ⊢ wp frame (wpE (defs₀ (F := F)) 𝒱₀ (V d (cV L) (jV L)) none) Set.univ
      (k1_t1_body L xV (Memref.isWhole_whole _) yV (Memref.isWhole_whole _) uV (Memref.isWhole_whole _) wV (Memref.isWhole_whole _) rV (Memref.isWhole_whole _) o0V (Memref.isWhole_whole _) o1V (Memref.isWhole_whole _) o2V (Memref.isWhole_whole _) o3V (Memref.isWhole_whole _) o4V (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) cc1_scoped0 cc1_scoped1 cc1_scoped2 cc1_scoped3 cc1_scoped4 cc1_scoped5 cc1_scoped6 cc1_scoped7 cc1_scoped8 cc1_scoped9 t acc) (inv A d L (t.val + 1)) := by
  unfold inv
  iintro ⟨%g5, %g6, %g7, %g8, %g9, %hg, Hb0, Hb1, Hb2, Hb3, Hb4, Hb5, Hb6, Hb7, Hb8, Hb9⟩
  obtain ⟨h5, h6, h7, h8, h9⟩ := hg
  unfold k1_t1_body
  sl_exec
  have hids : ∀ x, View.readAt (Elt F) (b4).view (rectT t).toLoadRect (A.rk d) x = A.rk d (em t x) := fun _ => rfl
  have hchk : k1_chk1 (View.readAt (Elt F) (b4).view (rectT t).toLoadRect (A.rk d)) := by
    have : ∀ x, (View.readAt (Elt F) (b4).view (rectT t).toLoadRect (A.rk d) x).toNat < 5120 := fun x => by rw [hids]; exact hp.lt _
    have h : ∀ a x, ((![View.readAt (Elt F) (b4).view (rectT t).toLoadRect (A.rk d)] : Fin 1 → IVec S16 32) a x).toNat < S5120.size a := fun a x => by
      obtain rfl : a = 0 := Subsingleton.elim _ _
      exact this x
    exact ⟨h, h, h, h, h⟩
  rw [wp_assume_of _ _ _ _ hchk]
  ihave Hb5 := (Entails.of_eq (acc_b5 (F := F) d L _).symm) $$ Hb5
  iapply (SparseCore.wp_vectorStoreIdx 𝒱₀ (V d (cV L) (jV L)) none Set.univ (base := b5)) $$ Hb5; iintro Hb5
  ihave Hb5 := (Entails.of_eq (put_b5 (F := F) d L _ (fun f => storeIdx f _ _ _ _ _))) $$ Hb5
  ihave Hb6 := (Entails.of_eq (acc_b6 (F := F) d L _).symm) $$ Hb6
  iapply (SparseCore.wp_vectorStoreIdx 𝒱₀ (V d (cV L) (jV L)) none Set.univ (base := b6)) $$ Hb6; iintro Hb6
  ihave Hb6 := (Entails.of_eq (put_b6 (F := F) d L _ (fun f => storeIdx f _ _ _ _ _))) $$ Hb6
  ihave Hb7 := (Entails.of_eq (acc_b7 (F := F) d L _).symm) $$ Hb7
  iapply (SparseCore.wp_vectorStoreIdx 𝒱₀ (V d (cV L) (jV L)) none Set.univ (base := b7)) $$ Hb7; iintro Hb7
  ihave Hb7 := (Entails.of_eq (put_b7 (F := F) d L _ (fun f => storeIdx f _ _ _ _ _))) $$ Hb7
  ihave Hb8 := (Entails.of_eq (acc_b8 (F := F) d L _).symm) $$ Hb8
  iapply (SparseCore.wp_vectorStoreIdx 𝒱₀ (V d (cV L) (jV L)) none Set.univ (base := b8)) $$ Hb8; iintro Hb8
  ihave Hb8 := (Entails.of_eq (put_b8 (F := F) d L _ (fun f => storeIdx f _ _ _ _ _))) $$ Hb8
  ihave Hb9 := (Entails.of_eq (acc_b9 (F := F) d L _).symm) $$ Hb9
  iapply (SparseCore.wp_vectorStoreIdx 𝒱₀ (V d (cV L) (jV L)) none Set.univ (base := b9)) $$ Hb9; iintro Hb9
  ihave Hb9 := (Entails.of_eq (put_b9 (F := F) d L _ (fun f => storeIdx f _ _ _ _ _))) $$ Hb9
  sl_step
  iexists _, _, _, _, _
  isplitr
  rotate_left
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hb8]; · iexact Hb8
  iexact Hb9
  ipureintro
  exact ⟨step_b5 A d hp t _ h5 _, step_b6 A d hp t _ h6 _, step_b7 A d hp t _ h7 _, step_b8 A d hp t _ h8 _, step_b9 A d hp t _ h9 _⟩

omit [FloatOps F] in
/-- What the write-out leaves in the subcore's chunk is the scratch's own values there. -/
theorem out_o0K (fo : Buf (Elt F) (o0Loc d)) (g : FVec F S5120 .f32) :
    ((o0K L).view.loc (V d (cV L) (jV L)) ↦[(o0K L).view.set]{fullShare}
        (o0K L).view.writes (Elt F) fo [⟨Rect.whole S160, ((b5).slice (rowK L) (fun _ => rfl)).view.read (Elt F) g⟩] : sProp 𝕄) = o0Loc d ↦[chunkSet (wL L)]{fullShare} g := by
  rw [← pts_o0K d L]
  refine pointsTo_congr fun i hi => ?_
  obtain ⟨x, -, rfl⟩ := Finset.mem_map.mp hi
  change S160.Idx at x
  rw [View.writes_singleton]
  have hx : (o0K L).view.emb x = ((o0K L).view.slice (Rect.whole S160)).emb x := congrArg (o0K L).view.emb (Rect.emb_whole_apply S160 x).symm
  rw [hx, View.write_emb_of_mem _ _ (Finset.mem_univ _), ← hx]
  rfl

omit [FloatOps F] in
/-- What the write-out leaves in the subcore's chunk is the scratch's own values there. -/
theorem out_o1K (fo : Buf (Elt F) (o1Loc d)) (g : FVec F S5120 .f32) :
    ((o1K L).view.loc (V d (cV L) (jV L)) ↦[(o1K L).view.set]{fullShare}
        (o1K L).view.writes (Elt F) fo [⟨Rect.whole S160, ((b6).slice (rowK L) (fun _ => rfl)).view.read (Elt F) g⟩] : sProp 𝕄) = o1Loc d ↦[chunkSet (wL L)]{fullShare} g := by
  rw [← pts_o1K d L]
  refine pointsTo_congr fun i hi => ?_
  obtain ⟨x, -, rfl⟩ := Finset.mem_map.mp hi
  change S160.Idx at x
  rw [View.writes_singleton]
  have hx : (o1K L).view.emb x = ((o1K L).view.slice (Rect.whole S160)).emb x := congrArg (o1K L).view.emb (Rect.emb_whole_apply S160 x).symm
  rw [hx, View.write_emb_of_mem _ _ (Finset.mem_univ _), ← hx]
  rfl

omit [FloatOps F] in
/-- What the write-out leaves in the subcore's chunk is the scratch's own values there. -/
theorem out_o2K (fo : Buf (Elt F) (o2Loc d)) (g : FVec F S5120 .f32) :
    ((o2K L).view.loc (V d (cV L) (jV L)) ↦[(o2K L).view.set]{fullShare}
        (o2K L).view.writes (Elt F) fo [⟨Rect.whole S160, ((b7).slice (rowK L) (fun _ => rfl)).view.read (Elt F) g⟩] : sProp 𝕄) = o2Loc d ↦[chunkSet (wL L)]{fullShare} g := by
  rw [← pts_o2K d L]
  refine pointsTo_congr fun i hi => ?_
  obtain ⟨x, -, rfl⟩ := Finset.mem_map.mp hi
  change S160.Idx at x
  rw [View.writes_singleton]
  have hx : (o2K L).view.emb x = ((o2K L).view.slice (Rect.whole S160)).emb x := congrArg (o2K L).view.emb (Rect.emb_whole_apply S160 x).symm
  rw [hx, View.write_emb_of_mem _ _ (Finset.mem_univ _), ← hx]
  rfl

omit [FloatOps F] in
/-- What the write-out leaves in the subcore's chunk is the scratch's own values there. -/
theorem out_o3K (fo : Buf (Elt F) (o3Loc d)) (g : FVec F S5120 .f32) :
    ((o3K L).view.loc (V d (cV L) (jV L)) ↦[(o3K L).view.set]{fullShare}
        (o3K L).view.writes (Elt F) fo [⟨Rect.whole S160, ((b8).slice (rowK L) (fun _ => rfl)).view.read (Elt F) g⟩] : sProp 𝕄) = o3Loc d ↦[chunkSet (wL L)]{fullShare} g := by
  rw [← pts_o3K d L]
  refine pointsTo_congr fun i hi => ?_
  obtain ⟨x, -, rfl⟩ := Finset.mem_map.mp hi
  change S160.Idx at x
  rw [View.writes_singleton]
  have hx : (o3K L).view.emb x = ((o3K L).view.slice (Rect.whole S160)).emb x := congrArg (o3K L).view.emb (Rect.emb_whole_apply S160 x).symm
  rw [hx, View.write_emb_of_mem _ _ (Finset.mem_univ _), ← hx]
  rfl

omit [FloatOps F] in
/-- What the write-out leaves in the subcore's chunk is the scratch's own values there. -/
theorem out_o4K (fo : Buf (Elt F) (o4Loc d)) (g : FVec F S5120 .f32) :
    ((o4K L).view.loc (V d (cV L) (jV L)) ↦[(o4K L).view.set]{fullShare}
        (o4K L).view.writes (Elt F) fo [⟨Rect.whole S160, ((b9).slice (rowK L) (fun _ => rfl)).view.read (Elt F) g⟩] : sProp 𝕄) = o4Loc d ↦[chunkSet (wL L)]{fullShare} g := by
  rw [← pts_o4K d L]
  refine pointsTo_congr fun i hi => ?_
  obtain ⟨x, -, rfl⟩ := Finset.mem_map.mp hi
  change S160.Idx at x
  rw [View.writes_singleton]
  have hx : (o4K L).view.emb x = ((o4K L).view.slice (Rect.whole S160)).emb x := congrArg (o4K L).view.emb (Rect.emb_whole_apply S160 x).symm
  rw [hx, View.write_emb_of_mem _ _ (Finset.mem_univ _), ← hx]
  rfl

omit [FloatOps F] in
/-- A whole fetch leaves the fetched contents. -/
theorem fetch_b0 (f w : Buf (Elt F) ((V d (cV L) (jV L)).loc cc1_scratch0)) :
    ((b0).view.loc (V d (cV L) (jV L)) ↦{fullShare} (b0).view.write (Elt F) f w Finset.univ : sProp 𝕄) = (b0).view.loc (V d (cV L) (jV L)) ↦{fullShare} w := by
  rw [show (b0).view.write (Elt F) f w Finset.univ = w from View.write_whole_univ cc1_scratch0 f w]
omit [FloatOps F] in
/-- A whole fetch leaves the fetched contents. -/
theorem fetch_b1 (f w : Buf (Elt F) ((V d (cV L) (jV L)).loc cc1_scratch1)) :
    ((b1).view.loc (V d (cV L) (jV L)) ↦{fullShare} (b1).view.write (Elt F) f w Finset.univ : sProp 𝕄) = (b1).view.loc (V d (cV L) (jV L)) ↦{fullShare} w := by
  rw [show (b1).view.write (Elt F) f w Finset.univ = w from View.write_whole_univ cc1_scratch1 f w]
omit [FloatOps F] in
/-- A whole fetch leaves the fetched contents. -/
theorem fetch_b2 (f w : Buf (Elt F) ((V d (cV L) (jV L)).loc cc1_scratch2)) :
    ((b2).view.loc (V d (cV L) (jV L)) ↦{fullShare} (b2).view.write (Elt F) f w Finset.univ : sProp 𝕄) = (b2).view.loc (V d (cV L) (jV L)) ↦{fullShare} w := by
  rw [show (b2).view.write (Elt F) f w Finset.univ = w from View.write_whole_univ cc1_scratch2 f w]
omit [FloatOps F] in
/-- A whole fetch leaves the fetched contents. -/
theorem fetch_b3 (f w : Buf (Elt F) ((V d (cV L) (jV L)).loc cc1_scratch3)) :
    ((b3).view.loc (V d (cV L) (jV L)) ↦{fullShare} (b3).view.write (Elt F) f w Finset.univ : sProp 𝕄) = (b3).view.loc (V d (cV L) (jV L)) ↦{fullShare} w := by
  rw [show (b3).view.write (Elt F) f w Finset.univ = w from View.write_whole_univ cc1_scratch3 f w]
omit [FloatOps F] in
/-- A whole fetch leaves the fetched contents. -/
theorem fetch_b4 (f w : Buf (Elt F) ((V d (cV L) (jV L)).loc cc1_scratch4)) :
    ((b4).view.loc (V d (cV L) (jV L)) ↦{fullShare} (b4).view.write (Elt F) f w Finset.univ : sProp 𝕄) = (b4).view.loc (V d (cV L) (jV L)) ↦{fullShare} w := by
  rw [show (b4).view.write (Elt F) f w Finset.univ = w from View.write_whole_univ cc1_scratch4 f w]

set_option maxRecDepth 4000 in
set_option maxHeartbeats 2000000 in
/-- The permute task on vector subcore `(L 0, L 1)` of device `d`. -/
theorem tile_body0 (hF : (K (F := F)).Facts) (hp : Perm (A.rk d)) (O : CellTallies nD τ sig (HIx 2)) (W : Waits sig (HIx 2)) (hO : ∀ g, O g none = 0) :
    iprop(levAts (K (F := F)).L (K (F := F)).lev ∗ emp ∗ go0 A d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__permute_call L xV (Memref.isWhole_whole _) yV (Memref.isWhole_whole _) uV (Memref.isWhole_whole _) wV (Memref.isWhole_whole _) rV (Memref.isWhole_whole _) o0V (Memref.isWhole_whole _) o1V (Memref.isWhole_whole _) o2V (Memref.isWhole_whole _) o3V (Memref.isWhole_whole _) o4V (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) cc1_scoped0 cc1_scoped1 cc1_scoped2 cc1_scoped3 cc1_scoped4 cc1_scoped5 cc1_scoped6 cc1_scoped7 cc1_scoped8 cc1_scoped9)
          fun _ => iprop(td0 A d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L),
    ownSems_part d (cV L) (jV L) sems0 (by decide), ownBufs_part d (cV L) (jV L) refs0 (owner_refs0 L), sems0_eq, refs0_eq]
  unfold go0 td0 reads0 outs0 res0
  iintro ⟨#Hlv, -, ⟨⟨HxV, HyV, HuV, HwV, HrV⟩, ⟨%fo0, Ho0⟩, ⟨%fo1, Ho1⟩, ⟨%fo2, Ho2⟩, ⟨%fo3, Ho3⟩, ⟨%fo4, Ho4⟩⟩,
    ⟨⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, ⟨%f9, Hb9⟩⟩, Hbufs⟩, ⟨⟨Hs0, Hs1, Hs2, Hs3, Hs4, Hs5, Hs6, Hs7, Hs8, Hs9⟩, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave HxV := (Entails.of_eq (pts_xV (F := F) d L _ _).symm) $$ HxV
  ihave HyV := (Entails.of_eq (pts_yV (F := F) d L _ _).symm) $$ HyV
  ihave HuV := (Entails.of_eq (pts_uV (F := F) d L _ _).symm) $$ HuV
  ihave HwV := (Entails.of_eq (pts_wV (F := F) d L _ _).symm) $$ HwV
  ihave HrV := (Entails.of_eq (pts_rV (F := F) d L _ _).symm) $$ HrV
  ihave Ho0 := (Entails.of_eq (pts_o0K (F := F) d L _).symm) $$ Ho0
  ihave Ho1 := (Entails.of_eq (pts_o1K (F := F) d L _).symm) $$ Ho1
  ihave Ho2 := (Entails.of_eq (pts_o2K (F := F) d L _).symm) $$ Ho2
  ihave Ho3 := (Entails.of_eq (pts_o3K (F := F) d L _).symm) $$ Ho3
  ihave Ho4 := (Entails.of_eq (pts_o4K (F := F) d L _).symm) $$ Ho4
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hb3 := (Entails.of_eq (pts_b3 (F := F) d L _).symm) $$ Hb3
  ihave Hb4 := (Entails.of_eq (pts_b4 (F := F) d L _).symm) $$ Hb4
  ihave Hb5 := (Entails.of_eq (pts_b5 (F := F) d L _).symm) $$ Hb5
  ihave Hb6 := (Entails.of_eq (pts_b6 (F := F) d L _).symm) $$ Hb6
  ihave Hb7 := (Entails.of_eq (pts_b7 (F := F) d L _).symm) $$ Hb7
  ihave Hb8 := (Entails.of_eq (pts_b8 (F := F) d L _).symm) $$ Hb8
  ihave Hb9 := (Entails.of_eq (pts_b9 (F := F) d L _).symm) $$ Hb9
  sl_unfold [cc1__permute_call, k1_part1]
  sl_exec (disch := exact View.amount_pos _ _ (show 0 < S5120.numel by decide))
  sl_for (inv A d L) $$ [Hb0 Hb1 Hb2 Hb3 Hb4 Hb5 Hb6 Hb7 Hb8 Hb9]
  case region =>
    intro t acc
    exact trip A d L hp t acc
  · unfold inv
    iexists f5, f6, f7, f8, f9
    isplitr
    · ipureintro
      exact ⟨Placed.zero _ _ _, Placed.zero _ _ _, Placed.zero _ _ _, Placed.zero _ _ _, Placed.zero _ _ _⟩
    isplitl [Hb0]; · iapply (Entails.of_eq (fetch_b0 (F := F) d L _ _)); iexact Hb0
    isplitl [Hb1]; · iapply (Entails.of_eq (fetch_b1 (F := F) d L _ _)); iexact Hb1
    isplitl [Hb2]; · iapply (Entails.of_eq (fetch_b2 (F := F) d L _ _)); iexact Hb2
    isplitl [Hb3]; · iapply (Entails.of_eq (fetch_b3 (F := F) d L _ _)); iexact Hb3
    isplitl [Hb4]; · iapply (Entails.of_eq (fetch_b4 (F := F) d L _ _)); iexact Hb4
    isplitl [Hb5]; · iexact Hb5
    isplitl [Hb6]; · iexact Hb6
    isplitl [Hb7]; · iexact Hb7
    isplitl [Hb8]; · iexact Hb8
    iexact Hb9
  iintro %_ HI
  unfold inv
  icases HI with ⟨%g5, %g6, %g7, %g8, %g9, %hg, Hb0, Hb1, Hb2, Hb3, Hb4, Hb5, Hb6, Hb7, Hb8, Hb9⟩
  sl_exec (disch := exact View.amount_pos _ _ (show 0 < S160.numel by decide))
  obtain ⟨h5, h6, h7, h8, h9⟩ := hg
  obtain rfl := Placed.eq hp (show Placed 5120 _ _ _ from h5)
  obtain rfl := Placed.eq hp (show Placed 5120 _ _ _ from h6)
  obtain rfl := Placed.eq hp (show Placed 5120 _ _ _ from h7)
  obtain rfl := Placed.eq hp (show Placed 5120 _ _ _ from h8)
  obtain rfl := Placed.eq hp (show Placed 5120 _ _ _ from h9)
  sl_step
  isplitl [HxV HyV HuV HwV HrV Ho0 Ho1 Ho2 Ho3 Ho4]
  · isplitl [HxV HyV HuV HwV HrV]
    · isplitl [HxV]; · iapply (Entails.of_eq (pts_xV (F := F) d L _ _)); iexact HxV
      isplitl [HyV]; · iapply (Entails.of_eq (pts_yV (F := F) d L _ _)); iexact HyV
      isplitl [HuV]; · iapply (Entails.of_eq (pts_uV (F := F) d L _ _)); iexact HuV
      isplitl [HwV]; · iapply (Entails.of_eq (pts_wV (F := F) d L _ _)); iexact HwV
      iapply (Entails.of_eq (pts_rV (F := F) d L _ _)); iexact HrV
    isplitl [Ho0]; · iapply (Entails.of_eq (out_o0K (F := F) d L _ (r0 A d))); iexact Ho0
    isplitl [Ho1]; · iapply (Entails.of_eq (out_o1K (F := F) d L _ (r1 A d))); iexact Ho1
    isplitl [Ho2]; · iapply (Entails.of_eq (out_o2K (F := F) d L _ (r2 A d))); iexact Ho2
    isplitl [Ho3]; · iapply (Entails.of_eq (out_o3K (F := F) d L _ (r3 A d))); iexact Ho3
    iapply (Entails.of_eq (out_o4K (F := F) d L _ (r4 A d))); iexact Ho4
  isplitl [Hb0 Hb1 Hb2 Hb3 Hb4 Hb5 Hb6 Hb7 Hb8 Hb9 Hbufs]
  · isplitr [Hbufs]
    · isplitl [Hb0]; · iexists _; iexact Hb0
      isplitl [Hb1]; · iexists _; iexact Hb1
      isplitl [Hb2]; · iexists _; iexact Hb2
      isplitl [Hb3]; · iexists _; iexact Hb3
      isplitl [Hb4]; · iexists _; iexact Hb4
      isplitl [Hb5]; · iexists _; iexact Hb5
      isplitl [Hb6]; · iexists _; iexact Hb6
      isplitl [Hb7]; · iexists _; iexact Hb7
      isplitl [Hb8]; · iexists _; iexact Hb8
      iexists _; iexact Hb9
    · iexact Hbufs
  isplitl [Hs0 Hs1 Hs2 Hs3 Hs4 Hs5 Hs6 Hs7 Hs8 Hs9 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hs9
    · iexact Hsems
  iexists _; isplitr
  rotate_left
  · iexact HO
  · ipureintro
    intro p hp'
    simp only [Finset.mem_insert] at hp'
    rcases hp' with rfl | rfl | rfl | rfl | rfl | rfl | rfl | rfl | rfl | rfl | h
    all_goals first | exact .inr rfl | exact .inl h

end Permute

end Cert.Proof.Whole

end
-- ==== Proof.Whole.Finalize.lean ====
/-
  The finalize call's task: the keep flags are fetched whole, the task's ranks and scores in their 160 elements; ten groups of sixteen pick
  the flag at each rank and multiply the score by it; the task's elements of the result are written out.
-/
module

public import proofs.«01_k».proof.Proof.Whole.Tile

@[expose] public section

set_option synthInstance.maxHeartbeats 400000

noncomputable section

namespace Cert.Proof.Whole

open Cert.Proof.Sc (placed picked Perm Placed idx_ext V5120 V16 picked_at placed_at storeIdx_hit storeIdx_miss storeIdx_eq ofLane_zero)

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "sV" => (Memref.whole Cert.KernelIdeal.main_v1_scv : Memref Cert.KernelIdeal.sig Kind.scVector Space.hbm Cert.KernelIdeal.S5120 EltTy.f32)
local notation "rV" => (Memref.whole Cert.KernelIdeal.main_v4_scv : Memref Cert.KernelIdeal.sig Kind.scVector Space.hbm Cert.KernelIdeal.S5120 EltTy.i32)
local notation "kV" => (Memref.whole Cert.KernelIdeal.main_v21_scv : Memref Cert.KernelIdeal.sig Kind.scVector Space.hbm Cert.KernelIdeal.S5120 EltTy.f32)
local notation "oV" => (Memref.whole Cert.KernelIdeal.main_v22_scv : Memref Cert.KernelIdeal.sig Kind.scVector Space.hbm Cert.KernelIdeal.S5120 EltTy.f32)
local notation "t0" => (Memref.whole Cert.KernelIdeal.cc3_scratch0 : Memref Cert.KernelIdeal.sig Kind.scVector Space.vmem Cert.KernelIdeal.S5120 EltTy.f32)
local notation "t1" => (Memref.whole Cert.KernelIdeal.cc3_scratch1 : Memref Cert.KernelIdeal.sig Kind.scVector Space.vmem Cert.KernelIdeal.S160 EltTy.i32)
local notation "t2" => (Memref.whole Cert.KernelIdeal.cc3_scratch2 : Memref Cert.KernelIdeal.sig Kind.scVector Space.vmem Cert.KernelIdeal.S160 EltTy.f32)
local notation "t3" => (Memref.whole Cert.KernelIdeal.cc3_scratch3 : Memref Cert.KernelIdeal.sig Kind.scVector Space.vmem Cert.KernelIdeal.S160 EltTy.f32)

variable [FloatOps F] (A : Ops F)

section Finalize

variable (d : Dev nD) (L : grid3.Coords)

abbrev cU (L : grid3.Coords) : Fin τ.nSC := (L 0).castLE hcore3
abbrev jU (L : grid3.Coords) : Fin τ.nSub := (L 1).castLE hsub3
/-- The task's chunk. -/
abbrev wU (L : grid3.Coords) : Fin 32 := ⟨2 * (L 1).val + (L 0).val, by
  have h0 : (L 0).val < 2 := (L 0).isLt
  have h1 : (L 1).val < 16 := (L 1).isLt
  omega⟩

/-- The elements the task reads of the ranks and of the scores, and those it writes, as the body spells them. -/
abbrev rowI (L : grid3.Coords) : Rect S5120 := Rect.unit (s := S5120) (k3_off1 L) S160.size (k3_off1_inb L)
abbrev rowO (L : grid3.Coords) : Rect S5120 := Rect.unit (s := S5120) (k3_off2 L) S160.size (k3_off2_inb L)

omit [FloatOps F] in
theorem rowO_eq : rowO L = chunk (wU L) := by
  unfold rowO chunk Rect.part Rect.block
  congr 1 <;> funext a
  · rw [k3_off2_eq]
    match a with
    | 0 =>
      have e : 320 * (L 1).val + 160 * (L 0).val = (2 * (L 1).val + (L 0).val) * 160 := by omega
      simpa [Shape.partIx, Shape.partSize] using e
  · match a with
    | 0 => simp [Shape.partSize]

/-- Where in the whole vector element `x` of the task's 160 stands. -/
theorem rowI_val (x : S160.Idx) : ((rowI L).emb x 0).val = 160 * (wU L).val + (x 0).val := by
  show k3_off1 L 0 + 1 * (x 0).val = _
  rw [k3_off1_eq]
  show 320 * (L 1).val + 160 * (L 0).val + 1 * (x 0).val = 160 * (2 * (L 1).val + (L 0).val) + (x 0).val
  omega
theorem rowO_val (x : S160.Idx) : ((rowO L).emb x 0).val = 160 * (wU L).val + (x 0).val := by
  show k3_off2 L 0 + 1 * (x 0).val = _
  rw [k3_off2_eq]
  show 320 * (L 1).val + 160 * (L 0).val + 1 * (x 0).val = 160 * (2 * (L 1).val + (L 0).val) + (x 0).val
  omega
theorem rowI_emb (x : S160.Idx) : (rowI L).emb x = (rowO L).emb x := idx_ext ((rowI_val L x).trans (rowO_val L x).symm)

abbrev oFK (L : grid3.Coords) : Memref sig .scVector .hbm S160 .f32 := (oV).slice (rowO L) (fun _ => rfl)
omit [FloatOps F] in
theorem set_oFK : (oFK L).view.set = chunkSet (wU L) := by
  show ((oV).view.slice (rowO L)).set = _
  rw [View.set_slice, rowO_eq]; exact Finset.map_refl
omit [FloatOps F] in
theorem pts_oFK (f : Buf (Elt F) (oFLoc d)) :
    ((oFK L).view.loc (V d (cU L) (jU L)) ↦[(oFK L).view.set]{fullShare} f : sProp 𝕄) = oFLoc d ↦[chunkSet (wU L)]{fullShare} f := by
  rw [set_oFK]
omit [FloatOps F] in
theorem ptsF_sV (q : PosShare TreeShare) (f : Buf (Elt F) (scLoc d)) :
    ((sV).view.loc (V d (cU L) (jU L)) ↦[(sV).view.set]{q} f : sProp 𝕄) = scLoc d ↦{q} f := by
  simp only [Memref.view_whole, View.set_whole]
omit [FloatOps F] in
theorem ptsF_rV (q : PosShare TreeShare) (f : Buf (Elt F) (rkLoc d)) :
    ((rV).view.loc (V d (cU L) (jU L)) ↦[(rV).view.set]{q} f : sProp 𝕄) = rkLoc d ↦{q} f := by
  simp only [Memref.view_whole, View.set_whole]
omit [FloatOps F] in
theorem ptsF_kV (q : PosShare TreeShare) (f : Buf (Elt F) (kpLoc d)) :
    ((kV).view.loc (V d (cU L) (jU L)) ↦[(kV).view.set]{q} f : sProp 𝕄) = kpLoc d ↦{q} f := by
  simp only [Memref.view_whole, View.set_whole]
omit [FloatOps F] in
theorem pts_t0 (f : Buf (Elt F) ((V d (cU L) (jU L)).loc cc3_scratch0)) :
    ((t0).view.loc (V d (cU L) (jU L)) ↦{fullShare} f : sProp 𝕄) = (V d (cU L) (jU L)).loc cc3_scratch0 ↦{fullShare} f := rfl
omit [FloatOps F] in
theorem pts_t1 (f : Buf (Elt F) ((V d (cU L) (jU L)).loc cc3_scratch1)) :
    ((t1).view.loc (V d (cU L) (jU L)) ↦{fullShare} f : sProp 𝕄) = (V d (cU L) (jU L)).loc cc3_scratch1 ↦{fullShare} f := rfl
omit [FloatOps F] in
theorem pts_t2 (f : Buf (Elt F) ((V d (cU L) (jU L)).loc cc3_scratch2)) :
    ((t2).view.loc (V d (cU L) (jU L)) ↦{fullShare} f : sProp 𝕄) = (V d (cU L) (jU L)).loc cc3_scratch2 ↦{fullShare} f := rfl
omit [FloatOps F] in
theorem pts_t3 (f : Buf (Elt F) ((V d (cU L) (jU L)).loc cc3_scratch3)) :
    ((t3).view.loc (V d (cU L) (jU L)) ↦{fullShare} f : sProp 𝕄) = (V d (cU L) (jU L)).loc cc3_scratch3 ↦{fullShare} f := rfl

/-- The task's semaphores and scratches. -/
abbrev sems1 : Finset (SemLoc sig) := {.dma cc3_scoped0.sem, .dma cc3_scoped1.sem, .dma cc3_scoped2.sem, .dma cc3_scoped3.sem}
abbrev refs1 : Finset (Ref sig .scVector) := {cc3_scratch0, cc3_scratch1, cc3_scratch2, cc3_scratch3}

omit [FloatOps F] in
theorem sems1_eq (thr : Thread nD τ) : (bigSep sems1 fun s => (semVal (thr, s) 0 : sProp 𝕄))
    = iprop(semVal (thr, .dma cc3_scoped0.sem) 0 ∗ semVal (thr, .dma cc3_scoped1.sem) 0 ∗ semVal (thr, .dma cc3_scoped2.sem) 0 ∗ semVal (thr, .dma cc3_scoped3.sem) 0) := by
  unfold sems1
  rw [SparseCore.bigSep_insert' (by decide), SparseCore.bigSep_insert' (by decide), SparseCore.bigSep_insert' (by decide), bigSep_singleton]
omit [FloatOps F] in
theorem refs1_eq (Φ : Ref sig .scVector → sProp 𝕄) : (bigSep refs1 Φ)
    = iprop(Φ cc3_scratch0 ∗ Φ cc3_scratch1 ∗ Φ cc3_scratch2 ∗ Φ cc3_scratch3) := by
  unfold refs1
  rw [SparseCore.bigSep_insert' (by decide), SparseCore.bigSep_insert' (by decide), SparseCore.bigSep_insert' (by decide), bigSep_singleton]

omit [FloatOps F] in
/-- The scratch memories belong to the subcore that names them. -/
theorem owner_refs1 : ∀ b ∈ refs1, ((Proc.scVector (cU L) (jU L)).devRef b).owner = .proc (.scVector (cU L) (jU L)) := by
  intro b hb
  simp only [refs1, Finset.mem_insert, Finset.mem_singleton] at hb
  rcases hb with rfl | rfl | rfl | rfl <;> rfl

omit [FloatOps F] in
/-- Ranks that lie in the table pass the check of the gather, whatever sixteen of them are read. -/
theorem rank_chk (b1 : Buf (Elt F) ((V d (cU L) (jU L)).loc cc3_scratch1)) (hlt : ∀ x : S160.Idx, (b1 x).toNat < 5120)
    (off : Fin S160.rank → ℕ) (inb : ∀ a, off a + S16.size a ≤ S160.size a) :
    ∀ a x, ((![View.readAt (Elt F) (t1).view (Rect.unit (s := S160) off S16.size inb).toLoadRect b1] : Fin 1 → IVec S16 32) a x).toNat < S5120.size a := fun a x => by
  obtain rfl : a = 0 := Subsingleton.elim _ _
  exact hlt _

/-- Sixteen of the products: each score times the flag at its rank. -/
theorem group_eq
    (b0 : Buf (Elt F) ((V d (cU L) (jU L)).loc cc3_scratch0)) (b1 : Buf (Elt F) ((V d (cU L) (jU L)).loc cc3_scratch1)) (b2 : Buf (Elt F) ((V d (cU L) (jU L)).loc cc3_scratch2))
    (e0 : b0 = A.kp d) (e1 : b1 = fun x => A.rk d ((rowI L).emb x)) (e2 : b2 = fun x => A.sc d ((rowI L).emb x))
    (off : Fin S160.rank → ℕ) (inb : ∀ a, off a + S16.size a ≤ S160.size a)
    (h : ∀ a x, ((![View.readAt (Elt F) (t1).view (Rect.unit (s := S160) off S16.size inb).toLoadRect b1] : Fin 1 → IVec S16 32) a x).toNat < S5120.size a)
    (x : S16.Idx) :
    mulf (View.readAt (Elt F) (t2).view (Rect.unit (s := S160) off S16.size inb).toLoadRect b2)
        (loadIdx (View.read (Elt F) ((t0).access (Rect.whole cc3_scratch0.ty.shape)) b0)
          ![View.readAt (Elt F) (t1).view (Rect.unit (s := S160) off S16.size inb).toLoadRect b1] h) x
      = rF A d ((rowO L).emb ((Rect.unit (s := S160) off S16.size inb).emb x)) := by
  subst e0 e1 e2
  have hr : View.read (Elt F) ((t0).access (Rect.whole cc3_scratch0.ty.shape)) (A.kp d) = A.kp d := Memref.read_access_whole (Elt F) cc3_scratch0 (A.kp d)
  rw [hr, ← rowI_emb L]
  have hpk := picked_at (rk := A.rk d) (v := A.kp d) (r := (rowI L).emb ((Rect.unit (s := S160) off S16.size inb).emb x))
    (idxAt (s := S5120) ![View.readAt (Elt F) (t1).view (Rect.unit (s := S160) off S16.size inb).toLoadRect fun x => A.rk d ((rowI L).emb x)] h x) rfl
  unfold rF
  simp only [mulf]
  rw [hpk]
  rfl

omit [FloatOps F] in
/-- What the write-out leaves in the task's chunk. -/
theorem out_oFK (fo : Buf (Elt F) (oFLoc d)) (w : FVec F S160 .f32) (g : FVec F S5120 .f32) (hw : ∀ x, w x = g ((rowO L).emb x)) :
    ((oFK L).view.loc (V d (cU L) (jU L)) ↦[(oFK L).view.set]{fullShare}
        (oFK L).view.writes (Elt F) fo [⟨Rect.whole S160, w⟩] : sProp 𝕄) = oFLoc d ↦[chunkSet (wU L)]{fullShare} g := by
  rw [← pts_oFK d L]
  refine pointsTo_congr fun i hi => ?_
  obtain ⟨x, -, rfl⟩ := Finset.mem_map.mp hi
  change S160.Idx at x
  rw [View.writes_singleton]
  have hx : (oFK L).view.emb x = ((oFK L).view.slice (Rect.whole S160)).emb x := congrArg (oFK L).view.emb (Rect.emb_whole_apply S160 x).symm
  rw [hx, View.write_emb_of_mem _ _ (Finset.mem_univ _), ← hx]
  exact hw x

set_option maxRecDepth 4000 in
set_option maxHeartbeats 4000000 in
/-- The finalize task on vector subcore `(L 0, L 1)` of device `d`. -/
theorem tile_body1 (hF : (K (F := F)).Facts) (hp : ∀ j, (A.rk d j).toNat < 5120) (O : CellTallies nD τ sig (HIx 2)) (W : Waits sig (HIx 2)) (hO : ∀ g, O g none = 0) :
    iprop(levAts (K (F := F)).L (K (F := F)).lev ∗ emp ∗ go1 A d (wU L)
        ∗ scopedBufs (V d (cU L) (jU L)) ∗ scopedSems0 (V d (cU L) (jU L)) ∗ owes (V d (cU L) (jU L)) O W)
      ⊢ wp frame (wpE (defs₀ (F := F)) 𝒱₀ (V d (cU L) (jU L)) none) Set.univ
          (cc3__finalize_call L sV (Memref.isWhole_whole _) rV (Memref.isWhole_whole _) kV (Memref.isWhole_whole _) oV (Memref.isWhole_whole _) t0 (Memref.isWhole_whole _) t1 (Memref.isWhole_whole _) t2 (Memref.isWhole_whole _) t3 (Memref.isWhole_whole _) cc3_scoped0 cc3_scoped1 cc3_scoped2 cc3_scoped3)
          fun _ => iprop(td1 A d (wU L)
            ∗ scopedBufs (V d (cU L) (jU L)) ∗ scopedSems0 (V d (cU L) (jU L))
            ∗ ∃ W', ⌜∀ p ∈ W', p ∈ W ∨ p.2 = none⌝ ∗ owes (V d (cU L) (jU L)) O W') := by
  rw [(K (F := F)).scopedBufs_V hF d (cU L) (jU L), SparseCore.Cfg.scopedSems0_V (Val := Elt F) d (cU L) (jU L),
    ownSems_part d (cU L) (jU L) sems1 (by decide), ownBufs_part d (cU L) (jU L) refs1 (owner_refs1 L), sems1_eq, refs1_eq]
  unfold go1 td1 reads1 outs1 res1
  iintro ⟨#Hlv, -, ⟨⟨HsV, HrV, HkV⟩, %fo, Ho⟩,
    ⟨⟨⟨%f0, Hb0⟩, ⟨%f1, Hb1⟩, ⟨%f2, Hb2⟩, ⟨%f3, Hb3⟩⟩, Hbufs⟩, ⟨⟨Hs0, Hs1, Hs2, Hs3⟩, Hsems⟩, HO⟩
  ihave Hmw := (show levAts (K (F := F)).L (K (F := F)).lev ⊢ Transfers.MayWaits (V d (cU L) (jU L)) (default : HIx 2) O from
    (K (F := F)).mayWaits_none (thr := V d (cU L) (jU L)) hO) $$ Hlv
  ihave HsV := (Entails.of_eq (ptsF_sV (F := F) d L _ _).symm) $$ HsV
  ihave HrV := (Entails.of_eq (ptsF_rV (F := F) d L _ _).symm) $$ HrV
  ihave HkV := (Entails.of_eq (ptsF_kV (F := F) d L _ _).symm) $$ HkV
  ihave Ho := (Entails.of_eq (pts_oFK (F := F) d L _).symm) $$ Ho
  ihave Hb0 := (Entails.of_eq (pts_t0 (F := F) d L _).symm) $$ Hb0
  ihave Hb1 := (Entails.of_eq (pts_t1 (F := F) d L _).symm) $$ Hb1
  ihave Hb2 := (Entails.of_eq (pts_t2 (F := F) d L _).symm) $$ Hb2
  ihave Hb3 := (Entails.of_eq (pts_t3 (F := F) d L _).symm) $$ Hb3
  sl_unfold [cc3__finalize_call, k3_part1]
  sl_exec (disch := first | exact View.amount_pos _ _ (show 0 < S5120.numel by decide) | exact View.amount_pos _ _ (show 0 < S160.numel by decide))
  generalize hb0 : View.write (Elt F) (t0).view f0 (tile_body1.sl.dma0 A d) Finset.univ = b0
  generalize hb1 : View.write (Elt F) (t1).view f1 (tile_body1.sl.dma0_1 A d L) Finset.univ = b1
  generalize hb2 : View.write (Elt F) (t2).view f2 (tile_body1.sl.dma0_2 A d L) Finset.univ = b2
  have e0 : b0 = A.kp d := by rw [← hb0]; exact View.write_whole_univ _ _ _
  have e1 : b1 = fun x => A.rk d ((rowI L).emb x) := by rw [← hb1]; exact View.write_whole_univ _ _ _
  have e2 : b2 = fun x => A.sc d ((rowI L).emb x) := by rw [← hb2]; exact View.write_whole_univ _ _ _
  have hlt : ∀ x : S160.Idx, (b1 x).toNat < 5120 := by intro x; rw [e1]; exact hp _
  clear hb0 hb1 hb2
  have hchk := rank_chk (F := F) d L b1 hlt
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  iapply (SparseCore.wp_vectorLoadIdx 𝒱₀ (V d (cU L) (jU L)) none Set.univ (base := t0) (S := Finset.univ) (q := fullShare) (Finset.subset_univ _)) $$ Hb0
  iintro Hb0
  sl_exec (disch := first | exact hchk _ _ | exact View.amount_pos _ _ (show 0 < S160.numel by decide))
  have hw : ∀ x, tile_body1.sl.dma3 d L f3 b0 b1 b2 hchk x = rF A d ((rowO L).emb x) := by
    intro x
    unfold tile_body1.sl.dma3 tile_body1.sl.Hb3_10
    unfold tile_body1.sl.r tile_body1.sl.r_1
    refine View.read_writes_apply_of_pieces (t3).view f3 (fun y => rF A d ((rowO L).emb y)) _ ?_ x (View.cover_of_tiled _ ![16] rfl x)
    intro p hpm
    simp only [List.mem_cons, List.not_mem_nil, or_false] at hpm
    rcases hpm with rfl | rfl | rfl | rfl | rfl | rfl | rfl | rfl | rfl | rfl <;> intro x <;>
      exact group_eq A d L b0 b1 b2 e0 e1 e2 _ _ _ x
  sl_step
  isplitl [HsV HrV HkV Ho]
  · isplitl [HsV HrV HkV]
    · isplitl [HsV]; · iapply (Entails.of_eq (ptsF_sV (F := F) d L _ _)); iexact HsV
      isplitl [HrV]; · iapply (Entails.of_eq (ptsF_rV (F := F) d L _ _)); iexact HrV
      iapply (Entails.of_eq (ptsF_kV (F := F) d L _ _)); iexact HkV
    iapply (Entails.of_eq (out_oFK (F := F) d L _ _ (rF A d) hw)); iexact Ho
  isplitl [Hb0 Hb1 Hb2 Hb3 Hbufs]
  · isplitr [Hbufs]
    · isplitl [Hb0]; · iexists _; iexact Hb0
      isplitl [Hb1]; · iexists _; iexact Hb1
      isplitl [Hb2]; · iexists _; iexact Hb2
      iexists _; iexact Hb3
    · iexact Hbufs
  isplitl [Hs0 Hs1 Hs2 Hs3 Hsems]
  · isplitr [Hsems]
    · isplitl [Hs0]; · iexact Hs0
      isplitl [Hs1]; · iexact Hs1
      isplitl [Hs2]; · iexact Hs2
      iexact Hs3
    · iexact Hsems
  iexists _
  isplitr
  rotate_left
  · iexact HO
  ipureintro
  intro p hp
  simp only [Finset.mem_insert] at hp
  rcases hp with rfl | rfl | rfl | rfl | h
  · exact .inr rfl
  · exact .inr rfl
  · exact .inr rfl
  · exact .inr rfl
  · exact .inl h

end Finalize

end Cert.Proof.Whole

end
-- ==== Proof.Whole.Launch.lean ====
/-
  The run of the two SparseCore calls with their host code: @main's host lines, the two launches and the last slice, from any memory whose
  ranks are a permutation, and what the argument and result buffers hold at the end.
-/
module

public import Idealize.ShloMosaic.Lib.Pipeline.Frame
public import proofs.«01_k».proof.Proof.Whole.PermuteRun
public import proofs.«01_k».proof.Proof.Whole.Finalize

@[expose] public section

set_option synthInstance.maxHeartbeats 400000

noncomputable section

namespace Cert.Proof.Whole

open Cert.Proof.Sc (placed picked Perm Placed idx_ext V5120 V16 picked_at placed_at storeIdx_hit storeIdx_miss storeIdx_eq ofLane_zero)

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (A : Ops F)

/-! ## The tasks' obligations -/

omit [FloatOps F] in
theorem obl_post {thr : Thread nD τ} {X B C : sProp 𝕄} {O : CellTallies nD τ sig (HIx 2)} {W : Waits sig (HIx 2)} {q : Fin 2} :
    iprop(X ∗ B ∗ C ∗ ∃ W', ⌜∀ p ∈ W', p ∈ W ∨ p.2 = none⌝ ∗ owes thr O W')
      ⊢ iprop(X ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A task's coordinates on the two grids. -/
def coords0 (c : Fin (grid1.bound 0)) (s : Fin (grid1.bound 1)) : grid1.Coords :=
  fun | 0 => c | 1 => s | ⟨_ + 2, h⟩ => absurd h (Nat.not_lt.2 (Nat.le_add_left _ _))
def coords1 (c : Fin (grid3.bound 0)) (s : Fin (grid3.bound 1)) : grid3.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 1 ()
      = SparseCore.onTile hcore1 hsub1 (fun c s => cc1__permute_call (coords0 c s) (Memref.whole main_v7_scv) (Memref.isWhole_whole _) (Memref.whole main_v9_scv) (Memref.isWhole_whole _) (Memref.whole main_v11_scv) (Memref.isWhole_whole _) (Memref.whole main_v13_scv) (Memref.isWhole_whole _) (Memref.whole main_v4_scv) (Memref.isWhole_whole _) (Memref.whole main_v14_0_scv) (Memref.isWhole_whole _) (Memref.whole main_v14_1_scv) (Memref.isWhole_whole _) (Memref.whole main_v14_2_scv) (Memref.isWhole_whole _) (Memref.whole main_v14_3_scv) (Memref.isWhole_whole _) (Memref.whole main_v14_4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) cc1_scoped0 cc1_scoped1 cc1_scoped2 cc1_scoped3 cc1_scoped4 cc1_scoped5 cc1_scoped6 cc1_scoped7 cc1_scoped8 cc1_scoped9) ⟨⟩ c s := rfl

theorem defs₀_vector1 (c : Fin τ.nSC) (s : Fin τ.nSub) :
    defs₀ (F := F) (.scVector c s) 3 ()
      = SparseCore.onTile hcore3 hsub3 (fun c s => cc3__finalize_call (coords1 c s) (Memref.whole main_v1_scv) (Memref.isWhole_whole _) (Memref.whole main_v4_scv) (Memref.isWhole_whole _) (Memref.whole main_v21_scv) (Memref.isWhole_whole _) (Memref.whole main_v22_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) cc3_scoped0 cc3_scoped1 cc3_scoped2 cc3_scoped3) ⟨⟩ c s := rfl

theorem tileObl0 (hp : ∀ d, Perm (A.rk d)) : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 A d (coords0 ⟨_, hci.1⟩ ⟨_, hci.2⟩) facts (hp d) O W hO).trans (wp_mono frame _ _ fun _ => obl_post)
theorem tileObl1 (hp : ∀ d, Perm (A.rk d)) : (K (F := F)).TileObl (D (F := F)) 𝒱 (P A) v₀ 1 := by
  intro d c i O W hO _ _
  simp only [show (P A).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (tile_body1 A d (coords1 ⟨_, hci.1⟩ ⟨_, hci.2⟩) facts (hp d).lt O W hO).trans (wp_mono frame _ _ fun _ => obl_post)

/-! ## What a call takes and gives back, whole -/

omit [FloatOps F] in
theorem tasks_eq (g : Fin 32 → sProp 𝕄) : (bigSep Finset.univ fun c : Fin 2 => bigSep Finset.univ fun i : Fin 16 => g (wid c i)) = bigSep Finset.univ g :=
  (result_chunks g).symm
omit [FloatOps F] in
theorem table_split {ℓ : Loc nD τ sig} (f : Buf (Elt F) ℓ) : (ℓ ↦{fullShare} f : sProp 𝕄) = bigSep Finset.univ fun w : Fin 32 => ℓ ↦{shr w} f :=
  (table_shares f).trans (tasks_eq fun w => ℓ ↦{shr w} f)
omit [FloatOps F] in
theorem o0_split (d : Dev nD) (f : Buf (Elt F) (o0Loc d)) : (o0Loc d ↦{fullShare} f : sProp 𝕄) = bigSep Finset.univ fun w : Fin 32 => o0Loc d ↦[chunkSet w]{fullShare} f :=
  (o0_chunks d f).trans (tasks_eq fun w => o0Loc d ↦[chunkSet w]{fullShare} f)
omit [FloatOps F] in
theorem o0_give (d : Dev nD) (f : Buf (Elt F) (o0Loc d)) :
    (o0Loc d ↦{fullShare} f : sProp 𝕄) ⊢ bigSep Finset.univ fun w : Fin 32 => iprop(∃ f, o0Loc d ↦[chunkSet w]{fullShare} f) := by
  rw [o0_split]
  exact bigSep_mono fun w _ => by
    change (_ : sProp 𝕄) ⊢ _
    iintro H; iexists f; iexact H
omit [FloatOps F] in
theorem o1_split (d : Dev nD) (f : Buf (Elt F) (o1Loc d)) : (o1Loc d ↦{fullShare} f : sProp 𝕄) = bigSep Finset.univ fun w : Fin 32 => o1Loc d ↦[chunkSet w]{fullShare} f :=
  (o1_chunks d f).trans (tasks_eq fun w => o1Loc d ↦[chunkSet w]{fullShare} f)
omit [FloatOps F] in
theorem o1_give (d : Dev nD) (f : Buf (Elt F) (o1Loc d)) :
    (o1Loc d ↦{fullShare} f : sProp 𝕄) ⊢ bigSep Finset.univ fun w : Fin 32 => iprop(∃ f, o1Loc d ↦[chunkSet w]{fullShare} f) := by
  rw [o1_split]
  exact bigSep_mono fun w _ => by
    change (_ : sProp 𝕄) ⊢ _
    iintro H; iexists f; iexact H
omit [FloatOps F] in
theorem o2_split (d : Dev nD) (f : Buf (Elt F) (o2Loc d)) : (o2Loc d ↦{fullShare} f : sProp 𝕄) = bigSep Finset.univ fun w : Fin 32 => o2Loc d ↦[chunkSet w]{fullShare} f :=
  (o2_chunks d f).trans (tasks_eq fun w => o2Loc d ↦[chunkSet w]{fullShare} f)
omit [FloatOps F] in
theorem o2_give (d : Dev nD) (f : Buf (Elt F) (o2Loc d)) :
    (o2Loc d ↦{fullShare} f : sProp 𝕄) ⊢ bigSep Finset.univ fun w : Fin 32 => iprop(∃ f, o2Loc d ↦[chunkSet w]{fullShare} f) := by
  rw [o2_split]
  exact bigSep_mono fun w _ => by
    change (_ : sProp 𝕄) ⊢ _
    iintro H; iexists f; iexact H
omit [FloatOps F] in
theorem o3_split (d : Dev nD) (f : Buf (Elt F) (o3Loc d)) : (o3Loc d ↦{fullShare} f : sProp 𝕄) = bigSep Finset.univ fun w : Fin 32 => o3Loc d ↦[chunkSet w]{fullShare} f :=
  (o3_chunks d f).trans (tasks_eq fun w => o3Loc d ↦[chunkSet w]{fullShare} f)
omit [FloatOps F] in
theorem o3_give (d : Dev nD) (f : Buf (Elt F) (o3Loc d)) :
    (o3Loc d ↦{fullShare} f : sProp 𝕄) ⊢ bigSep Finset.univ fun w : Fin 32 => iprop(∃ f, o3Loc d ↦[chunkSet w]{fullShare} f) := by
  rw [o3_split]
  exact bigSep_mono fun w _ => by
    change (_ : sProp 𝕄) ⊢ _
    iintro H; iexists f; iexact H
omit [FloatOps F] in
theorem o4_split (d : Dev nD) (f : Buf (Elt F) (o4Loc d)) : (o4Loc d ↦{fullShare} f : sProp 𝕄) = bigSep Finset.univ fun w : Fin 32 => o4Loc d ↦[chunkSet w]{fullShare} f :=
  (o4_chunks d f).trans (tasks_eq fun w => o4Loc d ↦[chunkSet w]{fullShare} f)
omit [FloatOps F] in
theorem o4_give (d : Dev nD) (f : Buf (Elt F) (o4Loc d)) :
    (o4Loc d ↦{fullShare} f : sProp 𝕄) ⊢ bigSep Finset.univ fun w : Fin 32 => iprop(∃ f, o4Loc d ↦[chunkSet w]{fullShare} f) := by
  rw [o4_split]
  exact bigSep_mono fun w _ => by
    change (_ : sProp 𝕄) ⊢ _
    iintro H; iexists f; iexact H
omit [FloatOps F] in
theorem oF_split (d : Dev nD) (f : Buf (Elt F) (oFLoc d)) : (oFLoc d ↦{fullShare} f : sProp 𝕄) = bigSep Finset.univ fun w : Fin 32 => oFLoc d ↦[chunkSet w]{fullShare} f :=
  (oF_chunks d f).trans (tasks_eq fun w => oFLoc d ↦[chunkSet w]{fullShare} f)
omit [FloatOps F] in
theorem oF_give (d : Dev nD) (f : Buf (Elt F) (oFLoc d)) :
    (oFLoc d ↦{fullShare} f : sProp 𝕄) ⊢ bigSep Finset.univ fun w : Fin 32 => iprop(∃ f, oFLoc d ↦[chunkSet w]{fullShare} f) := by
  rw [oF_split]
  exact bigSep_mono fun w _ => by
    change (_ : sProp 𝕄) ⊢ _
    iintro H; iexists f; iexact H

theorem st0_of (d : Dev nD) (f0 : Buf (Elt F) (o0Loc d)) (f1 : Buf (Elt F) (o1Loc d)) (f2 : Buf (Elt F) (o2Loc d)) (f3 : Buf (Elt F) (o3Loc d)) (f4 : Buf (Elt F) (o4Loc d)) :
    iprop((xaPts A d fullShare ∗ yaPts A d fullShare ∗ xbPts A d fullShare ∗ ybPts A d fullShare ∗ rkPts A d fullShare)
        ∗ (o0Loc d ↦{fullShare} f0) ∗ (o1Loc d ↦{fullShare} f1) ∗ (o2Loc d ↦{fullShare} f2) ∗ (o3Loc d ↦{fullShare} f3) ∗ (o4Loc d ↦{fullShare} f4))
      ⊢ (bigSep Finset.univ fun c : Fin ((K (F := F)).nCore 0) => (P A).st 0 d c : sProp 𝕄) := by
  refine BI.Entails.trans ?_ (Entails.of_eq (tasks_eq (F := F) fun w => go0 A d w).symm)
  unfold go0 reads0 outs0 xaPts yaPts xbPts ybPts rkPts
  simp only [bigSep_sep']
  change (_ : sProp 𝕄) ⊢ _
  iintro ⟨⟨Hx, Hy, Hu, Hw, Hr⟩, H0, H1, H2, H3, H4⟩
  isplitl [Hx Hy Hu Hw Hr]
  · isplitl [Hx]; · iapply (Entails.of_eq (table_split (F := F) _)); iexact Hx
    isplitl [Hy]; · iapply (Entails.of_eq (table_split (F := F) _)); iexact Hy
    isplitl [Hu]; · iapply (Entails.of_eq (table_split (F := F) _)); iexact Hu
    isplitl [Hw]; · iapply (Entails.of_eq (table_split (F := F) _)); iexact Hw
    iapply (Entails.of_eq (table_split (F := F) _)); iexact Hr
  isplitl [H0]; · iapply (o0_give (F := F) d f0); iexact H0
  isplitl [H1]; · iapply (o1_give (F := F) d f1); iexact H1
  isplitl [H2]; · iapply (o2_give (F := F) d f2); iexact H2
  isplitl [H3]; · iapply (o3_give (F := F) d f3); iexact H3
  iapply (o4_give (F := F) d f4); iexact H4
theorem dn0_to (d : Dev nD) :
    (bigSep Finset.univ fun c : Fin ((K (F := F)).nCore 0) => (P A).dn 0 d c : sProp 𝕄)
      ⊢ iprop((xaPts A d fullShare ∗ yaPts A d fullShare ∗ xbPts A d fullShare ∗ ybPts A d fullShare ∗ rkPts A d fullShare)
        ∗ (o0Loc d ↦{fullShare} r0 A d) ∗ (o1Loc d ↦{fullShare} r1 A d) ∗ (o2Loc d ↦{fullShare} r2 A d) ∗ (o3Loc d ↦{fullShare} r3 A d) ∗ (o4Loc d ↦{fullShare} r4 A d)) := by
  refine BI.Entails.trans (Entails.of_eq (tasks_eq (F := F) fun w => td0 A d w)) ?_
  unfold td0 reads0 res0 xaPts yaPts xbPts ybPts rkPts
  simp only [bigSep_sep']
  change (_ : sProp 𝕄) ⊢ _
  iintro ⟨⟨Hx, Hy, Hu, Hw, Hr⟩, H0, H1, H2, H3, H4⟩
  isplitl [Hx Hy Hu Hw Hr]
  · isplitl [Hx]; · iapply (Entails.of_eq (table_split (F := F) _).symm); iexact Hx
    isplitl [Hy]; · iapply (Entails.of_eq (table_split (F := F) _).symm); iexact Hy
    isplitl [Hu]; · iapply (Entails.of_eq (table_split (F := F) _).symm); iexact Hu
    isplitl [Hw]; · iapply (Entails.of_eq (table_split (F := F) _).symm); iexact Hw
    iapply (Entails.of_eq (table_split (F := F) _).symm); iexact Hr
  isplitl [H0]; · iapply (Entails.of_eq (o0_split (F := F) d _).symm); iexact H0
  isplitl [H1]; · iapply (Entails.of_eq (o1_split (F := F) d _).symm); iexact H1
  isplitl [H2]; · iapply (Entails.of_eq (o2_split (F := F) d _).symm); iexact H2
  isplitl [H3]; · iapply (Entails.of_eq (o3_split (F := F) d _).symm); iexact H3
  iapply (Entails.of_eq (o4_split (F := F) d _).symm); iexact H4
theorem st1_of (d : Dev nD) (f : Buf (Elt F) (oFLoc d)) :
    iprop((scPts A d fullShare ∗ rkPts A d fullShare ∗ kpPts A d fullShare) ∗ (oFLoc d ↦{fullShare} f))
      ⊢ (bigSep Finset.univ fun c : Fin ((K (F := F)).nCore 1) => (P A).st 1 d c : sProp 𝕄) := by
  refine BI.Entails.trans ?_ (Entails.of_eq (tasks_eq (F := F) fun w => go1 A d w).symm)
  unfold go1 reads1 outs1 scPts rkPts kpPts
  simp only [bigSep_sep']
  change (_ : sProp 𝕄) ⊢ _
  iintro ⟨⟨Hs, Hr, Hk⟩, Ho⟩
  isplitl [Hs Hr Hk]
  · isplitl [Hs]; · iapply (Entails.of_eq (table_split (F := F) _)); iexact Hs
    isplitl [Hr]; · iapply (Entails.of_eq (table_split (F := F) _)); iexact Hr
    iapply (Entails.of_eq (table_split (F := F) _)); iexact Hk
  iapply (oF_give (F := F) d f); iexact Ho
theorem dn1_to (d : Dev nD) :
    (bigSep Finset.univ fun c : Fin ((K (F := F)).nCore 1) => (P A).dn 1 d c : sProp 𝕄)
      ⊢ iprop((scPts A d fullShare ∗ rkPts A d fullShare ∗ kpPts A d fullShare) ∗ (oFLoc d ↦{fullShare} rF A d)) := by
  refine BI.Entails.trans (Entails.of_eq (tasks_eq (F := F) fun w => td1 A d w)) ?_
  unfold td1 reads1 res1 scPts rkPts kpPts
  simp only [bigSep_sep']
  change (_ : sProp 𝕄) ⊢ _
  iintro ⟨⟨Hs, Hr, Hk⟩, Ho⟩
  isplitl [Hs Hr Hk]
  · isplitl [Hs]; · iapply (Entails.of_eq (table_split (F := F) _).symm); iexact Hs
    isplitl [Hr]; · iapply (Entails.of_eq (table_split (F := F) _).symm); iexact Hr
    iapply (Entails.of_eq (table_split (F := F) _).symm); iexact Hk
  iapply (Entails.of_eq (oF_split (F := F) d _).symm); iexact Ho

end Cert.Proof.Whole

end
-- ==== Proof.Whole.Text.lean ====
/-
  The two TensorCore kernels as ten equal blocks each. The printed rank kernel and the printed suppression kernel repeat one text for every
  row block of 512; here the text of a block is written once, over the row's offset, and the printed functions are shown to be its ten copies.
-/
module

public import proofs.«01_k».proof.Proof.Gen.KernelIdeal
public import proofs.«01_k».proof.Proof.Gen.KernelIdeal.Skeleton

@[expose] public section

noncomputable section

namespace Cert.Proof.Whole

open Cert.KernelIdeal Cert.KernelIdeal.Gen
open Idealize.ShloMosaic Idealize.ShloMosaic.TcCoe Idealize.SL.Sem

variable {F : FTy → Type} [FloatOps F]

/-- A program of a TensorCore kernel. -/
abbrev PR (α : Type) : Type 1 := Prog (TpuEff nD τ sig (Elt F) (Λ₀ F) .tc) α

/-- The rectangle of one row of a 10 × 512 array, at an offset. -/
abbrev rowAt (off : Fin 2 → Nat) (h : ∀ a, off a + S1x512.size a ≤ S10x512.size a) : Rect S10x512 :=
  Rect.unit (s := S10x512) off S1x512.size h

/-- The row at an offset, loaded. -/
abbrev ldRow {e : EltTy} (m : Memref sig .tc .vmem S10x512 e) (off : Fin 2 → Nat) (h : ∀ a, off a + S1x512.size a ≤ S10x512.size a) :
    PR (F := F) (Vec F S1x512 e) :=
  Prog.lift (.load m (rowAt off h).toLoadRect (View.loadsAt_vmem h_S1x512))

/-- The row at an offset, stored. -/
abbrev stRow {e : EltTy} (m : Memref sig .tc .vmem S10x512 e) (off : Fin 2 → Nat) (h : ∀ a, off a + S1x512.size a ≤ S10x512.size a)
    (v : Vec F S1x512 e) (he : e.bits = 32) : PR (F := F) PUnit :=
  Prog.lift (.store m (rowAt off h) v Finset.univ (View.stores_vmem_bits_univ h_S1x512 he) (.inl rfl))

/-! ## The pure steps -/

/-- The 512 × 512 identity. -/
def identM : FVec F S512x512 .f32 :=
  select (cmpi .eq (iota .tc S512x512 32 [0] iota_S512x512_d0_w32) (iota .tc S512x512 32 [1] iota_S512x512_d1_w32))
    (broadcast S512x512 (Scalar.ofBits .f32 0x3F800000#32)) (broadcast S512x512 (Scalar.ofBits .f32 0x00000000#32))

/-- A row as a column: the identity times the row's transpose. -/
def colOf (v : Vec F S1x512 .f32) : FVec F S512x1 .f32 :=
  matmul dot_S512x512_S1x512_S512x1_1_1_0_0_n_n (some .fp32) identM (shapeCast S1x512 v shapeCasts_S1x512_S1x512) (constant S512x1 .f32 0x00000000#32)

/-- The column of ones. -/
def onesC : FVec F S512x1 .f32 := broadcast S512x1 (Scalar.ofBits .f32 0x3F800000#32)

/-- A truth table as ones and zeros. -/
def bits512 (p : IVec S512x512 1) : FVec F S512x512 .f32 :=
  select p (broadcast S512x512 (Scalar.ofBits .f32 0x3F800000#32)) (broadcast S512x512 (Scalar.ofBits .f32 0x00000000#32))

/-- The row sums of a truth table's ones, as a column. -/
def rowSums (p : IVec S512x512 1) : FVec F S512x1 .f32 :=
  matmul dot_S512x512_S512x1_S512x1_1_0_0_1_n_n none (bits512 (F := F) p) onesC (constant S512x1 .f32 0x00000000#32)

/-- One step of a block's rank count: `acc` plus, for each row, how many of `sj` come before it. -/
def rankStep (b : BitVec 1) (si : Vec F S1x512 .f32) (acc : FVec F S512x1 .f32) (sj : Vec F S1x512 .f32) : FVec F S512x1 .f32 :=
  addf acc (rowSums (ori
    (cmpf .ogt (broadcastTo S512x512 (shapeCast S1x512 sj shapeCasts_S1x512_S1x512) broadcasts_S1x512_S512x512) (broadcastTo S512x512 (colOf si) broadcasts_S512x1_S512x512))
    (andi (cmpf .oeq (broadcastTo S512x512 (shapeCast S1x512 sj shapeCasts_S1x512_S1x512) broadcasts_S1x512_S512x512) (broadcastTo S512x512 (colOf si) broadcasts_S512x1_S512x512))
      (broadcast S512x512 b))))

/-- A block's ranks: the count `acc` plus the ties earlier in the block, laid out as a row of integers. -/
def rankRow (si : Vec F S1x512 .f32) (acc : FVec F S512x1 .f32) (sj : Vec F S1x512 .f32) : IVec S1x512 32 :=
  fptosi 32 (matmul dot_S512x1_S512x512_S1x512_0_0_1_1_n_n (some .fp32)
    (addf acc (rowSums (andi
      (cmpf .oeq (broadcastTo S512x512 (shapeCast S1x512 sj shapeCasts_S1x512_S1x512) broadcasts_S1x512_S512x512) (broadcastTo S512x512 (colOf si) broadcasts_S512x1_S512x512))
      (cmpi .slt (iota .tc S512x512 32 [1] iota_S512x512_d1_w32) (iota .tc S512x512 32 [0] iota_S512x512_d0_w32)))))
    identM (constant S1x512 .f32 0x00000000#32))

/-- The overlap ratio of every box of the row block `c…` with every box of `r…`. -/
def iouM (c1 c2 c3 c4 c5 : FVec F S512x1 .f32) (r1 r2 r3 r4 r5 : FVec F S1x512 .f32) : FVec F S512x512 .f32 :=
  let w : FVec F S512x512 .f32 := maximumf (subf (minimumf (broadcastTo S512x512 c3 broadcasts_S512x1_S512x512) (broadcastTo S512x512 r3 broadcasts_S1x512_S512x512))
    (maximumf (broadcastTo S512x512 c1 broadcasts_S512x1_S512x512) (broadcastTo S512x512 r1 broadcasts_S1x512_S512x512))) (broadcast S512x512 (Scalar.ofBits .f32 0x00000000#32))
  let h : FVec F S512x512 .f32 := maximumf (subf (minimumf (broadcastTo S512x512 c4 broadcasts_S512x1_S512x512) (broadcastTo S512x512 r4 broadcasts_S1x512_S512x512))
    (maximumf (broadcastTo S512x512 c2 broadcasts_S512x1_S512x512) (broadcastTo S512x512 r2 broadcasts_S1x512_S512x512))) (broadcast S512x512 (Scalar.ofBits .f32 0x00000000#32))
  divf (mulf w h) (addf (subf (addf (broadcastTo S512x512 c5 broadcasts_S512x1_S512x512) (broadcastTo S512x512 r5 broadcasts_S1x512_S512x512)) (mulf w h))
    (broadcast S512x512 (Scalar.ofBits .f32 0x3089705F#32)))

/-- A loaded row, as the kernel reshapes it. -/
abbrev rs (v : Vec F S1x512 .f32) : FVec F S1x512 .f32 := shapeCast S1x512 v shapeCasts_S1x512_S1x512

/-- Which boxes of a block overlap which of another by more than one half. -/
def overM (c1 c2 c3 c4 c5 r1 r2 r3 r4 r5 : Vec F S1x512 .f32) : IVec S512x512 1 :=
  cmpf .ogt (iouM (colOf c1) (colOf c2) (colOf c3) (colOf c4) (colOf c5) (rs r1) (rs r2) (rs r3) (rs r4) (rs r5))
    (broadcast S512x512 (Scalar.ofBits .f32 0x3F000000#32))

/-- A block's own suppression table: overlapping, and earlier. -/
def diagM (c1 c2 c3 c4 c5 r1 r2 r3 r4 r5 : Vec F S1x512 .f32) : FVec F S512x512 .f32 :=
  shapeCast S512x512 (bits512 (andi (overM c1 c2 c3 c4 c5 r1 r2 r3 r4 r5)
    (cmpi .slt (iota .tc S512x512 32 [0] iota_S512x512_d0_w32) (iota .tc S512x512 32 [1] iota_S512x512_d1_w32)))) shapeCasts_S512x512_S512x512

/-- `alive` with every box struck out that a box of `keep` suppresses by the table `M`. -/
def strike (alive keep : Vec F S1x512 .f32) (M : FVec F S512x512 .f32) : FVec F S1x512 .f32 :=
  mulf alive (select (cmpf .olt (matmul dot_S1x512_S512x512_S1x512_1_0_0_1_n_n none keep M (constant S1x512 .f32 0x00000000#32))
    (broadcast S1x512 (Scalar.ofBits .f32 0x3F000000#32))) (broadcast S1x512 (Scalar.ofBits .f32 0x3F800000#32)) (broadcast S1x512 (Scalar.ofBits .f32 0x00000000#32)))

/-- The boxes all alive but the padding. -/
def alive0 : FVec F S10x512 .f32 :=
  shapeCast S10x512 (select (cmpi .slt (addi (muli (iota .tc S10x512 32 [0] iota_S10x512_d0_w32) (broadcast S10x512 512#32)) (iota .tc S10x512 32 [1] iota_S10x512_d1_w32))
    (broadcast S10x512 5000#32)) (broadcast S10x512 (Scalar.ofBits .f32 0x3F800000#32)) (broadcast S10x512 (Scalar.ofBits .f32 0x00000000#32))) shapeCasts_S10x512_S10x512

/-- Whether two rows differ, as the kernel tests it. -/
def differ (newk keep : Vec F S1x512 .f32) : BitVec 1 :=
  Scalar.cmpf .ogt (extractAt ![0, 0, 0] (shapeCast S1x1x1 (multiReduction .maximumf [1, 2] S1
    (shapeCast S1x1x512 (select (cmpf .one newk keep) (broadcast S1x512 (Scalar.ofBits (F := F) .f32 0x3F800000#32)) (broadcast S1x512 (Scalar.ofBits .f32 0x00000000#32))) shapeCasts_S1x512_S1x1x512)
    0xFF800000#32 reduces_S1x1x512_S1 (.inl rfl) rfl) shapeCasts_S1_S1x1x1) inpos_S1x1x1_p0_0_0) (Scalar.ofBits (F := F) .f32 0x00000000#32)

/-! ## The rank kernel -/

abbrev sM : Memref sig .tc .vmem S10x512 .f32 := Memref.whole cc0_stg0_0
abbrev rM : Memref sig .tc .vmem S10x512 .i32 := Memref.whole cc0_stg1_0

/-- The count of a block, over the ten row blocks. -/
def rankLoop (L : Scf.Loop 32) (hL : L.OK) (off : Fin L.trips → Fin 2 → Nat) (hoff : ∀ t, ∀ a, off t a + S1x512.size a ≤ S10x512.size a) (bi : BitVec 32)
    (si : Vec F S1x512 .f32) : PR (F := F) (FVec F S512x1 .f32) :=
  Scf.Loop.for L hL (broadcast S512x1 (Scalar.ofBits .f32 0x00000000#32)) fun t acc =>
    ldRow sM (off t) (hoff t) >>= fun sj => .ret (rankStep (Scalar.cmpi .slt (Scf.iv 0#32 1#32 t) bi) si acc sj)

/-- One block of the rank kernel. -/
def rankBlk (r : Fin 2 → Nat) (hr : ∀ a, r a + S1x512.size a ≤ S10x512.size a) (loop : Vec F S1x512 .f32 → PR (F := F) (FVec F S512x1 .f32)) : PR (F := F) PUnit :=
  ldRow sM r hr >>= fun si => loop si >>= fun acc => ldRow sM r hr >>= fun sj => ldRow rM r hr >>= fun _ => stRow rM r hr (rankRow si acc sj) rfl

/-! ## The suppression kernel -/

abbrev m0 : Memref sig .tc .vmem S10x512 .f32 := Memref.whole cc2_stg0_0
abbrev m1 : Memref sig .tc .vmem S10x512 .f32 := Memref.whole cc2_stg1_0
abbrev m2 : Memref sig .tc .vmem S10x512 .f32 := Memref.whole cc2_stg2_0
abbrev m3 : Memref sig .tc .vmem S10x512 .f32 := Memref.whole cc2_stg3_0
abbrev m4 : Memref sig .tc .vmem S10x512 .f32 := Memref.whole cc2_stg4_0
abbrev m5 : Memref sig .tc .vmem S10x512 .f32 := Memref.whole cc2_stg5_0
abbrev m6 : Memref sig .tc .vmem S10x512 .f32 := Memref.whole cc2_scratch0
abbrev m7 : Memref sig .tc .vmem S512x512 .f32 := Memref.whole cc2_scratch1

/-- The whole 512 × 512 table. -/
abbrev full512 : Rect S512x512 := Rect.unit (s := S512x512) ![0, 0] S512x512.size inb_S512x512_S512x512_0_0

/-- The five loaded rows of a block's boxes. -/
structure Rows (F : FTy → Type) where
  x1 : Vec F S1x512 .f32
  y1 : Vec F S1x512 .f32
  x2 : Vec F S1x512 .f32
  y2 : Vec F S1x512 .f32
  ar : Vec F S1x512 .f32

/-- A later block's row `off` struck by the kept boxes of the block `c`. -/
def crossBlk (c : Rows F) (keep : Vec F S1x512 .f32) (off : Fin 2 → Nat) (h : ∀ a, off a + S1x512.size a ≤ S10x512.size a) : PR (F := F) PUnit :=
  ldRow m0 off h >>= fun r1 => ldRow m1 off h >>= fun r2 => ldRow m2 off h >>= fun r3 => ldRow m3 off h >>= fun r4 => ldRow m4 off h >>= fun r5 =>
    ldRow m6 off h >>= fun av => ldRow m6 off h >>= fun _ =>
      stRow m6 off h (shapeCast S1x512 (strike av keep (bits512 (overM c.x1 c.y1 c.x2 c.y2 c.ar r1 r2 r3 r4 r5))) shapeCasts_S1x512_S1x512) rfl

/-- The later blocks' rows struck in turn. -/
def crossLoop (L : Scf.Loop 32) (hL : L.OK) (off : Fin L.trips → Fin 2 → Nat) (hoff : ∀ t, ∀ a, off t a + S1x512.size a ≤ S10x512.size a)
    (c : Rows F) (keep : Vec F S1x512 .f32) : PR (F := F) PUnit :=
  Scf.Loop.for L hL PUnit.unit fun t _ => crossBlk c keep (off t) (hoff t) >>= fun _ => .ret PUnit.unit

/-- One block of the suppression kernel: its table, the rounds within the block (`w`), its kept boxes stored, the later blocks struck (`cr`). -/
def nmsBlk (r : Fin 2 → Nat) (hr : ∀ a, r a + S1x512.size a ≤ S10x512.size a) (w : Vec F S1x512 .f32 → PR (F := F) (FVec F S1x512 .f32 × BitVec 1))
    (cr : Rows F → Vec F S1x512 .f32 → PR (F := F) PUnit) : PR (F := F) PUnit :=
  ldRow m0 r hr >>= fun c1 => ldRow m1 r hr >>= fun c2 => ldRow m2 r hr >>= fun c3 => ldRow m3 r hr >>= fun c4 => ldRow m4 r hr >>= fun c5 =>
    ldRow m0 r hr >>= fun r1 => ldRow m1 r hr >>= fun r2 => ldRow m2 r hr >>= fun r3 => ldRow m3 r hr >>= fun r4 => ldRow m4 r hr >>= fun r5 =>
      Prog.lift (.load m7 full512.toLoadRect (View.loadsAt_vmem h_S512x512)) >>= fun (_ : Vec F S512x512 .f32) =>
        Prog.lift (.store m7 full512 (diagM c1 c2 c3 c4 c5 r1 r2 r3 r4 r5) Finset.univ (View.stores_vmem_bits_univ h_S512x512 rfl) (.inl rfl)) >>= fun _ =>
          ldRow m6 r hr >>= fun al => w al >>= fun kf => ldRow m5 r hr >>= fun _ => stRow m5 r hr kf.1 rfl >>= fun _ => cr ⟨c1, c2, c3, c4, c5⟩ kf.1

/-- Ten programs in turn. -/
abbrev ten (p : Fin 10 → PR (F := F) PUnit) : PR (F := F) PUnit :=
  p 0 >>= fun _ => p 1 >>= fun _ => p 2 >>= fun _ => p 3 >>= fun _ => p 4 >>= fun _ => p 5 >>= fun _ => p 6 >>= fun _ => p 7 >>= fun _ => p 8 >>= fun _ => p 9

theorem inbRow (k : Fin 10) : ∀ a, (![k.val, 0] : Fin 2 → Nat) a + S1x512.size a ≤ S10x512.size a := by
  intro a; have := k.isLt; fin_cases a
  · show k.val + 1 ≤ 10; omega
  · show 0 + 512 ≤ 512; omega

/-- The count loops of the ten blocks. -/
def rankLoops : Fin 10 → Vec F S1x512 .f32 → PR (F := F) (FVec F S512x1 .f32)
  | 0 => rankLoop k0_t1_loop k0_t1_ok k0_off1 k0_off1_inb 0#32
  | 1 => rankLoop k0_t2_loop k0_t2_ok k0_off2 k0_off2_inb 1#32
  | 2 => rankLoop k0_t3_loop k0_t3_ok k0_off3 k0_off3_inb 2#32
  | 3 => rankLoop k0_t4_loop k0_t4_ok k0_off4 k0_off4_inb 3#32
  | 4 => rankLoop k0_t5_loop k0_t5_ok k0_off5 k0_off5_inb 4#32
  | 5 => rankLoop k0_t6_loop k0_t6_ok k0_off6 k0_off6_inb 5#32
  | 6 => rankLoop k0_t7_loop k0_t7_ok k0_off7 k0_off7_inb 6#32
  | 7 => rankLoop k0_t8_loop k0_t8_ok k0_off8 k0_off8_inb 7#32
  | 8 => rankLoop k0_t9_loop k0_t9_ok k0_off9 k0_off9_inb 8#32
  | 9 => rankLoop k0_t10_loop k0_t10_ok k0_off10 k0_off10_inb 9#32

set_option maxRecDepth 65536 in
set_option maxHeartbeats 4000000 in
/-- The printed rank kernel is its ten blocks. -/
theorem rank_text : cc0__rank_body (F := F) sM (Memref.isWhole_whole _) rM (Memref.isWhole_whole _) = ten fun k => rankBlk ![k.val, 0] (inbRow k) (rankLoops k) := by
  rw [cc0__rank_body_eq_skeleton]
  unfold cc0__rank_body_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [ten, rankBlk, rankLoops, ldRow, stRow, Prog.lift, Prog.bind_op, Prog.bind_ret, Prog.pure_eq_ret, bind_assoc]
  rfl

/-- The rounds within a block, by block. -/
def rounds : Fin 10 → Vec F S1x512 .f32 → PR (F := F) (FVec F S1x512 .f32 × BitVec 1)
  | 0 => fun v => Prog.lift (.call (4 : (Λ₀ F).Label) ⟨m7, Memref.isWhole_whole _, v, v, 1#1⟩)
  | 1 => fun v => Prog.lift (.call (5 : (Λ₀ F).Label) ⟨m7, Memref.isWhole_whole _, v, v, 1#1⟩)
  | 2 => fun v => Prog.lift (.call (6 : (Λ₀ F).Label) ⟨m7, Memref.isWhole_whole _, v, v, 1#1⟩)
  | 3 => fun v => Prog.lift (.call (7 : (Λ₀ F).Label) ⟨m7, Memref.isWhole_whole _, v, v, 1#1⟩)
  | 4 => fun v => Prog.lift (.call (8 : (Λ₀ F).Label) ⟨m7, Memref.isWhole_whole _, v, v, 1#1⟩)
  | 5 => fun v => Prog.lift (.call (9 : (Λ₀ F).Label) ⟨m7, Memref.isWhole_whole _, v, v, 1#1⟩)
  | 6 => fun v => Prog.lift (.call (10 : (Λ₀ F).Label) ⟨m7, Memref.isWhole_whole _, v, v, 1#1⟩)
  | 7 => fun v => Prog.lift (.call (11 : (Λ₀ F).Label) ⟨m7, Memref.isWhole_whole _, v, v, 1#1⟩)
  | 8 => fun v => Prog.lift (.call (12 : (Λ₀ F).Label) ⟨m7, Memref.isWhole_whole _, v, v, 1#1⟩)
  | 9 => fun v => Prog.lift (.call (13 : (Λ₀ F).Label) ⟨m7, Memref.isWhole_whole _, v, v, 1#1⟩)

/-- The later blocks struck, by block. -/
def crosses : Fin 10 → Rows F → Vec F S1x512 .f32 → PR (F := F) PUnit
  | 0 => crossLoop k2_t1_loop k2_t1_ok k2_off1 k2_off1_inb
  | 1 => crossLoop k2_t2_loop k2_t2_ok k2_off2 k2_off2_inb
  | 2 => crossLoop k2_t3_loop k2_t3_ok k2_off3 k2_off3_inb
  | 3 => crossLoop k2_t4_loop k2_t4_ok k2_off4 k2_off4_inb
  | 4 => crossLoop k2_t5_loop k2_t5_ok k2_off5 k2_off5_inb
  | 5 => crossLoop k2_t6_loop k2_t6_ok k2_off6 k2_off6_inb
  | 6 => crossLoop k2_t7_loop k2_t7_ok k2_off7 k2_off7_inb
  | 7 => crossLoop k2_t8_loop k2_t8_ok k2_off8 k2_off8_inb
  | 8 => fun c k => crossBlk c k ![9, 0] (inbRow 9)
  | 9 => fun _ _ => .ret PUnit.unit

set_option maxRecDepth 65536 in
set_option maxHeartbeats 8000000 in
/-- The printed suppression kernel is every box set alive but the padding, then its ten blocks. -/
theorem nms_text : cc2__nms_body (F := F) m0 (Memref.isWhole_whole _) m1 (Memref.isWhole_whole _) m2 (Memref.isWhole_whole _) m3 (Memref.isWhole_whole _)
      m4 (Memref.isWhole_whole _) m5 (Memref.isWhole_whole _) m6 (Memref.isWhole_whole _) m7 (Memref.isWhole_whole _)
    = (Prog.lift (.load m6 (Rect.unit (s := S10x512) ![0, 0] S10x512.size inb_S10x512_S10x512_0_0).toLoadRect (View.loadsAt_vmem h_S10x512)) >>= fun (_ : Vec F S10x512 .f32) =>
        Prog.lift (.store m6 (Rect.unit (s := S10x512) ![0, 0] S10x512.size inb_S10x512_S10x512_0_0) alive0 Finset.univ (View.stores_vmem_bits_univ h_S10x512 rfl) (.inl rfl)) >>= fun _ =>
          ten fun k => nmsBlk ![k.val, 0] (inbRow k) (rounds k) (crosses k)) := by
  rw [cc2__nms_body_eq_skeleton]
  unfold cc2__nms_body_skel
  rw [k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton]
  unfold k2_part9_skel k2_part10_skel k2_part11_skel k2_part12_skel k2_part13_skel k2_part14_skel k2_part15_skel k2_part16_skel k2_part17_skel k2_part18_skel k2_part19_skel k2_part20_skel k2_part21_skel k2_part22_skel k2_part23_skel k2_part24_skel k2_part25_skel k2_part26_skel k2_part27_skel k2_part28_skel
  simp only [ten, nmsBlk, rounds, crosses, crossBlk, ldRow, stRow, Prog.lift, Prog.bind_op, Prog.bind_ret, Prog.pure_eq_ret, bind_assoc]
  rfl

end Cert.Proof.Whole

end
-- ==== Proof.Whole.Steps.lean ====
/-
  What the two TensorCore kernels' vector steps compute over the extended reals, read at one element: a column is its row transposed, a
  product with a table of ones and zeros counts, and a count below one half is no count at all.
-/
module

public import proofs.«01_k».proof.Proof.Whole.Text
public import Idealize.ShloMosaic.Lib.Pointwise
public import Idealize.ShloMosaic.Lib.IdealHost
public import Idealize.ShloMosaic.Lib.WordCmp

@[expose] public section

noncomputable section

namespace Cert.Proof.Whole

open Cert.KernelIdeal Cert.KernelIdeal.Gen
open Idealize.ShloMosaic Idealize.ShloMosaic.TcCoe Idealize.SL.Sem

/-- One or zero. -/
def ind (p : Prop) : EReal := by classical exact if p then 1 else 0

theorem ind_true {p : Prop} (h : p) : ind p = 1 := by unfold ind; exact if_pos h
theorem ind_false {p : Prop} (h : ¬p) : ind p = 0 := by unfold ind; exact if_neg h
theorem ind_congr {p q : Prop} (h : p ↔ q) : ind p = ind q := by rw [propext h]

theorem ofBits_half : Ideal.ofBits .f32 0x3F000000#32 = ((1 / 2 : ℝ) : EReal) := by
  simp [Ideal.ofBits, Ideal.ieee]
  rw [← EReal.coe_mul]
  norm_num

theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide

/-- A choice of one or zero. -/
theorem select_ind (c : BitVec 1) : Scalar.select c (1 : EReal) 0 = ind (c = 1#1) := by
  by_cases h : c = 1#1
  · rw [ind_true h, h]; rfl
  · rw [ind_false h]; exact if_neg h

theorem select_one' {α : Type} (a b : α) : Scalar.select 1#1 a b = a := rfl

/-- How many elements satisfy `p`. -/
def cnt {n : Nat} (p : Fin n → Prop) : ℕ := by classical exact (Finset.univ.filter p).card

theorem cnt_le {n : Nat} (p : Fin n → Prop) : cnt p ≤ n := by
  classical
  unfold cnt; exact (Finset.card_filter_le _ _).trans (by simp)

theorem sum_ind {n : Nat} (p : Fin n → Prop) : ∑ k : Fin n, ind (p k) = ((cnt p : ℕ) : EReal) := by
  classical
  unfold cnt ind
  rw [Finset.card_filter, Nat.cast_sum]
  refine Finset.sum_congr rfl fun k _ => ?_
  split <;> simp

/-- A sum of ones and zeros is below one half exactly when there is no one. -/
theorem sum_ind_lt_half {n : Nat} (p : Fin n → Prop) : ∑ k : Fin n, ind (p k) < ((1 / 2 : ℝ) : EReal) ↔ ¬ ∃ k, p k := by
  classical
  rw [sum_ind]
  constructor
  · rintro h ⟨k, hk⟩
    have h1 : 1 ≤ cnt p := by
      unfold cnt; exact Finset.card_pos.2 ⟨k, Finset.mem_filter.2 ⟨Finset.mem_univ _, hk⟩⟩
    have h2 : ((1 / 2 : ℝ) : EReal) < ((1 : ℕ) : EReal) := by
      rw [Nat.cast_one, ← EReal.coe_one, EReal.coe_lt_coe_iff]; norm_num
    exact absurd (h.trans (h2.trans_le (Nat.cast_le.2 h1))) (lt_irrefl _)
  · intro h
    have h0 : cnt p = 0 := by
      unfold cnt; exact Finset.card_eq_zero.2 (Finset.filter_eq_empty_iff.2 fun k _ hk => h ⟨k, hk⟩)
    rw [h0, Nat.cast_zero, ← EReal.coe_zero, EReal.coe_lt_coe_iff]; norm_num

theorem ind_mul (p q : Prop) : ind p * ind q = ind (p ∧ q) := by
  by_cases hp : p <;> by_cases hq : q <;> simp [ind, hp, hq]

/-- A natural converted to an integer. -/
theorem fptosi_nat (n : ℕ) (h : n < 2 ^ 31) : Ideal.fptosi 32 ((n : ℕ) : EReal) = BitVec.ofNat 32 n := by
  rw [show ((n : ℕ) : EReal) = (((n : ℕ) : ℝ) : EReal) by norm_cast]
  rw [Ideal.fptosi, Ideal.toIntClamped_coe, if_pos (Nat.cast_nonneg n), Int.floor_natCast]
  have h1 : ((n : ℕ) : ℤ) < 2 ^ 31 := by exact_mod_cast h
  rw [min_eq_right (by norm_num <;> omega), max_eq_right (by norm_num <;> omega)]
  exact BitVec.ofInt_natCast 32 n

theorem colOf_apply (v : Vec Ideal S1x512 .f32) (i : Fin 512) : colOf v (ix2 i 0) = v (ix2 0 i) := by
  pointwise [colOf, identM]
  rw [Finset.sum_eq_single i]
  · rw [(WordCmp.cmpi_eq_ofNat_eq_one_iff (by omega) (by omega)).2 rfl]; rfl
  · intro b _ hb
    refine if_neg fun h => ?_
    exact hb (Fin.ext ((WordCmp.cmpi_eq_ofNat_eq_one_iff (by omega) (by omega)).1 h).symm)
  · intro h; exact absurd (Finset.mem_univ _) h

theorem rowSums_apply (p : IVec S512x512 1) (i : Fin 512) : rowSums (F := Ideal) p (ix2 i 0) = ((cnt fun k : Fin 512 => p (ix2 i k) = 1#1 : ℕ) : EReal) := by
  rw [← sum_ind]
  pointwise [rowSums, bits512, onesC]
  exact Finset.sum_congr rfl fun k _ => select_ind _

theorem strike_apply (al kp : Vec Ideal S1x512 .f32) (M : FVec Ideal S512x512 .f32) (j : Fin 512) :
    strike al kp M (ix2 0 j) = al (ix2 0 j) * ind (∑ k : Fin 512, kp (ix2 0 k) * M (ix2 k j) < ((1 / 2 : ℝ) : EReal)) := by
  pointwise [strike]
  rw [ofBits_half]
  congr 1
  by_cases h : ∑ k : Fin 512, kp (ix2 0 k) * M (ix2 k j) < ((1 / 2 : ℝ) : EReal)
  · rw [ind_true h, if_pos h]
  · rw [ind_false h, if_neg h]

/-- A row of ones and zeros struck by a row of ones and zeros through a table of ones and zeros. -/
theorem strike_ind (a κ : Fin 512 → Prop) (m : Fin 512 → Fin 512 → Prop) (al kp : Vec Ideal S1x512 .f32) (M : FVec Ideal S512x512 .f32)
    (ha : ∀ j, al (ix2 0 j) = ind (a j)) (hk : ∀ j, kp (ix2 0 j) = ind (κ j)) (hM : ∀ i j, M (ix2 i j) = ind (m i j)) (j : Fin 512) :
    strike al kp M (ix2 0 j) = ind (a j ∧ ¬ ∃ i, κ i ∧ m i j) := by
  rw [strike_apply, ha, ← ind_mul]
  congr 1
  refine ind_congr ?_
  rw [← sum_ind_lt_half]
  simp only [hk, hM, ind_mul]

theorem bits512_apply (p : IVec S512x512 1) (i j : Fin 512) : bits512 (F := Ideal) p (ix2 i j) = ind (p (ix2 i j) = 1#1) := by
  pointwise [bits512]
  exact select_ind _

theorem diagM_apply (c1 c2 c3 c4 c5 r1 r2 r3 r4 r5 : Vec Ideal S1x512 .f32) (i j : Fin 512) :
    diagM c1 c2 c3 c4 c5 r1 r2 r3 r4 r5 (ix2 i j) = ind (overM c1 c2 c3 c4 c5 r1 r2 r3 r4 r5 (ix2 i j) = 1#1 ∧ i < j) := by
  pointwise [diagM, bits512]
  rw [select_ind]
  refine ind_congr ?_
  rw [andi_one, WordCmp.cmpi_slt_ofNat_eq_one_iff (by omega) (by omega)]
  rfl

/-- The overlap ratio of two boxes given by their corners and areas. -/
def ratio (a1 b1 a2 b2 aa c1 d1 c2 d2 ca : EReal) : EReal :=
  Ideal.div (max (min a2 c2 - max a1 c1) 0 * max (min b2 d2 - max b1 d1) 0)
    (aa + ca - max (min a2 c2 - max a1 c1) 0 * max (min b2 d2 - max b1 d1) 0 + Ideal.ofBits .f32 0x3089705F#32)

/-- The ratio does not depend on the boxes' order. -/
theorem ratio_comm (a1 b1 a2 b2 aa c1 d1 c2 d2 ca : EReal) : ratio a1 b1 a2 b2 aa c1 d1 c2 d2 ca = ratio c1 d1 c2 d2 ca a1 b1 a2 b2 aa := by
  unfold ratio
  rw [min_comm a2, min_comm b2, max_comm a1, max_comm b1, add_comm aa]

theorem overM_iff (c1 c2 c3 c4 c5 r1 r2 r3 r4 r5 : Vec Ideal S1x512 .f32) (i j : Fin 512) :
    (overM c1 c2 c3 c4 c5 r1 r2 r3 r4 r5 (ix2 i j) = 1#1) ↔ ((1 / 2 : ℝ) : EReal) < ratio (c1 (ix2 0 i)) (c2 (ix2 0 i)) (c3 (ix2 0 i)) (c4 (ix2 0 i)) (c5 (ix2 0 i))
      (r1 (ix2 0 j)) (r2 (ix2 0 j)) (r3 (ix2 0 j)) (r4 (ix2 0 j)) (r5 (ix2 0 j)) := by
  rw [← ofBits_half]
  pointwise [overM, iouM]
  simp only [colOf_apply, ratio]
  rw [WordCmp.ofBool_eq_one_iff, decide_eq_true_iff]

theorem alive0_apply (k : Fin 10) (j : Fin 512) : alive0 (F := Ideal) (ix2 k j) = ind (512 * k.val + j.val < 5000) := by
  pointwise [alive0]
  rw [select_ind]
  refine ind_congr ?_
  have h : IntOp.addi (IntOp.muli (BitVec.ofNat 32 k.val) 512#32) (BitVec.ofNat 32 j.val) = BitVec.ofNat 32 (512 * k.val + j.val) := by
    apply BitVec.eq_of_toNat_eq
    simp [IntOp.addi, IntOp.muli]
    omega
  rw [h, show (5000#32 : BitVec 32) = BitVec.ofNat 32 5000 from rfl, WordCmp.cmpi_slt_ofNat_eq_one_iff (by omega) (by omega)]

theorem differ_iff (a b : Vec Ideal S1x512 .f32) : differ a b = 1#1 ↔ ∃ j : Fin 512, a (ix2 0 j) ≠ b (ix2 0 j) := by
  unfold differ
  pointwise
  rw [WordCmp.ofBool_eq_one_iff, decide_eq_true_iff, Finset.lt_fold_max]
  constructor
  · rintro (h | ⟨x, _, h⟩)
    · exfalso
      revert h
      simp [Ideal.ofBits, Ideal.ieee]
    · refine ⟨x.2, fun he => ?_⟩
      rw [if_neg (by simpa using he)] at h
      exact lt_irrefl _ h
  · rintro ⟨j, hj⟩
    refine Or.inr ⟨(0, j), Finset.mem_univ _, ?_⟩
    rw [if_pos hj]; exact zero_lt_one

theorem rankStep_apply (b : BitVec 1) (si : Vec Ideal S1x512 .f32) (acc : FVec Ideal S512x1 .f32) (sj : Vec Ideal S1x512 .f32) (i : Fin 512) :
    rankStep b si acc sj (ix2 i 0) = acc (ix2 i 0)
      + ((cnt fun k : Fin 512 => si (ix2 0 i) < sj (ix2 0 k) ∨ (sj (ix2 0 k) = si (ix2 0 i) ∧ b = 1#1) : ℕ) : EReal) := by
  pointwise [rankStep]
  rw [rowSums_apply]
  congr 3
  funext k
  refine propext ?_
  pointwise
  simp only [ori_one, andi_one, colOf_apply, WordCmp.ofBool_eq_one_iff, decide_eq_true_iff]

theorem rankRow_apply (si : Vec Ideal S1x512 .f32) (acc : FVec Ideal S512x1 .f32) (sj : Vec Ideal S1x512 .f32) (j : Fin 512) :
    rankRow si acc sj (ix2 0 j) = Ideal.fptosi 32 (acc (ix2 j 0) + ((cnt fun k : Fin 512 => sj (ix2 0 k) = si (ix2 0 j) ∧ k < j : ℕ) : EReal)) := by
  pointwise [rankRow, identM]
  rw [Finset.sum_eq_single j]
  · rw [(WordCmp.cmpi_eq_ofNat_eq_one_iff (by omega) (by omega)).2 rfl, rowSums_apply]
    show Ideal.fptosi 32 _ = _
    rw [select_one']
    congr 4
    funext k
    refine propext ?_
    pointwise
    simp only [andi_one, colOf_apply, WordCmp.ofBool_eq_one_iff, decide_eq_true_iff]
    rw [WordCmp.cmpi_slt_ofNat_eq_one_iff (by omega) (by omega)]
    rfl
  · intro b _ hb
    refine if_neg fun h => ?_
    exact hb (Fin.ext ((WordCmp.cmpi_eq_ofNat_eq_one_iff (by omega) (by omega)).1 h))
  · intro h; exact absurd (Finset.mem_univ _) h

end Cert.Proof.Whole

end
-- ==== Proof.Whole.Rows.lean ====
/-
  Reading and writing the rows of the 10 × 512 arrays the two TensorCore kernels work on, as rules for a program that begins with the access:
  a row read is the array's row, a row written replaces that row and no other.
-/
module

public import proofs.«01_k».proof.Proof.Whole.Setup
public import proofs.«01_k».proof.Proof.Whole.Steps
public import Idealize.ShloMosaic.Lib.Scf

@[expose] public section

noncomputable section

namespace Cert.Proof.Whole

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

local notation "𝕄" => MT nD τ sig (HIx 2) (Elt Ideal) ℕ UU ℕ

/-- A program of the TensorCore kernels, run on device `d` to `Q`. -/
abbrev WP (d : Dev nD) {α : Type} (p : PR (F := Ideal) α) (Q : α → sProp 𝕄) : sProp 𝕄 :=
  wp frame (wpE (defs₀ (F := Ideal)) 𝒱₀ (T d) none) Set.univ p Q

/-- The array held whole, reading `g`. -/
def Own (d : Dev nD) {s : Shape} {e : EltTy} (m : Memref sig .tc .vmem s e) (g : s.Idx → Elt Ideal e) : sProp 𝕄 :=
  iprop(∃ f : Buf (Elt Ideal) (m.view.loc (T d)), ⌜m.view.read (Elt Ideal) f = g⌝ ∗ (m.view.loc (T d) ↦{fullShare} f))

theorem own_intro (d : Dev nD) {s : Shape} {e : EltTy} (m : Memref sig .tc .vmem s e) (f : Buf (Elt Ideal) (m.view.loc (T d))) :
    (m.view.loc (T d) ↦{fullShare} f : sProp 𝕄) ⊢ Own d m (m.view.read (Elt Ideal) f) := by
  unfold Own
  iintro H
  iexists f
  isplitr
  · ipureintro; rfl
  · iexact H

theorem own_elim (d : Dev nD) {s : Shape} {e : EltTy} (m : Memref sig .tc .vmem s e) (g : s.Idx → Elt Ideal e) (f : Buf (Elt Ideal) (m.view.loc (T d)))
    (hf : ∀ f' : Buf (Elt Ideal) (m.view.loc (T d)), m.view.read (Elt Ideal) f' = g → f' = f) :
    Own d m g ⊢ (m.view.loc (T d) ↦{fullShare} f : sProp 𝕄) := by
  unfold Own
  iintro ⟨%f', %hf', H⟩
  rw [hf f' hf']
  iexact H

/-- Row `k` of an array. -/
def rowOf {α : Type} (g : S10x512.Idx → α) (k : Fin 10) : S1x512.Idx → α := fun x => g (ix2 k (x 1))

/-- The array with row `k` replaced. -/
def setRow {α : Type} (g : S10x512.Idx → α) (k : Fin 10) (v : S1x512.Idx → α) : S10x512.Idx → α :=
  fun x => if (show Fin 10 from x 0) = k then v (ix2 0 (show Fin 512 from x 1)) else g x

theorem rowOf_apply {α : Type} (g : S10x512.Idx → α) (k : Fin 10) (j : Fin 512) : rowOf g k (ix2 0 j) = g (ix2 k j) := rfl

theorem setRow_self {α : Type} (g : S10x512.Idx → α) (k : Fin 10) (v : S1x512.Idx → α) (j : Fin 512) : setRow g k v (ix2 k j) = v (ix2 0 j) := if_pos rfl
theorem setRow_other {α : Type} (g : S10x512.Idx → α) {k l : Fin 10} (h : l ≠ k) (v : S1x512.Idx → α) (j : Fin 512) : setRow g k v (ix2 l j) = g (ix2 l j) := if_neg h

theorem ix2_eta {a b : Nat} (x : (⟨2, ![a, b]⟩ : Shape).Idx) : ix2 (x 0) (x 1) = x := by
  funext i; fin_cases i <;> rfl

theorem row_emb (k : Fin 10) (off : Fin 2 → Nat) (h : ∀ a, off a + S1x512.size a ≤ S10x512.size a) (ho : off = ![k.val, 0]) (x : S1x512.Idx) :
    (rowAt off h).emb x = ix2 k (x 1) := by
  subst ho
  funext a
  have h0 : (x 0).val = 0 := by have := (x 0).isLt; change (x 0).val < 1 at this; omega
  fin_cases a
  · refine Fin.ext ?_
    show k.val + 1 * (x 0).val = k.val
    omega
  · refine Fin.ext ?_
    show 0 + 1 * (x 1).val = (x 1).val
    omega

/-- A row read. -/
theorem ldRow_wp (d : Dev nD) {e : EltTy} (m : Memref sig .tc .vmem S10x512 e) (g : S10x512.Idx → Elt Ideal e) (k : Fin 10) (off : Fin 2 → Nat)
    (h : ∀ a, off a + S1x512.size a ≤ S10x512.size a) (ho : off = ![k.val, 0]) {α : Type} (kk : Vec Ideal S1x512 e → PR (F := Ideal) α) (Q : α → sProp 𝕄) :
    Own d m g ⊢ iprop((Own d m g -∗ WP d (kk (rowOf g k)) Q) -∗ WP d (ldRow m off h >>= kk) Q) := by
  have e0 : (ldRow m off h >>= kk) = .op (.load m (rowAt off h).toLoadRect (View.loadsAt_vmem h_S1x512)) kk := rfl
  rw [e0]
  unfold Own WP
  iintro ⟨%f, %hf, H⟩ HK
  iapply (wp_load 𝒱₀ (T d) none Set.univ (m := m) (r := (rowAt off h).toLoadRect) (Finset.subset_univ _)) $$ H
  iintro H
  have hr : m.view.readAt (Elt Ideal) (rowAt off h).toLoadRect f = rowOf g k := by
    funext x
    rw [View.readAt_apply, hf]
    exact congrArg g (row_emb k off h ho x)
  rw [hr]
  iapply HK
  iexists f
  isplitr
  · ipureintro; exact hf
  · iexact H

/-- A row written. -/
theorem stRow_wp (d : Dev nD) {e : EltTy} (m : Memref sig .tc .vmem S10x512 e) (g : S10x512.Idx → Elt Ideal e) (k : Fin 10) (off : Fin 2 → Nat)
    (h : ∀ a, off a + S1x512.size a ≤ S10x512.size a) (ho : off = ![k.val, 0]) (v : Vec Ideal S1x512 e) (he : e.bits = 32)
    {α : Type} (kk : PUnit → PR (F := Ideal) α) (Q : α → sProp 𝕄) :
    Own d m g ⊢ iprop((Own d m (setRow g k v) -∗ WP d (kk ⟨⟩) Q) -∗ WP d (stRow m off h v he >>= kk) Q) := by
  have e0 : (stRow m off h v he >>= kk) = .op (.store m (rowAt off h) v Finset.univ (View.stores_vmem_bits_univ h_S1x512 he) (.inl rfl)) kk := rfl
  rw [e0]
  unfold Own WP
  iintro ⟨%f, %hf, H⟩ HK
  iapply (wp_store 𝒱₀ (T d) none Set.univ (m := m) (r := rowAt off h) (w := v) (Finset.subset_univ _)) $$ H
  iintro H
  iapply HK
  iexists _
  isplitr [H]
  on_goal 2 => iexact H
  ipureintro
  funext y
  by_cases hy : y 0 = k
  · have hy' : y = (rowAt off h).emb (ix2 0 (y 1)) := by
      rw [row_emb k off h ho]
      funext a; fin_cases a
      · exact hy
      · rfl
    have h1 : setRow g k v y = v (ix2 0 (y 1)) := if_pos hy
    rw [h1]
    conv_lhs => rw [hy']
    exact View.read_slice_write_emb (v := m.view) (rowAt off h) f v (Finset.mem_univ _)
  · have h1 : setRow g k v y = g y := if_neg hy
    rw [h1, ← hf]
    refine View.read_slice_write_of_not_mem (v := m.view) (rowAt off h) f v Finset.univ fun hm => hy ?_
    obtain ⟨x, -, hx⟩ := Finset.mem_map.mp hm
    rw [← hx, row_emb k off h ho]
    rfl

/-- An array read whole. -/
theorem ldFull_wp (d : Dev nD) (bd : Option 𝒱₀.V) {s : Shape} {e : EltTy} (m : Memref sig .tc .vmem s e) (g : s.Idx → Elt Ideal e) (r : Rect s) (hl : m.view.LoadsAt r.toLoadRect)
    {α : Type} (kk : (r.shape.Idx → Elt Ideal e) → PR (F := Ideal) α) (Q : α → sProp 𝕄) :
    Own d m g ⊢ iprop((Own d m g -∗ wp frame (wpE (defs₀ (F := Ideal)) 𝒱₀ (T d) bd) Set.univ (kk fun x => g (r.emb x)) Q) -∗ wp frame (wpE (defs₀ (F := Ideal)) 𝒱₀ (T d) bd) Set.univ (.op (.load m r.toLoadRect hl) kk) Q) := by
  unfold Own
  iintro ⟨%f, %hf, H⟩ HK
  iapply (wp_load 𝒱₀ (T d) bd Set.univ (m := m) (r := r.toLoadRect) (Finset.subset_univ _)) $$ H
  iintro H
  have hr : m.view.readAt (Elt Ideal) r.toLoadRect f = fun x => g (r.emb x) := by
    funext x
    rw [View.readAt_apply, hf]
    rfl
  rw [hr]
  iapply HK
  iexists f
  isplitr
  · ipureintro; exact hf
  · iexact H

/-- An array written whole. -/
theorem stFull_wp (d : Dev nD) {s : Shape} {e : EltTy} (m : Memref sig .tc .vmem s e) (g : s.Idx → Elt Ideal e) (r : Rect s) (w : r.shape.Idx → Elt Ideal e) (w' : s.Idx → Elt Ideal e)
    (hw : ∀ x : s.Idx, ∃ y : r.shape.Idx, r.emb y = x ∧ w y = w' x) (hx : (m.access r).Stores Finset.univ) (hm : Finset.univ = Finset.univ ∨ ∀ a, r.stride a = 1)
    {α : Type} (kk : PUnit → PR (F := Ideal) α) (Q : α → sProp 𝕄) :
    Own d m g ⊢ iprop((Own d m w' -∗ WP d (kk ⟨⟩) Q) -∗ WP d (.op (.store m r w Finset.univ hx hm) kk) Q) := by
  unfold Own WP
  iintro ⟨%f, %hf, H⟩ HK
  iapply (wp_store 𝒱₀ (T d) none Set.univ (m := m) (r := r) (w := w) (Finset.subset_univ _)) $$ H
  iintro H
  iapply HK
  iexists _
  isplitr [H]
  on_goal 2 => iexact H
  ipureintro
  funext x
  obtain ⟨y, hy, hwy⟩ := hw x
  rw [← hwy, ← hy]
  exact View.read_slice_write_emb (v := m.view) r f w (Finset.mem_univ _)

/-- Ten programs in turn, by an invariant between them. -/
theorem ten_wp (d : Dev nD) (p : Fin 10 → PR (F := Ideal) PUnit) (I : Nat → sProp 𝕄) (h : ∀ k : Fin 10, I k.val ⊢ WP d (p k) fun _ => I (k.val + 1)) :
    I 0 ⊢ WP d (ten p) fun _ => I 10 := by
  unfold WP ten at *
  simp only [wp_bind]
  exact (h 0).trans (wp_mono _ _ _ fun _ => (h 1).trans (wp_mono _ _ _ fun _ => (h 2).trans (wp_mono _ _ _ fun _ => (h 3).trans (wp_mono _ _ _ fun _ => (h 4).trans
    (wp_mono _ _ _ fun _ => (h 5).trans (wp_mono _ _ _ fun _ => (h 6).trans (wp_mono _ _ _ fun _ => (h 7).trans (wp_mono _ _ _ fun _ => (h 8).trans (wp_mono _ _ _ fun _ => h 9)))))))))

end Cert.Proof.Whole

end
-- ==== Proof.Whole.Rounds.lean ====
/-
  The suppression kernel run: from the five coordinate arrays it leaves one where a box is kept and zero elsewhere. A box is kept when it is
  no padding and no kept box before it overlaps it by more than one half. Within a block of 512 the kernel strikes in rounds until nothing
  changes; every round settles one more box, so 512 rounds are enough, and a row that a round leaves as it is must be the kept one.
-/
module

public import proofs.«01_k».proof.Proof.Whole.Rows

@[expose] public section

noncomputable section

namespace Cert.Proof.Whole

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

local notation "𝕄" => MT nD τ sig (HIx 2) (Elt Ideal) ℕ UU ℕ

/-! ## The rounds within a block -/

/-- The round's row `κ` still to be struck: while the flag is up it agrees with the kept row `g` on its first `t` boxes, `n` rounds being enough for
    the rest; once it is down it is the kept row. -/
def Settled (g : Fin 512 → Prop) (n : ℕ) (κ : Fin 512 → Prop) (fl : BitVec 1) : Prop :=
  (fl = 1#1 → ∃ t : ℕ, t ≤ 512 ∧ 512 < n + t ∧ ∀ j : Fin 512, j.val < t → (κ j ↔ g j)) ∧ (¬ fl = 1#1 → ∀ j, κ j ↔ g j)

theorem ind_inj {p q : Prop} (h : ind p = ind q) : p ↔ q := by
  by_cases hp : p <;> by_cases hq : q
  · exact ⟨fun _ => hq, fun _ => hp⟩
  · rw [ind_true hp, ind_false hq] at h; exact absurd h one_ne_zero
  · rw [ind_false hp, ind_true hq] at h; exact absurd h.symm one_ne_zero
  · exact ⟨fun h => absurd h hp, fun h => absurd h hq⟩

section Round
variable (a g : Fin 512 → Prop) (m : Fin 512 → Fin 512 → Prop) (hm : ∀ i j, m i j → i < j) (hg : ∀ j, g j ↔ a j ∧ ¬ ∃ i, g i ∧ m i j)
include hm hg

/-- A row that agrees with the kept one before `j` strikes `j` as the kept one does. -/
theorem round_agree (κ : Fin 512 → Prop) (j : Fin 512) (h : ∀ i, i < j → (κ i ↔ g i)) : (a j ∧ ¬ ∃ i, κ i ∧ m i j) ↔ g j := by
  rw [hg j]
  refine and_congr_right fun _ => not_congr ⟨fun ⟨i, hκ, hij⟩ => ⟨i, (h i (hm i j hij)).mp hκ, hij⟩, fun ⟨i, hκ, hij⟩ => ⟨i, (h i (hm i j hij)).mpr hκ, hij⟩⟩

/-- A row that its own round leaves as it is is the kept row. -/
theorem fixed_kept (κ : Fin 512 → Prop) (h : ∀ j, κ j ↔ (a j ∧ ¬ ∃ i, κ i ∧ m i j)) (j : Fin 512) : κ j ↔ g j := by
  induction j using WellFoundedLT.induction with
  | _ j ih => exact (h j).trans (round_agree a g m hm hg κ j ih)

theorem settled_start (κ : Fin 512 → Prop) (fl : BitVec 1) (hf : fl = 1#1) : Settled g 513 κ fl :=
  ⟨fun _ => ⟨0, by omega, by omega, fun j hj => absurd hj (by omega)⟩, fun h => absurd hf h⟩

theorem settled_pos (n : ℕ) (κ : Fin 512 → Prop) (fl : BitVec 1) (h : Settled g n κ fl) (hf : fl = 1#1) : ∃ n', n = n' + 1 := by
  obtain ⟨t, ht, hn, -⟩ := h.1 hf
  exact ⟨n - 1, by omega⟩

theorem settled_step (n : ℕ) (κ : Fin 512 → Prop) (fl : BitVec 1) (h : Settled g (n + 1) κ fl) (hf : fl = 1#1)
    (al kp M' : _) (hk : ∀ j : Fin 512, (kp : Vec Ideal S1x512 .f32) (ix2 0 j) = ind (κ j)) (hM' : ∀ j : Fin 512, (M' : Vec Ideal S1x512 .f32) (ix2 0 j) = ind (al j))
    (hal : ∀ j, al j ↔ a j ∧ ¬ ∃ i, κ i ∧ m i j) : Settled g n al (differ M' kp) := by
  obtain ⟨t, ht, hn, hag⟩ := h.1 hf
  have hag' : ∀ j : Fin 512, j.val < t + 1 → (al j ↔ g j) := fun j hj =>
    (hal j).trans (round_agree a g m hm hg κ j fun i hij => hag i (by have := Fin.lt_def.mp hij; omega))
  constructor
  · intro hd
    obtain ⟨j, hj⟩ := (differ_iff M' kp).mp hd
    have ht' : t < 512 := by
      by_contra hc
      refine hj ?_
      rw [hM', hk]
      exact ind_congr ((hag' j (by have := j.isLt; omega)).trans (hag j (by have := j.isLt; omega)).symm)
    exact ⟨t + 1, by omega, by omega, hag'⟩
  · intro hd j
    have heq : ∀ j : Fin 512, al j ↔ κ j := fun j => by
      by_contra hc
      refine hd ((differ_iff M' kp).mpr ⟨j, fun he => hc ?_⟩)
      rw [hM', hk] at he
      exact ind_inj he
    exact (heq j).trans (fixed_kept a g m hm hg κ (fun j => (heq j).symm.trans (hal j)) j)

end Round

/-- What the rounds of a block return: the kept row, the table untouched. -/
def whileSpec (d : Dev nD) (M : S512x512.Idx → Elt Ideal .f32) (g : Fin 512 → Prop) : sWPT 𝕄 (FVec Ideal S1x512 .f32 × BitVec 1) :=
  ⟨fun Q => iprop(Own d m7 M ∗ (∀ r, ⌜∀ j : Fin 512, r.1 (ix2 0 j) = ind (g j)⌝ -∗ Own d m7 M -∗ Q r)),
    fun Q Q' hQ => Laws.sep_mono_right (PROP := sProp 𝕄) (Laws.forall_mono (PROP := sProp 𝕄) fun r => Laws.wand_mono_right (PROP := sProp 𝕄) (Laws.wand_mono_right (PROP := sProp 𝕄) (hQ r)))⟩

theorem whileSpec_apply (d : Dev nD) (M : S512x512.Idx → Elt Ideal .f32) (g : Fin 512 → Prop) (Q : FVec Ideal S1x512 .f32 × BitVec 1 → sProp 𝕄) :
    whileSpec d M g Q = iprop(Own d m7 M ∗ (∀ r, ⌜∀ j : Fin 512, r.1 (ix2 0 j) = ind (g j)⌝ -∗ Own d m7 M -∗ Q r)) := rfl

theorem whileSpec_ret (d : Dev nD) (M : S512x512.Idx → Elt Ideal .f32) (g : Fin 512 → Prop) (bd : Option 𝒱₀.V) (Q : FVec Ideal S1x512 .f32 × BitVec 1 → sProp 𝕄) :
    whileSpec d M g Q ⊢ whileSpec d M g fun r => wp frame (wpE (defs₀ (F := Ideal)) 𝒱₀ (T d) bd) Set.univ (.ret r : PR (F := Ideal) _) Q := by
  rw [whileSpec_apply, whileSpec_apply]
  iintro ⟨HM, HK⟩
  isplitl [HM]
  · iexact HM
  iintro %r %hr HM
  rw [wp_ret]; imodintro
  iapply HK $$ [] HM
  ipureintro
  exact hr

theorem full_emb (x : S512x512.Idx) : full512.emb x = x := by
  funext a
  fin_cases a
  · refine Fin.ext ?_; show 0 + 1 * (x 0).val = (x 0).val; omega
  · refine Fin.ext ?_; show 0 + 1 * (x 1).val = (x 1).val; omega

/-- The text all ten rounds share. -/
def roundBody (al kp : Vec Ideal S1x512 .f32) (fl : BitVec 1) (again : FVec Ideal S1x512 .f32 → BitVec 1 → PR (F := Ideal) (FVec Ideal S1x512 .f32 × BitVec 1)) :
    PR (F := Ideal) (FVec Ideal S1x512 .f32 × BitVec 1) :=
  if fl = 1#1 then .op (.load m7 full512.toLoadRect (View.loadsAt_vmem h_S512x512)) fun (M : Vec Ideal S512x512 .f32) => again (strike al kp M) (differ (strike al kp M) kp)
  else .ret (kp, fl)

section Spec
variable (a g : Fin 512 → Prop) (m : Fin 512 → Fin 512 → Prop) (hm : ∀ i j, m i j → i < j) (hg : ∀ j, g j ↔ a j ∧ ¬ ∃ i, g i ∧ m i j)
variable (d : Dev nD) (al : Vec Ideal S1x512 .f32) (M : S512x512.Idx → Elt Ideal .f32) (ha : ∀ j : Fin 512, al (ix2 0 j) = ind (a j))
  (hM : ∀ i j : Fin 512, M (ix2 i j) = ind (m i j))
include hm hg ha hM

/-- One round, by what the call after it returns. -/
theorem round_wp (n : ℕ) (again : FVec Ideal S1x512 .f32 → BitVec 1 → PR (F := Ideal) (FVec Ideal S1x512 .f32 × BitVec 1))
    (κ : Fin 512 → Prop) (kp : Vec Ideal S1x512 .f32) (fl : BitVec 1) (hk : ∀ j : Fin 512, kp (ix2 0 j) = ind (κ j)) (hs : Settled g n κ fl)
    (Q : FVec Ideal S1x512 .f32 × BitVec 1 → sProp 𝕄)
    (hag : ∀ n', n = n' + 1 → ∀ κ' kp' fl', (∀ j : Fin 512, kp' (ix2 0 j) = ind (κ' j)) → Settled g n' κ' fl' →
      whileSpec d M g Q ⊢ wp frame (wpE (defs₀ (F := Ideal)) 𝒱₀ (T d) (some n)) Set.univ (again kp' fl') Q) :
    whileSpec d M g Q ⊢ wp frame (wpE (defs₀ (F := Ideal)) 𝒱₀ (T d) (some n)) Set.univ (roundBody al kp fl again) Q := by
  unfold roundBody
  by_cases hf : fl = 1#1
  · rw [if_pos hf]
    obtain ⟨n', rfl⟩ := settled_pos a g m hm hg n κ fl hs hf
    rw [whileSpec_apply]
    iintro ⟨HM, HK⟩
    iapply (ldFull_wp d (some (n' + 1)) m7 M full512 (View.loadsAt_vmem h_S512x512)) $$ HM
    iintro HM
    have e : (fun x => M (full512.emb x)) = M := funext fun x => congrArg M (full_emb x)
    rw [e]
    have h1 := strike_ind a κ m al kp M ha hk hM
    iapply (hag n' rfl (fun j => a j ∧ ¬ ∃ i, κ i ∧ m i j) (strike al kp M) _ h1
      (settled_step a g m hm hg n' κ fl hs hf _ kp (strike al kp M) hk h1 fun j => Iff.rfl))
    rw [whileSpec_apply]
    isplitl [HM]
    · iexact HM
    · iexact HK
  · rw [if_neg hf, whileSpec_apply]
    iintro ⟨HM, HK⟩
    rw [wp_ret]; imodintro
    iapply HK $$ [] HM
    ipureintro
    intro j
    exact (hk j).trans (ind_congr (hs.2 hf j))

theorem while1_le : ∀ n κ kp fl, (∀ j : Fin 512, kp (ix2 0 j) = ind (κ j)) → Settled g n κ fl → ∀ Q : FVec Ideal S1x512 .f32 × BitVec 1 → sProp 𝕄,
    whileSpec d M g Q ⊢ wp frame (wpE (defs₀ (F := Ideal)) 𝒱₀ (T d) (some n)) Set.univ (defs₀ (F := Ideal) .tc 4 ⟨m7, Memref.isWhole_whole _, al, kp, fl⟩) Q := by
  intro n
  induction n with
  | zero =>
    intro κ kp fl hk hs Q
    exact round_wp a g m hm hg d al M ha hM 0 (fun kp' fl' => .op (.call (4 : (Λ₀ Ideal).Label) ⟨m7, Memref.isWhole_whole _, al, kp', fl'⟩) .ret) κ kp fl hk hs Q
      fun n' h => absurd h (by omega)
  | succ n ih =>
    intro κ kp fl hk hs Q
    refine round_wp a g m hm hg d al M ha hM (n + 1) (fun kp' fl' => .op (.call (4 : (Λ₀ Ideal).Label) ⟨m7, Memref.isWhole_whole _, al, kp', fl'⟩) .ret) κ kp fl hk hs Q
      fun n' h κ' kp' fl' hk' hs' => ?_
    obtain rfl : n = n' := by omega
    refine BIBase.Entails.trans ?_ (wp_call_spec 𝒱₀ (T d) (some (n + 1)) Set.univ (whileSpec d M g) n (fun u hu => by cases hu; exact Nat.lt_succ_self n) (ih κ' kp' fl' hk' hs'))
    exact whileSpec_ret d M g _ Q

theorem while2_le : ∀ n κ kp fl, (∀ j : Fin 512, kp (ix2 0 j) = ind (κ j)) → Settled g n κ fl → ∀ Q : FVec Ideal S1x512 .f32 × BitVec 1 → sProp 𝕄,
    whileSpec d M g Q ⊢ wp frame (wpE (defs₀ (F := Ideal)) 𝒱₀ (T d) (some n)) Set.univ (defs₀ (F := Ideal) .tc 5 ⟨m7, Memref.isWhole_whole _, al, kp, fl⟩) Q := by
  intro n
  induction n with
  | zero =>
    intro κ kp fl hk hs Q
    exact round_wp a g m hm hg d al M ha hM 0 (fun kp' fl' => .op (.call (5 : (Λ₀ Ideal).Label) ⟨m7, Memref.isWhole_whole _, al, kp', fl'⟩) .ret) κ kp fl hk hs Q
      fun n' h => absurd h (by omega)
  | succ n ih =>
    intro κ kp fl hk hs Q
    refine round_wp a g m hm hg d al M ha hM (n + 1) (fun kp' fl' => .op (.call (5 : (Λ₀ Ideal).Label) ⟨m7, Memref.isWhole_whole _, al, kp', fl'⟩) .ret) κ kp fl hk hs Q
      fun n' h κ' kp' fl' hk' hs' => ?_
    obtain rfl : n = n' := by omega
    refine BIBase.Entails.trans ?_ (wp_call_spec 𝒱₀ (T d) (some (n + 1)) Set.univ (whileSpec d M g) n (fun u hu => by cases hu; exact Nat.lt_succ_self n) (ih κ' kp' fl' hk' hs'))
    exact whileSpec_ret d M g _ Q

theorem while3_le : ∀ n κ kp fl, (∀ j : Fin 512, kp (ix2 0 j) = ind (κ j)) → Settled g n κ fl → ∀ Q : FVec Ideal S1x512 .f32 × BitVec 1 → sProp 𝕄,
    whileSpec d M g Q ⊢ wp frame (wpE (defs₀ (F := Ideal)) 𝒱₀ (T d) (some n)) Set.univ (defs₀ (F := Ideal) .tc 6 ⟨m7, Memref.isWhole_whole _, al, kp, fl⟩) Q := by
  intro n
  induction n with
  | zero =>
    intro κ kp fl hk hs Q
    exact round_wp a g m hm hg d al M ha hM 0 (fun kp' fl' => .op (.call (6 : (Λ₀ Ideal).Label) ⟨m7, Memref.isWhole_whole _, al, kp', fl'⟩) .ret) κ kp fl hk hs Q
      fun n' h => absurd h (by omega)
  | succ n ih =>
    intro κ kp fl hk hs Q
    refine round_wp a g m hm hg d al M ha hM (n + 1) (fun kp' fl' => .op (.call (6 : (Λ₀ Ideal).Label) ⟨m7, Memref.isWhole_whole _, al, kp', fl'⟩) .ret) κ kp fl hk hs Q
      fun n' h κ' kp' fl' hk' hs' => ?_
    obtain rfl : n = n' := by omega
    refine BIBase.Entails.trans ?_ (wp_call_spec 𝒱₀ (T d) (some (n + 1)) Set.univ (whileSpec d M g) n (fun u hu => by cases hu; exact Nat.lt_succ_self n) (ih κ' kp' fl' hk' hs'))
    exact whileSpec_ret d M g _ Q

theorem while4_le : ∀ n κ kp fl, (∀ j : Fin 512, kp (ix2 0 j) = ind (κ j)) → Settled g n κ fl → ∀ Q : FVec Ideal S1x512 .f32 × BitVec 1 → sProp 𝕄,
    whileSpec d M g Q ⊢ wp frame (wpE (defs₀ (F := Ideal)) 𝒱₀ (T d) (some n)) Set.univ (defs₀ (F := Ideal) .tc 7 ⟨m7, Memref.isWhole_whole _, al, kp, fl⟩) Q := by
  intro n
  induction n with
  | zero =>
    intro κ kp fl hk hs Q
    exact round_wp a g m hm hg d al M ha hM 0 (fun kp' fl' => .op (.call (7 : (Λ₀ Ideal).Label) ⟨m7, Memref.isWhole_whole _, al, kp', fl'⟩) .ret) κ kp fl hk hs Q
      fun n' h => absurd h (by omega)
  | succ n ih =>
    intro κ kp fl hk hs Q
    refine round_wp a g m hm hg d al M ha hM (n + 1) (fun kp' fl' => .op (.call (7 : (Λ₀ Ideal).Label) ⟨m7, Memref.isWhole_whole _, al, kp', fl'⟩) .ret) κ kp fl hk hs Q
      fun n' h κ' kp' fl' hk' hs' => ?_
    obtain rfl : n = n' := by omega
    refine BIBase.Entails.trans ?_ (wp_call_spec 𝒱₀ (T d) (some (n + 1)) Set.univ (whileSpec d M g) n (fun u hu => by cases hu; exact Nat.lt_succ_self n) (ih κ' kp' fl' hk' hs'))
    exact whileSpec_ret d M g _ Q

theorem while5_le : ∀ n κ kp fl, (∀ j : Fin 512, kp (ix2 0 j) = ind (κ j)) → Settled g n κ fl → ∀ Q : FVec Ideal S1x512 .f32 × BitVec 1 → sProp 𝕄,
    whileSpec d M g Q ⊢ wp frame (wpE (defs₀ (F := Ideal)) 𝒱₀ (T d) (some n)) Set.univ (defs₀ (F := Ideal) .tc 8 ⟨m7, Memref.isWhole_whole _, al, kp, fl⟩) Q := by
  intro n
  induction n with
  | zero =>
    intro κ kp fl hk hs Q
    exact round_wp a g m hm hg d al M ha hM 0 (fun kp' fl' => .op (.call (8 : (Λ₀ Ideal).Label) ⟨m7, Memref.isWhole_whole _, al, kp', fl'⟩) .ret) κ kp fl hk hs Q
      fun n' h => absurd h (by omega)
  | succ n ih =>
    intro κ kp fl hk hs Q
    refine round_wp a g m hm hg d al M ha hM (n + 1) (fun kp' fl' => .op (.call (8 : (Λ₀ Ideal).Label) ⟨m7, Memref.isWhole_whole _, al, kp', fl'⟩) .ret) κ kp fl hk hs Q
      fun n' h κ' kp' fl' hk' hs' => ?_
    obtain rfl : n = n' := by omega
    refine BIBase.Entails.trans ?_ (wp_call_spec 𝒱₀ (T d) (some (n + 1)) Set.univ (whileSpec d M g) n (fun u hu => by cases hu; exact Nat.lt_succ_self n) (ih κ' kp' fl' hk' hs'))
    exact whileSpec_ret d M g _ Q

theorem while6_le : ∀ n κ kp fl, (∀ j : Fin 512, kp (ix2 0 j) = ind (κ j)) → Settled g n κ fl → ∀ Q : FVec Ideal S1x512 .f32 × BitVec 1 → sProp 𝕄,
    whileSpec d M g Q ⊢ wp frame (wpE (defs₀ (F := Ideal)) 𝒱₀ (T d) (some n)) Set.univ (defs₀ (F := Ideal) .tc 9 ⟨m7, Memref.isWhole_whole _, al, kp, fl⟩) Q := by
  intro n
  induction n with
  | zero =>
    intro κ kp fl hk hs Q
    exact round_wp a g m hm hg d al M ha hM 0 (fun kp' fl' => .op (.call (9 : (Λ₀ Ideal).Label) ⟨m7, Memref.isWhole_whole _, al, kp', fl'⟩) .ret) κ kp fl hk hs Q
      fun n' h => absurd h (by omega)
  | succ n ih =>
    intro κ kp fl hk hs Q
    refine round_wp a g m hm hg d al M ha hM (n + 1) (fun kp' fl' => .op (.call (9 : (Λ₀ Ideal).Label) ⟨m7, Memref.isWhole_whole _, al, kp', fl'⟩) .ret) κ kp fl hk hs Q
      fun n' h κ' kp' fl' hk' hs' => ?_
    obtain rfl : n = n' := by omega
    refine BIBase.Entails.trans ?_ (wp_call_spec 𝒱₀ (T d) (some (n + 1)) Set.univ (whileSpec d M g) n (fun u hu => by cases hu; exact Nat.lt_succ_self n) (ih κ' kp' fl' hk' hs'))
    exact whileSpec_ret d M g _ Q

theorem while7_le : ∀ n κ kp fl, (∀ j : Fin 512, kp (ix2 0 j) = ind (κ j)) → Settled g n κ fl → ∀ Q : FVec Ideal S1x512 .f32 × BitVec 1 → sProp 𝕄,
    whileSpec d M g Q ⊢ wp frame (wpE (defs₀ (F := Ideal)) 𝒱₀ (T d) (some n)) Set.univ (defs₀ (F := Ideal) .tc 10 ⟨m7, Memref.isWhole_whole _, al, kp, fl⟩) Q := by
  intro n
  induction n with
  | zero =>
    intro κ kp fl hk hs Q
    exact round_wp a g m hm hg d al M ha hM 0 (fun kp' fl' => .op (.call (10 : (Λ₀ Ideal).Label) ⟨m7, Memref.isWhole_whole _, al, kp', fl'⟩) .ret) κ kp fl hk hs Q
      fun n' h => absurd h (by omega)
  | succ n ih =>
    intro κ kp fl hk hs Q
    refine round_wp a g m hm hg d al M ha hM (n + 1) (fun kp' fl' => .op (.call (10 : (Λ₀ Ideal).Label) ⟨m7, Memref.isWhole_whole _, al, kp', fl'⟩) .ret) κ kp fl hk hs Q
      fun n' h κ' kp' fl' hk' hs' => ?_
    obtain rfl : n = n' := by omega
    refine BIBase.Entails.trans ?_ (wp_call_spec 𝒱₀ (T d) (some (n + 1)) Set.univ (whileSpec d M g) n (fun u hu => by cases hu; exact Nat.lt_succ_self n) (ih κ' kp' fl' hk' hs'))
    exact whileSpec_ret d M g _ Q

theorem while8_le : ∀ n κ kp fl, (∀ j : Fin 512, kp (ix2 0 j) = ind (κ j)) → Settled g n κ fl → ∀ Q : FVec Ideal S1x512 .f32 × BitVec 1 → sProp 𝕄,
    whileSpec d M g Q ⊢ wp frame (wpE (defs₀ (F := Ideal)) 𝒱₀ (T d) (some n)) Set.univ (defs₀ (F := Ideal) .tc 11 ⟨m7, Memref.isWhole_whole _, al, kp, fl⟩) Q := by
  intro n
  induction n with
  | zero =>
    intro κ kp fl hk hs Q
    exact round_wp a g m hm hg d al M ha hM 0 (fun kp' fl' => .op (.call (11 : (Λ₀ Ideal).Label) ⟨m7, Memref.isWhole_whole _, al, kp', fl'⟩) .ret) κ kp fl hk hs Q
      fun n' h => absurd h (by omega)
  | succ n ih =>
    intro κ kp fl hk hs Q
    refine round_wp a g m hm hg d al M ha hM (n + 1) (fun kp' fl' => .op (.call (11 : (Λ₀ Ideal).Label) ⟨m7, Memref.isWhole_whole _, al, kp', fl'⟩) .ret) κ kp fl hk hs Q
      fun n' h κ' kp' fl' hk' hs' => ?_
    obtain rfl : n = n' := by omega
    refine BIBase.Entails.trans ?_ (wp_call_spec 𝒱₀ (T d) (some (n + 1)) Set.univ (whileSpec d M g) n (fun u hu => by cases hu; exact Nat.lt_succ_self n) (ih κ' kp' fl' hk' hs'))
    exact whileSpec_ret d M g _ Q

theorem while9_le : ∀ n κ kp fl, (∀ j : Fin 512, kp (ix2 0 j) = ind (κ j)) → Settled g n κ fl → ∀ Q : FVec Ideal S1x512 .f32 × BitVec 1 → sProp 𝕄,
    whileSpec d M g Q ⊢ wp frame (wpE (defs₀ (F := Ideal)) 𝒱₀ (T d) (some n)) Set.univ (defs₀ (F := Ideal) .tc 12 ⟨m7, Memref.isWhole_whole _, al, kp, fl⟩) Q := by
  intro n
  induction n with
  | zero =>
    intro κ kp fl hk hs Q
    exact round_wp a g m hm hg d al M ha hM 0 (fun kp' fl' => .op (.call (12 : (Λ₀ Ideal).Label) ⟨m7, Memref.isWhole_whole _, al, kp', fl'⟩) .ret) κ kp fl hk hs Q
      fun n' h => absurd h (by omega)
  | succ n ih =>
    intro κ kp fl hk hs Q
    refine round_wp a g m hm hg d al M ha hM (n + 1) (fun kp' fl' => .op (.call (12 : (Λ₀ Ideal).Label) ⟨m7, Memref.isWhole_whole _, al, kp', fl'⟩) .ret) κ kp fl hk hs Q
      fun n' h κ' kp' fl' hk' hs' => ?_
    obtain rfl : n = n' := by omega
    refine BIBase.Entails.trans ?_ (wp_call_spec 𝒱₀ (T d) (some (n + 1)) Set.univ (whileSpec d M g) n (fun u hu => by cases hu; exact Nat.lt_succ_self n) (ih κ' kp' fl' hk' hs'))
    exact whileSpec_ret d M g _ Q

theorem while10_le : ∀ n κ kp fl, (∀ j : Fin 512, kp (ix2 0 j) = ind (κ j)) → Settled g n κ fl → ∀ Q : FVec Ideal S1x512 .f32 × BitVec 1 → sProp 𝕄,
    whileSpec d M g Q ⊢ wp frame (wpE (defs₀ (F := Ideal)) 𝒱₀ (T d) (some n)) Set.univ (defs₀ (F := Ideal) .tc 13 ⟨m7, Memref.isWhole_whole _, al, kp, fl⟩) Q := by
  intro n
  induction n with
  | zero =>
    intro κ kp fl hk hs Q
    exact round_wp a g m hm hg d al M ha hM 0 (fun kp' fl' => .op (.call (13 : (Λ₀ Ideal).Label) ⟨m7, Memref.isWhole_whole _, al, kp', fl'⟩) .ret) κ kp fl hk hs Q
      fun n' h => absurd h (by omega)
  | succ n ih =>
    intro κ kp fl hk hs Q
    refine round_wp a g m hm hg d al M ha hM (n + 1) (fun kp' fl' => .op (.call (13 : (Λ₀ Ideal).Label) ⟨m7, Memref.isWhole_whole _, al, kp', fl'⟩) .ret) κ kp fl hk hs Q
      fun n' h κ' kp' fl' hk' hs' => ?_
    obtain rfl : n = n' := by omega
    refine BIBase.Entails.trans ?_ (wp_call_spec 𝒱₀ (T d) (some (n + 1)) Set.univ (whileSpec d M g) n (fun u hu => by cases hu; exact Nat.lt_succ_self n) (ih κ' kp' fl' hk' hs'))
    exact whileSpec_ret d M g _ Q

/-- The rounds of any block, from the block's living row: the kept row. -/
theorem rounds_wp (k : Fin 10) {β : Type} (kk : FVec Ideal S1x512 .f32 × BitVec 1 → PR (F := Ideal) β) (Q : β → sProp 𝕄) :
    whileSpec d M g (fun r => WP d (kk r) Q) ⊢ WP d (rounds k al >>= kk) Q := by
  have hs := settled_start a g m hm hg a 1#1 rfl
  fin_cases k
  · show _ ⊢ wp frame (wpE (defs₀ (F := Ideal)) 𝒱₀ (T d) none) Set.univ (.op (.call (4 : (Λ₀ Ideal).Label) ⟨m7, Memref.isWhole_whole _, al, al, 1#1⟩) kk) Q
    exact wp_call_spec (defs := defs₀ (F := Ideal)) 𝒱₀ (T d) none Set.univ (ℓ := (4 : (Λ₀ Ideal).Label)) (a := ⟨m7, Memref.isWhole_whole _, al, al, 1#1⟩) (k := kk)
      (whileSpec d M g) 513 (fun u hu => by cases hu) (while1_le a g m hm hg d al M ha hM 513 a al 1#1 ha hs)
  · show _ ⊢ wp frame (wpE (defs₀ (F := Ideal)) 𝒱₀ (T d) none) Set.univ (.op (.call (5 : (Λ₀ Ideal).Label) ⟨m7, Memref.isWhole_whole _, al, al, 1#1⟩) kk) Q
    exact wp_call_spec (defs := defs₀ (F := Ideal)) 𝒱₀ (T d) none Set.univ (ℓ := (5 : (Λ₀ Ideal).Label)) (a := ⟨m7, Memref.isWhole_whole _, al, al, 1#1⟩) (k := kk)
      (whileSpec d M g) 513 (fun u hu => by cases hu) (while2_le a g m hm hg d al M ha hM 513 a al 1#1 ha hs)
  · show _ ⊢ wp frame (wpE (defs₀ (F := Ideal)) 𝒱₀ (T d) none) Set.univ (.op (.call (6 : (Λ₀ Ideal).Label) ⟨m7, Memref.isWhole_whole _, al, al, 1#1⟩) kk) Q
    exact wp_call_spec (defs := defs₀ (F := Ideal)) 𝒱₀ (T d) none Set.univ (ℓ := (6 : (Λ₀ Ideal).Label)) (a := ⟨m7, Memref.isWhole_whole _, al, al, 1#1⟩) (k := kk)
      (whileSpec d M g) 513 (fun u hu => by cases hu) (while3_le a g m hm hg d al M ha hM 513 a al 1#1 ha hs)
  · show _ ⊢ wp frame (wpE (defs₀ (F := Ideal)) 𝒱₀ (T d) none) Set.univ (.op (.call (7 : (Λ₀ Ideal).Label) ⟨m7, Memref.isWhole_whole _, al, al, 1#1⟩) kk) Q
    exact wp_call_spec (defs := defs₀ (F := Ideal)) 𝒱₀ (T d) none Set.univ (ℓ := (7 : (Λ₀ Ideal).Label)) (a := ⟨m7, Memref.isWhole_whole _, al, al, 1#1⟩) (k := kk)
      (whileSpec d M g) 513 (fun u hu => by cases hu) (while4_le a g m hm hg d al M ha hM 513 a al 1#1 ha hs)
  · show _ ⊢ wp frame (wpE (defs₀ (F := Ideal)) 𝒱₀ (T d) none) Set.univ (.op (.call (8 : (Λ₀ Ideal).Label) ⟨m7, Memref.isWhole_whole _, al, al, 1#1⟩) kk) Q
    exact wp_call_spec (defs := defs₀ (F := Ideal)) 𝒱₀ (T d) none Set.univ (ℓ := (8 : (Λ₀ Ideal).Label)) (a := ⟨m7, Memref.isWhole_whole _, al, al, 1#1⟩) (k := kk)
      (whileSpec d M g) 513 (fun u hu => by cases hu) (while5_le a g m hm hg d al M ha hM 513 a al 1#1 ha hs)
  · show _ ⊢ wp frame (wpE (defs₀ (F := Ideal)) 𝒱₀ (T d) none) Set.univ (.op (.call (9 : (Λ₀ Ideal).Label) ⟨m7, Memref.isWhole_whole _, al, al, 1#1⟩) kk) Q
    exact wp_call_spec (defs := defs₀ (F := Ideal)) 𝒱₀ (T d) none Set.univ (ℓ := (9 : (Λ₀ Ideal).Label)) (a := ⟨m7, Memref.isWhole_whole _, al, al, 1#1⟩) (k := kk)
      (whileSpec d M g) 513 (fun u hu => by cases hu) (while6_le a g m hm hg d al M ha hM 513 a al 1#1 ha hs)
  · show _ ⊢ wp frame (wpE (defs₀ (F := Ideal)) 𝒱₀ (T d) none) Set.univ (.op (.call (10 : (Λ₀ Ideal).Label) ⟨m7, Memref.isWhole_whole _, al, al, 1#1⟩) kk) Q
    exact wp_call_spec (defs := defs₀ (F := Ideal)) 𝒱₀ (T d) none Set.univ (ℓ := (10 : (Λ₀ Ideal).Label)) (a := ⟨m7, Memref.isWhole_whole _, al, al, 1#1⟩) (k := kk)
      (whileSpec d M g) 513 (fun u hu => by cases hu) (while7_le a g m hm hg d al M ha hM 513 a al 1#1 ha hs)
  · show _ ⊢ wp frame (wpE (defs₀ (F := Ideal)) 𝒱₀ (T d) none) Set.univ (.op (.call (11 : (Λ₀ Ideal).Label) ⟨m7, Memref.isWhole_whole _, al, al, 1#1⟩) kk) Q
    exact wp_call_spec (defs := defs₀ (F := Ideal)) 𝒱₀ (T d) none Set.univ (ℓ := (11 : (Λ₀ Ideal).Label)) (a := ⟨m7, Memref.isWhole_whole _, al, al, 1#1⟩) (k := kk)
      (whileSpec d M g) 513 (fun u hu => by cases hu) (while8_le a g m hm hg d al M ha hM 513 a al 1#1 ha hs)
  · show _ ⊢ wp frame (wpE (defs₀ (F := Ideal)) 𝒱₀ (T d) none) Set.univ (.op (.call (12 : (Λ₀ Ideal).Label) ⟨m7, Memref.isWhole_whole _, al, al, 1#1⟩) kk) Q
    exact wp_call_spec (defs := defs₀ (F := Ideal)) 𝒱₀ (T d) none Set.univ (ℓ := (12 : (Λ₀ Ideal).Label)) (a := ⟨m7, Memref.isWhole_whole _, al, al, 1#1⟩) (k := kk)
      (whileSpec d M g) 513 (fun u hu => by cases hu) (while9_le a g m hm hg d al M ha hM 513 a al 1#1 ha hs)
  · show _ ⊢ wp frame (wpE (defs₀ (F := Ideal)) 𝒱₀ (T d) none) Set.univ (.op (.call (13 : (Λ₀ Ideal).Label) ⟨m7, Memref.isWhole_whole _, al, al, 1#1⟩) kk) Q
    exact wp_call_spec (defs := defs₀ (F := Ideal)) 𝒱₀ (T d) none Set.univ (ℓ := (13 : (Λ₀ Ideal).Label)) (a := ⟨m7, Memref.isWhole_whole _, al, al, 1#1⟩) (k := kk)
      (whileSpec d M g) 513 (fun u hu => by cases hu) (while10_le a g m hm hg d al M ha hM 513 a al 1#1 ha hs)

end Spec

end Cert.Proof.Whole

end
-- ==== Proof.Whole.Nms.lean ====
/-
  The suppression kernel run, block by block: the boxes kept among the blocks done are written, and every later block's living boxes are those
  no kept box of a block done overlaps.
-/
module

public import proofs.«01_k».proof.Proof.Whole.Rounds

@[expose] public section

noncomputable section

namespace Cert.Proof.Whole

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

local notation "𝕄" => MT nD τ sig (HIx 2) (Elt Ideal) ℕ UU ℕ

/-! ## The boxes -/

/-- The boxes in rank order, ten blocks of 512: corners and areas. -/
structure Geo where
  x1 : S10x512.Idx → Elt Ideal .f32
  y1 : S10x512.Idx → Elt Ideal .f32
  x2 : S10x512.Idx → Elt Ideal .f32
  y2 : S10x512.Idx → Elt Ideal .f32
  ar : S10x512.Idx → Elt Ideal .f32

/-- The rows of block `k`. -/
def Geo.row (G : Geo) (k : Fin 10) : Rows Ideal := ⟨rowOf G.x1 k, rowOf G.y1 k, rowOf G.x2 k, rowOf G.y2 k, rowOf G.ar k⟩

/-- Box `i` of block `k` overlaps box `j` of block `l` by more than one half. -/
def Geo.over (G : Geo) (k : Fin 10) (i : Fin 512) (l : Fin 10) (j : Fin 512) : Prop :=
  ((1 / 2 : ℝ) : EReal) < ratio (G.x1 (ix2 k i)) (G.y1 (ix2 k i)) (G.x2 (ix2 k i)) (G.y2 (ix2 k i)) (G.ar (ix2 k i))
    (G.x1 (ix2 l j)) (G.y1 (ix2 l j)) (G.x2 (ix2 l j)) (G.y2 (ix2 l j)) (G.ar (ix2 l j))

theorem over_iff (G : Geo) (k l : Fin 10) (i j : Fin 512) :
    overM (rowOf G.x1 k) (rowOf G.y1 k) (rowOf G.x2 k) (rowOf G.y2 k) (rowOf G.ar k) (rowOf G.x1 l) (rowOf G.y1 l) (rowOf G.x2 l) (rowOf G.y2 l) (rowOf G.ar l) (ix2 i j) = 1#1
      ↔ G.over k i l j := overM_iff ..

/-- Box `j` of block `l` is no padding. -/
def valid (l : Fin 10) (j : Fin 512) : Prop := 512 * l.val + j.val < 5000

/-- What the kept boxes are: no padding, and no kept box before overlaps. -/
def IsKept (G : Geo) (kept : Fin 10 → Fin 512 → Prop) : Prop :=
  ∀ k j, kept k j ↔ (valid k j ∧ ∀ k' : Fin 10, k'.val < k.val → ∀ i, kept k' i → ¬ G.over k' i k j) ∧ ¬ ∃ i, kept k i ∧ (G.over k i k j ∧ i < j)

/-- Box `j` of block `l` still lives after the first `k` blocks. -/
def live (G : Geo) (kept : Fin 10 → Fin 512 → Prop) (k : Nat) (l : Fin 10) (j : Fin 512) : Prop :=
  valid l j ∧ ∀ k' : Fin 10, k'.val < k → ∀ i, kept k' i → ¬ G.over k' i l j

theorem live_succ (G : Geo) (kept : Fin 10 → Fin 512 → Prop) (k l : Fin 10) (j : Fin 512) :
    (live G kept k.val l j ∧ ¬ ∃ i, kept k i ∧ G.over k i l j) ↔ live G kept (k.val + 1) l j := by
  constructor
  · rintro ⟨⟨h1, h2⟩, h3⟩
    refine ⟨h1, fun k' hk' i hi ho => ?_⟩
    rcases Nat.lt_succ_iff_lt_or_eq.mp hk' with h | h
    · exact h2 k' h i hi ho
    · obtain rfl : k' = k := Fin.ext h
      exact h3 ⟨i, hi, ho⟩
  · rintro ⟨h1, h2⟩
    exact ⟨⟨h1, fun k' hk' => h2 k' (by omega)⟩, fun ⟨i, hi, ho⟩ => h2 k (by omega) i hi ho⟩

variable (d : Dev nD) (G : Geo) (kept : Fin 10 → Fin 512 → Prop)

/-- The five coordinate arrays, held. -/
def Ins : sProp 𝕄 := iprop(Own d m0 G.x1 ∗ Own d m1 G.y1 ∗ Own d m2 G.x2 ∗ Own d m3 G.y2 ∗ Own d m4 G.ar)

/-! ## The later blocks struck -/

/-- Of the blocks after `k`, the first `t` are struck by block `k`. -/
def CInv (k : Fin 10) (t : Nat) : sProp 𝕄 :=
  iprop(∃ A : S10x512.Idx → Elt Ideal .f32,
    ⌜∀ (l : Fin 10) (j : Fin 512), (k.val < l.val → l.val < k.val + 1 + t → A (ix2 l j) = ind (live G kept (k.val + 1) l j))
      ∧ (k.val + 1 + t ≤ l.val → A (ix2 l j) = ind (live G kept k.val l j))⌝ ∗ Ins d G ∗ Own d m6 A)

theorem crossBlk_wp (k l : Fin 10) (t : Nat) (hl : l.val = k.val + 1 + t) (keep : Vec Ideal S1x512 .f32) (hkeep : ∀ j : Fin 512, keep (ix2 0 j) = ind (kept k j))
    (off : Fin 2 → Nat) (h : ∀ a, off a + S1x512.size a ≤ S10x512.size a) (ho : off = ![l.val, 0]) :
    CInv d G kept k t ⊢ WP d (crossBlk (G.row k) keep off h) fun _ => CInv d G kept k (t + 1) := by
  unfold CInv Ins crossBlk
  iintro ⟨%A, %hA, ⟨H0, H1, H2, H3, H4⟩, H6⟩
  iapply (ldRow_wp d m0 G.x1 l off h ho) $$ H0; iintro H0
  iapply (ldRow_wp d m1 G.y1 l off h ho) $$ H1; iintro H1
  iapply (ldRow_wp d m2 G.x2 l off h ho) $$ H2; iintro H2
  iapply (ldRow_wp d m3 G.y2 l off h ho) $$ H3; iintro H3
  iapply (ldRow_wp d m4 G.ar l off h ho) $$ H4; iintro H4
  iapply (ldRow_wp d m6 A l off h ho) $$ H6; iintro H6
  iapply (ldRow_wp d m6 A l off h ho) $$ H6; iintro H6
  rw [← bind_pure (stRow m6 off h _ rfl)]
  iapply (stRow_wp d m6 A l off h ho _ rfl) $$ H6; iintro H6
  rw [WP, show (pure PUnit.unit : PR (F := Ideal) PUnit) = .ret PUnit.unit from rfl, wp_ret]
  imodintro
  iexists _
  isplitr [H0 H1 H2 H3 H4 H6]
  on_goal 2 =>
    isplitr [H6]
    · isplitl [H0]; · iexact H0
      isplitl [H1]; · iexact H1
      isplitl [H2]; · iexact H2
      isplitl [H3]; · iexact H3
      iexact H4
    · iexact H6
  ipureintro
  intro l' j
  by_cases hll : l' = l
  · subst hll
    refine ⟨fun _ _ => ?_, fun hc => absurd hc (by omega)⟩
    rw [setRow_self]
    pointwise []
    refine (strike_ind (fun j => live G kept k.val l' j) (kept k) (fun i j => G.over k i l' j) _ _ _ (fun j => (hA l' j).2 (by omega)) hkeep ?_ j).trans (ind_congr (live_succ G kept k l' j))
    intro i j
    rw [bits512_apply]
    exact ind_congr (over_iff G k l' i j)
  · rw [setRow_other _ hll]
    exact ⟨fun h1 h2 => (hA l' j).1 h1 (by have : l'.val ≠ l.val := fun e => hll (Fin.ext e); omega), fun h1 => (hA l' j).2 (by omega)⟩

theorem crossLoop_wp (k : Fin 10) (keep : Vec Ideal S1x512 .f32) (hkeep : ∀ j : Fin 512, keep (ix2 0 j) = ind (kept k j))
    (L : Scf.Loop 32) (hL : L.OK) (off : Fin L.trips → Fin 2 → Nat) (hoff : ∀ t, ∀ a, off t a + S1x512.size a ≤ S10x512.size a)
    (htr : L.trips + k.val = 9) (ho : ∀ t : Fin L.trips, off t = ![k.val + 1 + t.val, 0]) :
    CInv d G kept k 0 ⊢ WP d (crossLoop L hL off hoff (G.row k) keep) fun _ => CInv d G kept k (9 - k.val) := by
  unfold crossLoop
  have h := Scf.wp_for frame (wpE (defs₀ (F := Ideal)) 𝒱₀ (T d) none) Set.univ L.lb L.ub L.st hL PUnit.unit
    (fun t _ => crossBlk (G.row k) keep (off t) (hoff t) >>= fun _ => (.ret PUnit.unit : PR (F := Ideal) PUnit))
    (fun t _ => CInv d G kept k t) (fun t _ => by
      rw [wp_bind]
      have ht : t.val < L.trips := t.isLt
      refine (crossBlk_wp d G kept k ⟨k.val + 1 + t.val, by omega⟩ t.val rfl keep hkeep (off t) (hoff t) (ho t)).trans (wp_mono _ _ _ fun _ => ?_)
      rw [wp_ret]; exact fupd_intro) (Q := fun _ => CInv d G kept k (9 - k.val))
  refine BIBase.Entails.trans ?_ h
  iintro H
  isplitl [H]
  · iexact H
  iintro %_ H
  rw [show Scf.trips L.lb L.ub L.st = 9 - k.val by have : L.trips = Scf.trips L.lb L.ub L.st := rfl; omega]
  iexact H

/-- The later blocks struck by block `k`. -/
theorem crosses_wp (k : Fin 10) (keep : Vec Ideal S1x512 .f32) (hkeep : ∀ j : Fin 512, keep (ix2 0 j) = ind (kept k j)) :
    CInv d G kept k 0 ⊢ WP d (crosses k (G.row k) keep) fun _ => CInv d G kept k (9 - k.val) := by
  fin_cases k
  · exact crossLoop_wp d G kept 0 keep hkeep k2_t1_loop k2_t1_ok k2_off1 k2_off1_inb (by decide) (by decide)
  · exact crossLoop_wp d G kept 1 keep hkeep k2_t2_loop k2_t2_ok k2_off2 k2_off2_inb (by decide) (by decide)
  · exact crossLoop_wp d G kept 2 keep hkeep k2_t3_loop k2_t3_ok k2_off3 k2_off3_inb (by decide) (by decide)
  · exact crossLoop_wp d G kept 3 keep hkeep k2_t4_loop k2_t4_ok k2_off4 k2_off4_inb (by decide) (by decide)
  · exact crossLoop_wp d G kept 4 keep hkeep k2_t5_loop k2_t5_ok k2_off5 k2_off5_inb (by decide) (by decide)
  · exact crossLoop_wp d G kept 5 keep hkeep k2_t6_loop k2_t6_ok k2_off6 k2_off6_inb (by decide) (by decide)
  · exact crossLoop_wp d G kept 6 keep hkeep k2_t7_loop k2_t7_ok k2_off7 k2_off7_inb (by decide) (by decide)
  · exact crossLoop_wp d G kept 7 keep hkeep k2_t8_loop k2_t8_ok k2_off8 k2_off8_inb (by decide) (by decide)
  · exact crossBlk_wp d G kept 8 9 0 rfl keep hkeep ![9, 0] (inbRow 9) rfl
  · show _ ⊢ wp _ _ _ (.ret PUnit.unit : PR (F := Ideal) PUnit) _
    rw [wp_ret]; exact fupd_intro

/-! ## A block -/

/-- The first `k` blocks done. -/
def NInv (k : Nat) : sProp 𝕄 :=
  iprop(∃ (K A : S10x512.Idx → Elt Ideal .f32) (M : S512x512.Idx → Elt Ideal .f32),
    ⌜(∀ (l : Fin 10) (j : Fin 512), l.val < k → K (ix2 l j) = ind (kept l j)) ∧ ∀ (l : Fin 10) (j : Fin 512), k ≤ l.val → A (ix2 l j) = ind (live G kept k l j)⌝
      ∗ Ins d G ∗ Own d m5 K ∗ Own d m6 A ∗ Own d m7 M)

theorem nmsBlk_wp (hkept : IsKept G kept) (k : Fin 10) :
    NInv d G kept k.val ⊢ WP d (nmsBlk ![k.val, 0] (inbRow k) (rounds k) (crosses k)) fun _ => NInv d G kept (k.val + 1) := by
  unfold NInv nmsBlk
  iintro ⟨%K, %A, %M, %hKA, HI, H5, H6, H7⟩
  unfold Ins
  icases HI with ⟨H0, H1, H2, H3, H4⟩
  iapply (ldRow_wp d m0 G.x1 k _ (inbRow k) rfl) $$ H0; iintro H0
  iapply (ldRow_wp d m1 G.y1 k _ (inbRow k) rfl) $$ H1; iintro H1
  iapply (ldRow_wp d m2 G.x2 k _ (inbRow k) rfl) $$ H2; iintro H2
  iapply (ldRow_wp d m3 G.y2 k _ (inbRow k) rfl) $$ H3; iintro H3
  iapply (ldRow_wp d m4 G.ar k _ (inbRow k) rfl) $$ H4; iintro H4
  iapply (ldRow_wp d m0 G.x1 k _ (inbRow k) rfl) $$ H0; iintro H0
  iapply (ldRow_wp d m1 G.y1 k _ (inbRow k) rfl) $$ H1; iintro H1
  iapply (ldRow_wp d m2 G.x2 k _ (inbRow k) rfl) $$ H2; iintro H2
  iapply (ldRow_wp d m3 G.y2 k _ (inbRow k) rfl) $$ H3; iintro H3
  iapply (ldRow_wp d m4 G.ar k _ (inbRow k) rfl) $$ H4; iintro H4
  iapply (ldFull_wp d none m7 M full512 (View.loadsAt_vmem h_S512x512)) $$ H7; iintro H7
  have hD : ∀ i j : Fin 512, diagM (rowOf G.x1 k) (rowOf G.y1 k) (rowOf G.x2 k) (rowOf G.y2 k) (rowOf G.ar k) (rowOf G.x1 k) (rowOf G.y1 k) (rowOf G.x2 k) (rowOf G.y2 k)
      (rowOf G.ar k) (ix2 i j) = ind (G.over k i k j ∧ i < j) := fun i j =>
    (diagM_apply ..).trans (ind_congr (and_congr_left fun _ => over_iff G k k i j))
  generalize diagM (rowOf G.x1 k) (rowOf G.y1 k) (rowOf G.x2 k) (rowOf G.y2 k) (rowOf G.ar k) (rowOf G.x1 k) (rowOf G.y1 k) (rowOf G.x2 k) (rowOf G.y2 k) (rowOf G.ar k) = D at hD ⊢
  iapply (stFull_wp d m7 M full512 D D (fun x => ⟨x, full_emb x, rfl⟩) (View.stores_vmem_bits_univ h_S512x512 rfl) (.inl rfl)) $$ H7; iintro H7
  iapply (ldRow_wp d m6 A k _ (inbRow k) rfl) $$ H6; iintro H6
  iapply (rounds_wp (fun j => live G kept k.val k j) (kept k) (fun i j => G.over k i k j ∧ i < j) (fun i j h => h.2) (hkept k) d (rowOf A k) D
    (fun j => hKA.2 k j le_rfl) hD k)
  rw [whileSpec_apply]
  isplitl [H7]
  · iexact H7
  iintro %r %hr H7
  iapply (ldRow_wp d m5 K k _ (inbRow k) rfl) $$ H5; iintro H5
  iapply (stRow_wp d m5 K k _ (inbRow k) rfl _ rfl) $$ H5; iintro H5
  iapply (wp_wand_r _ _ _ (Q := fun _ => CInv d G kept k (9 - k.val)))
  isplitl [H0 H1 H2 H3 H4 H6]
  · iapply (crosses_wp d G kept k r.1 hr)
    unfold CInv Ins
    iexists A
    isplitr
    · ipureintro
      exact fun l j => ⟨fun h1 h2 => absurd h2 (by omega), fun h1 => hKA.2 l j (by omega)⟩
    isplitr [H6]
    · isplitl [H0]; · iexact H0
      isplitl [H1]; · iexact H1
      isplitl [H2]; · iexact H2
      isplitl [H3]; · iexact H3
      iexact H4
    · iexact H6
  iintro %_ HC
  unfold CInv
  icases HC with ⟨%A', %hA', HI, H6⟩
  iexists _, A', D
  isplitr [HI H5 H6 H7]
  on_goal 2 =>
    isplitl [HI]
    · unfold Ins; iexact HI
    isplitl [H5]; · iexact H5
    isplitl [H6]; · iexact H6
    iexact H7
  ipureintro
  constructor
  · intro l j hl
    by_cases hlk : l = k
    · subst hlk
      rw [setRow_self]
      exact hr j
    · rw [setRow_other _ hlk]
      exact hKA.1 l j (by have : l.val ≠ k.val := fun e => hlk (Fin.ext e); omega)
  · intro l j hl
    exact (hA' l j).1 (by omega) (by have := l.isLt; omega)

/-- The suppression kernel: the coordinates kept, and ones where a box is kept. -/
theorem nms_wp (hkept : IsKept G kept) (K A : S10x512.Idx → Elt Ideal .f32) (M : S512x512.Idx → Elt Ideal .f32) :
    iprop(Ins d G ∗ Own d m5 K ∗ Own d m6 A ∗ Own d m7 M)
      ⊢ WP d (cc2__nms_body (F := Ideal) m0 (Memref.isWhole_whole _) m1 (Memref.isWhole_whole _) m2 (Memref.isWhole_whole _) m3 (Memref.isWhole_whole _)
          m4 (Memref.isWhole_whole _) m5 (Memref.isWhole_whole _) m6 (Memref.isWhole_whole _) m7 (Memref.isWhole_whole _))
        fun _ => iprop(Ins d G ∗ Own d m5 (fun x => ind (kept (x 0) (x 1))) ∗ (∃ A, Own d m6 A) ∗ ∃ M, Own d m7 M) := by
  rw [nms_text]
  have h10 := (ten_wp d (fun k => nmsBlk ![k.val, 0] (inbRow k) (rounds k) (crosses k)) (NInv d G kept) (nmsBlk_wp d G kept hkept))
  iintro ⟨HI, H5, H6, H7⟩
  iapply (ldFull_wp d none m6 A (Rect.unit (s := S10x512) ![0, 0] S10x512.size inb_S10x512_S10x512_0_0) (View.loadsAt_vmem h_S10x512)) $$ H6; iintro H6
  have he : ∀ x : S10x512.Idx, (Rect.unit (s := S10x512) ![0, 0] S10x512.size inb_S10x512_S10x512_0_0).emb x = x := by
    intro x
    funext a
    fin_cases a
    · refine Fin.ext ?_; show 0 + 1 * (x 0).val = (x 0).val; omega
    · refine Fin.ext ?_; show 0 + 1 * (x 1).val = (x 1).val; omega
  iapply (stFull_wp d m6 A (Rect.unit (s := S10x512) ![0, 0] S10x512.size inb_S10x512_S10x512_0_0) (alive0 (F := Ideal)) (alive0 (F := Ideal)) (fun x => ⟨x, he x, rfl⟩)
    (View.stores_vmem_bits_univ h_S10x512 rfl) (.inl rfl)) $$ H6; iintro H6
  iapply (wp_wand_r _ _ _ (Q := fun _ => NInv d G kept 10))
  isplitl [HI H5 H6 H7]
  · iapply h10
    unfold NInv
    iexists K, alive0 (F := Ideal), M
    isplitr
    · ipureintro
      refine ⟨fun l j h => absurd h (by omega), fun l j _ => (alive0_apply l j).trans (ind_congr ⟨fun h => ⟨h, fun k' hk' => absurd hk' (by omega)⟩, fun h => h.1⟩)⟩
    isplitl [HI]; · iexact HI
    isplitl [H5]; · iexact H5
    isplitl [H6]; · iexact H6
    iexact H7
  iintro %_ HC
  unfold NInv
  icases HC with ⟨%K', %A', %M', %h, HI, H5, H6, H7⟩
  have hK : K' = fun x => ind (kept (x 0) (x 1)) := by
    funext x
    have := h.1 (x 0) (x 1) (by have := (x 0).isLt; exact this)
    exact (congrArg K' (ix2_eta (a := 10) (b := 512) x)).symm.trans this
  subst hK
  isplitl [HI]; · iexact HI
  isplitl [H5]; · iexact H5
  isplitl [H6]
  · iexists A'; iexact H6
  · iexists M'; iexact H7

end Cert.Proof.Whole

end
-- ==== Proof.Whole.Rank.lean ====
/-
  The rank kernel run: it leaves in each place the number of scores that come before the score there, the larger first and the earlier of
  equal ones first.
-/
module

public import proofs.«01_k».proof.Proof.Whole.Rows

@[expose] public section

noncomputable section

namespace Cert.Proof.Whole

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

local notation "𝕄" => MT nD τ sig (HIx 2) (Elt Ideal) ℕ UU ℕ

/-- How many scores of block `t` come before score `j` of block `k`, but for ties within the block. -/
def partN (s : S10x512.Idx → EReal) (k : Fin 10) (j : Fin 512) (t : Nat) : ℕ :=
  if h : t < 10 then cnt fun i : Fin 512 => s (ix2 k j) < s (ix2 ⟨t, h⟩ i) ∨ (s (ix2 ⟨t, h⟩ i) = s (ix2 k j) ∧ t < k.val) else 0

/-- How many scores come before score `j` of block `k`. -/
def rankN (s : S10x512.Idx → EReal) (k : Fin 10) (j : Fin 512) : ℕ :=
  (∑ t ∈ Finset.range 10, partN s k j t) + cnt fun i : Fin 512 => s (ix2 k i) = s (ix2 k j) ∧ i < j

theorem partN_le (s : S10x512.Idx → EReal) (k : Fin 10) (j : Fin 512) (t : Nat) : partN s k j t ≤ 512 := by
  unfold partN
  split
  · exact cnt_le _
  · omega

theorem rankN_lt (s : S10x512.Idx → EReal) (k : Fin 10) (j : Fin 512) : rankN s k j < 2 ^ 31 := by
  have h1 : ∑ t ∈ Finset.range 10, partN s k j t ≤ ∑ t ∈ Finset.range 10, 512 := Finset.sum_le_sum fun t _ => partN_le s k j t
  have h2 := cnt_le fun i : Fin 512 => s (ix2 k i) = s (ix2 k j) ∧ i < j
  simp only [Finset.sum_const, Finset.card_range, smul_eq_mul] at h1
  unfold rankN
  omega

variable (d : Dev nD) (s : S10x512.Idx → Elt Ideal .f32)

/-- The first `k` blocks ranked. -/
def RInv (k : Nat) : sProp 𝕄 :=
  iprop(∃ R : S10x512.Idx → Elt Ideal .i32, ⌜∀ (l : Fin 10) (j : Fin 512), l.val < k → R (ix2 l j) = BitVec.ofNat 32 (rankN s l j)⌝ ∗ Own d sM s ∗ Own d rM R)

theorem rankBlk_wp (k : Fin 10) (L : Scf.Loop 32) (hL : L.OK) (off : Fin L.trips → Fin 2 → Nat) (hoff : ∀ t, ∀ a, off t a + S1x512.size a ≤ S10x512.size a) (bi : BitVec 32)
    (htr : L.trips = 10) (ho : ∀ t : Fin L.trips, off t = ![t.val, 0]) (hb : ∀ t : Fin L.trips, Scalar.cmpi .slt (Scf.iv 0#32 1#32 t) bi = 1#1 ↔ t.val < k.val) :
    RInv d s k.val ⊢ WP d (rankBlk ![k.val, 0] (inbRow k) (rankLoop L hL off hoff bi)) fun _ => RInv d s (k.val + 1) := by
  unfold RInv rankBlk
  iintro ⟨%R, %hR, HS, HR⟩
  iapply (ldRow_wp d sM s k _ (inbRow k) rfl) $$ HS; iintro HS
  unfold rankLoop
  have h := Scf.wp_for_bind frame (wpE (defs₀ (F := Ideal)) 𝒱₀ (T d) none) Set.univ L.lb L.ub L.st hL (broadcast S512x1 (Scalar.ofBits (F := Ideal) .f32 0x00000000#32))
    (fun t acc => ldRow sM (off t) (hoff t) >>= fun sj => (.ret (rankStep (Scalar.cmpi .slt (Scf.iv 0#32 1#32 t) bi) (rowOf s k) acc sj) : PR (F := Ideal) (FVec Ideal S512x1 .f32)))
    (fun t acc => iprop(⌜∀ i : Fin 512, acc (ix2 i 0) = ((∑ u ∈ Finset.range t, partN s k i u : ℕ) : EReal)⌝ ∗ Own d sM s)) (fun t acc => by
      iintro ⟨%hacc, HS⟩
      have ht : t.val < L.trips := t.isLt
      have ht' : t.val < 10 := htr ▸ ht
      iapply (ldRow_wp d sM s ⟨t.val, ht'⟩ (off t) (hoff t) (ho t)) $$ HS; iintro HS
      rw [WP, wp_ret]; imodintro
      isplitr
      · ipureintro
        intro i
        rw [rankStep_apply, hacc, Finset.sum_range_succ, Nat.cast_add]
        congr 2
        unfold partN
        rw [dif_pos ht']
        refine congrArg cnt (funext fun u => propext ?_)
        rw [hb t]
        rfl
      · iexact HS)
    (kk := fun acc => ldRow sM ![k.val, 0] (inbRow k) >>= fun sj => ldRow rM ![k.val, 0] (inbRow k) >>= fun _ =>
      stRow rM ![k.val, 0] (inbRow k) (rankRow (F := Ideal) (rowOf s k) acc sj) rfl)
    (Q := fun _ => iprop(∃ R : S10x512.Idx → Elt Ideal .i32, ⌜∀ (l : Fin 10) (j : Fin 512), l.val < k.val + 1 → R (ix2 l j) = BitVec.ofNat 32 (rankN s l j)⌝ ∗ Own d sM s ∗ Own d rM R))
  iapply h $$ [HS]
  · isplitr
    · ipureintro
      intro i
      pointwise
      simp
    · iexact HS
  iintro %acc ⟨%hacc, HS⟩
  iapply (ldRow_wp d sM s k _ (inbRow k) rfl) $$ HS; iintro HS
  iapply (ldRow_wp d rM R k _ (inbRow k) rfl) $$ HR; iintro HR
  rw [← bind_pure (stRow rM ![k.val, 0] (inbRow k) (rankRow (F := Ideal) (rowOf s k) acc (rowOf s k)) rfl)]
  iapply (stRow_wp d rM R k _ (inbRow k) rfl _ rfl) $$ HR; iintro HR
  rw [WP, show (pure PUnit.unit : PR (F := Ideal) PUnit) = .ret PUnit.unit from rfl, wp_ret]
  imodintro
  iexists _
  isplitr [HS HR]
  on_goal 2 =>
    isplitl [HS]
    · iexact HS
    · iexact HR
  ipureintro
  intro l j hl
  by_cases hlk : l = k
  · subst hlk
    rw [setRow_self, rankRow_apply, hacc, show Scf.trips L.lb L.ub L.st = 10 from htr, ← Nat.cast_add]
    exact fptosi_nat _ (rankN_lt s l j)
  · rw [setRow_other _ hlk]
    exact hR l j (by have : l.val ≠ k.val := fun e => hlk (Fin.ext e); omega)

/-- The rank kernel: the scores kept, and every score's rank. -/
theorem rank_wp (R : S10x512.Idx → Elt Ideal .i32) :
    iprop(Own d sM s ∗ Own d rM R)
      ⊢ WP d (cc0__rank_body (F := Ideal) sM (Memref.isWhole_whole _) rM (Memref.isWhole_whole _))
        fun _ => iprop(Own d sM s ∗ Own d rM fun x => BitVec.ofNat 32 (rankN s (x 0) (x 1))) := by
  rw [rank_text]
  have h10 := (ten_wp d (fun k => rankBlk ![k.val, 0] (inbRow k) (rankLoops k)) (RInv d s) (fun k => by
    fin_cases k
    · exact rankBlk_wp d s 0 k0_t1_loop k0_t1_ok k0_off1 k0_off1_inb 0#32 (by decide) (by decide) (by decide)
    · exact rankBlk_wp d s 1 k0_t2_loop k0_t2_ok k0_off2 k0_off2_inb 1#32 (by decide) (by decide) (by decide)
    · exact rankBlk_wp d s 2 k0_t3_loop k0_t3_ok k0_off3 k0_off3_inb 2#32 (by decide) (by decide) (by decide)
    · exact rankBlk_wp d s 3 k0_t4_loop k0_t4_ok k0_off4 k0_off4_inb 3#32 (by decide) (by decide) (by decide)
    · exact rankBlk_wp d s 4 k0_t5_loop k0_t5_ok k0_off5 k0_off5_inb 4#32 (by decide) (by decide) (by decide)
    · exact rankBlk_wp d s 5 k0_t6_loop k0_t6_ok k0_off6 k0_off6_inb 5#32 (by decide) (by decide) (by decide)
    · exact rankBlk_wp d s 6 k0_t7_loop k0_t7_ok k0_off7 k0_off7_inb 6#32 (by decide) (by decide) (by decide)
    · exact rankBlk_wp d s 7 k0_t8_loop k0_t8_ok k0_off8 k0_off8_inb 7#32 (by decide) (by decide) (by decide)
    · exact rankBlk_wp d s 8 k0_t9_loop k0_t9_ok k0_off9 k0_off9_inb 8#32 (by decide) (by decide) (by decide)
    · exact rankBlk_wp d s 9 k0_t10_loop k0_t10_ok k0_off10 k0_off10_inb 9#32 (by decide) (by decide) (by decide)))
  iintro ⟨HS, HR⟩
  iapply (wp_wand_r _ _ _ (Q := fun _ => RInv d s 10))
  isplitl [HS HR]
  · iapply h10
    unfold RInv
    iexists R
    isplitr
    · ipureintro
      exact fun l j h => absurd h (by omega)
    isplitl [HS]; · iexact HS
    iexact HR
  iintro %_ HC
  unfold RInv
  icases HC with ⟨%R', %h, HS, HR⟩
  have hK : R' = fun x => BitVec.ofNat 32 (rankN s (x 0) (x 1)) := by
    funext x
    have := h (x 0) (x 1) (by have := (x 0).isLt; exact this)
    exact (congrArg R' (ix2_eta (a := 10) (b := 512) x)).symm.trans this
  subst hK
  isplitl [HS]; · iexact HS
  iexact HR

end Cert.Proof.Whole

end
-- ==== Proof.Whole.Regions.lean ====
/-
  The two TensorCore calls as regions of @main: each reads its arrays whole, runs its body once, and writes its result whole. The rank call
  leaves every element's rank, the suppression call the flags of the boxes kept.
-/
module

public import proofs.«01_k».proof.Proof.Whole.Nms
public import proofs.«01_k».proof.Proof.Whole.Rank
public import Idealize.ShloMosaic.Lib.Pipeline.RegionsLoop
public import Idealize.ShloMosaic.Lib.Pipeline.Frame

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig (HIx 2) (Elt Ideal) ℕ UU ℕ
local notation "KI" => (K (F := Ideal))

/-- A proof data for the pipeline an entry does not run: anything. -/
def junkDat {cfg : Cfg sig (Λ₀ Ideal)} (c : Dev nD) : Dat τ (Elt Ideal) (HIx 2) ℕ UU ℕ cfg c where
  A _ := fun _ => Classical.arbitrary _
  after _ _ := fun _ => Classical.arbitrary _
  Φ _ := BI.emp
  q _ := fullShare
  owed _ := 0

/-- Nothing is owed at the transfers' own index before call `n`. -/
theorem otc_none (d : Dev nD) (n : ℕ) (g : GSem nD τ sig) : (KI).Otc d n g none = 0 := by
  by_contra h
  have := SparseCore.Cfg.lev_of_Otc_pos (K := KI) (Nat.pos_of_ne_zero h)
  have h0 : (KI).lev g none = 0 := rfl
  omega

/-- What the device's TensorCore has waited for and owes before call `n`. -/
def Owing (n : ℕ) (c : Dev nD) : sProp 𝕄 := iprop(∃ W, ⌜(KI).WBelow (T c) W (8 * SparseCore.Cfg.Blocks.fst (Q := 2) (N := 2) n)⌝ ∗ owes (T c) ((KI).Otc c n) W)

/-- The pairs a wait may have been made at before call `n`. -/
def below (n : ℕ) (c : Dev nD) : Set (SemLoc sig × HIx 2) := {p | (KI).lev (T c, p.1) p.2 ≤ 8 * SparseCore.Cfg.Blocks.fst (Q := 2) (N := 2) n}

variable (V : (c : Dev nD) → (b : Ref sig .tc) → Buf (Elt Ideal) ((c : Thread nD τ).loc b)) (n : ℕ)

namespace R0

/-- The ranks the call leaves. -/
def res (c : Dev nD) : S10x512.Idx → Elt Ideal .i32 := fun x => BitVec.ofNat 32 (rankN (show S10x512.Idx → Elt Ideal .f32 from V c main_v2) (x 0) (x 1))

abbrev Φc (c : Dev nD) : sProp 𝕄 := Pipeline.scopedRest (Ix := HIx 2) (Name := ℕ) (U := UU) (Lvl := ℕ) (Val := Elt Ideal) spec0 c

/-- The region entered from the arrays at `V`. -/
def dat (c : Dev nD) : Dat τ (Elt Ideal) (HIx 2) ℕ UU ℕ (cfg0 (F := Ideal)) c where
  A w := V c (Pipeline.arrRef spec0 w)
  after w _ := match w with
    | ⟨0, _⟩ => (show S10x512.Idx → Elt Ideal .f32 from V c main_v2)
    | ⟨1, _⟩ => res V c
  Φ _ := Φc c
  q _ := fullShare
  owed _ := (KI).Otc c n
  recorded _ := below n c

def pdats : (p : Fin 2) → (c : Dev nD) → Dat τ (Elt Ideal) (HIx 2) ℕ UU ℕ (Pipeline.pin (pcfgs (F := Ideal)) adm p) c
  | ⟨0, _⟩ => fun c => dat V n c
  | ⟨1, _⟩ => fun c => junkDat c

theorem emb0 (x : S10x512.Idx) : ((cfg0 (F := Ideal)).win 0 |>.blk t0_0).view.emb x = x := by
  funext a
  refine Fin.ext ?_
  fin_cases a
  · show 0 + 1 * (x 0).val = _; simp
  · show 0 + 1 * (x 1).val = _; simp

theorem before_in (c : Dev nD) (d : S10x512.Idx → Elt Ideal .f32) : (dat V n c).before 0 t0_0 d = (show S10x512.Idx → Elt Ideal .f32 from V c main_v2) := by
  unfold Dat.before; rw [if_pos (by decide)]
  funext x
  exact congrArg (show S10x512.Idx → Elt Ideal .f32 from V c main_v2) (emb0 x)

theorem body_obligation (c : Dev nD) : BodyObligation (dat V n c) (defs₀ (F := Ideal)) 𝒱₀ (none : HIx 2) Set.univ := fun t => by
  obtain rfl := fin_N0 t
  rw [bigSep_W0, bigSep_W0]
  simp only [owns_whole_eq]
  rw [show (dat V n c).Φ t0_0.castSucc = Φc c from rfl, show (dat V n c).Φ t0_0.succ = Φc c from rfl,
    show (dat V n c).owesAt (none : HIx 2) t0_0.succ = (dat V n c).owesAt none t0_0.castSucc from rfl]
  iintro ⟨HΦ, Howes, ⟨%d0, %f0, %hf0, H0⟩, ⟨%d1, %f1, -, H1⟩⟩
  rw [before_in] at hf0
  iapply (wp_wand_r _ _ _ (Q := fun _ => iprop(Own c sM (show S10x512.Idx → Elt Ideal .f32 from V c main_v2) ∗ Own c rM (res V c))))
  isplitl [H0 H1]
  · iapply (rank_wp c (show S10x512.Idx → Elt Ideal .f32 from V c main_v2) _)
    isplitl [H0]
    · rw [← hf0]
      iapply (own_intro c sM f0); iexact H0
    iapply (own_intro c rM f1); iexact H1
  iintro %_ ⟨H0, H1⟩
  isplitl [HΦ]; · iexact HΦ
  isplitl [Howes]; · iexact Howes
  isplitl [H0]
  · unfold Own
    icases H0 with ⟨%g, %hg, H0⟩
    iexists g; isplitr; swap; (· iexact H0); ipureintro; exact hg
  unfold Own
  icases H1 with ⟨%g, %hg, H1⟩
  iexists g; isplitr; swap; (· iexact H1); ipureintro; exact hg

theorem arr_out (c : Dev nD) : (dat V n c).arrAt 1 (cfg0 (F := Ideal)).N = res V c := by
  have h := (dat V n c).arrAt_succ 1 t0_0
  rw [if_pos (by decide)] at h
  refine (show (dat V n c).arrAt 1 (cfg0 (F := Ideal)).N = _ from h).trans ?_
  funext x
  have h2 := congrFun (View.read_write_univ (v := ((cfg0 (F := Ideal)).win 1 |>.blk t0_0).view) (Val := Elt Ideal) ((dat V n c).arrAt 1 t0_0) ((dat V n c).flushed 1 t0_0)) x
  have he : ((cfg0 (F := Ideal)).win 1 |>.blk t0_0).view.emb x = x := by
    funext a
    refine Fin.ext ?_
    fin_cases a
    · show 0 + 1 * (x 0).val = _; simp
    · show 0 + 1 * (x 1).val = _; simp
  rw [View.read_apply, he] at h2
  exact h2

variable (Vp : (c : Dev nD) → (b : Ref sig .tc) → Buf (Elt Ideal) ((c : Thread nD τ).loc b))

set_option backward.isDefEq.respectTransparency.types false in
/-- The rank call, entered with every unscoped buffer at `V` and left with the ranks in their array and every other buffer as it was. -/
def reg (hVp_out : ∀ c, Vp c main_v3 = res V c) (hVp_ne : ∀ c (b : Ref sig .tc), b ≠ main_v3 → Vp c b = V c b) :
    Pipeline.RegionSeg (pcfgs (F := Ideal)) adm (pdats V n) (none : HIx 2) defs₀ 𝒱₀ (KI).L (KI).lev 0 where
  win := launch0.win.to₀
  block_pos := launch0.block_pos
  stage_whole := launch0.stage_whole
  K := PEmpty
  osem k := k.elim
  ho := Pipeline.OwnSemFacts.none _
  hbody c := (body_obligation V n c).loose
  hwaits c := Pipeline.cellsWaits_intro _ _ _ _ c fun w s t => (KI).mayWait_none _ (otc_none c n)
  pre c := iprop(unscopedBufs c (V c) ∗ Owing n c)
  post c := iprop(unscopedBufs c (Vp c) ∗ Owing n c)
  X _ := BI.emp
  Y _ := BI.emp
  Z c := Pipeline.unscopedRest (Ix := HIx 2) (Name := ℕ) (U := UU) (Lvl := ℕ) spec0 c (V c)
  hentry c := by
    rw [Pipeline.ownSems0_none]
    have hsplit := Pipeline.arrays_of_unscopedBufs (p := 0) (pcfgs (F := Ideal)) adm (pdats V n) launch0.win launch0.arr_whole c
      ((pdats V n 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Owing Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V n 0 c).Φ 0 = Φc c from rfl]
    iintro ⟨-, -, Hr⟩; iexact Hr
  hout c := by
    rw [Pipeline.ownSems0_none, show (pdats V n 0 c).Φ (Fin.last _) = Φc c from rfl]
    iintro Hr
    isplitr; · iempintro
    isplitr; · iempintro
    iexact Hr
  hexit c := by
    have hjoin := Pipeline.unscopedBufs_of_arrays (p := 0) (pcfgs (F := Ideal)) adm (Ix := HIx 2) (Name := ℕ) (U := UU) (Lvl := ℕ) launch0.win launch0.arr_whole c
      (pdats V n) ((pdats V n 0 c).share_full fun _ => rfl) (V c) (Vp c) ((pdats V n 0 c).arrAt · (cfg0 (F := Ideal)).N)
      (fun w => by
        fin_cases w
        · exact ((pdats V n 0 c).arrAt_in 0 rfl _).trans (hVp_ne c main_v2 (by decide)).symm
        · exact (arr_out V n c).trans (hVp_out c).symm)
      (fun b hb => hVp_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Owing Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end R0

namespace R1

/-- The boxes in score order, as the call reads them. -/
def geo (c : Dev nD) : Geo where
  x1 := V c main_v15
  y1 := V c main_v16
  x2 := V c main_v17
  y2 := V c main_v18
  ar := V c main_v19

variable (kept : Dev nD → Fin 10 → Fin 512 → Prop)

open Classical in
/-- The flags the call leaves. -/
def res (c : Dev nD) : S10x512.Idx → Elt Ideal .f32 := fun x => ind (kept c (x 0) (x 1))

abbrev Φc (c : Dev nD) : sProp 𝕄 := Pipeline.scopedRest (Ix := HIx 2) (Name := ℕ) (U := UU) (Lvl := ℕ) (Val := Elt Ideal) spec2 c

/-- The region entered from the arrays at `V`. -/
def dat (c : Dev nD) : Dat τ (Elt Ideal) (HIx 2) ℕ UU ℕ (cfg2 (F := Ideal)) c where
  A w := V c (Pipeline.arrRef spec2 w)
  after w _ := match w with
    | ⟨0, _⟩ => (geo V c).x1
    | ⟨1, _⟩ => (geo V c).y1
    | ⟨2, _⟩ => (geo V c).x2
    | ⟨3, _⟩ => (geo V c).y2
    | ⟨4, _⟩ => (geo V c).ar
    | ⟨5, _⟩ => res kept c
  Φ _ := Φc c
  q _ := fullShare
  owed _ := (KI).Otc c n
  recorded _ := below n c

def pdats : (p : Fin 2) → (c : Dev nD) → Dat τ (Elt Ideal) (HIx 2) ℕ UU ℕ (Pipeline.pin (pcfgs (F := Ideal)) adm p) c
  | ⟨1, _⟩ => fun c => dat V n kept c
  | ⟨0, _⟩ => fun c => junkDat c

theorem before0 (c : Dev nD) (d : S10x512.Idx → Elt Ideal .f32) : (dat V n kept c).before 0 t2_0 d = (geo V c).x1 := by
  unfold Dat.before; rw [if_pos (by decide)]
  funext x
  refine congrArg (geo V c).x1 (show ((cfg2 (F := Ideal)).win 0 |>.blk t2_0).view.emb x = x from ?_)
  funext a
  refine Fin.ext ?_
  fin_cases a
  · show 0 + 1 * (x 0).val = _; simp
  · show 0 + 1 * (x 1).val = _; simp

theorem before1 (c : Dev nD) (d : S10x512.Idx → Elt Ideal .f32) : (dat V n kept c).before 1 t2_0 d = (geo V c).y1 := by
  unfold Dat.before; rw [if_pos (by decide)]
  funext x
  refine congrArg (geo V c).y1 (show ((cfg2 (F := Ideal)).win 1 |>.blk t2_0).view.emb x = x from ?_)
  funext a
  refine Fin.ext ?_
  fin_cases a
  · show 0 + 1 * (x 0).val = _; simp
  · show 0 + 1 * (x 1).val = _; simp

theorem before2 (c : Dev nD) (d : S10x512.Idx → Elt Ideal .f32) : (dat V n kept c).before 2 t2_0 d = (geo V c).x2 := by
  unfold Dat.before; rw [if_pos (by decide)]
  funext x
  refine congrArg (geo V c).x2 (show ((cfg2 (F := Ideal)).win 2 |>.blk t2_0).view.emb x = x from ?_)
  funext a
  refine Fin.ext ?_
  fin_cases a
  · show 0 + 1 * (x 0).val = _; simp
  · show 0 + 1 * (x 1).val = _; simp

theorem before3 (c : Dev nD) (d : S10x512.Idx → Elt Ideal .f32) : (dat V n kept c).before 3 t2_0 d = (geo V c).y2 := by
  unfold Dat.before; rw [if_pos (by decide)]
  funext x
  refine congrArg (geo V c).y2 (show ((cfg2 (F := Ideal)).win 3 |>.blk t2_0).view.emb x = x from ?_)
  funext a
  refine Fin.ext ?_
  fin_cases a
  · show 0 + 1 * (x 0).val = _; simp
  · show 0 + 1 * (x 1).val = _; simp

theorem before4 (c : Dev nD) (d : S10x512.Idx → Elt Ideal .f32) : (dat V n kept c).before 4 t2_0 d = (geo V c).ar := by
  unfold Dat.before; rw [if_pos (by decide)]
  funext x
  refine congrArg (geo V c).ar (show ((cfg2 (F := Ideal)).win 4 |>.blk t2_0).view.emb x = x from ?_)
  funext a
  refine Fin.ext ?_
  fin_cases a
  · show 0 + 1 * (x 0).val = _; simp
  · show 0 + 1 * (x 1).val = _; simp

theorem body_obligation (hk : ∀ c, IsKept (geo V c) (kept c)) (c : Dev nD) : BodyObligation (dat V n kept c) (defs₀ (F := Ideal)) 𝒱₀ (none : HIx 2) Set.univ := fun t => by
  obtain rfl := fin_N2 t
  rw [bigSep_W2, bigSep_W2]
  simp only [owns_whole_eq]
  rw [show (dat V n kept c).Φ t2_0.castSucc = Φc c from rfl, show (dat V n kept c).Φ t2_0.succ = Φc c from rfl,
    show (dat V n kept c).owesAt (none : HIx 2) t2_0.succ = (dat V n kept c).owesAt none t2_0.castSucc from rfl]
  unfold Φc
  rw [scopedRest2_eq]
  iintro ⟨⟨Ha, Hb, ⟨%s6, H6⟩, ⟨%s7, H7⟩⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before0] at hf0
  rw [before1] at hf1
  rw [before2] at hf2
  rw [before3] at hf3
  rw [before4] at hf4
  iapply (wp_wand_r _ _ _ (Q := fun _ => iprop(Ins c (geo V c) ∗ Own c m5 (res kept c) ∗ (∃ A, Own c m6 A) ∗ ∃ M, Own c m7 M)))
  isplitl [H0 H1 H2 H3 H4 H5 H6 H7]
  · iapply (nms_wp c (geo V c) (kept c) (hk c) _ _ _)
    isplitl [H0 H1 H2 H3 H4]
    · unfold Ins
      isplitl [H0]
      · rw [← hf0]
        iapply (own_intro c m0 f0); iexact H0
      isplitl [H1]
      · rw [← hf1]
        iapply (own_intro c m1 f1); iexact H1
      isplitl [H2]
      · rw [← hf2]
        iapply (own_intro c m2 f2); iexact H2
      isplitl [H3]
      · rw [← hf3]
        iapply (own_intro c m3 f3); iexact H3
      rw [← hf4]
      iapply (own_intro c m4 f4); iexact H4
    isplitl [H5]
    · iapply (own_intro c m5 f5); iexact H5
    isplitl [H6]
    · iapply (own_intro c m6 s6); iexact H6
    iapply (own_intro c m7 s7); iexact H7
  iintro %_ ⟨HI, H5, ⟨%A6, H6⟩, ⟨%A7, H7⟩⟩
  unfold Ins Own
  icases HI with ⟨⟨%g0, %hg0, H0⟩, ⟨%g1, %hg1, H1⟩, ⟨%g2, %hg2, H2⟩, ⟨%g3, %hg3, H3⟩, ⟨%g4, %hg4, H4⟩⟩
  icases H5 with ⟨%g5, %hg5, H5⟩
  icases H6 with ⟨%g6, %hg6, H6⟩
  icases H7 with ⟨%g7, %hg7, H7⟩
  isplitl [Ha Hb H6 H7]
  · isplitl [Ha]; · iexact Ha
    isplitl [Hb]; · iexact Hb
    isplitl [H6]; · iexists g6; iexact H6
    iexists g7; iexact H7
  isplitl [Howes]; · iexact Howes
  isplitl [H0]; · iexists g0; isplitr; swap; (· iexact H0); ipureintro; exact hg0
  isplitl [H1]; · iexists g1; isplitr; swap; (· iexact H1); ipureintro; exact hg1
  isplitl [H2]; · iexists g2; isplitr; swap; (· iexact H2); ipureintro; exact hg2
  isplitl [H3]; · iexists g3; isplitr; swap; (· iexact H3); ipureintro; exact hg3
  isplitl [H4]; · iexists g4; isplitr; swap; (· iexact H4); ipureintro; exact hg4
  iexists g5; isplitr; swap; (· iexact H5); ipureintro; exact hg5

theorem arr_out (c : Dev nD) : (dat V n kept c).arrAt 5 (cfg2 (F := Ideal)).N = res kept c := by
  have h := (dat V n kept c).arrAt_succ 5 t2_0
  rw [if_pos (by decide)] at h
  refine (show (dat V n kept c).arrAt 5 (cfg2 (F := Ideal)).N = _ from h).trans ?_
  funext x
  have h2 := congrFun (View.read_write_univ (v := ((cfg2 (F := Ideal)).win 5 |>.blk t2_0).view) (Val := Elt Ideal) ((dat V n kept c).arrAt 5 t2_0) ((dat V n kept c).flushed 5 t2_0)) x
  have he : ((cfg2 (F := Ideal)).win 5 |>.blk t2_0).view.emb x = x := by
    funext a
    refine Fin.ext ?_
    fin_cases a
    · show 0 + 1 * (x 0).val = _; simp
    · show 0 + 1 * (x 1).val = _; simp
  rw [View.read_apply, he] at h2
  exact h2

variable (Vp : (c : Dev nD) → (b : Ref sig .tc) → Buf (Elt Ideal) ((c : Thread nD τ).loc b))

set_option backward.isDefEq.respectTransparency.types false in
/-- The suppression call, entered with every unscoped buffer at `V` and left with the flags in their array and every other buffer as it was. -/
def reg (hk : ∀ c, IsKept (geo V c) (kept c)) (hVp_out : ∀ c, Vp c main_v20 = res kept c) (hVp_ne : ∀ c (b : Ref sig .tc), b ≠ main_v20 → Vp c b = V c b) :
    Pipeline.RegionSeg (pcfgs (F := Ideal)) adm (pdats V n kept) (none : HIx 2) defs₀ 𝒱₀ (KI).L (KI).lev 1 where
  win := launch2.win.to₀
  block_pos := launch2.block_pos
  stage_whole := launch2.stage_whole
  K := PEmpty
  osem k := k.elim
  ho := Pipeline.OwnSemFacts.none _
  hbody c := (body_obligation V n kept hk c).loose
  hwaits c := Pipeline.cellsWaits_intro _ _ _ _ c fun w s t => (KI).mayWait_none _ (otc_none c n)
  pre c := iprop(unscopedBufs c (V c) ∗ Owing n c)
  post c := iprop(unscopedBufs c (Vp c) ∗ Owing n c)
  X _ := BI.emp
  Y _ := BI.emp
  Z c := Pipeline.unscopedRest (Ix := HIx 2) (Name := ℕ) (U := UU) (Lvl := ℕ) spec2 c (V c)
  hentry c := by
    rw [Pipeline.ownSems0_none]
    have hsplit := Pipeline.arrays_of_unscopedBufs (p := 1) (pcfgs (F := Ideal)) adm (pdats V n kept) launch2.win launch2.arr_whole c
      ((pdats V n kept 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Owing Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V n kept 1 c).Φ 0 = Φc c from rfl]
    iintro ⟨-, -, Hr⟩; iexact Hr
  hout c := by
    rw [Pipeline.ownSems0_none, show (pdats V n kept 1 c).Φ (Fin.last _) = Φc c from rfl]
    iintro Hr
    isplitr; · iempintro
    isplitr; · iempintro
    iexact Hr
  hexit c := by
    have hjoin := Pipeline.unscopedBufs_of_arrays (p := 1) (pcfgs (F := Ideal)) adm (Ix := HIx 2) (Name := ℕ) (U := UU) (Lvl := ℕ) launch2.win launch2.arr_whole c
      (pdats V n kept) ((pdats V n kept 1 c).share_full fun _ => rfl) (V c) (Vp c) ((pdats V n kept 1 c).arrAt · (cfg2 (F := Ideal)).N)
      (fun w => by
        fin_cases w
        · exact ((pdats V n kept 1 c).arrAt_in 0 rfl _).trans (hVp_ne c main_v15 (by decide)).symm
        · exact ((pdats V n kept 1 c).arrAt_in 1 rfl _).trans (hVp_ne c main_v16 (by decide)).symm
        · exact ((pdats V n kept 1 c).arrAt_in 2 rfl _).trans (hVp_ne c main_v17 (by decide)).symm
        · exact ((pdats V n kept 1 c).arrAt_in 3 rfl _).trans (hVp_ne c main_v18 (by decide)).symm
        · exact ((pdats V n kept 1 c).arrAt_in 4 rfl _).trans (hVp_ne c main_v19 (by decide)).symm
        · exact (arr_out V n kept c).trans (hVp_out c).symm)
      (fun b hb => hVp_ne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Owing Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end R1

end Cert.Proof.Whole

end
-- ==== Proof.Whole.Order.lean ====
/-
  The order of the boxes and the boxes kept, as mathematics: a score's rank is how many scores come before it, ranks are a permutation, and
  the boxes kept are those that no kept box before them overlaps.
-/
module

public import proofs.«01_k».proof.Proof.Whole.Nms
public import proofs.«01_k».proof.Proof.Whole.Rank

@[expose] public section

noncomputable section

namespace Cert.Proof.Whole

open Cert.KernelIdeal Cert.KernelIdeal.Gen
open Idealize.ShloMosaic
open Cert.Proof.Sc (Perm)

/-! ## Positions -/

/-- Place `p` of the 5120 in the ten rows of 512. -/
def cell (p : Fin 5120) : S10x512.Idx := ix2 (⟨p.val / 512, by omega⟩ : Fin 10) (⟨p.val % 512, by omega⟩ : Fin 512)

/-- The place of element `j` of row `k`. -/
def pos (k : Fin 10) (j : Fin 512) : Fin 5120 := ⟨512 * k.val + j.val, by omega⟩

theorem cell_pos (k : Fin 10) (j : Fin 512) : cell (pos k j) = ix2 k j := by
  have h1 : (512 * k.val + j.val) / 512 = k.val := by omega
  have h2 : (512 * k.val + j.val) % 512 = j.val := by omega
  unfold cell pos
  congr 1 <;> exact Fin.ext (by assumption)

def posEquiv : Fin 10 × Fin 512 ≃ Fin 5120 where
  toFun x := pos x.1 x.2
  invFun p := (⟨p.val / 512, by omega⟩, ⟨p.val % 512, by omega⟩)
  left_inv x := by
    rcases x with ⟨k, j⟩
    refine Prod.ext (Fin.ext ?_) (Fin.ext ?_) <;> simp only [pos] <;> omega
  right_inv p := Fin.ext (by simp only [pos]; omega)

/-! ## Ranks -/

/-- `q` comes before `p`: a higher score, or the same one at an earlier place. -/
def Before (f : Fin 5120 → EReal) (q p : Fin 5120) : Prop := f p < f q ∨ (f q = f p ∧ q < p)

theorem Before.trans {f : Fin 5120 → EReal} {r q p : Fin 5120} (h : Before f r q) (h' : Before f q p) : Before f r p := by
  unfold Before at *
  rcases h with h | ⟨h, h1⟩ <;> rcases h' with h' | ⟨h', h1'⟩
  · exact .inl (h'.trans h)
  · exact .inl (h' ▸ h)
  · exact .inl (h ▸ h')
  · exact .inr ⟨h.trans h', h1.trans h1'⟩

theorem Before.irrefl (f : Fin 5120 → EReal) (p : Fin 5120) : ¬ Before f p p := by
  rintro (h | ⟨-, h⟩) <;> exact lt_irrefl _ h

theorem Before.total (f : Fin 5120 → EReal) {q p : Fin 5120} (h : q ≠ p) : Before f q p ∨ Before f p q := by
  unfold Before
  rcases lt_trichotomy (f q) (f p) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- How many places come before `p`. -/
def rank (f : Fin 5120 → EReal) (p : Fin 5120) : ℕ := by classical exact (Finset.univ.filter fun q => Before f q p).card

theorem rank_lt_of_before {f : Fin 5120 → EReal} {q p : Fin 5120} (h : Before f q p) : rank f q < rank f p := by
  classical
  unfold rank
  refine Finset.card_lt_card ⟨fun r hr => ?_, fun hs => ?_⟩
  · simp only [Finset.mem_filter, Finset.mem_univ, true_and] at hr ⊢
    exact hr.trans h
  · have := hs (show q ∈ _ by simpa only [Finset.mem_filter, Finset.mem_univ, true_and] using h)
    simp only [Finset.mem_filter, Finset.mem_univ, true_and] at this
    exact Before.irrefl f q this

theorem rank_inj {f : Fin 5120 → EReal} {q p : Fin 5120} (h : rank f q = rank f p) : q = p := by
  by_contra hne
  rcases Before.total f hne with hb | hb <;> have := rank_lt_of_before hb <;> omega

theorem before_iff_rank {f : Fin 5120 → EReal} {q p : Fin 5120} : Before f q p ↔ rank f q < rank f p := by
  refine ⟨rank_lt_of_before, fun h => ?_⟩
  rcases Before.total f (show q ≠ p by rintro rfl; omega) with hb | hb
  · exact hb
  · have := rank_lt_of_before hb; omega

theorem rank_lt (f : Fin 5120 → EReal) (p : Fin 5120) : rank f p < 5120 := by
  classical
  unfold rank
  have : (Finset.univ.filter fun q => Before f q p).card < (Finset.univ : Finset (Fin 5120)).card := by
    refine Finset.card_lt_card ⟨Finset.filter_subset _ _, fun hs => ?_⟩
    have := hs (Finset.mem_univ p)
    simp only [Finset.mem_filter, Finset.mem_univ, true_and] at this
    exact Before.irrefl f p this
  simpa using this

/-- The kernel's count over the ten rows is the rank. -/
theorem rankN_eq (s : S10x512.Idx → EReal) (k : Fin 10) (j : Fin 512) : rankN s k j = rank (fun p => s (cell p)) (pos k j) := by
  classical
  have h1 : rank (fun p => s (cell p)) (pos k j) = ∑ t : Fin 10, cnt fun i : Fin 512 => Before (fun p => s (cell p)) (pos t i) (pos k j) := by
    unfold rank cnt
    rw [Finset.card_filter, ← Equiv.sum_comp posEquiv, Fintype.sum_prod_type]
    refine Finset.sum_congr rfl fun t _ => ?_
    rw [Finset.card_filter]
    rfl
  have h2 : ∀ t : Fin 10, (cnt fun i : Fin 512 => Before (fun p => s (cell p)) (pos t i) (pos k j))
      = partN s k j t.val + if t = k then (cnt fun i : Fin 512 => s (ix2 k i) = s (ix2 k j) ∧ i < j) else 0 := by
    intro t
    unfold partN
    rw [dif_pos t.isLt]
    by_cases ht : t = k
    · subst ht
      rw [if_pos rfl]
      unfold cnt
      rw [← Finset.card_union_of_disjoint]
      · refine congrArg Finset.card ?_
        ext i
        simp only [Finset.mem_filter, Finset.mem_union, Finset.mem_univ, true_and, Before, cell_pos, Fin.eta, lt_irrefl, and_false, or_false]
        have : pos t i < pos t j ↔ i < j := by simp only [pos, Fin.lt_def]; omega
        rw [this]
      · rw [Finset.disjoint_left]
        intro i hi hj
        simp only [Finset.mem_filter, Finset.mem_univ, true_and, Fin.eta, lt_irrefl, and_false, or_false] at hi hj
        exact absurd hj.1 (ne_of_gt hi)
    · rw [if_neg ht, add_zero]
      refine congrArg (cnt (n := 512)) ?_
      funext i
      have : pos t i < pos k j ↔ t.val < k.val := by
        have : t.val ≠ k.val := fun h => ht (Fin.ext h)
        simp only [pos, Fin.lt_def]; omega
      simp only [Before, cell_pos, this, Fin.eta]
  rw [h1, Finset.sum_congr rfl fun t _ => h2 t, Finset.sum_add_distrib, Finset.sum_ite_eq' Finset.univ k, if_pos (Finset.mem_univ _)]
  unfold rankN
  rw [Finset.sum_range]

/-! ## The boxes kept -/

/-- The box at place `q` overlaps the box at place `p` by more than one half. -/
def overP (G : Geo) (q p : Fin 5120) : Prop :=
  ((1 / 2 : ℝ) : EReal) < ratio (G.x1 (cell q)) (G.y1 (cell q)) (G.x2 (cell q)) (G.y2 (cell q)) (G.ar (cell q))
    (G.x1 (cell p)) (G.y1 (cell p)) (G.x2 (cell p)) (G.y2 (cell p)) (G.ar (cell p))

/-- The box at place `p` is kept: no padding, and no kept box before it overlaps it. -/
def keptP (over : Fin 5120 → Fin 5120 → Prop) (p : Fin 5120) : Prop :=
  p.val < 5000 ∧ ∀ (q : Fin 5120) (_ : q.val < p.val), keptP over q → ¬ over q p
termination_by p.val

theorem keptP_iff (over : Fin 5120 → Fin 5120 → Prop) (p : Fin 5120) :
    keptP over p ↔ (p.val < 5000 ∧ ∀ q : Fin 5120, q.val < p.val → keptP over q → ¬ over q p) := by
  conv_lhs => rw [keptP]

/-- The same, by rows. -/
def keptOf (G : Geo) (k : Fin 10) (j : Fin 512) : Prop := keptP (overP G) (pos k j)

theorem isKept_keptOf (G : Geo) : IsKept G (keptOf G) := by
  intro k j
  have ho : ∀ k' i, overP G (pos k' i) (pos k j) ↔ G.over k' i k j := fun k' i => by
    unfold overP Geo.over; rw [cell_pos, cell_pos]
  unfold keptOf
  rw [keptP_iff]
  constructor
  · rintro ⟨h1, h2⟩
    refine ⟨⟨h1, fun k' hk i hi ho' => h2 (pos k' i) ?_ hi ((ho k' i).mpr ho')⟩, ?_⟩
    · simp only [pos]; omega
    · rintro ⟨i, hi, ho', hlt⟩
      refine h2 (pos k i) ?_ hi ((ho k i).mpr ho')
      have : i.val < j.val := hlt
      simp only [pos]; omega
  · rintro ⟨⟨h1, h2⟩, h3⟩
    refine ⟨h1, fun q hq hk hov => ?_⟩
    obtain ⟨⟨k', i⟩, rfl⟩ := posEquiv.surjective q
    change (pos k' i).val < (pos k j).val at hq
    change keptP (overP G) (pos k' i) at hk
    change overP G (pos k' i) (pos k j) at hov
    simp only [pos] at hq
    by_cases hkk : k' = k
    · subst hkk
      exact h3 ⟨i, hk, (ho _ _).mp hov, by rw [Fin.lt_def]; omega⟩
    · have : k'.val ≠ k.val := fun h => hkk (Fin.ext h)
      exact h2 k' (by omega) i hk ((ho _ _).mp hov)

end Cert.Proof.Whole

end
-- ==== Proof.Whole.Enter.lean ====
/-
  The two TensorCore calls as steps of @main: from the buffers at a valuation each call ends with its result in its array, the other buffers
  as they were, and what the TensorCore owes the SparseCores unchanged.
-/
module

public import proofs.«01_k».proof.Proof.Whole.Regions
public import proofs.«01_k».proof.Proof.Whole.Order

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 2) (Elt Ideal) ℕ UU ℕ
local notation "KI" => (K (F := Ideal))

/-- A valuation on every device, read at the TensorCore's references. -/
def Va (W : Dev nD → Valuation τ sig (Elt Ideal)) (c : Dev nD) (b : Ref sig .tc) : Buf (Elt Ideal) ((c : Thread nD τ).loc b) := W c (Proc.devRef .tc b)

/-- A program of @main, run on device `d` to `Q`. -/
abbrev WM (d : Dev nD) {α : Type} (p : Prog (TpuEff nD τ sig (Elt Ideal) (SparseCore.Sig (ΛP (F := Ideal)) 2) .tc) α) (Q : α → sProp 𝕄) : sProp 𝕄 :=
  wp frame (wpE ((KI).defs (D (F := Ideal))) 𝒱 (T d) none) Set.univ p Q

/-- The two TensorCore calls. -/
abbrev call (p : Fin 2) : Prog (TpuEff nD τ sig (Elt Ideal) (SparseCore.Sig (ΛP (F := Ideal)) 2) .tc) PUnit := Prog.lift (.customCall (SparseCore.inner (Pipeline.entry p)) ())

theorem enter0 (W W' : Dev nD → Valuation τ sig (Elt Ideal)) (n : ℕ) (hout : ∀ d, W' d (Proc.devRef .tc main_v3) = R0.res (Va W) d)
    (hne : ∀ d (b : Ref sig .tc), b ≠ main_v3 → W' d (Proc.devRef .tc b) = W d (Proc.devRef .tc b)) (d : Dev nD) (Q : PUnit → sProp 𝕄) :
    iprop(boundary (T d) ∗ unscopedBufs d (Va W d) ∗ Owing n d ∗ levAts (KI).L (KI).lev
        ∗ Pipeline.cellsGhost (Pipeline.pin (pcfgs (F := Ideal)) adm) EP 0 d ∗ Pipeline.toksInit (Pipeline.pin (pcfgs (F := Ideal)) adm) EP 0 d)
      ⊢ iprop((iprop(boundary (T d) ∗ unscopedBufs d (Va W' d) ∗ Owing n d) -∗ Q ⟨⟩) -∗ WM d (call 0) Q) := by
  have h := Pipeline.RegionSeg.wp (pcfgs (F := Ideal)) adm (R0.pdats (Va W) n) (none : HIx 2) cellOf_inj EP defs₀ 𝒱₀ (KI).L (KI).lev
    (R0.reg (Va W) n (Va W') hout hne) d none (fun u hu => by cases hu) (k := fun x => .ret x) Q
  rw [show (R0.reg (Va W) n (Va W') hout hne).post d = iprop(unscopedBufs d (Va W' d) ∗ Owing n d) from rfl, show (R0.reg (Va W) n (Va W') hout hne).pre d = iprop(unscopedBufs d (Va W d) ∗ Owing n d) from rfl] at h
  have h' := h.trans (SparseCore.Cfg.wp_liftProg (K := KI) (D (F := Ideal)) 𝒱 (T d) Set.univ none _ Q)
  iintro ⟨Hb, Hub, HO, Hl, Hg, Ht⟩ HK
  unfold WM
  iapply (show _ ⊢ wp frame (wpE ((KI).defs (D (F := Ideal))) 𝒱 (T d) none) Set.univ (call 0) Q from h')
  isplitl [HK]
  · iintro ⟨Hb, Hub, HO⟩
    rw [wp_ret]
    imodintro
    iapply HK
    isplitl [Hb]; · iexact Hb
    isplitl [Hub]; · iexact Hub
    iexact HO
  isplitl [Hb]; · iexact Hb
  isplitl [Hub HO]
  · isplitl [Hub]; · iexact Hub
    iexact HO
  isplitl [Hl]; · iexact Hl
  isplitl [Hg]; · iexact Hg
  iexact Ht

theorem enter1 (W W' : Dev nD → Valuation τ sig (Elt Ideal)) (n : ℕ) (kept : Dev nD → Fin 10 → Fin 512 → Prop) (hk : ∀ c, IsKept (R1.geo (Va W) c) (kept c))
    (hout : ∀ d, W' d (Proc.devRef .tc main_v20) = R1.res kept d)
    (hne : ∀ d (b : Ref sig .tc), b ≠ main_v20 → W' d (Proc.devRef .tc b) = W d (Proc.devRef .tc b)) (d : Dev nD) (Q : PUnit → sProp 𝕄) :
    iprop(boundary (T d) ∗ unscopedBufs d (Va W d) ∗ Owing n d ∗ levAts (KI).L (KI).lev
        ∗ Pipeline.cellsGhost (Pipeline.pin (pcfgs (F := Ideal)) adm) EP 1 d ∗ Pipeline.toksInit (Pipeline.pin (pcfgs (F := Ideal)) adm) EP 1 d)
      ⊢ iprop((iprop(boundary (T d) ∗ unscopedBufs d (Va W' d) ∗ Owing n d) -∗ Q ⟨⟩) -∗ WM d (call 1) Q) := by
  have h := Pipeline.RegionSeg.wp (pcfgs (F := Ideal)) adm (R1.pdats (Va W) n kept) (none : HIx 2) cellOf_inj EP defs₀ 𝒱₀ (KI).L (KI).lev
    (R1.reg (Va W) n kept (Va W') hk hout hne) d none (fun u hu => by cases hu) (k := fun x => .ret x) Q
  rw [show (R1.reg (Va W) n kept (Va W') hk hout hne).post d = iprop(unscopedBufs d (Va W' d) ∗ Owing n d) from rfl, show (R1.reg (Va W) n kept (Va W') hk hout hne).pre d = iprop(unscopedBufs d (Va W d) ∗ Owing n d) from rfl] at h
  have h' := h.trans (SparseCore.Cfg.wp_liftProg (K := KI) (D (F := Ideal)) 𝒱 (T d) Set.univ none _ Q)
  iintro ⟨Hb, Hub, HO, Hl, Hg, Ht⟩ HK
  unfold WM
  iapply (show _ ⊢ wp frame (wpE ((KI).defs (D (F := Ideal))) 𝒱 (T d) none) Set.univ (call 1) Q from h')
  isplitl [HK]
  · iintro ⟨Hb, Hub, HO⟩
    rw [wp_ret]
    imodintro
    iapply HK
    isplitl [Hb]; · iexact Hb
    isplitl [Hub]; · iexact Hub
    iexact HO
  isplitl [Hb]; · iexact Hb
  isplitl [Hub HO]
  · isplitl [Hub]; · iexact Hub
    iexact HO
  isplitl [Hl]; · iexact Hl
  isplitl [Hg]; · iexact Hg
  iexact Ht

end Cert.Proof.Whole

end
-- ==== Proof.Whole.Run.lean ====
/-
  The run of @main: the host lines, the rank call, the permute call, the suppression call, the finalize call, the last slice; from any memory
  every run ends with the arguments as they were and the result at its value.
-/
module

public import Idealize.ShloMosaic.Lib.Pipeline.Frame
public import proofs.«01_k».proof.Proof.Whole.Launch
public import proofs.«01_k».proof.Proof.Whole.Enter

@[expose] public section

noncomputable section

namespace Cert.Proof.Whole

open Cert.KernelIdeal Cert.KernelIdeal.Gen
open Cert.Proof.Sc (Perm placed picked)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 2) (Elt Ideal) ℕ UU ℕ
local notation "KI" => (K (F := Ideal))

/-! ## The host lines -/

def opsA : List (HloOp τ sig (Elt Ideal)) :=
  [StableHlo.nullary main_cst (constant (F := Ideal) S_ .f32 0xBF800000#32),
   StableHlo.unary main_cst main_v0 (broadcastInDim S120 ![] bcast_S_S120 : (⟨S_, .f32⟩ : BufTy).Contents (Elt Ideal) → (⟨S120, .f32⟩ : BufTy).Contents (Elt Ideal)),
   StableHlo.binary main_arg1 main_v0 main_v1 ((fun a b => concatenate S5120 0 [⟨S5000, a⟩, ⟨S120, b⟩] concatenates_S5000_S120_S5120_d0) : (⟨S5000, .f32⟩ : BufTy).Contents (Elt Ideal) → (⟨S120, .f32⟩ : BufTy).Contents (Elt Ideal) → (⟨S5120, .f32⟩ : BufTy).Contents (Elt Ideal)),
   StableHlo.reshape main_v1 main_v2 (rfl : (.f32 : EltTy) = .f32) shapeCasts_S5120_S10x512]
def opsB : List (HloOp τ sig (Elt Ideal)) :=
  [StableHlo.reshape main_v3 main_v4 (rfl : (.i32 : EltTy) = .i32) shapeCasts_S10x512_S5120,
   StableHlo.nullary main_c (constantI S_ 32 0#32),
   StableHlo.TRef.unary (.of main_c : StableHlo.TRef sig ⟨S_, .i32⟩) main_call0.v0 (sitofp (F := Ideal) .f32),
   StableHlo.TRef.binary (.of main_arg0 : StableHlo.TRef sig ⟨S5000x4, .f32⟩) main_call0.v0 main_call0.v1 (fun x v => pad S5120x4 ![0, 0] ![120, 0] ![0, 0] x v pads_S5000x4_S5120x4_01200_000 h_S_),
   StableHlo.unary main_v5 main_v6 ((extractStridedSlice S5120x1 ![0, 0] · slices_S5120x4_S5120x1_0_0) : (⟨S5120x4, .f32⟩ : BufTy).Contents (Elt Ideal) → (⟨S5120x1, .f32⟩ : BufTy).Contents (Elt Ideal)),
   StableHlo.reshape main_v6 main_v7 (rfl : (.f32 : EltTy) = .f32) shapeCasts_S5120x1_S5120,
   StableHlo.unary main_v5 main_v8 ((extractStridedSlice S5120x1 ![0, 1] · slices_S5120x4_S5120x1_0_1) : (⟨S5120x4, .f32⟩ : BufTy).Contents (Elt Ideal) → (⟨S5120x1, .f32⟩ : BufTy).Contents (Elt Ideal)),
   StableHlo.reshape main_v8 main_v9 (rfl : (.f32 : EltTy) = .f32) shapeCasts_S5120x1_S5120,
   StableHlo.unary main_v5 main_v10 ((extractStridedSlice S5120x1 ![0, 2] · slices_S5120x4_S5120x1_0_2) : (⟨S5120x4, .f32⟩ : BufTy).Contents (Elt Ideal) → (⟨S5120x1, .f32⟩ : BufTy).Contents (Elt Ideal)),
   StableHlo.reshape main_v10 main_v11 (rfl : (.f32 : EltTy) = .f32) shapeCasts_S5120x1_S5120,
   StableHlo.unary main_v5 main_v12 ((extractStridedSlice S5120x1 ![0, 3] · slices_S5120x4_S5120x1_0_3) : (⟨S5120x4, .f32⟩ : BufTy).Contents (Elt Ideal) → (⟨S5120x1, .f32⟩ : BufTy).Contents (Elt Ideal)),
   StableHlo.reshape main_v12 main_v13 (rfl : (.f32 : EltTy) = .f32) shapeCasts_S5120x1_S5120]
def opsC : List (HloOp τ sig (Elt Ideal)) :=
  [StableHlo.reshape main_v14_0 main_v15 (rfl : (.f32 : EltTy) = .f32) shapeCasts_S5120_S10x512,
   StableHlo.reshape main_v14_1 main_v16 (rfl : (.f32 : EltTy) = .f32) shapeCasts_S5120_S10x512,
   StableHlo.reshape main_v14_2 main_v17 (rfl : (.f32 : EltTy) = .f32) shapeCasts_S5120_S10x512,
   StableHlo.reshape main_v14_3 main_v18 (rfl : (.f32 : EltTy) = .f32) shapeCasts_S5120_S10x512,
   StableHlo.reshape main_v14_4 main_v19 (rfl : (.f32 : EltTy) = .f32) shapeCasts_S5120_S10x512]
def opsD : List (HloOp τ sig (Elt Ideal)) :=
  [StableHlo.reshape main_v20 main_v21 (rfl : (.f32 : EltTy) = .f32) shapeCasts_S10x512_S5120]
def opE : HloOp τ sig (Elt Ideal) := StableHlo.unary main_v22 main_v23 ((extractStridedSlice S5000 ![0] · slices_S5120_S5000_0) : (⟨S5120, .f32⟩ : BufTy).Contents (Elt Ideal) → (⟨S5000, .f32⟩ : BufTy).Contents (Elt Ideal))

theorem opsA_bufs : ∀ op ∈ opsA, op.bufs ⊆ Pipeline.ucRefs τ sig := by
  unfold opsA
  simp only [List.forall_mem_cons, List.not_mem_nil, false_imp_iff, implies_true, _root_.and_true]
  exact ⟨Pipeline.sub_ucRefs _ (StableHlo.nullary_bufs_sub ..), Pipeline.sub_ucRefs _ (StableHlo.unary_bufs_sub ..), Pipeline.sub_ucRefs _ (StableHlo.binary_bufs_sub ..), Pipeline.sub_ucRefs _ (StableHlo.reshape_bufs_sub ..)⟩
theorem opsA_fresh : ∀ op ∈ opsA, op.fresh = ∅ := by
  unfold opsA
  simp only [List.forall_mem_cons, List.not_mem_nil, false_imp_iff, implies_true, _root_.and_true]
  exact ⟨rfl, rfl, rfl, rfl⟩
theorem opsB_bufs : ∀ op ∈ opsB, op.bufs ⊆ Pipeline.ucRefs τ sig := by
  unfold opsB
  simp only [List.forall_mem_cons, List.not_mem_nil, false_imp_iff, implies_true, _root_.and_true]
  refine ⟨Pipeline.sub_ucRefs _ (StableHlo.reshape_bufs_sub ..), Pipeline.sub_ucRefs _ (StableHlo.nullary_bufs_sub ..), ?_, ?_, Pipeline.sub_ucRefs _ (StableHlo.unary_bufs_sub ..), Pipeline.sub_ucRefs _ (StableHlo.reshape_bufs_sub ..), Pipeline.sub_ucRefs _ (StableHlo.unary_bufs_sub ..), Pipeline.sub_ucRefs _ (StableHlo.reshape_bufs_sub ..), Pipeline.sub_ucRefs _ (StableHlo.unary_bufs_sub ..), Pipeline.sub_ucRefs _ (StableHlo.reshape_bufs_sub ..), Pipeline.sub_ucRefs _ (StableHlo.unary_bufs_sub ..), Pipeline.sub_ucRefs _ (StableHlo.reshape_bufs_sub ..)⟩
  · exact Pipeline.sub_ucRefs _ (StableHlo.unary_bufs_sub ..)
  · exact Pipeline.sub_ucRefs _ (StableHlo.binary_bufs_sub ..)
theorem opsB_fresh : ∀ op ∈ opsB, op.fresh = ∅ := by
  unfold opsB
  simp only [List.forall_mem_cons, List.not_mem_nil, false_imp_iff, implies_true, _root_.and_true]
  exact ⟨rfl, rfl, rfl, rfl, rfl, rfl, rfl, rfl, rfl, rfl, rfl, rfl⟩
theorem opsC_bufs : ∀ op ∈ opsC, op.bufs ⊆ Pipeline.ucRefs τ sig := by
  unfold opsC
  simp only [List.forall_mem_cons, List.not_mem_nil, false_imp_iff, implies_true, _root_.and_true]
  exact ⟨Pipeline.sub_ucRefs _ (StableHlo.reshape_bufs_sub ..), Pipeline.sub_ucRefs _ (StableHlo.reshape_bufs_sub ..), Pipeline.sub_ucRefs _ (StableHlo.reshape_bufs_sub ..), Pipeline.sub_ucRefs _ (StableHlo.reshape_bufs_sub ..), Pipeline.sub_ucRefs _ (StableHlo.reshape_bufs_sub ..)⟩
theorem opsC_fresh : ∀ op ∈ opsC, op.fresh = ∅ := by
  unfold opsC
  simp only [List.forall_mem_cons, List.not_mem_nil, false_imp_iff, implies_true, _root_.and_true]
  exact ⟨rfl, rfl, rfl, rfl, rfl⟩
theorem opsD_bufs : ∀ op ∈ opsD, op.bufs ⊆ Pipeline.ucRefs τ sig := by
  unfold opsD
  simp only [List.forall_mem_cons, List.not_mem_nil, false_imp_iff, implies_true, _root_.and_true]
  exact Pipeline.sub_ucRefs _ (StableHlo.reshape_bufs_sub ..)
theorem opsD_fresh : ∀ op ∈ opsD, op.fresh = ∅ := by
  unfold opsD
  simp only [List.forall_mem_cons, List.not_mem_nil, false_imp_iff, implies_true, _root_.and_true]
  exact rfl

abbrev used0 : Finset (DevRef τ sig) := {Proc.devRef .tc main_v7, Proc.devRef .tc main_v9, Proc.devRef .tc main_v11, Proc.devRef .tc main_v13, Proc.devRef .tc main_v4, Proc.devRef .tc main_v14_0, Proc.devRef .tc main_v14_1, Proc.devRef .tc main_v14_2, Proc.devRef .tc main_v14_3, Proc.devRef .tc main_v14_4}
theorem used0_sub : used0 ⊆ Pipeline.ucRefs τ sig := by decide
theorem held_used0 (d : Dev nD) (W : Valuation τ sig (Elt Ideal)) :
    (StableHlo.held (SparseCore.T d) used0 W : sProp 𝕄) = iprop(((SparseCore.T d).loc main_v7 ↦{fullShare} W (Proc.devRef .tc main_v7)) ∗ ((SparseCore.T d).loc main_v9 ↦{fullShare} W (Proc.devRef .tc main_v9)) ∗ ((SparseCore.T d).loc main_v11 ↦{fullShare} W (Proc.devRef .tc main_v11)) ∗ ((SparseCore.T d).loc main_v13 ↦{fullShare} W (Proc.devRef .tc main_v13)) ∗ ((SparseCore.T d).loc main_v4 ↦{fullShare} W (Proc.devRef .tc main_v4)) ∗ ((SparseCore.T d).loc main_v14_0 ↦{fullShare} W (Proc.devRef .tc main_v14_0)) ∗ ((SparseCore.T d).loc main_v14_1 ↦{fullShare} W (Proc.devRef .tc main_v14_1)) ∗ ((SparseCore.T d).loc main_v14_2 ↦{fullShare} W (Proc.devRef .tc main_v14_2)) ∗ ((SparseCore.T d).loc main_v14_3 ↦{fullShare} W (Proc.devRef .tc main_v14_3)) ∗ ((SparseCore.T d).loc main_v14_4 ↦{fullShare} W (Proc.devRef .tc main_v14_4))) := by
  unfold StableHlo.held used0
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
abbrev used1 : Finset (DevRef τ sig) := {Proc.devRef .tc main_v1, Proc.devRef .tc main_v4, Proc.devRef .tc main_v21, Proc.devRef .tc main_v22}
theorem used1_sub : used1 ⊆ Pipeline.ucRefs τ sig := by decide
theorem held_used1 (d : Dev nD) (W : Valuation τ sig (Elt Ideal)) :
    (StableHlo.held (SparseCore.T d) used1 W : sProp 𝕄) = iprop(((SparseCore.T d).loc main_v1 ↦{fullShare} W (Proc.devRef .tc main_v1)) ∗ ((SparseCore.T d).loc main_v4 ↦{fullShare} W (Proc.devRef .tc main_v4)) ∗ ((SparseCore.T d).loc main_v21 ↦{fullShare} W (Proc.devRef .tc main_v21)) ∗ ((SparseCore.T d).loc main_v22 ↦{fullShare} W (Proc.devRef .tc main_v22))) := by
  unfold StableHlo.held used1
  rw [SparseCore.bigSep_insert' (by decide), SparseCore.bigSep_insert' (by decide), SparseCore.bigSep_insert' (by decide), bigSep_singleton]
abbrev last : Finset (DevRef τ sig) := {Proc.devRef .tc main_arg0, Proc.devRef .tc main_arg1, Proc.devRef .tc main_v22, Proc.devRef .tc main_v23}
theorem last_sub : last ⊆ Pipeline.ucRefs τ sig := by decide
theorem held_last (d : Dev nD) (W : Valuation τ sig (Elt Ideal)) :
    (StableHlo.held (SparseCore.T d) last W : sProp 𝕄) = iprop(((SparseCore.T d).loc main_arg0 ↦{fullShare} W (Proc.devRef .tc main_arg0)) ∗ ((SparseCore.T d).loc main_arg1 ↦{fullShare} W (Proc.devRef .tc main_arg1)) ∗ ((SparseCore.T d).loc main_v22 ↦{fullShare} W (Proc.devRef .tc main_v22)) ∗ ((SparseCore.T d).loc main_v23 ↦{fullShare} W (Proc.devRef .tc main_v23))) := by
  unfold StableHlo.held last
  rw [SparseCore.bigSep_insert' (by decide), SparseCore.bigSep_insert' (by decide), SparseCore.bigSep_insert' (by decide), bigSep_singleton]

theorem main_eq (d : Dev nD) : main (F := Ideal) d = (StableHlo.seq opsA >>= fun _ => call 0 >>= fun _ => StableHlo.seq opsB >>= fun _ => (sc (F := Ideal)).run d 0 >>= fun _ =>
    StableHlo.seq opsC >>= fun _ => call 1 >>= fun _ => StableHlo.seq opsD >>= fun _ => (sc (F := Ideal)).run d 1 >>= fun _ =>
    hlo rfl opE (fun _ => .ret (⟨⟩ : PUnit)) >>= fun _ => pure (⟨⟩ : PUnit)) := by
  simp only [main, opsA, opsB, opsC, opsD, opE, fn_pad.body, StableHlo.seq, bind_assoc, pure_bind]

/-! ## What the buffers hold as @main goes -/

variable (m : (ℓ : Loc nD τ sig) → Buf (Elt Ideal) ℓ) (ρ : Dev nD → PrngReg)

def V0 (d : Dev nD) : Valuation τ sig (Elt Ideal) := fun b => m (d, b)
/-- before the rank call, -/
def V1 (d : Dev nD) : Valuation τ sig (Elt Ideal) := StableHlo.after opsA (V0 m d)
/-- after it, -/
def V2 (d : Dev nD) : Valuation τ sig (Elt Ideal) := Function.update (V1 m d) (Proc.devRef .tc main_v3) (R0.res (Va (V1 m)) d)
/-- before the permute call, -/
def V3 (d : Dev nD) : Valuation τ sig (Elt Ideal) := StableHlo.after opsB (V2 m d)

/-- The operands of the permute call. -/
def ops0 : Ops Ideal where
  xa d := V3 m d (Proc.devRef .tc main_v7)
  ya d := V3 m d (Proc.devRef .tc main_v9)
  xb d := V3 m d (Proc.devRef .tc main_v11)
  yb d := V3 m d (Proc.devRef .tc main_v13)
  rk d := V3 m d (Proc.devRef .tc main_v4)
  sc d := V3 m d (Proc.devRef .tc main_v1)
  kp d := V3 m d (Proc.devRef .tc main_v21)

/-- after it, -/
def V4 (d : Dev nD) : Valuation τ sig (Elt Ideal) :=
  Function.update (Function.update (Function.update (Function.update (Function.update (V3 m d) (Proc.devRef .tc main_v14_0) (r0 (ops0 m) d))
    (Proc.devRef .tc main_v14_1) (r1 (ops0 m) d)) (Proc.devRef .tc main_v14_2) (r2 (ops0 m) d)) (Proc.devRef .tc main_v14_3) (r3 (ops0 m) d))
    (Proc.devRef .tc main_v14_4) (r4 (ops0 m) d)
/-- before the suppression call, -/
def V5 (d : Dev nD) : Valuation τ sig (Elt Ideal) := StableHlo.after opsC (V4 m d)
/-- The boxes kept. -/
def keptM (d : Dev nD) : Fin 10 → Fin 512 → Prop := keptOf (R1.geo (Va (V5 m)) d)
/-- after it, -/
def V6 (d : Dev nD) : Valuation τ sig (Elt Ideal) := Function.update (V5 m d) (Proc.devRef .tc main_v20) (R1.res (keptM m) d)
/-- before the finalize call, -/
def V7 (d : Dev nD) : Valuation τ sig (Elt Ideal) := StableHlo.after opsD (V6 m d)

/-- The operands of the two SparseCore calls. -/
def opsOf : Ops Ideal := { ops0 m with kp := fun d => V7 m d (Proc.devRef .tc main_v21) }

/-- and after it. -/
def V8 (d : Dev nD) : Valuation τ sig (Elt Ideal) := Function.update (V7 m d) (Proc.devRef .tc main_v22) (rF (opsOf m) d)

/-- The result: the first 5000 elements of what the finalize call leaves. -/
def rS (d : Dev nD) : FVec Ideal S5000 .f32 := extractStridedSlice S5000 ![0] (rF (opsOf m) d) slices_S5120_S5000_0

theorem V4_read (d : Dev nD) (b : DevRef τ sig) (h0 : b ≠ Proc.devRef .tc main_v14_0) (h1 : b ≠ Proc.devRef .tc main_v14_1) (h2 : b ≠ Proc.devRef .tc main_v14_2)
    (h3 : b ≠ Proc.devRef .tc main_v14_3) (h4 : b ≠ Proc.devRef .tc main_v14_4) : V4 m d b = V3 m d b := by
  unfold V4
  rw [Function.update_of_ne h4, Function.update_of_ne h3, Function.update_of_ne h2, Function.update_of_ne h1, Function.update_of_ne h0]
theorem V4_other (d : Dev nD) (b : DevRef τ sig) (h : b ∉ used0) : V4 m d b = V3 m d b :=
  V4_read m d b (fun e => h (by rw [e]; decide)) (fun e => h (by rw [e]; decide)) (fun e => h (by rw [e]; decide)) (fun e => h (by rw [e]; decide)) (fun e => h (by rw [e]; decide))
theorem V4_0 (d : Dev nD) : V4 m d (Proc.devRef .tc main_v14_0) = r0 (ops0 m) d := by
  unfold V4
  rw [Function.update_of_ne (by decide), Function.update_of_ne (by decide), Function.update_of_ne (by decide), Function.update_of_ne (by decide), Function.update_self]
theorem V4_1 (d : Dev nD) : V4 m d (Proc.devRef .tc main_v14_1) = r1 (ops0 m) d := by
  unfold V4
  rw [Function.update_of_ne (by decide), Function.update_of_ne (by decide), Function.update_of_ne (by decide), Function.update_self]
theorem V4_2 (d : Dev nD) : V4 m d (Proc.devRef .tc main_v14_2) = r2 (ops0 m) d := by
  unfold V4
  rw [Function.update_of_ne (by decide), Function.update_of_ne (by decide), Function.update_self]
theorem V4_3 (d : Dev nD) : V4 m d (Proc.devRef .tc main_v14_3) = r3 (ops0 m) d := by
  unfold V4
  rw [Function.update_of_ne (by decide), Function.update_self]
theorem V4_4 (d : Dev nD) : V4 m d (Proc.devRef .tc main_v14_4) = r4 (ops0 m) d := by
  unfold V4
  rw [Function.update_self]

theorem V7_v1 (d : Dev nD) : V7 m d (Proc.devRef .tc main_v1) = (ops0 m).sc d := by
  have h1 : V7 m d (Proc.devRef .tc main_v1) = V6 m d (Proc.devRef .tc main_v1) := by unfold V7 opsD; after_results; try rfl
  have h2 : V6 m d (Proc.devRef .tc main_v1) = V5 m d (Proc.devRef .tc main_v1) := Function.update_of_ne (by decide) _ _
  have h3 : V5 m d (Proc.devRef .tc main_v1) = V4 m d (Proc.devRef .tc main_v1) := by unfold V5 opsC; after_results; try rfl
  exact h1.trans (h2.trans (h3.trans (V4_read m d _ (by decide) (by decide) (by decide) (by decide) (by decide))))
theorem V7_v4 (d : Dev nD) : V7 m d (Proc.devRef .tc main_v4) = (ops0 m).rk d := by
  have h1 : V7 m d (Proc.devRef .tc main_v4) = V6 m d (Proc.devRef .tc main_v4) := by unfold V7 opsD; after_results; try rfl
  have h2 : V6 m d (Proc.devRef .tc main_v4) = V5 m d (Proc.devRef .tc main_v4) := Function.update_of_ne (by decide) _ _
  have h3 : V5 m d (Proc.devRef .tc main_v4) = V4 m d (Proc.devRef .tc main_v4) := by unfold V5 opsC; after_results; try rfl
  exact h1.trans (h2.trans (h3.trans (V4_read m d _ (by decide) (by decide) (by decide) (by decide) (by decide))))

theorem V8_arg0 (d : Dev nD) : V8 m d (Proc.devRef .tc main_arg0) = m ((SparseCore.T d).loc main_arg0) := by
  have h8 : V8 m d (Proc.devRef .tc main_arg0) = V7 m d (Proc.devRef .tc main_arg0) := Function.update_of_ne (by decide) _ _
  have h7 : V7 m d (Proc.devRef .tc main_arg0) = V6 m d (Proc.devRef .tc main_arg0) := by unfold V7 opsD; after_results; try rfl
  have h6 : V6 m d (Proc.devRef .tc main_arg0) = V5 m d (Proc.devRef .tc main_arg0) := Function.update_of_ne (by decide) _ _
  have h5 : V5 m d (Proc.devRef .tc main_arg0) = V4 m d (Proc.devRef .tc main_arg0) := by unfold V5 opsC; after_results; try rfl
  have h4 := V4_read m d (Proc.devRef .tc main_arg0) (by decide) (by decide) (by decide) (by decide) (by decide)
  have h3 : V3 m d (Proc.devRef .tc main_arg0) = V2 m d (Proc.devRef .tc main_arg0) := by unfold V3 opsB; after_results; try rfl
  have h2 : V2 m d (Proc.devRef .tc main_arg0) = V1 m d (Proc.devRef .tc main_arg0) := Function.update_of_ne (by decide) _ _
  have h1 : V1 m d (Proc.devRef .tc main_arg0) = V0 m d (Proc.devRef .tc main_arg0) := by unfold V1 opsA; after_results; try rfl
  exact h8.trans (h7.trans (h6.trans (h5.trans (h4.trans (h3.trans (h2.trans h1))))))
theorem V8_arg1 (d : Dev nD) : V8 m d (Proc.devRef .tc main_arg1) = m ((SparseCore.T d).loc main_arg1) := by
  have h8 : V8 m d (Proc.devRef .tc main_arg1) = V7 m d (Proc.devRef .tc main_arg1) := Function.update_of_ne (by decide) _ _
  have h7 : V7 m d (Proc.devRef .tc main_arg1) = V6 m d (Proc.devRef .tc main_arg1) := by unfold V7 opsD; after_results; try rfl
  have h6 : V6 m d (Proc.devRef .tc main_arg1) = V5 m d (Proc.devRef .tc main_arg1) := Function.update_of_ne (by decide) _ _
  have h5 : V5 m d (Proc.devRef .tc main_arg1) = V4 m d (Proc.devRef .tc main_arg1) := by unfold V5 opsC; after_results; try rfl
  have h4 := V4_read m d (Proc.devRef .tc main_arg1) (by decide) (by decide) (by decide) (by decide) (by decide)
  have h3 : V3 m d (Proc.devRef .tc main_arg1) = V2 m d (Proc.devRef .tc main_arg1) := by unfold V3 opsB; after_results; try rfl
  have h2 : V2 m d (Proc.devRef .tc main_arg1) = V1 m d (Proc.devRef .tc main_arg1) := Function.update_of_ne (by decide) _ _
  have h1 : V1 m d (Proc.devRef .tc main_arg1) = V0 m d (Proc.devRef .tc main_arg1) := by unfold V1 opsA; after_results; try rfl
  exact h8.trans (h7.trans (h6.trans (h5.trans (h4.trans (h3.trans (h2.trans h1))))))

theorem opE_v23 (d : Dev nD) : opE.result (V8 m d) (Proc.devRef .tc main_v23) = rS m d := by
  have h : V8 m d (Proc.devRef .tc main_v22) = rF (opsOf m) d := Function.update_self _ _ _
  unfold opE
  after_results
  rw [h]
  rfl
theorem opE_arg0 (d : Dev nD) : opE.result (V8 m d) (Proc.devRef .tc main_arg0) = m ((SparseCore.T d).loc main_arg0) := by
  refine Eq.trans ?_ (V8_arg0 m d)
  unfold opE
  after_results; try rfl
theorem opE_arg1 (d : Dev nD) : opE.result (V8 m d) (Proc.devRef .tc main_arg1) = m ((SparseCore.T d).loc main_arg1) := by
  refine Eq.trans ?_ (V8_arg1 m d)
  unfold opE
  after_results; try rfl

/-! ## @main -/

/-- What @main leaves: the arguments at their launch contents, the result at its value. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_v23 ↦{fullShare} rS m d))

theorem tcSt_split (d : Dev nD) (n : ℕ) : ∃ R : sProp 𝕄, (KI).tcSt EH d n = iprop(Owing n d ∗ R) := ⟨_, rfl⟩

theorem ub_held (d : Dev nD) (W : Dev nD → Valuation τ sig (Elt Ideal)) :
    (unscopedBufs d (Va W d) : sProp 𝕄) = StableHlo.held (SparseCore.T d) (Pipeline.ucRefs τ sig) (W d) := Pipeline.unscopedBufs_held d (W d)

set_option maxHeartbeats 1600000 in
theorem hmain (κ : GSem nD τ sig → ℕ) (d : Dev nD) :
    iprop((KI).ctx EH (P (opsOf m)) κ ∗ (KI).tcSt EH d 0 ∗ (KI).tcRes m ρ d ∗ PG (F := Ideal) d)
      ⊢ WM d (main (F := Ideal) d) fun _ => iprop((KI).tcSt EH d 2 ∗ FIN m d ∗ (KI).tcEnd d) := by
  obtain ⟨R0', hR0⟩ := tcSt_split d 0
  obtain ⟨R1', hR1⟩ := tcSt_split d 1
  have hs0 : (StableHlo.held (SparseCore.T d) (Pipeline.ucRefs τ sig) (StableHlo.after opsB (V2 m d)) : sProp 𝕄) ⊢ _ :=
    Entails.of_eq ((StableHlo.held_sub_split (SparseCore.T d) used0_sub (V3 m d)).trans (congrArg (fun X => iprop(X ∗ _)) (held_used0 d (V3 m d))))
  have hj0 : _ ⊢ (StableHlo.held (SparseCore.T d) (Pipeline.ucRefs τ sig) (V4 m d) : sProp 𝕄) :=
    Entails.of_eq ((StableHlo.held_sub_split (SparseCore.T d) used0_sub (V4 m d)).trans (congrArg₂ (fun X Y => iprop(X ∗ Y)) (held_used0 d (V4 m d))
      (StableHlo.held_congr (SparseCore.T d) (V' := V3 m d) fun b hb => V4_other m d b (Finset.mem_sdiff.mp hb).2))).symm
  rw [V4_0, V4_1, V4_2, V4_3, V4_4, V4_read m d (Proc.devRef .tc main_v7) (by decide) (by decide) (by decide) (by decide) (by decide),
    V4_read m d (Proc.devRef .tc main_v9) (by decide) (by decide) (by decide) (by decide) (by decide), V4_read m d (Proc.devRef .tc main_v11) (by decide) (by decide) (by decide) (by decide) (by decide),
    V4_read m d (Proc.devRef .tc main_v13) (by decide) (by decide) (by decide) (by decide) (by decide), V4_read m d (Proc.devRef .tc main_v4) (by decide) (by decide) (by decide) (by decide) (by decide)] at hj0
  have hs1 : (StableHlo.held (SparseCore.T d) (Pipeline.ucRefs τ sig) (V7 m d) : sProp 𝕄) ⊢ _ :=
    Entails.of_eq ((StableHlo.held_sub_split (SparseCore.T d) used1_sub (V7 m d)).trans (congrArg (fun X => iprop(X ∗ _)) (held_used1 d (V7 m d))))
  have hV8 : ∀ b, b ≠ Proc.devRef .tc main_v22 → V8 m d b = V7 m d b := fun b hb => Function.update_of_ne hb _ _
  have hj1 : _ ⊢ (StableHlo.held (SparseCore.T d) (Pipeline.ucRefs τ sig) (V8 m d) : sProp 𝕄) :=
    Entails.of_eq ((StableHlo.held_sub_split (SparseCore.T d) used1_sub (V8 m d)).trans (congrArg₂ (fun X Y => iprop(X ∗ Y)) (held_used1 d (V8 m d))
      (StableHlo.held_congr (SparseCore.T d) (V' := V7 m d) fun b hb => hV8 b fun e => (Finset.mem_sdiff.mp hb).2 (e ▸ by decide)))).symm
  rw [hV8 (Proc.devRef .tc main_v1) (by decide), hV8 (Proc.devRef .tc main_v4) (by decide), hV8 (Proc.devRef .tc main_v21) (by decide),
    show V8 m d (Proc.devRef .tc main_v22) = rF (opsOf m) d from Function.update_self _ _ _, V7_v1, V7_v4] at hj1
  rw [V7_v1, V7_v4] at hs1
  change (StableHlo.held (SparseCore.T d) (Pipeline.ucRefs τ sig) (StableHlo.after opsD (V6 m d)) : sProp 𝕄) ⊢ _ at hs1
  unfold SparseCore.Cfg.tcRes SparseCore.Cfg.tcEnd PG WM
  rw [main_eq, show (unscopedBufs d (fun b => m ((SparseCore.T d).loc b)) : sProp 𝕄) = StableHlo.held (SparseCore.T d) (Pipeline.ucRefs τ sig) (V0 m d) from
    Pipeline.unscopedBufs_held d (V0 m d)]
  rw [show (Finset.univ : Finset (Fin 2)) = {0, 1} from rfl, SparseCore.bigSep_insert' (by decide), bigSep_singleton, SparseCore.bigSep_insert' (by decide), bigSep_singleton]
  iintro ⟨#Hctx, Hst, ⟨Hb, Hheld, Hts, -⟩, ⟨Hg0, Hg1⟩, ⟨Ht0, Ht1⟩⟩
  iapply (StableHlo.wp_seq 𝒱 none Set.univ d (Pipeline.ucRefs τ sig) _ opsA opsA_bufs opsA_fresh (V0 m d)) $$ [Hb Hheld]
  · isplitl [Hb]; · iexact Hb
    iexact Hheld
  iintro ⟨Hb, Hheld⟩
  ihave Hub := (Entails.of_eq (show StableHlo.held (SparseCore.T d) (Pipeline.ucRefs τ sig) (StableHlo.after opsA (V0 m d)) = unscopedBufs d (Va (V1 m) d) from (ub_held d (V1 m)).symm)) $$ Hheld
  ihave Hst := (Entails.of_eq hR0) $$ Hst
  icases Hst with ⟨HO, HR⟩
  simp only [wp_bind]
  iapply (enter0 (V1 m) (V2 m) 0 (fun _ => Function.update_self _ _ _) (fun _ b hb => Function.update_of_ne (fun e => hb (Proc.devRef_injective _ e)) _ _) d _) $$ [Hb Hub HO Hg0 Ht0]
  · isplitl [Hb]; · iexact Hb
    isplitl [Hub]; · iexact Hub
    isplitl [HO]; · iexact HO
    isplitr
    · iapply (SparseCore.Cfg.ctx_levAts (K := KI) (EH := EH) (P := P (opsOf m)) κ); iexact Hctx
    isplitl [Hg0]; · iexact Hg0
    iexact Ht0
  iintro ⟨Hb, Hub, HO⟩
  ihave Hst := (Entails.of_eq hR0.symm) $$ [HO HR]
  · isplitl [HO] <;> iassumption
  ihave Hheld := (Entails.of_eq (ub_held d (V2 m))) $$ Hub
  rw [← wp_bind]
  iapply (StableHlo.wp_seq 𝒱 none Set.univ d (Pipeline.ucRefs τ sig) _ opsB opsB_bufs opsB_fresh (V2 m d)) $$ [Hb Hheld]
  · isplitl [Hb]; · iexact Hb
    iexact Hheld
  iintro ⟨Hb, Hheld⟩
  ihave Hh := hs0 $$ Hheld
  icases Hh with ⟨⟨Hx, Hy, Hu, Hw, Hr, H0, H1, H2, H3, H4⟩, Hrest⟩
  iapply ((KI).wp_run (D (F := Ideal)) 𝒱 (EH := EH) (P := P (opsOf m)) κ d 0) $$ [Hst Hx Hy Hu Hw Hr H0 H1 H2 H3 H4 Hrest Hb Hts Hg1 Ht1]
  isplitr; · iexact Hctx
  isplitl [Hst]; · iexact Hst
  isplitl [Hx Hy Hu Hw Hr H0 H1 H2 H3 H4]
  · iapply (st0_of (opsOf m) d _ _ _ _ _)
    isplitl [Hx Hy Hu Hw Hr]
    · isplitl [Hx]; · iexact Hx
      isplitl [Hy]; · iexact Hy
      isplitl [Hu]; · iexact Hu
      isplitl [Hw]; · iexact Hw
      iexact Hr
    isplitl [H0]; · iexact H0
    isplitl [H1]; · iexact H1
    isplitl [H2]; · iexact H2
    isplitl [H3]; · iexact H3
    iexact H4
  iintro ⟨Hst, Hdn⟩
  ihave Hdn := (dn0_to (opsOf m) d) $$ Hdn
  icases Hdn with ⟨⟨Hx, Hy, Hu, Hw, Hr⟩, H0, H1, H2, H3, H4⟩
  ihave Hheld := hj0 $$ [Hx Hy Hu Hw Hr H0 H1 H2 H3 H4 Hrest]
  · isplitr [Hrest]
    · isplitl [Hx]; · iexact Hx
      isplitl [Hy]; · iexact Hy
      isplitl [Hu]; · iexact Hu
      isplitl [Hw]; · iexact Hw
      isplitl [Hr]; · iexact Hr
      isplitl [H0]; · iexact H0
      isplitl [H1]; · iexact H1
      isplitl [H2]; · iexact H2
      isplitl [H3]; · iexact H3
      iexact H4
    iexact Hrest
  rw [← wp_bind]
  iapply (StableHlo.wp_seq 𝒱 none Set.univ d (Pipeline.ucRefs τ sig) _ opsC opsC_bufs opsC_fresh (V4 m d)) $$ [Hb Hheld]
  · isplitl [Hb]; · iexact Hb
    iexact Hheld
  iintro ⟨Hb, Hheld⟩
  ihave Hub := (Entails.of_eq (show StableHlo.held (SparseCore.T d) (Pipeline.ucRefs τ sig) (StableHlo.after opsC (V4 m d)) = unscopedBufs d (Va (V5 m) d) from (ub_held d (V5 m)).symm)) $$ Hheld
  ihave Hst := (Entails.of_eq (show (KI).tcSt EH d (((0 : Fin 2) : ℕ) + 1) = iprop(Owing 1 d ∗ R1') from hR1)) $$ Hst
  icases Hst with ⟨HO, HR⟩
  iapply (enter1 (V5 m) (V6 m) 1 (keptM m) (fun c => isKept_keptOf _) (fun _ => Function.update_self _ _ _) (fun _ b hb => Function.update_of_ne (fun e => hb (Proc.devRef_injective _ e)) _ _) d _) $$ [Hb Hub HO Hg1 Ht1]
  · isplitl [Hb]; · iexact Hb
    isplitl [Hub]; · iexact Hub
    isplitl [HO]; · iexact HO
    isplitr
    · iapply (SparseCore.Cfg.ctx_levAts (K := KI) (EH := EH) (P := P (opsOf m)) κ); iexact Hctx
    isplitl [Hg1]; · iexact Hg1
    iexact Ht1
  iintro ⟨Hb, Hub, HO⟩
  ihave Hst := (Entails.of_eq hR1.symm) $$ [HO HR]
  · isplitl [HO] <;> iassumption
  ihave Hheld := (Entails.of_eq (ub_held d (V6 m))) $$ Hub
  rw [← wp_bind]
  iapply (StableHlo.wp_seq 𝒱 none Set.univ d (Pipeline.ucRefs τ sig) _ opsD opsD_bufs opsD_fresh (V6 m d)) $$ [Hb Hheld]
  · isplitl [Hb]; · iexact Hb
    iexact Hheld
  iintro ⟨Hb, Hheld⟩
  ihave Hh := hs1 $$ Hheld
  icases Hh with ⟨⟨Hs, Hr, Hk, HF⟩, Hrest⟩
  iapply ((KI).wp_run (D (F := Ideal)) 𝒱 (EH := EH) (P := P (opsOf m)) κ d 1) $$ [Hst Hs Hr Hk HF Hrest Hb Hts]
  isplitr; · iexact Hctx
  isplitl [Hst]; · iexact Hst
  isplitl [Hs Hr Hk HF]
  · iapply (st1_of (opsOf m) d _)
    isplitl [Hs Hr Hk]
    · isplitl [Hs]; · iexact Hs
      isplitl [Hr]; · iexact Hr
      iexact Hk
    iexact HF
  iintro ⟨Hst, Hdn⟩
  ihave Hdn := (dn1_to (opsOf m) d) $$ Hdn
  icases Hdn with ⟨⟨Hs, Hr, Hk⟩, HF⟩
  ihave Hheld := hj1 $$ [Hs Hr Hk HF Hrest]
  · isplitr [Hrest]
    · isplitl [Hs]; · iexact Hs
      isplitl [Hr]; · iexact Hr
      isplitl [Hk]; · iexact Hk
      iexact HF
    iexact Hrest
  iapply (StableHlo.wp_hlo_within 𝒱 (SparseCore.T d) none Set.univ (op := opE) (S := Pipeline.ucRefs τ sig) (Pipeline.sub_ucRefs _ (StableHlo.unary_bufs_sub ..)) (V := V8 m d)) $$ [Hb Hheld]
  · isplitl [Hb]; · iexact Hb
    iexact Hheld
  iintro ⟨Hb, Hh⟩
  ihave Hh := (Entails.of_eq ((StableHlo.held_sub_split (SparseCore.T d) last_sub (opE.result (V8 m d))).trans (congrArg (fun X => iprop(X ∗ _)) (held_last d _)))) $$ Hh
  icases Hh with ⟨⟨Ha0, Ha1, -, HS⟩, -⟩
  rw [opE_v23, opE_arg0, opE_arg1]
  simp only [wp_pure, wp_ret]
  imodintro; imodintro
  isplitl [Hst]; · iexact Hst
  isplitr [Hb Hts]
  · isplitl [Ha0]; · iexact Ha0
    isplitl [Ha1]; · iexact Ha1
    iexact HS
  isplitl [Hb] <;> iassumption

/-- A whole buffer held at contents `f` is at `f` in the state. -/
theorem agree_whole (s' : Phys nD τ sig (Elt Ideal)) (ℓ : Loc nD τ sig) (f : Buf (Elt Ideal) ℓ) :
    (iprop((ℓ ↦{fullShare} f) ∗ SI s') : sProp 𝕄) ⊢ ⌜s'.mem.mem ℓ = f⌝ := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- Two pure facts that one resource gives, together. -/
theorem pures {R : sProp 𝕄} {a b : Prop} (ha : R ⊢ ⌜a⌝) (hb : R ⊢ ⌜b⌝) : R ⊢ ⌜a ∧ b⌝ :=
  by
  have h : R ⊢ iprop(⌜a⌝ ∧ ⌜b⌝) := BIClass.and_intro ha hb
  refine h.trans ?_
  iintro ⟨%x, %y⟩
  ipureintro; exact ⟨x, y⟩

/-- What a final memory says of device `d`. -/
def fq (d : Dev nD) (s' : Phys nD τ sig (Elt Ideal)) : Prop :=
  s'.mem.mem ((SparseCore.T d).loc main_arg0) = m ((SparseCore.T d).loc main_arg0) ∧ s'.mem.mem ((SparseCore.T d).loc main_arg1) = m ((SparseCore.T d).loc main_arg1) ∧ s'.mem.mem ((SparseCore.T d).loc main_v23) = rS m d

theorem hfin (d : Dev nD) (s' : Phys nD τ sig (Elt Ideal)) : iprop(FIN m d ∗ SI s') ⊢ (⌜fq m d s'⌝ : sProp 𝕄) := by
  have key : ∀ {ℓ : Loc nD τ sig} {f : Buf (Elt Ideal) ℓ} {R : sProp 𝕄}, (R ⊢ iprop((ℓ ↦{fullShare} f) ∗ SI s')) → (R ⊢ ⌜s'.mem.mem ℓ = f⌝) :=
    fun h => h.trans (agree_whole s' _ _)
  have h0 : iprop(FIN m d ∗ SI s') ⊢ (⌜s'.mem.mem ((SparseCore.T d).loc main_arg0) = m ((SparseCore.T d).loc main_arg0)⌝ : sProp 𝕄) := key (by
    iintro ⟨⟨Ha0, -, -⟩, HSI⟩
    isplitl [Ha0] <;> iassumption)
  have h1 : iprop(FIN m d ∗ SI s') ⊢ (⌜s'.mem.mem ((SparseCore.T d).loc main_arg1) = m ((SparseCore.T d).loc main_arg1)⌝ : sProp 𝕄) := key (by
    iintro ⟨⟨-, Ha1, -⟩, HSI⟩
    isplitl [Ha1] <;> iassumption)
  have h2 : iprop(FIN m d ∗ SI s') ⊢ (⌜s'.mem.mem ((SparseCore.T d).loc main_v23) = rS m d⌝ : sProp 𝕄) := key (by
    iintro ⟨⟨-, -, HS⟩, HSI⟩
    isplitl [HS] <;> iassumption)
  exact pures h0 (pures h1 h2)

/-! ## The run -/

def QC : PUnit × MemSt nD τ sig (Elt Ideal) → Prop := fun r =>
  (∀ d : Dev nD, r.2.mem ((SparseCore.T d).loc main_arg0) = m ((SparseCore.T d).loc main_arg0) ∧ r.2.mem ((SparseCore.T d).loc main_arg1) = m ((SparseCore.T d).loc main_arg1) ∧ r.2.mem ((SparseCore.T d).loc main_v23) = rS m d) ∧ r.2.sem = fun _ => 0

/-- From a memory for which the ranks are a permutation every run of the kernel ends, with the result at its value. -/
theorem run_main (hp : ∀ d, Perm ((opsOf m).rk d)) :
    θ_run (Cert.KernelIdeal.defs (F := Ideal)) (Cert.KernelIdeal.threads (F := Ideal)) ⟨m, fun _ => 0, ρ⟩ (QC m) :=
  SparseCore.Cfg.θ_run_sc_quiescent (K := KI) (D := D (F := Ideal)) (𝒱 := 𝒱) (EH := EH) (P := P (opsOf m)) (A := ∅) facts v₀
    (fun q hq => match q with | 0 => nomatch hq | 1 => nomatch hq)
    (fun q _ => match q with | 0 => tileObl0 (opsOf m) hp | 1 => tileObl1 (opsOf m) hp)
    (fun q _ => match q with | 0 => SparseCore.Cfg.VecSplit.of_plain (vecSplit0 (opsOf m)) | 1 => SparseCore.Cfg.VecSplit.of_plain (vecSplit1 (opsOf m)))
    m ρ main (fun d => PG (F := Ideal) d) (FIN m) (u₀ (F := Ideal)) (sep_elim_left.trans (hu₀ (opsOf m))) (hmain m ρ) (fq m) (hfin m) (QC m) (fun _ h hz => ⟨h, hz⟩)

end Cert.Proof.Whole

end
-- ==== Proof.Whole.RefOps.lean ====
/-
  The reference's words, read as plain functions: a gather by an order, a scatter by an order, one element set, one row of a table, and a
  disjunction over a row.
-/
module

public import Idealize.ShloMosaic.Lib.WordCmp
public import Idealize.ShloMosaic.Lib.Pointwise
public import Idealize.ShloMosaic.Lib.Pipeline.Value
public import proofs.«01_k».proof.Proof.Sc.Placed
public import proofs.«01_k».proof.Proof.Gen.ReferenceIdeal

@[expose] public section

noncomputable section

namespace Cert.Proof.Whole.Ref

open Cert.ReferenceIdeal Cert.ReferenceIdeal.Gen
open Cert.Proof.Sc (fold_hit fold_miss idx_ext)

open Idealize.ShloMosaic

/-! ## A disjunction over a row -/

theorem or_iff : ∀ a b : BitVec 1, IntOp.ori a b = 1#1 ↔ a = 1#1 ∨ b = 1#1 := by decide

theorem fold_or {κ : Type} (g : κ → BitVec 1) : ∀ (L : List κ) (b : BitVec 1), L.foldl (fun r n => IntOp.ori r (g n)) b = 1#1 ↔ b = 1#1 ∨ ∃ n ∈ L, g n = 1#1
  | [], _ => by simp
  | a :: L, b => by
    rw [List.foldl_cons, fold_or g L, or_iff, or_assoc, List.exists_mem_cons_iff]

/-- A disjunction over a whole row is one exactly if some element is. -/
theorem reduce_or {u : Shape} (x : S5000.Idx → BitVec 1) (b : u.Idx → BitVec 1) (hb : ∀ i, b i = 0#1) (h : S5000.ReducesTo [0] S_) (hu : 0 < u.numel) (j : S_.Idx) :
    Host.reduce IntOp.ori x b h hu j = 1#1 ↔ ∃ i : Fin 5000, x (ix1 i) = 1#1 := by
  have h1 := fold_or (fun n => x (S5000.rowMajor.symm n)) ((List.finRange S5000.numel).filter fun n => h.drop (S5000.rowMajor.symm n) = j) (b (Shape.Idx.first hu))
  refine h1.trans ?_
  rw [hb]
  constructor
  · rintro (h2 | ⟨n, -, h2⟩)
    · exact absurd h2 (by decide)
    · exact ⟨S5000.rowMajor.symm n 0, by rw [← h2]; exact congrArg x (idx_ext rfl)⟩
  · rintro ⟨i, h2⟩
    refine .inr ⟨S5000.rowMajor (ix1 i), List.mem_filter.mpr ⟨List.mem_finRange _, decide_eq_true (funext fun a => a.elim0)⟩, ?_⟩
    rw [Equiv.symm_apply_apply]; exact h2

/-! ## Positions as the host passes them -/

/-- The positions as the host passes them to a scatter or a gather: 5000 is added to the negative ones. -/
def idxOf (v : IVec S5000 32) : IVec S5000x1 32 :=
  broadcastInDim S5000x1 ![0] bcast_S5000_S5000x1_0 (select (cmpi .slt v (broadcastInDim S5000 ![] bcast_S_S5000 (constantI S_ 32 0#32)))
    (addi v (broadcastInDim S5000 ![] bcast_S_S5000 (constantI S_ 32 5000#32))) v)

theorem fix_pos {x : BitVec 32} (h : x.toNat < 5000) : Scalar.select (IntOp.cmpi .slt x 0#32) (IntOp.addi x 5000#32) x = x := by
  rw [WordCmp.cmpi_slt_zero, decide_eq_false (by simp only [Nat.reduceSub]; omega)]
  rfl

theorem idxOf_at {v : IVec S5000 32} (lt : ∀ j, (v j).toNat < 5000) (k : S5000x1.Idx) (i : S5000.Idx) (hk : (i 0).val = (k 0).val) : idxOf v k = v i := by
  have h1 : idxOf v k = Scalar.select (IntOp.cmpi .slt (v i) 0#32) (IntOp.addi (v i) 5000#32) (v i) := by
    have e : ∀ (x : IVec S5000 32), broadcastInDim S5000x1 ![0] bcast_S5000_S5000x1_0 x k = x i := fun x => congrArg x (idx_ext hk.symm)
    unfold idxOf
    rw [e]; rfl
  rw [h1, fix_pos (lt i)]

theorem toInt_pos {x : BitVec 32} (h : x.toNat < 5000) : x.toInt = (x.toNat : ℤ) := by
  rw [BitVec.toInt_eq_toNat_cond, if_pos (by omega)]

section Order
variable {v : IVec S5000 32} {o : Fin 5000 → Fin 5000} (hv : ∀ p : Fin 5000, (v (ix1 p)).toNat = (o p).val)
include hv

theorem v_at (j : S5000.Idx) : (v j).toNat = (o (j 0)).val := by
  rw [← hv (j 0)]; exact congrArg (fun i => (v i).toNat) (idx_ext rfl)
theorem v_lt (j : S5000.Idx) : (v j).toNat < 5000 := by rw [v_at hv]; exact (o (j 0)).isLt

theorem s_mem : (0 : Fin S5000.rank) ∈ scatter_S5000_S5000x1_S5000_n_0_0_1.scatterDimsToOperandDims := List.mem_singleton_self _
theorem s_at (j : S5000.Idx) (c : Fin scatter_S5000_S5000x1_S5000_n_0_0_1.scatterDimsToOperandDims.length) : (scatter_S5000_S5000x1_S5000_n_0_0_1.siIdx j c 0).val = (j 0).val := by
  unfold ScatterDims.siIdx
  rw [dif_neg (show ¬ ((0 : Fin S5000x1.rank).val = scatter_S5000_S5000x1_S5000_n_0_0_1.indexVectorDim) from Nat.zero_ne_one)]
  unfold ScatterDims.siCoord
  exact congrArg (fun a => (j a).val) (Subsingleton.elim _ (0 : Fin S5000.rank))

theorem g_mem : (0 : Fin S5000.rank) ∈ gather_S5000_S5000x1_S5000_n_0_n_n_0_1_1.startIndexMap := List.mem_singleton_self _
theorem g_at (j : S5000.Idx) (c : Fin gather_S5000_S5000x1_S5000_n_0_n_n_0_1_1.startIndexMap.length) : (gather_S5000_S5000x1_S5000_n_0_n_n_0_1_1.siIdx j c 0).val = (j 0).val := by
  unfold GatherDims.siIdx
  rw [dif_neg (show ¬ ((0 : Fin S5000x1.rank).val = gather_S5000_S5000x1_S5000_n_0_n_n_0_1_1.indexVectorDim) from Nat.zero_ne_one)]
  unfold GatherDims.siCoord
  exact congrArg (fun a => (j a).val) (Subsingleton.elim _ (0 : Fin S5000.rank))

/-- Update `j` of the scatter lands at its position in the order. -/
theorem lands (j : S5000.Idx) : scatter_S5000_S5000x1_S5000_n_0_0_1.resultIdx? j (idxOf v) = some (ix1 (o (j 0))) := by
  have hs : ∀ a, scatter_S5000_S5000x1_S5000_n_0_0_1.start j (idxOf v) a = ((o (j 0)).val : ℤ) := fun a => by
    obtain rfl : a = 0 := Subsingleton.elim _ _
    unfold ScatterDims.start
    rw [dif_pos (s_mem hv), idxOf_at (v_lt hv) _ j (s_at hv j _).symm, toInt_pos (v_lt hv j), v_at hv]
  have hw : ∀ a, scatter_S5000_S5000x1_S5000_n_0_0_1.window j a = 0 := fun a => by
    obtain rfl : a = 0 := Subsingleton.elim _ _
    unfold ScatterDims.window
    exact dif_neg (by show ¬ (0 : Fin S5000.rank) ∈ S5000.kept [0]; decide)
  have hlt : ∀ a : Fin S5000.rank, S5000.size a = 5000 := fun a => by obtain rfl : a = 0 := Subsingleton.elim _ _; rfl
  unfold ScatterDims.resultIdx?
  rw [dif_pos (fun a => by rw [hs, hw, hlt]; have := (o (j 0)).isLt; omega)]
  refine congrArg some (idx_ext ?_)
  show (scatter_S5000_S5000x1_S5000_n_0_0_1.start j (idxOf v) 0 + scatter_S5000_S5000x1_S5000_n_0_0_1.window j 0).toNat = (o (j 0)).val
  rw [hs, hw]; omega

/-- A scatter by an order puts element `p` at the order's element `p`. -/
theorem scatter_at {β : Type} (ho : Function.Injective o) (z u : S5000.Idx → β) (p : Fin 5000) :
    Host.scatter scatter_S5000_S5000x1_S5000_n_0_0_1 (fun _ b => b) z (idxOf v) u (ix1 (o p)) = u (ix1 p) := by
  unfold Host.scatter
  simp only [lands hv]
  refine (fold_hit (fun n => (ix1 (o (S5000.rowMajor.symm n 0)) : S5000.Idx)) (fun n => u (S5000.rowMajor.symm n)) (ix1 (o p))
    (S5000.rowMajor (ix1 p)) (by rw [Equiv.symm_apply_apply]; rfl) (fun n hn => ?_) _ z (List.mem_finRange _)).trans (by simp)
  have h1 : o (S5000.rowMajor.symm n 0) = o p := congrArg (fun i : S5000.Idx => i 0) hn
  have h2 : S5000.rowMajor.symm n = ix1 p := idx_ext (congrArg Fin.val (ho h1))
  rw [← h2]; simp

/-- A gather by an order picks the order's elements. -/
theorem gather_at {β : Type} (x : S5000.Idx → β) (p : Fin 5000) :
    Host.gather gather_S5000_S5000x1_S5000_n_0_n_n_0_1_1 x (idxOf v) (ix1 p) = x (ix1 (o p)) := by
  refine congrArg x (idx_ext ?_)
  show gather_S5000_S5000x1_S5000_n_0_n_n_0_1_1.start (ix1 p) (idxOf v) 0 + gather_S5000_S5000x1_S5000_n_0_n_n_0_1_1.batchCoord (ix1 p) 0
    + gather_S5000_S5000x1_S5000_n_0_n_n_0_1_1.offCoord (ix1 p) 0 = (o p).val
  have h1 : gather_S5000_S5000x1_S5000_n_0_n_n_0_1_1.start (ix1 p) (idxOf v) 0 = (o p).val := by
    unfold GatherDims.start
    rw [dif_pos (g_mem hv), idxOf_at (v_lt hv) _ (ix1 p) (g_at hv (ix1 p) _).symm, toInt_pos (v_lt hv _), hv]
    show min (o p).val (5000 - 1) = _
    have := (o p).isLt; omega
  have h2 : gather_S5000_S5000x1_S5000_n_0_n_n_0_1_1.batchCoord (ix1 p) 0 = 0 := dif_neg List.not_mem_nil
  have h3 : gather_S5000_S5000x1_S5000_n_0_n_n_0_1_1.offCoord (ix1 p) 0 = 0 := dif_neg (by show ¬ (0 : Fin S5000.rank) ∈ S5000.kept ([0] ++ []); decide)
  rw [h1, h2, h3]; rfl

end Order

/-! ## One element set, one row read -/

/-- One element set: the others stay. -/
theorem set_at {β : Type} (x : S5000.Idx → β) (idx : IVec S1 32) (u : S_.Idx → β) (k p : Fin 5000) (hk : ∀ i, idx i = BitVec.ofNat 32 k.val) (j : S_.Idx) :
    Host.scatter scatter_S5000_S1_S__n_0_0_0 (fun _ b => b) x idx u (ix1 p) = if p = k then u j else x (ix1 p) := by
  have hkn : (BitVec.ofNat 32 k.val).toNat = k.val := by rw [BitVec.toNat_ofNat]; exact Nat.mod_eq_of_lt (by have := k.isLt; omega)
  have hl : ∀ q : S_.Idx, scatter_S5000_S1_S__n_0_0_0.resultIdx? q idx = some (ix1 k) := by
    intro q
    have hs : ∀ a, scatter_S5000_S1_S__n_0_0_0.start q idx a = (k.val : ℤ) := fun a => by
      obtain rfl : a = 0 := Subsingleton.elim _ _
      unfold ScatterDims.start
      rw [dif_pos (show (0 : Fin S5000.rank) ∈ scatter_S5000_S1_S__n_0_0_0.scatterDimsToOperandDims from List.mem_singleton_self _), hk,
        toInt_pos (by rw [hkn]; exact k.isLt), hkn]
    have hw : ∀ a, scatter_S5000_S1_S__n_0_0_0.window q a = 0 := fun a => by
      obtain rfl : a = 0 := Subsingleton.elim _ _
      unfold ScatterDims.window
      exact dif_neg (by show ¬ (0 : Fin S5000.rank) ∈ S5000.kept [0]; decide)
    have hlt : ∀ a : Fin S5000.rank, S5000.size a = 5000 := fun a => by obtain rfl : a = 0 := Subsingleton.elim _ _; rfl
    unfold ScatterDims.resultIdx?
    rw [dif_pos (fun a => by rw [hs, hw, hlt]; have := k.isLt; omega)]
    refine congrArg some (idx_ext ?_)
    show (scatter_S5000_S1_S__n_0_0_0.start q idx 0 + scatter_S5000_S1_S__n_0_0_0.window q 0).toNat = k.val
    rw [hs, hw]; omega
  unfold Host.scatter
  simp only [hl]
  rw [show List.finRange S_.numel = [⟨0, by decide⟩] from by decide, List.foldl_cons, List.foldl_nil]
  have hj : S_.rowMajor.symm (⟨0, by decide⟩ : Fin S_.numel) = j := funext fun a => a.elim0
  rw [hj]
  by_cases e : p = k
  · rw [if_pos (by rw [e]), if_pos e]
  · rw [if_neg (fun h => e (congrArg (fun i : S5000.Idx => i 0) h)), if_neg e]

/-- Row `k` of a table. -/
theorem row_at {β : Type} (x : S5000x5000.Idx → β) (st : Fin 2 → ℤ) (h : S5000x5000.Slices (fun _ => 0) S1x5000) (hc : S1x5000.ShapeCasts S5000) (k i : Fin 5000)
    (h0 : st 0 = (k.val : ℤ)) (h1 : st 1 = 0) :
    shapeCast S5000 (Host.dynamicSlice S1x5000 x st h) hc (ix1 i) = x (ix2 k i) := by
  rw [shapeCast_apply _ hc (ix1 i) (ix2 (0 : Fin 1) i) (by
    refine (Shape.rowMajor_val_two _).trans (Eq.trans ?_ (Shape.rowMajor_val_one _).symm)
    show (0 : ℕ) * 5000 + i.val = i.val
    omega)]
  unfold Host.dynamicSlice
  refine extractStridedSlice_apply _ _ _ _ _ fun a => ?_
  match a with
  | ⟨0, _⟩ =>
    show k.val = (min (max (st 0) 0) ((5000 - 1 : ℕ) : ℤ)).toNat + 0
    rw [h0]; have := k.isLt; omega
  | ⟨1, _⟩ =>
    show i.val = (min (max (st 1) 0) ((5000 - 5000 : ℕ) : ℤ)).toNat + i.val
    rw [h1]; omega

end Cert.Proof.Whole.Ref

end
-- ==== Proof.Whole.RefTrip.lean ====
/-
  The reference's loop, box after box: a box is kept if no box before it in the order that is kept overlaps it too much.
-/
module

public import proofs.«01_k».proof.Proof.Whole.RefOps
public import proofs.«01_k».proof.Proof.Gen.ReferenceIdeal.Run

@[expose] public section

set_option synthInstance.maxHeartbeats 400000

noncomputable section

namespace Cert.Proof.Whole.Ref

open Cert.ReferenceIdeal Cert.ReferenceIdeal.Gen Cert.ReferenceIdeal.Value
open Cert.Proof.Sc (idx_ext)

open Idealize.ShloMosaic

/-- The word of `0.5`. -/
def half : EReal := Ideal.ofBits .f32 0x3F000000#32

theorem ofNat_toNat {k : ℕ} (h : k < 5000) : (BitVec.ofNat 32 k).toNat = k := by
  rw [BitVec.toNat_ofNat]; exact Nat.mod_eq_of_lt (by omega)

theorem not_iff : ∀ a : BitVec 1, ~~~a = 1#1 ↔ ¬ a = 1#1 := by decide
theorem and_iff : ∀ a b : BitVec 1, IntOp.andi a b = 1#1 ↔ a = 1#1 ∧ b = 1#1 := by decide

theorem ogt_iff (a b : EReal) : Ideal.cmp .ogt a b = 1#1 ↔ b < a := by
  unfold Ideal.cmp
  have h : ∀ b : Bool, BitVec.ofBool b = 1#1 ↔ b = true := by decide
  exact (h _).trans (by simp)

set_option maxRecDepth 8192 in
/-- One round of the loop, on the flags. -/
theorem step_iff (V : Valuation τ sig (Elt Ideal)) (k : Fin 5000)
    (hi : V (Proc.devRef .tc main_v104_3) = fun _ => BitVec.ofNat 32 k.val)
    (hx : ∀ p : Fin 5000, (V (Proc.devRef .tc main_v104_1) : IVec S5000 32) (ix1 p) = BitVec.ofNat 32 p.val) (p : Fin 5000) :
    (step_main_v104_4 V : IVec S5000 1) (ix1 p) = 1#1 ↔
      if p = k then ¬ ∃ q : Fin 5000, (half < (V (Proc.devRef .tc main_v104_0) : FVec Ideal S5000x5000 .f32) (ix2 k q)
        ∧ (V (Proc.devRef .tc main_v104_4) : IVec S5000 1) (ix1 q) = 1#1) ∧ q < k
      else (V (Proc.devRef .tc main_v104_4) : IVec S5000 1) (ix1 p) = 1#1 := by
  have hk := k.isLt
  have e1 : res_main_while0b_v116 V = fun _ => BitVec.ofNat 32 k.val := by unfold res_main_while0b_v116; rw [hi]; rfl
  unfold step_main_v104_4
  rw [e1, hi]
  simp only [id]
  have e2 : Scalar.select (IntOp.cmpi .slt (BitVec.ofNat 32 k.val) 0#32) (IntOp.addi (BitVec.ofNat 32 k.val) 5000#32) (BitVec.ofNat 32 k.val) = BitVec.ofNat 32 k.val :=
    fix_pos (by rw [ofNat_toNat hk]; exact hk)
  refine (iff_of_eq (congrArg (fun b : BitVec 1 => b = 1#1) (set_at _ _ _ k p (fun _ => ?_) (Shape.Idx.first h_S_)))).trans ?_
  · exact e2
  by_cases e : p = k
  · rw [if_pos e, if_pos e]
    refine (not_iff _).trans (not_congr ?_)
    refine (reduce_or _ _ (fun _ => rfl) _ _ _).trans (exists_congr fun q => ?_)
    refine (and_iff _ _).trans (and_congr ((and_iff _ _).trans (and_congr ?_ Iff.rfl)) ?_)
    · refine (ogt_iff _ _).trans ?_
      refine iff_of_eq (congrArg (fun r : EReal => half < r) (row_at _ _ _ _ k q ?_ ?_))
      · show (Scalar.select (IntOp.cmpi .slt (BitVec.ofNat 32 k.val) 0#32) (IntOp.addi (BitVec.ofNat 32 k.val) 5000#32) (BitVec.ofNat 32 k.val)).toInt = _
        rw [e2, toInt_pos (by rw [ofNat_toNat hk]; exact hk), ofNat_toNat hk]
      · show (Scalar.select (IntOp.cmpi .slt (0#32) 0#32) (IntOp.addi (0#32) 5000#32) (0#32)).toInt = _
        rw [fix_pos (by decide)]; rfl
    · show IntOp.cmpi .slt ((V (Proc.devRef .tc main_v104_1) : IVec S5000 32) (ix1 q)) (BitVec.ofNat 32 k.val) = 1#1 ↔ _
      rw [hx, WordCmp.cmpi_slt_ofNat_eq_one_iff (by have := q.isLt; omega) (by omega)]
      exact Iff.rfl
  · rw [if_neg e, if_neg e]

/-- After `k` rounds the first `k` flags are those of the greedy choice, the others nought. -/
theorem rounds (X : Valuation τ sig (Elt Ideal)) (iou : Fin 5000 → Fin 5000 → EReal)
    (hiou : ∀ p q : Fin 5000, (X (Proc.devRef .tc main_v104_0) : FVec Ideal S5000x5000 .f32) (ix2 p q) = iou p q)
    (h1 : ∀ p : Fin 5000, (X (Proc.devRef .tc main_v104_1) : IVec S5000 32) (ix1 p) = BitVec.ofNat 32 p.val)
    (h3 : X (Proc.devRef .tc main_v104_3) = fun _ => 0#32)
    (h4 : ∀ p : Fin 5000, (X (Proc.devRef .tc main_v104_4) : IVec S5000 1) (ix1 p) = 0#1) :
    ∀ k : ℕ, k ≤ 5000 →
      (STEP^[k] X) (Proc.devRef .tc main_v104_0) = X (Proc.devRef .tc main_v104_0)
      ∧ (STEP^[k] X) (Proc.devRef .tc main_v104_1) = X (Proc.devRef .tc main_v104_1)
      ∧ (STEP^[k] X) (Proc.devRef .tc main_v104_3) = (fun _ => BitVec.ofNat 32 k)
      ∧ ∀ p : Fin 5000, ((STEP^[k] X) (Proc.devRef .tc main_v104_4) : IVec S5000 1) (ix1 p) = 1#1 ↔
          p.val < k ∧ ∀ q : Fin 5000, q < p → ((STEP^[k] X) (Proc.devRef .tc main_v104_4) : IVec S5000 1) (ix1 q) = 1#1 → ¬ half < iou p q
  | 0, _ => by
    refine ⟨rfl, rfl, h3, fun p => ⟨fun h => ?_, fun h => absurd h.1 (Nat.not_lt_zero _)⟩⟩
    have h5 : (0#1 : BitVec 1) = 1#1 := (h4 p).symm.trans h
    exact absurd h5 (by decide)
  | k + 1, hk => by
    obtain ⟨i0, i1, i3, i4⟩ := rounds X iou hiou h1 h3 h4 k (by omega)
    rw [Function.iterate_succ_apply']
    generalize STEP^[k] X = Y at i0 i1 i3 i4 ⊢
    have hs := step_iff Y ⟨k, by omega⟩ i3 (by rw [i1]; exact h1)
    have hlt : ∀ p : Fin 5000, (Y (Proc.devRef .tc main_v104_4) : IVec S5000 1) (ix1 p) = 1#1 → p.val < k := fun p h => ((i4 p).mp h).1
    refine ⟨(STEP_main_v104_0 Y).trans i0, (STEP_main_v104_1 Y).trans i1, ?_, fun p => ?_⟩
    · rw [STEP_main_v104_3]; unfold step_main_v104_3; rw [i3]
      funext _
      show BitVec.ofNat 32 k + 1#32 = _
      rw [← BitVec.ofNat_add]
    · rw [STEP_main_v104_4]
      have hold : ∀ q : Fin 5000, q.val < k → ((step_main_v104_4 Y : IVec S5000 1) (ix1 q) = 1#1 ↔ (Y (Proc.devRef .tc main_v104_4) : IVec S5000 1) (ix1 q) = 1#1) := fun q hq => by
        rw [hs, if_neg (fun h => by rw [h] at hq; exact absurd hq (lt_irrefl _))]
      by_cases e : p.val < k
      · rw [hold p e, i4]
        refine and_congr ⟨fun h => by omega, fun _ => e⟩ (forall_congr' fun q => forall_congr' fun hq => ?_)
        rw [hold q (lt_trans (show q.val < p.val from hq) e)]
      · by_cases e' : p = ⟨k, by omega⟩
        · have hpk : p.val = k := by rw [e']
          rw [hs, if_pos e']
          constructor
          · refine fun h => ⟨by omega, fun q hq hkq hh => h ⟨q, ⟨?_, (hold q (by have := (show q.val < p.val from hq); omega)).mp hkq⟩, by rw [← e']; exact hq⟩⟩
            rw [i0, hiou, ← e']; exact hh
          · rintro ⟨-, h⟩ ⟨q, ⟨hh, hkq⟩, hq⟩
            rw [i0, hiou, ← e'] at hh
            exact h q (by rw [e']; exact hq) ((hold q hq).mpr hkq) hh
        · rw [hs, if_neg e']
          have hpk : ¬ p.val < k + 1 := fun h => e' (by apply Fin.ext; show p.val = k; omega)
          exact ⟨fun h => absurd (hlt p h) e, fun h => absurd h.1 hpk⟩

end Cert.Proof.Whole.Ref

end
-- ==== Proof.Whole.Meet.lean ====
/-
  Where the two sides meet: the kept boxes by the boxes' own numbers. A box is kept when no kept box that goes before it, by score and then by
  number, overlaps it. One predicate only answers this; the kernel's flags, read at the ranks, do, and so do flags in any sorted order.
-/
module

public import proofs.«01_k».proof.Proof.Whole.Order

@[expose] public section

noncomputable section

namespace Cert.Proof.Whole

open Cert.KernelIdeal Cert.KernelIdeal.Gen

open Idealize.ShloMosaic

/-- Box `j` goes before box `i`: a higher score, or the same and a lower number. -/
def Bef (s : Fin 5000 → EReal) (j i : Fin 5000) : Prop := s i < s j ∨ (s j = s i ∧ j < i)

/-- `K` are the boxes kept: those that no kept box before overlaps. -/
def Sel (s : Fin 5000 → EReal) (over : Fin 5000 → Fin 5000 → Prop) (K : Fin 5000 → Prop) : Prop :=
  ∀ i, K i ↔ ∀ j, Bef s j i → K j → ¬ over j i

theorem Bef.trans {s : Fin 5000 → EReal} {r q p : Fin 5000} (h : Bef s r q) (h' : Bef s q p) : Bef s r p := by
  unfold Bef at *
  rcases h with h | ⟨h, h1⟩ <;> rcases h' with h' | ⟨h', h1'⟩
  · exact .inl (h'.trans h)
  · exact .inl (h' ▸ h)
  · exact .inl (h.symm ▸ h')
  · exact .inr ⟨h.trans h', h1.trans h1'⟩

theorem Bef.irrefl (s : Fin 5000 → EReal) (p : Fin 5000) : ¬ Bef s p p := by
  rintro (h | ⟨-, h⟩) <;> exact lt_irrefl _ h

theorem Bef.total (s : Fin 5000 → EReal) {q p : Fin 5000} (h : q ≠ p) : Bef s q p ∨ Bef s p q := by
  unfold Bef
  rcases lt_trichotomy (s q) (s p) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- One predicate only can be the kept boxes. -/
theorem Sel.unique {s : Fin 5000 → EReal} {over : Fin 5000 → Fin 5000 → Prop} {K K' : Fin 5000 → Prop} (h : Sel s over K) (h' : Sel s over K') : K = K' := by
  haveI : IsTrans (Fin 5000) (Bef s) := ⟨fun _ _ _ => Bef.trans⟩
  haveI : Std.Irrefl (Bef s) := ⟨Bef.irrefl s⟩
  have wf : WellFounded (Bef s) := Finite.wellFounded_of_trans_of_irrefl (Bef s)
  funext i
  refine wf.induction (C := fun i => K i = K' i) i fun i ih => propext ?_
  rw [h i, h' i]
  exact forall_congr' fun j => forall_congr' fun hj => by rw [ih j hj]

/-- Box `i` among the padded boxes. -/
def up (i : Fin 5000) : Fin 5120 := ⟨i.val, by omega⟩

/-- The place of element `p` in the order by scores. -/
def place (f : Fin 5120 → EReal) (p : Fin 5120) : Fin 5120 := ⟨rank f p, rank_lt f p⟩

theorem place_inj (f : Fin 5120 → EReal) : Function.Injective (place f) := fun q p h => by
  simp only [place, Fin.mk.injEq] at h
  exact rank_inj h
theorem up_inj : Function.Injective up := fun a b h => by
  simp only [up, Fin.mk.injEq] at h
  exact Fin.ext h
theorem place_lt_iff (f : Fin 5120 → EReal) (q p : Fin 5120) : (place f q).val < (place f p).val ↔ Before f q p := by
  simp only [place]
  exact before_iff_rank.symm
theorem place_surj (f : Fin 5120 → EReal) (q : Fin 5120) : ∃ p, place f p = q := (Finite.injective_iff_surjective.mp (place_inj f)) q

section Padded
variable {f : Fin 5120 → EReal} {s : Fin 5000 → EReal} (hf : ∀ i, f (up i) = s i) (hpad : ∀ p : Fin 5120, 5000 ≤ p.val → f p = -1) (hs : ∀ i, -1 ≤ s i)
include hf hpad hs

/-- No padding goes before a box. -/
theorem real_of_before {q : Fin 5120} {i : Fin 5000} (h : Before f q (up i)) : q.val < 5000 := by
  by_contra hq
  have h1 := hpad q (by omega)
  have h2 := hs i
  rcases h with h | ⟨h, h'⟩
  · rw [hf, h1] at h; exact absurd h (not_lt.mpr h2)
  · have : q.val < i.val := h'
    omega

theorem before_iff_bef (j i : Fin 5000) : Before f (up j) (up i) ↔ Bef s j i := by
  unfold Before Bef; rw [hf, hf]; rfl

/-- The boxes take the first 5000 places. -/
theorem place_lt (i : Fin 5000) : (place f (up i)).val < 5000 := by
  classical
  have hsub : (Finset.univ.filter fun q => Before f q (up i)) ⊆ (Finset.univ.filter fun j => Bef s j i).map ⟨up, up_inj⟩ := by
    intro q hq
    have hb := (Finset.mem_filter.mp hq).2
    have hlt := real_of_before hf hpad hs hb
    refine Finset.mem_map.mpr ⟨⟨q.val, hlt⟩, Finset.mem_filter.mpr ⟨Finset.mem_univ _, ?_⟩, rfl⟩
    exact (before_iff_bef hf hpad hs _ _).mp hb
  have hc := Finset.card_le_card hsub
  rw [Finset.card_map] at hc
  have h2 : (Finset.univ.filter fun j => Bef s j i).card < (Finset.univ : Finset (Fin 5000)).card := by
    refine Finset.card_lt_card ⟨Finset.filter_subset _ _, fun hss => ?_⟩
    exact Bef.irrefl s i (Finset.mem_filter.mp (hss (Finset.mem_univ i))).2
  rw [Finset.card_univ, Fintype.card_fin] at h2
  have h3 : (place f (up i)).val = (Finset.univ.filter fun q => Before f q (up i)).card := by
    simp only [place, rank]
  rw [h3]
  exact lt_of_le_of_lt hc h2

/-- The flags by places, read at the boxes' places, are the boxes kept. -/
theorem sel_keptP {O : Fin 5120 → Fin 5120 → Prop} {over : Fin 5000 → Fin 5000 → Prop} (hO : ∀ j i, O (place f (up j)) (place f (up i)) ↔ over j i) :
    Sel s over fun i => keptP O (place f (up i)) := by
  intro i
  show keptP O (place f (up i)) ↔ ∀ j, Bef s j i → keptP O (place f (up j)) → ¬ over j i
  rw [keptP_iff]
  constructor
  · rintro ⟨-, h⟩ j hj hk ho
    exact h _ ((place_lt_iff f _ _).mpr ((before_iff_bef hf hpad hs j i).mpr hj)) hk ((hO j i).mpr ho)
  · intro h
    refine ⟨place_lt hf hpad hs i, fun q hq hk ho => ?_⟩
    obtain ⟨p, rfl⟩ := place_surj f q
    have hb : Before f p (up i) := (place_lt_iff f _ _).mp hq
    have hlt := real_of_before hf hpad hs hb
    obtain ⟨j, rfl⟩ : ∃ j : Fin 5000, up j = p := ⟨⟨p.val, hlt⟩, rfl⟩
    exact h j ((before_iff_bef hf hpad hs j i).mp hb) hk ((hO j i).mp ho)

end Padded

/-- Flags in a sorted order, read back at the boxes, are the boxes kept. -/
theorem sel_sorted {s : Fin 5000 → EReal} {over : Fin 5000 → Fin 5000 → Prop} {o : Fin 5000 → Fin 5000} (ho : Function.Bijective o)
    (hlt : ∀ q p, q < p → Bef s (o q) (o p)) {keep : Fin 5000 → Prop} (hk : ∀ p, keep p ↔ ∀ q, q < p → keep q → ¬ over (o q) (o p))
    {K : Fin 5000 → Prop} (hK : ∀ p, K (o p) ↔ keep p) : Sel s over K := by
  have hiff : ∀ q p, Bef s (o q) (o p) ↔ q < p := fun q p => by
    refine ⟨fun h => ?_, hlt q p⟩
    by_contra hn
    rcases lt_or_eq_of_le (not_lt.mp hn) with h2 | h2
    · exact Bef.irrefl s _ (h.trans (hlt p q h2))
    · subst h2; exact Bef.irrefl s _ h
  intro i
  obtain ⟨p, rfl⟩ := ho.2 i
  rw [hK, hk]
  constructor
  · intro h j hj hkj hov
    obtain ⟨q, rfl⟩ := ho.2 j
    exact h q ((hiff q p).mp hj) ((hK q).mp hkj) hov
  · intro h q hq hkq hov
    exact h (o q) ((hiff q p).mpr hq) ((hK q).mpr hkq) hov

end Cert.Proof.Whole

end
-- ==== Proof.Whole.Sorted.lean ====
/-
  The reference's order of the boxes: a stable sort by falling score is a bijection of the boxes in which whichever goes before, by score and
  then by number, stands before.
-/
module

public import proofs.«01_k».proof.Proof.Whole.Meet
public import Idealize.ShloMosaic.Lib.SortPrefix
public import proofs.«01_k».proof.Proof.Gen.ReferenceIdeal

@[expose] public section

noncomputable section

namespace Cert.Proof.Whole

open Idealize.ShloMosaic

/-- A stable sort of positions listed in order takes ties by position. -/
theorem stableSort_ties {n : ℕ} {B R : Fin n → Fin n → Bool} (h : ∀ k k', k' < k → B k k' = R k k') (l : List (Fin n)) (hl : l.Pairwise (· < ·)) :
    stableSort B l = stableSort R l := by
  induction l with
  | nil => rfl
  | cons a l ih =>
    rw [List.pairwise_cons] at hl
    have e := ih hl.2
    unfold stableSort
    rw [← e]
    refine insertBefore_congr B R a _ fun b hb => h b a (hl.1 b ((perm_stableSort B l).mem_iff.mp hb))

theorem sortedFrom_ties {n : ℕ} {B R : Fin n → Fin n → Bool} (h : ∀ k k', k' < k → B k k' = R k k') : sortedFrom B = sortedFrom R := by
  have e : sortPositions n B = sortPositions n R := stableSort_ties h _ (List.pairwise_lt_finRange n)
  funext k
  unfold sortedFrom
  simp only [e, List.get_eq_getElem, Fin.val_cast]

/-- What the reference's comparator says of two keys, whatever they carry: the lower goes before. -/
theorem cmp_iff (a b : EReal) (x y : BitVec 32) : Cert.ReferenceIdeal.comparator_f32_i32_d0 (F := Ideal) (a, x) (b, y) = 1#1 ↔ a < b := by
  have h0 : Ideal.ofBits .f32 0x00000000#32 = 0 := by simp [Ideal.ofBits, Ideal.ieee]
  unfold Cert.ReferenceIdeal.comparator_f32_i32_d0
  have hc : ∀ c : EReal, (Scalar.select (Ideal.cmp .une c c) (Ideal.ofBits .f32 0x7FC00000#32) (Scalar.select (Ideal.cmp .oeq c (Ideal.ofBits .f32 0x00000000#32)) (Ideal.ofBits .f32 0x00000000#32) c)) = c := by
    intro c
    simp only [Scalar.select, Ideal.cmp, h0, ne_eq, not_true_eq_false, decide_false, BitVec.ofBool_false]
    by_cases h : c = 0 <;> simp [h]
  show Ideal.cmp .olt (Scalar.select (Ideal.cmp .une a a) (Ideal.ofBits .f32 0x7FC00000#32) (Scalar.select (Ideal.cmp .oeq a (Ideal.ofBits .f32 0x00000000#32)) (Ideal.ofBits .f32 0x00000000#32) a))
    (Scalar.select (Ideal.cmp .une b b) (Ideal.ofBits .f32 0x7FC00000#32) (Scalar.select (Ideal.cmp .oeq b (Ideal.ofBits .f32 0x00000000#32)) (Ideal.ofBits .f32 0x00000000#32) b)) = 1#1 ↔ _
  rw [hc, hc]
  simp only [Ideal.cmp]
  by_cases h : a < b <;> simp [h]

/-- The boxes in the reference's order. -/
def ordered (s : Fin 5000 → EReal) : Fin 5000 → Fin 5000 := by
  classical exact sortedFrom fun k k' => decide (Bef s k k')

theorem ordered_bijective (s : Fin 5000 → EReal) : Function.Bijective (ordered s) := ⟨sortedFrom_injective _, sortedFrom_surjective _⟩

theorem ordered_lt (s : Fin 5000 → EReal) (q p : Fin 5000) (h : q < p) : Bef s (ordered s q) (ordered s p) := by
  classical
  have hn : ¬ Bef s (ordered s p) (ordered s q) := by
    have := sortedFrom_noInversion (fun k k' => decide (Bef s k k')) (fun k k' => decide (Bef s k k'))
      (fun a b hab => decide_eq_false fun hba => Bef.irrefl s a ((of_decide_eq_true hab).trans hba)) (fun _ _ hab => hab)
      (fun a b c hab hbc => decide_eq_false fun hac => by
        have h1 := of_decide_eq_false hab
        have h2 := of_decide_eq_false hbc
        by_cases e : a = b
        · subst e; exact h2 hac
        · rcases Bef.total s e with h3 | h3
          · exact h1 h3
          · exact h2 (h3.trans hac)) q p h
    exact of_decide_eq_false this
  rcases Bef.total s (fun e : ordered s q = ordered s p => absurd ((ordered_bijective s).1 e) (ne_of_lt h)) with h1 | h1
  · exact h1
  · exact absurd h1 hn

end Cert.Proof.Whole

end
-- ==== Proof.Whole.RefEntry.lean ====
/-
  What the reference's host operations before and after its loop compute, element by element.
-/
module

public import proofs.«01_k».proof.Proof.Whole.RefTrip
public import proofs.«01_k».proof.Proof.Whole.Sorted
public import proofs.«01_k».proof.Proof.Whole.Steps

@[expose] public section

set_option synthInstance.maxHeartbeats 400000

noncomputable section

namespace Cert.Proof.Whole.Ref

open Cert.ReferenceIdeal Cert.ReferenceIdeal.Gen Cert.ReferenceIdeal.Value
open Cert.Proof.Sc (idx_ext)

open Idealize.ShloMosaic Idealize.ShloMosaic.StableHlo
open Idealize.ShloMosaic.Tactic

/-- The word of `1000.0`. -/
def thousand : EReal := Ideal.ofBits .f32 0x447A0000#32

variable (V : Valuation τ sig (Elt Ideal))

/-- One coordinate of all boxes. -/
theorem coord_at (b : FVec Ideal S5000x4 .f32) (off : Fin 2 → ℕ) (h : S5000x4.Slices off S5000x1) (hc : S5000x1.ShapeCasts S5000) (k : Fin 4)
    (h0 : off 0 = 0) (h1 : off 1 = k.val) (i : Fin 5000) : shapeCast S5000 (extractStridedSlice S5000x1 off b h) hc (ix1 i) = b (ix2 i k) := by
  rw [shapeCast_apply _ hc (ix1 i) (ix2 i (0 : Fin 1)) (by
    refine (Shape.rowMajor_val_two _).trans (Eq.trans ?_ (Shape.rowMajor_val_one _).symm)
    show i.val * 1 + 0 = i.val
    omega)]
  refine extractStridedSlice_apply _ _ _ _ _ fun a => ?_
  match a with
  | ⟨0, _⟩ => show i.val = off 0 + i.val; omega
  | ⟨1, _⟩ => show k.val = off 1 + 0; omega

/-! ## The boxes' corners, their areas, the scores turned round -/

/-- The lower of two coordinates, scaled. -/
def loB (b : FVec Ideal S5000x4 .f32) (k l : Fin 4) (i : Fin 5000) : EReal := min (b (ix2 i k)) (b (ix2 i l)) * thousand
/-- The higher of two coordinates, scaled. -/
def hiB (b : FVec Ideal S5000x4 .f32) (k l : Fin 4) (i : Fin 5000) : EReal := max (b (ix2 i k)) (b (ix2 i l)) * thousand
/-- A box's area. -/
def arB (b : FVec Ideal S5000x4 .f32) (i : Fin 5000) : EReal := (hiB b 0 2 i - loB b 0 2 i) * (hiB b 1 3 i - loB b 1 3 i)

abbrev boxes : FVec Ideal S5000x4 .f32 := V (Proc.devRef .tc main_arg0)

theorem v6_at (i : Fin 5000) : (after hostOps0 V (Proc.devRef .tc main_v6) : FVec Ideal S5000 .f32) (ix1 i) = loB (boxes V) 0 2 i := by
  have e : after hostOps0 V (Proc.devRef .tc main_v6) = mulf (minimumf (shapeCast S5000 (extractStridedSlice S5000x1 ![0, 0] (boxes V) slices_S5000x4_S5000x1_0_0) shapeCasts_S5000x1_S5000)
      (shapeCast S5000 (extractStridedSlice S5000x1 ![0, 2] (boxes V) slices_S5000x4_S5000x1_0_2) shapeCasts_S5000x1_S5000)) (broadcastInDim S5000 ![] bcast_S_S5000 (constant (F := Ideal) S_ .f32 0x447A0000#32)) := by
    unfold hostOps0; after_results_simp <;> rfl
  rw [e]
  show min _ _ * _ = _
  rw [coord_at _ _ _ _ 0 rfl rfl, coord_at _ _ _ _ 2 rfl rfl]; rfl

theorem v13_at (i : Fin 5000) : (after hostOps0 V (Proc.devRef .tc main_v13) : FVec Ideal S5000 .f32) (ix1 i) = loB (boxes V) 1 3 i := by
  have e : after hostOps0 V (Proc.devRef .tc main_v13) = mulf (minimumf (shapeCast S5000 (extractStridedSlice S5000x1 ![0, 1] (boxes V) slices_S5000x4_S5000x1_0_1) shapeCasts_S5000x1_S5000)
      (shapeCast S5000 (extractStridedSlice S5000x1 ![0, 3] (boxes V) slices_S5000x4_S5000x1_0_3) shapeCasts_S5000x1_S5000)) (broadcastInDim S5000 ![] bcast_S_S5000 (constant (F := Ideal) S_ .f32 0x447A0000#32)) := by
    unfold hostOps0; after_results_simp <;> rfl
  rw [e]
  show min _ _ * _ = _
  rw [coord_at _ _ _ _ 1 rfl rfl, coord_at _ _ _ _ 3 rfl rfl]; rfl

theorem v20_at (i : Fin 5000) : (after hostOps0 V (Proc.devRef .tc main_v20) : FVec Ideal S5000 .f32) (ix1 i) = hiB (boxes V) 0 2 i := by
  have e : after hostOps0 V (Proc.devRef .tc main_v20) = mulf (maximumf (shapeCast S5000 (extractStridedSlice S5000x1 ![0, 0] (boxes V) slices_S5000x4_S5000x1_0_0) shapeCasts_S5000x1_S5000)
      (shapeCast S5000 (extractStridedSlice S5000x1 ![0, 2] (boxes V) slices_S5000x4_S5000x1_0_2) shapeCasts_S5000x1_S5000)) (broadcastInDim S5000 ![] bcast_S_S5000 (constant (F := Ideal) S_ .f32 0x447A0000#32)) := by
    unfold hostOps0; after_results_simp <;> rfl
  rw [e]
  show max _ _ * _ = _
  rw [coord_at _ _ _ _ 0 rfl rfl, coord_at _ _ _ _ 2 rfl rfl]; rfl

theorem v27_at (i : Fin 5000) : (after hostOps0 V (Proc.devRef .tc main_v27) : FVec Ideal S5000 .f32) (ix1 i) = hiB (boxes V) 1 3 i := by
  have e : after hostOps0 V (Proc.devRef .tc main_v27) = mulf (maximumf (shapeCast S5000 (extractStridedSlice S5000x1 ![0, 1] (boxes V) slices_S5000x4_S5000x1_0_1) shapeCasts_S5000x1_S5000)
      (shapeCast S5000 (extractStridedSlice S5000x1 ![0, 3] (boxes V) slices_S5000x4_S5000x1_0_3) shapeCasts_S5000x1_S5000)) (broadcastInDim S5000 ![] bcast_S_S5000 (constant (F := Ideal) S_ .f32 0x447A0000#32)) := by
    unfold hostOps0; after_results_simp <;> rfl
  rw [e]
  show max _ _ * _ = _
  rw [coord_at _ _ _ _ 1 rfl rfl, coord_at _ _ _ _ 3 rfl rfl]; rfl

theorem area_eq (a b c d : FVec Ideal S5000 .f32) (i : Fin 5000) :
    mulf (F := Ideal) (subf a b) (subf c d) (ix1 i) = ((a (ix1 i) : EReal) - (b (ix1 i) : EReal)) * ((c (ix1 i) : EReal) - (d (ix1 i) : EReal)) := rfl

theorem v30_at (i : Fin 5000) : (after hostOps0 V (Proc.devRef .tc main_v30) : FVec Ideal S5000 .f32) (ix1 i) = arB (boxes V) i := by
  have e : (after hostOps0 V (Proc.devRef .tc main_v30) : FVec Ideal S5000 .f32) = mulf (F := Ideal) (s := S5000) (φ := .f32) (subf (F := Ideal) (s := S5000) (φ := .f32) (after hostOps0 V (Proc.devRef .tc main_v20) : FVec Ideal S5000 .f32) (after hostOps0 V (Proc.devRef .tc main_v6)))
      (subf (F := Ideal) (s := S5000) (φ := .f32) (after hostOps0 V (Proc.devRef .tc main_v27) : FVec Ideal S5000 .f32) (after hostOps0 V (Proc.devRef .tc main_v13))) := by
    unfold hostOps0; after_results_simp <;> rfl
  rw [e]
  refine (area_eq _ _ _ _ i).trans ?_
  rw [v6_at, v13_at, v20_at, v27_at]; rfl

/-! ## The order -/

theorem v32_at (s : Fin 5000 → EReal) (hs : ∀ i : Fin 5000, (V (Proc.devRef .tc main_v31) : FVec Ideal S5000 .f32) (ix1 i) = - s i) (p : Fin 5000) :
    (after hostOps0_1 V (Proc.devRef .tc main_v32) : IVec S5000 32) (ix1 p) = BitVec.ofNat 32 (ordered s p).val := by
  have e : after hostOps0_1 V (Proc.devRef .tc main_v32) = (Host.sort2 S5000 0 (comparator_f32_i32_d0 (F := Ideal)) (V (Proc.devRef .tc main_v31) : FVec Ideal S5000 .f32) (iotaInDim S5000 32 0)).2 := by
    unfold hostOps0_1; simp only [TRef.binary, TRef.nullary, TRef.unary, TRef.toBuf, TRef.ofBuf, cast_eq]; after_results_simp <;> rfl
  rw [e]
  generalize (V (Proc.devRef .tc main_v31) : FVec Ideal S5000 .f32) = x at hs ⊢
  classical
  have ho : ∀ k : Fin 5000, (Shape.Idx.ofFin k : S5000.Idx) = ix1 k := fun k => idx_ext rfl
  have e2 : (Host.sort2 S5000 0 (comparator_f32_i32_d0 (F := Ideal)) x (iotaInDim S5000 32 0)).2 (ix1 p)
      = iotaInDim S5000 32 0 (Shape.Idx.ofFin (sortedFrom (fun k k' : Fin 5000 =>
        comparator_f32_i32_d0 (F := Ideal) (x (Shape.Idx.ofFin k), iotaInDim S5000 32 0 (Shape.Idx.ofFin k)) (x (Shape.Idx.ofFin k'), iotaInDim S5000 32 0 (Shape.Idx.ofFin k')) == 1#1) p)) := by
    unfold Host.sort2
    simp
  have e3 : sortedFrom (fun k k' : Fin 5000 =>
        comparator_f32_i32_d0 (F := Ideal) (x (Shape.Idx.ofFin k), iotaInDim S5000 32 0 (Shape.Idx.ofFin k)) (x (Shape.Idx.ofFin k'), iotaInDim S5000 32 0 (Shape.Idx.ofFin k')) == 1#1)
      = sortedFrom fun k k' => decide (Bef s k k') := sortedFrom_ties fun k k' hk => by
    rw [Bool.eq_iff_iff, beq_iff_eq, cmp_iff, decide_eq_true_iff, ho, ho, hs, hs, EReal.neg_lt_neg_iff]
    exact ⟨.inl, fun h => h.resolve_right fun h' => absurd h'.2 (lt_asymm hk)⟩
  rw [e2, e3]
  unfold ordered
  show BitVec.ofNat 32 _ = _
  rw [Shape.Idx.ofFin_zero]

/-! ## The boxes in the order, and their overlaps -/

/-- A vector picked by the order's words. -/
abbrev pick (x : FVec Ideal S5000 .f32) (v : IVec S5000 32) : FVec Ideal S5000 .f32 := Host.gather gather_S5000_S5000x1_S5000_n_0_n_n_0_1_1 x (idxOf v)
/-- A vector's elements by rows, and by columns. -/
abbrev down (x : FVec Ideal S5000 .f32) : FVec Ideal S5000x5000 .f32 := broadcastInDim S5000x5000 ![0, 1] bcast_S5000x1_S5000x5000_0_1 (broadcastInDim S5000x1 ![0] bcast_S5000_S5000x1_0 x)
abbrev across (x : FVec Ideal S5000 .f32) : FVec Ideal S5000x5000 .f32 := broadcastInDim S5000x5000 ![0, 1] bcast_S1x5000_S5000x5000_0_1 (broadcastInDim S1x5000 ![1] bcast_S5000_S1x5000_1 x)

theorem down_at (x : FVec Ideal S5000 .f32) (p q : Fin 5000) : down x (ix2 p q) = x (ix1 p) := congrArg x (idx_ext rfl)
theorem across_at (x : FVec Ideal S5000 .f32) (p q : Fin 5000) : across x (ix2 p q) = x (ix1 q) := congrArg x (idx_ext rfl)

theorem v67_eq : after hostOps0_2 V (Proc.devRef .tc main_v67) = pick (V (Proc.devRef .tc main_v30)) (V (Proc.devRef .tc main_v32)) := by
  unfold hostOps0_2; after_results_simp <;> rfl
theorem v72_eq : after hostOps0_2 V (Proc.devRef .tc main_v72) = maximumf (F := Ideal) (down (pick (V (Proc.devRef .tc main_v6)) (V (Proc.devRef .tc main_v32)))) (across (pick (V (Proc.devRef .tc main_v6)) (V (Proc.devRef .tc main_v32)))) := by
  unfold hostOps0_2; after_results_simp <;> rfl
theorem v77_eq : after hostOps0_2 V (Proc.devRef .tc main_v77) = maximumf (F := Ideal) (down (pick (V (Proc.devRef .tc main_v13)) (V (Proc.devRef .tc main_v32)))) (across (pick (V (Proc.devRef .tc main_v13)) (V (Proc.devRef .tc main_v32)))) := by
  unfold hostOps0_2; after_results_simp <;> rfl
theorem v87_eq : after hostOps0_2 V (Proc.devRef .tc main_v87) = minimumf (F := Ideal) (down (pick (V (Proc.devRef .tc main_v27)) (V (Proc.devRef .tc main_v32)))) (across (pick (V (Proc.devRef .tc main_v27)) (V (Proc.devRef .tc main_v32)))) := by
  unfold hostOps0_2; after_results_simp <;> rfl
theorem v88_eq : after hostOps0_2 V (Proc.devRef .tc main_v88) = subf (F := Ideal)
    (minimumf (F := Ideal) (down (pick (V (Proc.devRef .tc main_v20)) (V (Proc.devRef .tc main_v32)))) (across (pick (V (Proc.devRef .tc main_v20)) (V (Proc.devRef .tc main_v32)))))
    (maximumf (F := Ideal) (down (pick (V (Proc.devRef .tc main_v6)) (V (Proc.devRef .tc main_v32)))) (across (pick (V (Proc.devRef .tc main_v6)) (V (Proc.devRef .tc main_v32))))) := by
  unfold hostOps0_2; after_results_simp <;> rfl
theorem cst12_eq : after hostOps0_2 V (Proc.devRef .tc main_cst_12) = constant (F := Ideal) S_ .f32 0x00000000#32 := by
  unfold hostOps0_2; after_results_simp <;> rfl
theorem v89_eq : after hostOps0_3 V (Proc.devRef .tc main_v89) = maximumf (F := Ideal) (s := S5000x5000) (φ := .f32) (broadcastInDim (α := Elt Ideal .f32) (s := S_) S5000x5000 ![] bcast_S_S5000x5000 (V (Proc.devRef .tc main_cst_12))) (V (Proc.devRef .tc main_v88)) := by
  unfold hostOps0_3; simp only [TRef.binary, TRef.nullary, TRef.unary, TRef.toBuf, TRef.ofBuf, cast_eq]; after_results_simp <;> rfl
theorem v90_eq : after hostOps0_4 V (Proc.devRef .tc main_v90) = subf (F := Ideal) (s := S5000x5000) (φ := .f32) (V (Proc.devRef .tc main_v87)) (V (Proc.devRef .tc main_v77)) := by
  unfold hostOps0_4; after_results_simp <;> rfl
theorem cst13_eq : after hostOps0_4 V (Proc.devRef .tc main_cst_13) = constant (F := Ideal) S_ .f32 0x00000000#32 := by
  unfold hostOps0_4; after_results_simp <;> rfl
theorem v91_eq : after hostOps0_5 V (Proc.devRef .tc main_v91) = maximumf (F := Ideal) (s := S5000x5000) (φ := .f32) (broadcastInDim (α := Elt Ideal .f32) (s := S_) S5000x5000 ![] bcast_S_S5000x5000 (V (Proc.devRef .tc main_cst_13))) (V (Proc.devRef .tc main_v90)) := by
  unfold hostOps0_5; simp only [TRef.binary, TRef.nullary, TRef.unary, TRef.toBuf, TRef.ofBuf, cast_eq]; after_results_simp <;> rfl
/-- The table of overlap ratios from the clipped widths and heights and the areas. -/
abbrev table (w h : FVec Ideal S5000x5000 .f32) (a : FVec Ideal S5000 .f32) : FVec Ideal S5000x5000 .f32 :=
  Host.divf (F := Ideal) (mulf (F := Ideal) w h) (addf (F := Ideal) (subf (F := Ideal) (addf (F := Ideal) (down a) (across a)) (mulf (F := Ideal) w h)) (broadcastInDim S5000x5000 ![] bcast_S_S5000x5000 (constant (F := Ideal) S_ .f32 0x3089705F#32)))
theorem v104_0_eq : after hostOps0_6 V (Proc.devRef .tc main_v104_0) = table (V (Proc.devRef .tc main_v89)) (V (Proc.devRef .tc main_v91)) (V (Proc.devRef .tc main_v67)) := by
  unfold hostOps0_6; after_results_simp <;> rfl
theorem v104_1_eq : after hostOps0_6 V (Proc.devRef .tc main_v104_1) = iotaInDim S5000 32 0 := by
  unfold hostOps0_6; after_results_simp <;> rfl
theorem v104_3_eq : after hostOps0_6 V (Proc.devRef .tc main_v104_3) = constantI S_ 32 0#32 := by
  unfold hostOps0_6; after_results_simp <;> rfl
theorem v104_4_eq : after hostOps0_6 V (Proc.devRef .tc main_v104_4) = broadcastInDim S5000 ![] bcast_S_S5000 (constantI S_ 1 0#1) := by
  unfold hostOps0_6; after_results_simp <;> rfl
theorem v114_eq : after hostOps0_7 V (Proc.devRef .tc main_v114) = mulf (F := Ideal) (s := S5000) (φ := .f32) (V (Proc.devRef .tc main_arg1)) (uitofp .f32
    (Host.scatter scatter_S5000_S5000x1_S5000_n_0_0_1 (fun _ b => b) (broadcastInDim S5000 ![] bcast_S_S5000 (constantI S_ 1 0#1)) (idxOf (V (Proc.devRef .tc main_v32))) (V (Proc.devRef .tc main_v104_4) : IVec S5000 1))) := by
  unfold hostOps0_7; after_results_simp <;> rfl

end Cert.Proof.Whole.Ref

end
-- ==== Proof.Whole.RefValue.lean ====
/-
  The reference's result: every score, times nought or one as its box is dropped or kept by the greedy choice.
-/
module

public import proofs.«01_k».proof.Proof.Whole.RefEntry

@[expose] public section

set_option synthInstance.maxHeartbeats 400000

noncomputable section

namespace Cert.Proof.Whole.Ref

open Cert.ReferenceIdeal Cert.ReferenceIdeal.Gen Cert.ReferenceIdeal.Value
open Cert.Proof.Sc (idx_ext)

open Idealize.ShloMosaic Idealize.ShloMosaic.StableHlo
open Idealize.ShloMosaic.Tactic

/-- The overlap ratio of two boxes. -/
def ratioB (b : FVec Ideal S5000x4 .f32) (i j : Fin 5000) : EReal :=
  ratio (loB b 0 2 i) (loB b 1 3 i) (hiB b 0 2 i) (hiB b 1 3 i) (arB b i) (loB b 0 2 j) (loB b 1 3 j) (hiB b 0 2 j) (hiB b 1 3 j) (arB b j)

theorem ratioB_comm (b : FVec Ideal S5000x4 .f32) (i j : Fin 5000) : ratioB b i j = ratioB b j i := ratio_comm ..

section
variable (V : Valuation τ sig (Elt Ideal))

/-- Before the loop, stretch after stretch. -/
def W1 : Valuation τ sig (Elt Ideal) := after hostOps0 V
def W2 : Valuation τ sig (Elt Ideal) := after hostOps0_1 (W1 V)
def W3 : Valuation τ sig (Elt Ideal) := after hostOps0_2 (W2 V)
def W4 : Valuation τ sig (Elt Ideal) := after hostOps0_3 (W3 V)
def W5 : Valuation τ sig (Elt Ideal) := after hostOps0_4 (W4 V)
def W6 : Valuation τ sig (Elt Ideal) := after hostOps0_5 (W5 V)
def W7 : Valuation τ sig (Elt Ideal) := after hostOps0_6 (W6 V)

theorem k1 (b : Ref sig .tc) (h : b ∉ hostOps0_W) : W1 V (Proc.devRef .tc b) = V (Proc.devRef .tc b) :=
  after_of_writes_sub hostOps0 V hostOps0_writes h
theorem k2 (b : Ref sig .tc) (h : b ∉ hostOps0_1_W) : W2 V (Proc.devRef .tc b) = W1 V (Proc.devRef .tc b) :=
  after_of_writes_sub hostOps0_1 _ hostOps0_1_writes h
theorem k3 (b : Ref sig .tc) (h : b ∉ hostOps0_2_W) : W3 V (Proc.devRef .tc b) = W2 V (Proc.devRef .tc b) :=
  after_of_writes_sub hostOps0_2 _ hostOps0_2_writes h
theorem k4 (b : Ref sig .tc) (h : b ∉ hostOps0_3_W) : W4 V (Proc.devRef .tc b) = W3 V (Proc.devRef .tc b) :=
  after_of_writes_sub hostOps0_3 _ hostOps0_3_writes h
theorem k5 (b : Ref sig .tc) (h : b ∉ hostOps0_4_W) : W5 V (Proc.devRef .tc b) = W4 V (Proc.devRef .tc b) :=
  after_of_writes_sub hostOps0_4 _ hostOps0_4_writes h
theorem k6 (b : Ref sig .tc) (h : b ∉ hostOps0_5_W) : W6 V (Proc.devRef .tc b) = W5 V (Proc.devRef .tc b) :=
  after_of_writes_sub hostOps0_5 _ hostOps0_5_writes h
theorem k7 (b : Ref sig .tc) (h : b ∉ hostOps0_6_W) : W7 V (Proc.devRef .tc b) = W6 V (Proc.devRef .tc b) :=
  after_of_writes_sub hostOps0_6 _ hostOps0_6_writes h

abbrev scores : Fin 5000 → EReal := fun i => (V (Proc.devRef .tc main_arg1) : FVec Ideal S5000 .f32) (ix1 i)

theorem W2_v32 (p : Fin 5000) : (W2 V (Proc.devRef .tc main_v32) : IVec S5000 32) (ix1 p) = BitVec.ofNat 32 (ordered (scores V) p).val := by
  refine v32_at (W1 V) (scores V) (fun i => ?_) p
  have e : W1 V (Proc.devRef .tc main_v31) = Host.negf (F := Ideal) (s := S5000) (φ := .f32) (V (Proc.devRef .tc main_arg1)) := by
    unfold W1 hostOps0; after_results_simp <;> rfl
  rw [e]; rfl

theorem W2_order (p : Fin 5000) : ((W2 V (Proc.devRef .tc main_v32) : IVec S5000 32) (ix1 p)).toNat = (ordered (scores V) p).val := by
  rw [W2_v32, ofNat_toNat (ordered (scores V) p).isLt]

theorem pick_at (x : FVec Ideal S5000 .f32) (p : Fin 5000) : pick x (W2 V (Proc.devRef .tc main_v32)) (ix1 p) = x (ix1 (ordered (scores V) p)) := gather_at (W2_order V) x p

theorem zero_word : Ideal.ofBits .f32 0x00000000#32 = 0 := by simp [Ideal.ofBits, Ideal.ieee]

/-- The clipped width of the overlap. -/
theorem W4_v89 (p q : Fin 5000) : (W4 V (Proc.devRef .tc main_v89) : FVec Ideal S5000x5000 .f32) (ix2 p q) =
    max (min (hiB (boxes V) 0 2 (ordered (scores V) p)) (hiB (boxes V) 0 2 (ordered (scores V) q)) - max (loB (boxes V) 0 2 (ordered (scores V) p)) (loB (boxes V) 0 2 (ordered (scores V) q))) 0 := by
  have e := v89_eq (W3 V)
  rw [show W3 V = after hostOps0_2 (W2 V) from rfl, cst12_eq, v88_eq] at e
  rw [show W4 V = after hostOps0_3 (after hostOps0_2 (W2 V)) from rfl, e, max_comm]
  show max (Ideal.ofBits .f32 0x00000000#32) (min (down _ (ix2 p q)) (across _ (ix2 p q)) - max (down _ (ix2 p q)) (across _ (ix2 p q))) = _
  rw [zero_word, down_at, down_at, across_at, across_at, pick_at, pick_at, pick_at, pick_at, k2 V main_v20 (by decide), k2 V main_v6 (by decide)]
  unfold W1
  rw [v20_at, v20_at, v6_at, v6_at]

/-- The clipped height of the overlap. -/
theorem W6_v91 (p q : Fin 5000) : (W6 V (Proc.devRef .tc main_v91) : FVec Ideal S5000x5000 .f32) (ix2 p q) =
    max (min (hiB (boxes V) 1 3 (ordered (scores V) p)) (hiB (boxes V) 1 3 (ordered (scores V) q)) - max (loB (boxes V) 1 3 (ordered (scores V) p)) (loB (boxes V) 1 3 (ordered (scores V) q))) 0 := by
  have e := v91_eq (W5 V)
  rw [show W5 V = after hostOps0_4 (W4 V) from rfl, cst13_eq, v90_eq, k4 V main_v87 (by decide), k4 V main_v77 (by decide), show W3 V = after hostOps0_2 (W2 V) from rfl, v87_eq, v77_eq] at e
  rw [show W6 V = after hostOps0_5 (after hostOps0_4 (W4 V)) from rfl, e, max_comm]
  show max (Ideal.ofBits .f32 0x00000000#32) (min (down _ (ix2 p q)) (across _ (ix2 p q)) - max (down _ (ix2 p q)) (across _ (ix2 p q))) = _
  rw [zero_word, down_at, down_at, across_at, across_at, pick_at, pick_at, pick_at, pick_at, k2 V main_v27 (by decide), k2 V main_v13 (by decide)]
  unfold W1
  rw [v27_at, v27_at, v13_at, v13_at]

theorem W6_v67 (p : Fin 5000) : (W6 V (Proc.devRef .tc main_v67) : FVec Ideal S5000 .f32) (ix1 p) = arB (boxes V) (ordered (scores V) p) := by
  rw [k6 V main_v67 (by decide), k5 V main_v67 (by decide), k4 V main_v67 (by decide), show W3 V = after hostOps0_2 (W2 V) from rfl, v67_eq, pick_at, k2 V main_v30 (by decide)]
  unfold W1
  rw [v30_at]

theorem table_at (w h : FVec Ideal S5000x5000 .f32) (a : FVec Ideal S5000 .f32) (p q : Fin 5000) : table w h a (ix2 p q) =
    Ideal.div ((w (ix2 p q) : EReal) * (h (ix2 p q) : EReal))
      ((a (ix1 p) : EReal) + (a (ix1 q) : EReal) - (w (ix2 p q) : EReal) * (h (ix2 p q) : EReal) + Ideal.ofBits .f32 0x3089705F#32) := by
  rw [← down_at a p q, ← across_at a p q]; rfl

/-- The table of overlap ratios, in the order. -/
theorem W7_table (p q : Fin 5000) : (W7 V (Proc.devRef .tc main_v104_0) : FVec Ideal S5000x5000 .f32) (ix2 p q) = ratioB (boxes V) (ordered (scores V) p) (ordered (scores V) q) := by
  rw [show W7 V = after hostOps0_6 (W6 V) from rfl, v104_0_eq]
  have h1 := W4_v89 V p q
  have h2 := W6_v91 V p q
  rw [← k5 V main_v89 (by decide), ← k6 V main_v89 (by decide)] at h1
  refine (table_at _ _ _ p q).trans ?_
  rw [h1, h2, W6_v67, W6_v67]
  rfl

end

/-- A flag as a number. -/
theorem flag_at (b : BitVec 1) : (FloatOps.uitofp (F := Ideal) .f32 b : EReal) = ind (b = 1#1) := by
  have h : b = 0#1 ∨ b = 1#1 := by revert b; decide
  rcases h with rfl | rfl
  · rw [ind_false (by decide)]; show ((((0#1 : BitVec 1).toNat : ℕ) : ℝ) : EReal) = 0; simp
  · rw [ind_true rfl]; show ((((1#1 : BitVec 1).toNat : ℕ) : ℝ) : EReal) = 1; simp

variable (m : (ℓ : Loc nD τ sig) → Buf (Elt Ideal) ℓ)

theorem entry_eq (c : Dev nD) : entryContents preI m c = W7 (launchContents m c) := rfl

/-- What the loop does not write stays through it. -/
theorem loop_keeps (c : Dev nD) (b : Ref sig .tc) (h1 : b ∉ condOps_W)
    (h2 : b ∉ while0Ops0_W) : ∀ k, atK m k c (Proc.devRef .tc b) = entryContents preI m c (Proc.devRef .tc b)
  | 0 => rfl
  | k + 1 => by
    refine Eq.trans ?_ (loop_keeps c b h1 h2 k)
    show after while0Ops0 (after condOps (atK m k c)) (Proc.devRef .tc b) = _
    rw [after_of_writes_sub while0Ops0 _ while0Ops0_writes h2, after_of_writes_sub condOps _ condOps_writes h1]

/-- The reference's result on core `c`. -/
def result (c : Dev nD) : FVec Ideal S5000 .f32 := finalContents condOps preI bodyI postI 5000 m c (Proc.devRef .tc main_v114)

theorem result_at (c : Dev nD) : ∃ K : Fin 5000 → Prop,
    Sel (scores (launchContents m c)) (fun j i => ((1 / 2 : ℝ) : EReal) < ratioB (boxes (launchContents m c)) j i) K
    ∧ ∀ i : Fin 5000, result m c (ix1 i) = scores (launchContents m c) i * ind (K i) := by
  set V := launchContents m c with hV
  obtain ⟨-, -, -, i4⟩ := rounds (W7 V) (fun p q => ratioB (boxes V) (ordered (scores V) p) (ordered (scores V) q)) (W7_table V)
    (fun p => by rw [show W7 V = after hostOps0_6 (W6 V) from rfl, v104_1_eq]; rfl)
    (by rw [show W7 V = after hostOps0_6 (W6 V) from rfl, v104_3_eq]; rfl)
    (fun p => by rw [show W7 V = after hostOps0_6 (W6 V) from rfl, v104_4_eq]; rfl) 5000 le_rfl
  have hb := ordered_bijective (scores V)
  have ha := atK_agree m c 5000 main_v104_4 (by decide)
  rw [entry_eq, ← hV] at ha
  generalize hKb : ((STEP^[5000] (W7 V)) (Proc.devRef .tc main_v104_4) : IVec S5000 1) = kb at i4 ha
  obtain ⟨inv, hinv⟩ := hb.2.hasRightInverse
  refine ⟨fun i => kb (ix1 (inv i)) = 1#1, ?_, fun i => ?_⟩
  · refine sel_sorted hb (fun q p h => ordered_lt _ q p h) (keep := fun p => kb (ix1 p) = 1#1) (fun p => ?_) (fun p => ?_)
    · refine (i4 p).trans ⟨fun h q hq hk ho => h.2 q hq hk ?_, fun h => ⟨p.isLt, fun q hq hk ho => h q hq hk ?_⟩⟩
      · rw [ratioB_comm]; unfold half; rw [ofBits_half]; exact ho
      · rw [ratioB_comm]; unfold half at ho; rw [ofBits_half] at ho; exact ho
    · rw [hb.1 (hinv (ordered (scores V) p))]
  · unfold result
    show after hostOps0_7 (after condOps (atK m 5000 c)) (Proc.devRef .tc main_v114) (ix1 i) = _
    rw [v114_eq, after_of_writes_sub condOps _ condOps_writes (r := main_arg1) (by decide), after_of_writes_sub condOps _ condOps_writes (r := main_v32) (by decide),
      after_of_writes_sub condOps _ condOps_writes (r := main_v104_4) (by decide), ha]
    have hord : ∀ p : Fin 5000, ((atK m 5000 c (Proc.devRef .tc main_v32) : IVec S5000 32) (ix1 p)).toNat = (ordered (scores V) p).val := fun p => by
      rw [loop_keeps m c main_v32 (by decide) (by decide), entry_eq, k7 _ main_v32 (by decide), k6 _ main_v32 (by decide), k5 _ main_v32 (by decide), k4 _ main_v32 (by decide), k3 _ main_v32 (by decide)]
      exact W2_order V p
    have harg : atK m 5000 c (Proc.devRef .tc main_arg1) = V (Proc.devRef .tc main_arg1) := by
      rw [loop_keeps m c main_arg1 (by decide) (by decide), entry_eq, k7 _ main_arg1 (by decide), k6 _ main_arg1 (by decide), k5 _ main_arg1 (by decide), k4 _ main_arg1 (by decide), k3 _ main_arg1 (by decide),
        k2 _ main_arg1 (by decide), k1 _ main_arg1 (by decide)]
    have hsc := scatter_at hord hb.1 (broadcastInDim S5000 ![] bcast_S_S5000 (constantI S_ 1 0#1)) kb (inv i)
    rw [hinv i] at hsc
    rw [harg]
    refine congrArg (fun r : EReal => scores V i * r) ?_
    refine (congrArg (fun b : BitVec 1 => (FloatOps.uitofp (F := Ideal) .f32 b : EReal)) hsc).trans ?_
    exact flag_at _

end Cert.Proof.Whole.Ref

end
-- ==== Proof.Whole.Value.lean ====
/-
  The kernel's result: every score, times nought or one as its box is dropped or kept by the greedy choice.
-/
module

public import proofs.«01_k».proof.Proof.Whole.Run
public import proofs.«01_k».proof.Proof.Whole.RefValue

@[expose] public section

set_option synthInstance.maxHeartbeats 400000

noncomputable section

namespace Cert.Proof.Whole

open Cert.KernelIdeal Cert.KernelIdeal.Gen
open Cert.Proof.Sc (Perm placed picked placed_at picked_at idx_ext)
open Cert.Proof.Whole.Ref (loB hiB arB ratioB thousand)

open Idealize.ShloMosaic Idealize.ShloMosaic.StableHlo
open Idealize.ShloMosaic.Tactic

theorem place_val (f : Fin 5120 → EReal) (p : Fin 5120) : (place f p).val = rank f p := by simp only [place]

theorem pos_cell (p : Fin 5120) : pos (cell p 0) (cell p 1) = p := by
  apply Fin.ext
  show 512 * (p.val / 512) + p.val % 512 = p.val
  omega

/-- The table's element at a place's cell is the list's element at the place. -/
theorem rows_at {α : Type} (x : S5120.Idx → α) (h : S5120.ShapeCasts S10x512) (p : Fin 5120) : shapeCast S10x512 x h (cell p) = x (ix1 p) :=
  shapeCast_apply x h (cell p) (ix1 p) (by
    refine (Shape.rowMajor_val_one _).trans (Eq.trans ?_ (Shape.rowMajor_val_two _).symm)
    show p.val = p.val / 512 * 512 + p.val % 512
    omega)
theorem list_at {α : Type} (x : S10x512.Idx → α) (h : S10x512.ShapeCasts S5120) (p : Fin 5120) : shapeCast S5120 x h (ix1 p) = x (cell p) :=
  shapeCast_apply x h (ix1 p) (cell p) (by
    refine (Shape.rowMajor_val_two _).trans (Eq.trans ?_ (Shape.rowMajor_val_one _).symm)
    show p.val / 512 * 512 + p.val % 512 = p.val
    omega)

/-! ## The padded scores and boxes -/

/-- The scores followed by 120 elements of -1. -/
def scored (s : FVec Ideal S5000 .f32) : FVec Ideal S5120 .f32 :=
  concatenate S5120 0 [⟨S5000, s⟩, ⟨S120, broadcastInDim S120 ![] bcast_S_S120 (constant (F := Ideal) S_ .f32 0xBF800000#32)⟩] concatenates_S5000_S120_S5120_d0

theorem scored_up (s : FVec Ideal S5000 .f32) (i : Fin 5000) : scored s (ix1 (up i)) = s (ix1 i) := by
  unfold scored
  refine concatenate_pair_apply_left (t := S5120) (s₁ := S5000) (s₂ := S120) 0 _ _ _ _ rfl (ix1 i) fun b => ?_
  obtain rfl : b = 0 := Subsingleton.elim _ _
  rfl

theorem minus_one : Ideal.ofBits .f32 0xBF800000#32 = -1 := by
  simp [Ideal.ofBits, Ideal.ieee]
  rw [← EReal.coe_mul]
  norm_num

theorem scored_pad (s : FVec Ideal S5000 .f32) (p : Fin 5120) (hp : 5000 ≤ p.val) : scored s (ix1 p) = (-1 : EReal) := by
  unfold scored
  refine (concatenate_pair_apply_right (t := S5120) (s₁ := S5000) (s₂ := S120) 0 _ _ _ _ rfl rfl (ix1 (⟨p.val - 5000, by omega⟩ : Fin 120)) ?_ ?_).trans minus_one
  · intro b hb
    exact absurd (Subsingleton.elim _ _) hb
  · show p.val - 5000 + 5000 = p.val
    omega

/-- The boxes padded by 120 rows of zeros. -/
def padded (b : FVec Ideal S5000x4 .f32) : FVec Ideal S5120x4 .f32 :=
  pad S5120x4 ![0, 0] ![120, 0] ![0, 0] b (sitofp (F := Ideal) .f32 (constantI S_ 32 0#32)) pads_S5000x4_S5120x4_01200_000 h_S_

theorem padded_up (b : FVec Ideal S5000x4 .f32) (i : Fin 5000) (k : Fin 4) : padded b (ix2 (up i) k) = b (ix2 i k) := by
  unfold padded pad
  rw [dif_pos (fun a => by
    match a with
    | ⟨0, _⟩ => exact ⟨Nat.zero_le _, Nat.mod_one _, by show (i.val - 0) / 1 < 5000; have := i.isLt; omega⟩
    | ⟨1, _⟩ => exact ⟨Nat.zero_le _, Nat.mod_one _, by show (k.val - 0) / 1 < 4; have := k.isLt; omega⟩)]
  refine congrArg b (funext fun a => ?_)
  match a with
  | ⟨0, _⟩ => apply Fin.ext; show (i.val - 0) / 1 = i.val; omega
  | ⟨1, _⟩ => apply Fin.ext; show (k.val - 0) / 1 = k.val; omega

/-- Columns of the padded boxes. -/
def col0 (b : FVec Ideal S5000x4 .f32) : FVec Ideal S5120 .f32 := shapeCast _ (extractStridedSlice S5120x1 ![0, 0] (padded b) slices_S5120x4_S5120x1_0_0) shapeCasts_S5120x1_S5120
def col1 (b : FVec Ideal S5000x4 .f32) : FVec Ideal S5120 .f32 := shapeCast _ (extractStridedSlice S5120x1 ![0, 1] (padded b) slices_S5120x4_S5120x1_0_1) shapeCasts_S5120x1_S5120
def col2 (b : FVec Ideal S5000x4 .f32) : FVec Ideal S5120 .f32 := shapeCast _ (extractStridedSlice S5120x1 ![0, 2] (padded b) slices_S5120x4_S5120x1_0_2) shapeCasts_S5120x1_S5120
def col3 (b : FVec Ideal S5000x4 .f32) : FVec Ideal S5120 .f32 := shapeCast _ (extractStridedSlice S5120x1 ![0, 3] (padded b) slices_S5120x4_S5120x1_0_3) shapeCasts_S5120x1_S5120

theorem col_at (b : FVec Ideal S5000x4 .f32) (off : Fin 2 → ℕ) (h : S5120x4.Slices off S5120x1) (hc : S5120x1.ShapeCasts S5120) (k : Fin 4)
    (h0 : off 0 = 0) (h1 : off 1 = k.val) (i : Fin 5000) : shapeCast S5120 (extractStridedSlice S5120x1 off (padded b) h) hc (ix1 (up i)) = b (ix2 i k) := by
  rw [shapeCast_apply _ hc (ix1 (up i)) (ix2 (up i) (0 : Fin 1)) (by
    refine (Shape.rowMajor_val_two _).trans (Eq.trans ?_ (Shape.rowMajor_val_one _).symm)
    show (up i).val * 1 + 0 = (up i).val
    omega), ← padded_up b i k]
  refine extractStridedSlice_apply _ _ _ _ _ fun a => ?_
  match a with
  | ⟨0, _⟩ => show (up i).val = off 0 + (up i).val; omega
  | ⟨1, _⟩ => show k.val = off 1 + 0; omega

theorem col0_at (b : FVec Ideal S5000x4 .f32) (i : Fin 5000) : col0 b (ix1 (up i)) = b (ix2 i 0) := col_at b _ _ _ 0 rfl rfl i
theorem col1_at (b : FVec Ideal S5000x4 .f32) (i : Fin 5000) : col1 b (ix1 (up i)) = b (ix2 i 1) := col_at b _ _ _ 1 rfl rfl i
theorem col2_at (b : FVec Ideal S5000x4 .f32) (i : Fin 5000) : col2 b (ix1 (up i)) = b (ix2 i 2) := col_at b _ _ _ 2 rfl rfl i
theorem col3_at (b : FVec Ideal S5000x4 .f32) (i : Fin 5000) : col3 b (ix1 (up i)) = b (ix2 i 3) := col_at b _ _ _ 3 rfl rfl i

/-! ## The operands of the two SparseCore calls -/

variable (m : (ℓ : Loc nD τ sig) → Buf (Elt Ideal) ℓ)

abbrev boxesK (d : Dev nD) : FVec Ideal S5000x4 .f32 := m ((SparseCore.T d).loc main_arg0)
abbrev scoresK (d : Dev nD) : FVec Ideal S5000 .f32 := m ((SparseCore.T d).loc main_arg1)

theorem V1_v1 (d : Dev nD) : V1 m d (Proc.devRef .tc main_v1) = scored (scoresK m d) := by
  unfold V1 opsA; after_results_simp <;> rfl
theorem V1_v2 (d : Dev nD) : V1 m d (Proc.devRef .tc main_v2) = shapeCast S10x512 (scored (scoresK m d)) shapeCasts_S5120_S10x512 := by
  unfold V1 opsA; after_results_simp <;> rfl
theorem V1_arg0 (d : Dev nD) : V1 m d (Proc.devRef .tc main_arg0) = boxesK m d := by
  unfold V1 opsA; after_results_simp <;> rfl
theorem V2_arg0 (d : Dev nD) : V2 m d (Proc.devRef .tc main_arg0) = boxesK m d := by
  unfold V2; rw [Function.update_of_ne (by decide), V1_arg0]
theorem V2_v1 (d : Dev nD) : V2 m d (Proc.devRef .tc main_v1) = scored (scoresK m d) := by
  unfold V2; rw [Function.update_of_ne (by decide), V1_v1]
theorem V2_v3 (d : Dev nD) : V2 m d (Proc.devRef .tc main_v3) = R0.res (Va (V1 m)) d := by
  unfold V2; rw [Function.update_self]

section Columns
variable (W : Valuation τ sig (Elt Ideal))
theorem opsB_v7 : after opsB W (Proc.devRef .tc main_v7) = col0 (W (Proc.devRef .tc main_arg0)) := by
  unfold opsB; simp only [TRef.binary, TRef.unary, TRef.toBuf, TRef.ofBuf, cast_eq]; after_results_simp <;> rfl
theorem opsB_v9 : after opsB W (Proc.devRef .tc main_v9) = col1 (W (Proc.devRef .tc main_arg0)) := by
  unfold opsB; simp only [TRef.binary, TRef.unary, TRef.toBuf, TRef.ofBuf, cast_eq]; after_results_simp <;> rfl
theorem opsB_v11 : after opsB W (Proc.devRef .tc main_v11) = col2 (W (Proc.devRef .tc main_arg0)) := by
  unfold opsB; simp only [TRef.binary, TRef.unary, TRef.toBuf, TRef.ofBuf, cast_eq]; after_results_simp <;> rfl
theorem opsB_v13 : after opsB W (Proc.devRef .tc main_v13) = col3 (W (Proc.devRef .tc main_arg0)) := by
  unfold opsB; simp only [TRef.binary, TRef.unary, TRef.toBuf, TRef.ofBuf, cast_eq]; after_results_simp <;> rfl
theorem opsB_v4 : after opsB W (Proc.devRef .tc main_v4) = shapeCast S5120 (W (Proc.devRef .tc main_v3)) shapeCasts_S10x512_S5120 := by
  unfold opsB; simp only [TRef.binary, TRef.unary, TRef.toBuf, TRef.ofBuf, cast_eq]; after_results_simp <;> rfl
theorem opsB_v1 : after opsB W (Proc.devRef .tc main_v1) = W (Proc.devRef .tc main_v1) := by
  unfold opsB; simp only [TRef.binary, TRef.unary, TRef.toBuf, TRef.ofBuf, cast_eq]; after_results_simp <;> rfl
theorem opsC_v15 : after opsC W (Proc.devRef .tc main_v15) = shapeCast S10x512 (W (Proc.devRef .tc main_v14_0)) shapeCasts_S5120_S10x512 := by
  unfold opsC; after_results_simp <;> rfl
theorem opsC_v16 : after opsC W (Proc.devRef .tc main_v16) = shapeCast S10x512 (W (Proc.devRef .tc main_v14_1)) shapeCasts_S5120_S10x512 := by
  unfold opsC; after_results_simp <;> rfl
theorem opsC_v17 : after opsC W (Proc.devRef .tc main_v17) = shapeCast S10x512 (W (Proc.devRef .tc main_v14_2)) shapeCasts_S5120_S10x512 := by
  unfold opsC; after_results_simp <;> rfl
theorem opsC_v18 : after opsC W (Proc.devRef .tc main_v18) = shapeCast S10x512 (W (Proc.devRef .tc main_v14_3)) shapeCasts_S5120_S10x512 := by
  unfold opsC; after_results_simp <;> rfl
theorem opsC_v19 : after opsC W (Proc.devRef .tc main_v19) = shapeCast S10x512 (W (Proc.devRef .tc main_v14_4)) shapeCasts_S5120_S10x512 := by
  unfold opsC; after_results_simp <;> rfl
theorem opsD_v21 : after opsD W (Proc.devRef .tc main_v21) = shapeCast S5120 (W (Proc.devRef .tc main_v20)) shapeCasts_S10x512_S5120 := by
  unfold opsD; after_results_simp <;> rfl
end Columns

/-- The padded scores, place by place. -/
abbrev fK (d : Dev nD) : Fin 5120 → EReal := fun p => scored (scoresK m d) (ix1 p)

/-- Every box's rank is its place in the order by scores. -/
theorem rk_at (d : Dev nD) (p : Fin 5120) : (ops0 m).rk d (ix1 p) = BitVec.ofNat 32 (place (fK m d) p).val := by
  have e : (ops0 m).rk d = shapeCast S5120 (R0.res (Va (V1 m)) d) shapeCasts_S10x512_S5120 := by
    show V3 m d (Proc.devRef .tc main_v4) = _
    unfold V3; rw [opsB_v4, V2_v3]
  rw [e]
  refine (list_at _ _ p).trans ?_
  unfold R0.res
  refine congrArg (BitVec.ofNat 32) ?_
  refine (rankN_eq _ _ _).trans ?_
  rw [pos_cell]
  rw [place_val]
  refine congrArg (fun g => rank g p) (funext fun q => ?_)
  show V1 m d (Proc.devRef .tc main_v2) (cell q) = _
  rw [V1_v2]
  exact rows_at _ _ q

theorem rk_toNat (d : Dev nD) (p : Fin 5120) : ((ops0 m).rk d (ix1 p)).toNat = (place (fK m d) p).val := by
  rw [rk_at, BitVec.toNat_ofNat]
  exact Nat.mod_eq_of_lt (lt_trans (place (fK m d) p).isLt (by decide))

theorem idx_of (j : S5120.Idx) : ∃ p : Fin 5120, j = ix1 p := ⟨⟨(j 0).val, (j 0).isLt⟩, idx_ext rfl⟩

/-- The ranks are a permutation. -/
theorem perm (d : Dev nD) : Perm ((opsOf m).rk d) where
  lt j := by
    obtain ⟨p, rfl⟩ := idx_of j
    show ((ops0 m).rk d (ix1 p)).toNat < 5120
    rw [rk_toNat]; exact (place (fK m d) p).isLt
  inj i j h := by
    obtain ⟨p, rfl⟩ := idx_of i
    obtain ⟨q, rfl⟩ := idx_of j
    change ((ops0 m).rk d (ix1 p)).toNat = ((ops0 m).rk d (ix1 q)).toNat at h
    rw [rk_toNat, rk_toNat] at h
    rw [place_inj (fK m d) (Fin.ext h)]

theorem xa_eq (d : Dev nD) : (ops0 m).xa d = col0 (boxesK m d) := by
  show V3 m d (Proc.devRef .tc main_v7) = _; unfold V3; rw [opsB_v7, V2_arg0]
theorem ya_eq (d : Dev nD) : (ops0 m).ya d = col1 (boxesK m d) := by
  show V3 m d (Proc.devRef .tc main_v9) = _; unfold V3; rw [opsB_v9, V2_arg0]
theorem xb_eq (d : Dev nD) : (ops0 m).xb d = col2 (boxesK m d) := by
  show V3 m d (Proc.devRef .tc main_v11) = _; unfold V3; rw [opsB_v11, V2_arg0]
theorem yb_eq (d : Dev nD) : (ops0 m).yb d = col3 (boxesK m d) := by
  show V3 m d (Proc.devRef .tc main_v13) = _; unfold V3; rw [opsB_v13, V2_arg0]
theorem sc_eq (d : Dev nD) : (opsOf m).sc d = scored (scoresK m d) := by
  show V3 m d (Proc.devRef .tc main_v1) = _; unfold V3; rw [opsB_v1, V2_v1]

/-! ## The boxes as the suppression call reads them -/

theorem lo_at (a b : FVec Ideal S5120 .f32) (x : FVec Ideal S5000x4 .f32) (k l : Fin 4) (i : Fin 5000) (ha : a (ix1 (up i)) = x (ix2 i k)) (hb : b (ix1 (up i)) = x (ix2 i l)) :
    lo a b (ix1 (up i)) = loB x k l i := by
  show min (a (ix1 (up i)) : EReal) (b (ix1 (up i))) * _ = _
  rw [ha, hb]; rfl
theorem hi_at (a b : FVec Ideal S5120 .f32) (x : FVec Ideal S5000x4 .f32) (k l : Fin 4) (i : Fin 5000) (ha : a (ix1 (up i)) = x (ix2 i k)) (hb : b (ix1 (up i)) = x (ix2 i l)) :
    hi a b (ix1 (up i)) = hiB x k l i := by
  show max (a (ix1 (up i)) : EReal) (b (ix1 (up i))) * _ = _
  rw [ha, hb]; rfl

abbrev geoK (d : Dev nD) : Geo := R1.geo (Va (V5 m)) d

theorem geo_x1_put (d : Dev nD) (p q : Fin 5120) (h : q.val = ((ops0 m).rk d (ix1 p)).toNat) : (geoK m d).x1 (cell q) = lo (col0 (boxesK m d)) (col2 (boxesK m d)) (ix1 p) := by
  have e : (geoK m d).x1 = shapeCast S10x512 (placed ((ops0 m).rk d) (lo ((ops0 m).xa d) ((ops0 m).xb d))) shapeCasts_S5120_S10x512 := by
    simp only [geoK, R1.geo, Va]
    unfold V5; rw [opsC_v15, V4_0]; rfl
  rw [e, rows_at]
  refine (placed_at (perm m d) _ (ix1 p) (ix1 q) h).trans ?_
  simp only [xa_eq, xb_eq, ya_eq, yb_eq]
theorem geo_y1_put (d : Dev nD) (p q : Fin 5120) (h : q.val = ((ops0 m).rk d (ix1 p)).toNat) : (geoK m d).y1 (cell q) = lo (col1 (boxesK m d)) (col3 (boxesK m d)) (ix1 p) := by
  have e : (geoK m d).y1 = shapeCast S10x512 (placed ((ops0 m).rk d) (lo ((ops0 m).ya d) ((ops0 m).yb d))) shapeCasts_S5120_S10x512 := by
    simp only [geoK, R1.geo, Va]
    unfold V5; rw [opsC_v16, V4_1]; rfl
  rw [e, rows_at]
  refine (placed_at (perm m d) _ (ix1 p) (ix1 q) h).trans ?_
  simp only [xa_eq, xb_eq, ya_eq, yb_eq]
theorem geo_x2_put (d : Dev nD) (p q : Fin 5120) (h : q.val = ((ops0 m).rk d (ix1 p)).toNat) : (geoK m d).x2 (cell q) = hi (col0 (boxesK m d)) (col2 (boxesK m d)) (ix1 p) := by
  have e : (geoK m d).x2 = shapeCast S10x512 (placed ((ops0 m).rk d) (hi ((ops0 m).xa d) ((ops0 m).xb d))) shapeCasts_S5120_S10x512 := by
    simp only [geoK, R1.geo, Va]
    unfold V5; rw [opsC_v17, V4_2]; rfl
  rw [e, rows_at]
  refine (placed_at (perm m d) _ (ix1 p) (ix1 q) h).trans ?_
  simp only [xa_eq, xb_eq, ya_eq, yb_eq]
theorem geo_y2_put (d : Dev nD) (p q : Fin 5120) (h : q.val = ((ops0 m).rk d (ix1 p)).toNat) : (geoK m d).y2 (cell q) = hi (col1 (boxesK m d)) (col3 (boxesK m d)) (ix1 p) := by
  have e : (geoK m d).y2 = shapeCast S10x512 (placed ((ops0 m).rk d) (hi ((ops0 m).ya d) ((ops0 m).yb d))) shapeCasts_S5120_S10x512 := by
    simp only [geoK, R1.geo, Va]
    unfold V5; rw [opsC_v18, V4_3]; rfl
  rw [e, rows_at]
  refine (placed_at (perm m d) _ (ix1 p) (ix1 q) h).trans ?_
  simp only [xa_eq, xb_eq, ya_eq, yb_eq]
theorem geo_ar_put (d : Dev nD) (p q : Fin 5120) (h : q.val = ((ops0 m).rk d (ix1 p)).toNat) : (geoK m d).ar (cell q) = area (col0 (boxesK m d)) (col1 (boxesK m d)) (col2 (boxesK m d)) (col3 (boxesK m d)) (ix1 p) := by
  have e : (geoK m d).ar = shapeCast S10x512 (placed ((ops0 m).rk d) (area ((ops0 m).xa d) ((ops0 m).ya d) ((ops0 m).xb d) ((ops0 m).yb d))) shapeCasts_S5120_S10x512 := by
    simp only [geoK, R1.geo, Va]
    unfold V5; rw [opsC_v19, V4_4]; rfl
  rw [e, rows_at]
  refine (placed_at (perm m d) _ (ix1 p) (ix1 q) h).trans ?_
  simp only [xa_eq, xb_eq, ya_eq, yb_eq]

theorem geo_x1 (d : Dev nD) (i : Fin 5000) : (geoK m d).x1 (cell (place (fK m d) (up i))) = loB (boxesK m d) 0 2 i :=
  (geo_x1_put m d (up i) (place (fK m d) (up i)) (rk_toNat m d (up i)).symm).trans (lo_at _ _ _ 0 2 i (col0_at _ i) (col2_at _ i))
theorem geo_y1 (d : Dev nD) (i : Fin 5000) : (geoK m d).y1 (cell (place (fK m d) (up i))) = loB (boxesK m d) 1 3 i :=
  (geo_y1_put m d (up i) (place (fK m d) (up i)) (rk_toNat m d (up i)).symm).trans (lo_at _ _ _ 1 3 i (col1_at _ i) (col3_at _ i))
theorem geo_x2 (d : Dev nD) (i : Fin 5000) : (geoK m d).x2 (cell (place (fK m d) (up i))) = hiB (boxesK m d) 0 2 i :=
  (geo_x2_put m d (up i) (place (fK m d) (up i)) (rk_toNat m d (up i)).symm).trans (hi_at _ _ _ 0 2 i (col0_at _ i) (col2_at _ i))
theorem geo_y2 (d : Dev nD) (i : Fin 5000) : (geoK m d).y2 (cell (place (fK m d) (up i))) = hiB (boxesK m d) 1 3 i :=
  (geo_y2_put m d (up i) (place (fK m d) (up i)) (rk_toNat m d (up i)).symm).trans (hi_at _ _ _ 1 3 i (col1_at _ i) (col3_at _ i))
theorem area_at (b : FVec Ideal S5000x4 .f32) (i : Fin 5000) : area (col0 b) (col1 b) (col2 b) (col3 b) (ix1 (up i)) = arB b i := by
  unfold arB
  rw [← hi_at _ _ _ 0 2 i (col0_at _ i) (col2_at _ i), ← lo_at _ _ _ 0 2 i (col0_at _ i) (col2_at _ i), ← hi_at _ _ _ 1 3 i (col1_at _ i) (col3_at _ i),
    ← lo_at _ _ _ 1 3 i (col1_at _ i) (col3_at _ i)]
  rfl
theorem geo_ar (d : Dev nD) (i : Fin 5000) : (geoK m d).ar (cell (place (fK m d) (up i))) = arB (boxesK m d) i :=
  (geo_ar_put m d (up i) (place (fK m d) (up i)) (rk_toNat m d (up i)).symm).trans (area_at _ i)

theorem overK_iff (d : Dev nD) (j i : Fin 5000) : overP (geoK m d) (place (fK m d) (up j)) (place (fK m d) (up i)) ↔ ((1 / 2 : ℝ) : EReal) < ratioB (boxesK m d) j i := by
  unfold overP ratioB
  rw [geo_x1, geo_y1, geo_x2, geo_y2, geo_ar, geo_x1, geo_y1, geo_x2, geo_y2, geo_ar]

/-- The flags the finalize call reads. -/
theorem kp_at (d : Dev nD) (p : Fin 5120) : (opsOf m).kp d (ix1 p) = ind (keptP (overP (geoK m d)) p) := by
  have e : (opsOf m).kp d = shapeCast S5120 (R1.res (keptM m) d) shapeCasts_S10x512_S5120 := by
    show V7 m d (Proc.devRef .tc main_v21) = _
    unfold V7; rw [opsD_v21]
    unfold V6; rw [Function.update_self]
  rw [e]
  refine (list_at _ _ p).trans ?_
  show ind (keptP (overP (geoK m d)) (pos (cell p 0) (cell p 1))) = _
  rw [pos_cell]

/-- Where no score is below the padding's, the kernel's result is every score times nought or one as the greedy choice has it. -/
theorem rS_at (d : Dev nD) (hs : ∀ i : Fin 5000, (-1 : EReal) ≤ scoresK m d (ix1 i)) :
    ∃ K : Fin 5000 → Prop, Sel (fun i => scoresK m d (ix1 i)) (fun j i => ((1 / 2 : ℝ) : EReal) < ratioB (boxesK m d) j i) K
      ∧ ∀ i : Fin 5000, rS m d (ix1 i) = (scoresK m d (ix1 i) : EReal) * ind (K i) := by
  refine ⟨fun i => keptP (overP (geoK m d)) (place (fK m d) (up i)), sel_keptP (fun i => scored_up _ i) (fun p hp => scored_pad _ p hp) hs (overK_iff m d), fun i => ?_⟩
  unfold rS
  refine (extractStridedSlice_apply _ _ _ (ix1 i) (ix1 (up i)) fun a => ?_).trans ?_
  · obtain rfl : a = 0 := Subsingleton.elim _ _
    exact (Nat.zero_add _).symm
  · unfold rF
    rw [sc_eq]
    have h1 : picked ((opsOf m).rk d) ((opsOf m).kp d) (ix1 (up i)) = (opsOf m).kp d (ix1 (place (fK m d) (up i))) :=
      picked_at _ _ _ (rk_toNat m d (up i)).symm
    rw [kp_at] at h1
    show (scored (scoresK m d) (ix1 (up i)) : EReal) * (picked ((opsOf m).rk d) ((opsOf m).kp d) (ix1 (up i)) : EReal) = _
    rw [h1, scored_up]

end Cert.Proof.Whole

end
-- ==== Proof.Whole.Equal.lean ====
/-
  The kernel's result is the reference's: both are the scores times nought or one as the greedy choice says, and the greedy choice is one.
-/
module

public import proofs.«01_k».proof.Proof.Sc.Host
public import proofs.«01_k».proof.Proof.Whole.Value
public import proofs.«01_k».proof.Pre_scores_at_least_padding

@[expose] public section

noncomputable section

namespace Cert.Proof.Whole

open Idealize.ShloMosaic Idealize.ShloMosaic.StableHlo

/-- The precondition, all ones, says that no score is below the padding's, -1. -/
theorem scores_of_pre [Cert.Pre_scores_at_least_padding.Facts] (b : FVec Ideal Cert.Pre_scores_at_least_padding.S5000x4 .f32)
    (s : FVec Ideal Cert.Pre_scores_at_least_padding.S5000 .f32) (h : Cert.Pre_scores_at_least_padding.fn (F := Ideal) b s = fun _ => 1#1) (i : Fin 5000) :
    (-1 : EReal) ≤ s (ix1 i) := by
  have h0 := congrFun h (fun a => a.elim0)
  unfold Cert.Pre_scores_at_least_padding.fn at h0
  have h1 : Ideal.cmp .oge (s (ix1 i) : EReal) (Ideal.ofBits .f32 0xBF800000#32) = 1#1 := Sc.reduce_and _ _ _ _ _ h0 (ix1 i)
  rw [minus_one] at h1
  by_contra hc
  simp [Ideal.cmp, hc] at h1

end Cert.Proof.Whole

namespace Cert.Proof.Whole.Ref

open Cert.ReferenceIdeal Cert.ReferenceIdeal.Gen Cert.ReferenceIdeal.Value

open Idealize.ShloMosaic Idealize.ShloMosaic.StableHlo Idealize.ShloMosaic.Tactic

theorem post_arg0 (V : Valuation τ sig (Elt Ideal)) : after hostOps0_7 V (Proc.devRef .tc main_arg0) = V (Proc.devRef .tc main_arg0) := by
  unfold hostOps0_7; after_results_simp
theorem post_arg1 (V : Valuation τ sig (Elt Ideal)) : after hostOps0_7 V (Proc.devRef .tc main_arg1) = V (Proc.devRef .tc main_arg1) := by
  unfold hostOps0_7; after_results_simp

variable (m : (ℓ : Loc nD τ sig) → Buf (Elt Ideal) ℓ)

/-- The reference leaves its first argument as it was. -/
theorem final_arg0 (c : Dev nD) : finalContents condOps preI bodyI postI 5000 m c (Proc.devRef .tc main_arg0) = launchContents m c (Proc.devRef .tc main_arg0) := by
  show after hostOps0_7 (after condOps (atK m 5000 c)) (Proc.devRef .tc main_arg0) = _
  rw [post_arg0, after_of_writes_sub condOps _ condOps_writes (r := main_arg0) (by decide), loop_keeps m c main_arg0 (by decide) (by decide), entry_eq, k7 _ main_arg0 (by decide),
    k6 _ main_arg0 (by decide), k5 _ main_arg0 (by decide), k4 _ main_arg0 (by decide), k3 _ main_arg0 (by decide), k2 _ main_arg0 (by decide), k1 _ main_arg0 (by decide)]

/-- The reference leaves its second argument as it was. -/
theorem final_arg1 (c : Dev nD) : finalContents condOps preI bodyI postI 5000 m c (Proc.devRef .tc main_arg1) = launchContents m c (Proc.devRef .tc main_arg1) := by
  show after hostOps0_7 (after condOps (atK m 5000 c)) (Proc.devRef .tc main_arg1) = _
  rw [post_arg1, after_of_writes_sub condOps _ condOps_writes (r := main_arg1) (by decide), loop_keeps m c main_arg1 (by decide) (by decide), entry_eq, k7 _ main_arg1 (by decide),
    k6 _ main_arg1 (by decide), k5 _ main_arg1 (by decide), k4 _ main_arg1 (by decide), k3 _ main_arg1 (by decide), k2 _ main_arg1 (by decide), k1 _ main_arg1 (by decide)]

/-- The reference runs from every memory, leaves its arguments, and ends with `result`. -/
theorem run_main (ρ : Dev nD → PrngReg) : θ_run (Cert.ReferenceIdeal.defs (F := Ideal)) (onTc (τ := Cert.ReferenceIdeal.τ) (Cert.ReferenceIdeal.main (F := Ideal))) ⟨m, fun _ => 0, ρ⟩
    (fun r => ∀ c : Dev nD, r.2.mem ((c.tc : Thread nD τ).loc main_v114) = result m c ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.ReferenceIdeal.defs _ _).mono (fun r hr c => ⟨hr c main_v114 (by decide), (hr c main_arg0 (by decide)).trans (final_arg0 m c), (hr c main_arg1 (by decide)).trans (final_arg1 m c)⟩)
    (run_fold (F := Ideal) m ρ)

end Cert.Proof.Whole.Ref

namespace Cert.Proof.Whole

open Idealize.ShloMosaic Idealize.ShloMosaic.StableHlo

/-- Two arrays that are the same scores times nought or one, the greedy choice deciding in both, are equal. -/
theorem same (b b' : FVec Ideal Cert.KernelIdeal.S5000x4 .f32) (s s' x x' : FVec Ideal Cert.KernelIdeal.S5000 .f32) (hb : b' = b) (hs : s' = s)
    (h : ∃ K : Fin 5000 → Prop, Sel (fun i => s (ix1 i)) (fun j i => ((1 / 2 : ℝ) : EReal) < Ref.ratioB b j i) K ∧ ∀ i : Fin 5000, x (ix1 i) = (s (ix1 i) : EReal) * ind (K i))
    (h' : ∃ K : Fin 5000 → Prop, Sel (fun i => s' (ix1 i)) (fun j i => ((1 / 2 : ℝ) : EReal) < Ref.ratioB b' j i) K ∧ ∀ i : Fin 5000, x' (ix1 i) = (s' (ix1 i) : EReal) * ind (K i)) :
    x' = x := by
  subst hb hs
  obtain ⟨K, hK, e⟩ := h
  obtain ⟨K', hK', e'⟩ := h'
  obtain rfl := hK.unique hK'
  funext i
  obtain ⟨k, rfl⟩ : ∃ k : Fin 5000, i = ix1 k := ⟨i 0, Sc.idx_ext rfl⟩
  exact (e' k).trans (e k).symm

/-- From memories with the same arguments, no score below -1, the kernel's result is the reference's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = boxesK m c)
    (h1 : m' ((c.tc : Thread Cert.ReferenceIdeal.nD Cert.ReferenceIdeal.τ).loc Cert.ReferenceIdeal.main_arg1) = scoresK m c)
    (hs : ∀ i : Fin 5000, (-1 : EReal) ≤ scoresK m c (ix1 i)) : Ref.result m' c = rS m c :=
  same (boxesK m c) (Ref.boxes (launchContents m' c)) (scoresK m c) (launchContents m' c (Proc.devRef .tc Cert.ReferenceIdeal.main_arg1)) (rS m c) (Ref.result m' c) h0 h1 (rS_at m c hs) (Ref.result_at m' c)

end Cert.Proof.Whole

end
-- ==== Proof.lean ====
/-
  The proof of `Cert.Claim`: the whole kernel, exact arithmetic, ends with the reference's result from any boxes and any scores not below the
  padding's; and the two SparseCore calls by themselves run from any memory whose ranks are a permutation, and their results are their reference's.
  The whole kernel's run is Proof/Whole/Run.lean, its value Proof/Whole/Value.lean, the reference's value Proof/Whole/RefValue.lean, their equality
  Proof/Whole/Equal.lean. The run of the two calls is Proof/Sc/Run.lean; their values are read against the reference's scatter and gather in
  Proof/Sc/Host.lean and Proof/Sc/Value.lean.
-/
module

public import proofs.«01_k».proof.Proof.Gen.SparseReferenceIdeal.Run
public import proofs.«01_k».proof.Proof.Sc.Value
public import proofs.«01_k».proof.Proof.Whole.Equal
public import proofs.«01_k».proof.Defs
public import proofs.«01_k».proof.Proof.Gen.SparseCalls
public import proofs.«01_k».proof.Proof.Gen.SparseCalls.Skeleton
public import proofs.«01_k».proof.Proof.Gen.SparseCallsIdeal
public import proofs.«01_k».proof.Proof.Gen.SparseCallsIdeal.Skeleton
public import proofs.«01_k».proof.Proof.Gen.SparseReferenceIdeal
public import proofs.«01_k».proof.Proof.Gen.Pre_ranks_a_permutation
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_scores_at_least_padding
public import Idealize.ShloMosaic.Adequacy
public import Idealize.ShloMosaic.Init

@[expose] public section

noncomputable section

namespace Cert.Proof

open Idealize.ShloMosaic Idealize.SL.Sem Cert.SparseCalls

/-! ## The runs -/

/-- The precondition at any instance of the floats: the ranks are a permutation. -/
theorem perm_bits (m : (ℓ : Loc Cert.SparseCalls.nD Cert.SparseCalls.τ Cert.SparseCalls.sig) → Buf (Elt Bits) ℓ) (h : Cert.Pre_SparseCalls m) (d : Dev Cert.SparseCallsIdeal.nD) :
    Sc.Perm (m (Sc.rkLoc d)) := Sc.perm_of_pre _ _ _ _ (h d)
theorem perm_ideal (m : (ℓ : Loc Cert.SparseCallsIdeal.nD Cert.SparseCallsIdeal.τ Cert.SparseCallsIdeal.sig) → Buf (Elt Ideal) ℓ) (h : Cert.Pre_SparseCallsIdeal m)
    (d : Dev Cert.SparseCallsIdeal.nD) : Sc.Perm (m (Sc.rkLoc d)) := Sc.perm_of_pre _ _ _ _ (h d)

/-- The two calls run at bit patterns: the program has the same text as its idealization. -/
theorem frame_p : Cert.quiescent_SparseCalls := fun m ρ h =>
  (θ_run Cert.SparseCallsIdeal.defs _ _).mono (fun _ hr => ⟨fun c => ⟨(hr.1 c).1, (hr.1 c).2.1, (hr.1 c).2.2.1, (hr.1 c).2.2.2.1⟩, hr.2⟩)
    (Sc.run_main (F := Bits) m ρ (perm_bits m h))

theorem frame_pi : Cert.quiescent_SparseCallsIdeal := fun m ρ h =>
  (θ_run Cert.SparseCallsIdeal.defs _ _).mono (fun _ hr => ⟨fun c => ⟨(hr.1 c).1, (hr.1 c).2.1, (hr.1 c).2.2.1, (hr.1 c).2.2.2.1⟩, hr.2⟩)
    (Sc.run_main (F := Ideal) m ρ (perm_ideal m h))

/-- The reference runs; it has no semaphore. -/
theorem frame_r : Cert.quiescent_SparseReferenceIdeal := fun m ρ _ =>
  (θ_run Cert.SparseReferenceIdeal.defs _ _).mono (fun r hr => ⟨fun c => (hr c).2.2.2.2.2.2, sem_eq_zero_of_no_sems (by decide) r.2⟩)
    (Cert.SparseReferenceIdeal.Value.run m ρ)

theorem frame_rp : Cert.quiescent_SparseReferenceIdeal_pre_ranks_a_permutation := fun m ρ _ => frame_r m ρ trivial

/-! ## The values -/

/-- From memories with the same arguments, the ranks a permutation, the two calls and the reference end with equal results. -/
theorem algebraic : Cert.algebraic_SparseCallsIdeal_SparseReferenceIdeal := by
  intro m g m' g' h hm
  have hp := perm_ideal m h
  refine ⟨Sc.r0 (Sc.opsOf m), Sc.r1 (Sc.opsOf m), Sc.r2 (Sc.opsOf m), Sc.r3 (Sc.opsOf m), Sc.r4 (Sc.opsOf m), Sc.rS m, ?_, ?_⟩
  · refine (θ_run Cert.SparseCallsIdeal.defs _ _).mono (fun r hr c => ?_) (Sc.run_main (F := Ideal) m g hp)
    obtain ⟨a0, a1, a2, a3, o0, o1, o2, o3, o4, o5⟩ := hr.1 c
    exact ⟨o0, o1, o2, o3, o4, o5, a0, a1, a2, a3⟩
  · refine (θ_run Cert.SparseReferenceIdeal.defs _ _).mono (fun r hr c => ?_) (Cert.SparseReferenceIdeal.Value.run (F := Ideal) m' g')
    obtain ⟨o0, o1, o2, o3, o4, o5, hargs⟩ := hr c
    obtain ⟨e0, e1, e2, e3⟩ := hm c
    rw [e0, e2] at o0 o1 o2 o3 o4
    rw [e1, e2, e3] at o5
    refine ⟨o0.trans ?_, o1.trans ?_, o2.trans ?_, o3.trans ?_, o4.trans ?_, o5.trans ?_, hargs⟩
    · refine (Sc.scatter_placed (hp c) _ _).trans ?_
      unfold Sc.r0; rw [Sc.xa_eq, Sc.xb_eq]; rfl
    · refine (Sc.scatter_placed (hp c) _ _).trans ?_
      unfold Sc.r1; rw [Sc.ya_eq, Sc.yb_eq]; rfl
    · refine (Sc.scatter_placed (hp c) _ _).trans ?_
      unfold Sc.r2; rw [Sc.xa_eq, Sc.xb_eq]; rfl
    · refine (Sc.scatter_placed (hp c) _ _).trans ?_
      unfold Sc.r3; rw [Sc.ya_eq, Sc.yb_eq]; rfl
    · refine (Sc.scatter_placed (hp c) _ _).trans ?_
      unfold Sc.r4; rw [Sc.xa_eq, Sc.xb_eq, Sc.ya_eq, Sc.yb_eq]; rfl
    · rw [Sc.rS_eq]
      exact congrArg (fun x => mulf _ (extractStridedSlice _ _ x _)) (Sc.gather_picked (hp c).lt _)

/-! ## The whole kernel -/

/-- The whole kernel runs in exact arithmetic, leaves its arguments, and leaves every semaphore at zero. -/
theorem frame_ki : Cert.quiescent_KernelIdeal := fun m ρ _ =>
  (θ_run Cert.KernelIdeal.defs _ _).mono (fun _ hr => ⟨fun c => ⟨(hr.1 c).1, (hr.1 c).2.1⟩, hr.2⟩) (Whole.run_main m ρ (Whole.perm m))

/-- The whole kernel's reference runs; it has no semaphore. -/
theorem frame_ri : Cert.quiescent_ReferenceIdeal := fun m ρ _ =>
  (θ_run Cert.ReferenceIdeal.defs _ _).mono (fun r hr => ⟨fun c => (hr c).2, sem_eq_zero_of_no_sems (by decide) r.2⟩) (Whole.Ref.run_main m ρ)

theorem frame_rip : Cert.quiescent_ReferenceIdeal_pre_scores_at_least_padding := fun m ρ _ => frame_ri m ρ trivial

/-- From memories with the same boxes and scores, no score below -1, the whole kernel and its reference end with equal results. -/
theorem algebraic_whole : Cert.algebraic_KernelIdeal_ReferenceIdeal := by
  intro m g m' g' h hm
  refine ⟨Whole.rS m, ?_, ?_⟩
  · exact (θ_run Cert.KernelIdeal.defs _ _).mono (fun _ hr c => ⟨(hr.1 c).2.2, (hr.1 c).1, (hr.1 c).2.1⟩) (Whole.run_main m g (Whole.perm m))
  · exact (θ_run Cert.ReferenceIdeal.defs _ _).mono
      (fun _ hr c => ⟨(hr c).1.trans (Whole.result_eq m m' c (hm c).1 (hm c).2 (Whole.scores_of_pre _ _ (h c))), (hr c).2⟩) (Whole.Ref.run_main m' g')

theorem claim : Cert.Claim := ⟨Cert.SparseCalls.Gen.facts, Cert.SparseCallsIdeal.Gen.facts, Cert.SparseReferenceIdeal.Gen.facts, Cert.KernelIdeal.Gen.facts,
  Cert.ReferenceIdeal.Gen.facts, Cert.Pre_ranks_a_permutation.Gen.facts, Cert.Pre_scores_at_least_padding.Gen.facts,
  frame_p, frame_pi, frame_r, frame_rp, frame_ki, frame_ri, frame_rip, trivial, algebraic, algebraic_whole⟩

end Cert.Proof

end
